-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_KernelKeys (m : (ℓ : Loc Cert.KernelKeys.nD Cert.KernelKeys.τ Cert.KernelKeys.sig) → Buf (Elt Bits) ℓ) : Prop :=
  True

def Pre_KernelKeysIdeal (m : (ℓ : Loc Cert.KernelKeysIdeal.nD Cert.KernelKeysIdeal.τ Cert.KernelKeysIdeal.sig) → Buf (Elt Ideal) ℓ) : Prop :=
  True

def Pre_ReferenceKeysIdeal (m : (ℓ : Loc Cert.ReferenceKeysIdeal.nD Cert.ReferenceKeysIdeal.τ Cert.ReferenceKeysIdeal.sig) → Buf (Elt Ideal) ℓ) : Prop :=
  True

def Pre_KernelValues (m : (ℓ : Loc Cert.KernelValues.nD Cert.KernelValues.τ Cert.KernelValues.sig) → Buf (Elt Bits) ℓ) : Prop :=
  True

def Pre_KernelValuesIdeal (m : (ℓ : Loc Cert.KernelValuesIdeal.nD Cert.KernelValuesIdeal.τ Cert.KernelValuesIdeal.sig) → Buf (Elt Ideal) ℓ) : Prop :=
  True

def Pre_ReferenceValuesIdeal (m : (ℓ : Loc Cert.ReferenceValuesIdeal.nD Cert.ReferenceValuesIdeal.τ Cert.ReferenceValuesIdeal.sig) → Buf (Elt Ideal) ℓ) : Prop :=
  True

def Pre_KernelLru (m : (ℓ : Loc Cert.KernelLru.nD Cert.KernelLru.τ Cert.KernelLru.sig) → Buf (Elt Bits) ℓ) : Prop :=
  True

def Pre_KernelLruIdeal (m : (ℓ : Loc Cert.KernelLruIdeal.nD Cert.KernelLruIdeal.τ Cert.KernelLruIdeal.sig) → Buf (Elt Ideal) ℓ) : Prop :=
  True

def Pre_ReferenceLruIdeal (m : (ℓ : Loc Cert.ReferenceLruIdeal.nD Cert.ReferenceLruIdeal.τ Cert.ReferenceLruIdeal.sig) → Buf (Elt Ideal) ℓ) : Prop :=
  True

def Pre_KernelGelu (m : (ℓ : Loc Cert.KernelGelu.nD Cert.KernelGelu.τ Cert.KernelGelu.sig) → Buf (Elt Bits) ℓ) : Prop :=
  True

def Pre_KernelGeluIdeal (m : (ℓ : Loc Cert.KernelGeluIdeal.nD Cert.KernelGeluIdeal.τ Cert.KernelGeluIdeal.sig) → Buf (Elt Ideal) ℓ) : Prop :=
  True

def Pre_ReferenceGeluIdeal (m : (ℓ : Loc Cert.ReferenceGeluIdeal.nD Cert.ReferenceGeluIdeal.τ Cert.ReferenceGeluIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelKeysSample (m : (ℓ : Loc Cert.KernelKeysSample.nD Cert.KernelKeysSample.τ Cert.KernelKeysSample.sig) → Buf (Elt Bits) ℓ) : Prop :=
  True

def Pre_KernelKeysSampleIdeal (m : (ℓ : Loc Cert.KernelKeysSampleIdeal.nD Cert.KernelKeysSampleIdeal.τ Cert.KernelKeysSampleIdeal.sig) → Buf (Elt Ideal) ℓ) : Prop :=
  True

def Pre_ReferenceKeysSampleIdeal (m : (ℓ : Loc Cert.ReferenceKeysSampleIdeal.nD Cert.ReferenceKeysSampleIdeal.τ Cert.ReferenceKeysSampleIdeal.sig) → Buf (Elt Ideal) ℓ) : Prop :=
  True

def Pre_KernelValuesSample (m : (ℓ : Loc Cert.KernelValuesSample.nD Cert.KernelValuesSample.τ Cert.KernelValuesSample.sig) → Buf (Elt Bits) ℓ) : Prop :=
  True

def Pre_KernelValuesSampleIdeal (m : (ℓ : Loc Cert.KernelValuesSampleIdeal.nD Cert.KernelValuesSampleIdeal.τ Cert.KernelValuesSampleIdeal.sig) → Buf (Elt Ideal) ℓ) : Prop :=
  True

def Pre_ReferenceValuesSampleIdeal (m : (ℓ : Loc Cert.ReferenceValuesSampleIdeal.nD Cert.ReferenceValuesSampleIdeal.τ Cert.ReferenceValuesSampleIdeal.sig) → Buf (Elt Ideal) ℓ) : Prop :=
  True

def Pre_KernelRecSample (m : (ℓ : Loc Cert.KernelRecSample.nD Cert.KernelRecSample.τ Cert.KernelRecSample.sig) → Buf (Elt Bits) ℓ) : Prop :=
  True

def Pre_KernelRecSampleIdeal (m : (ℓ : Loc Cert.KernelRecSampleIdeal.nD Cert.KernelRecSampleIdeal.τ Cert.KernelRecSampleIdeal.sig) → Buf (Elt Ideal) ℓ) : Prop :=
  True

def Pre_ReferenceRecSampleIdeal (m : (ℓ : Loc Cert.ReferenceRecSampleIdeal.nD Cert.ReferenceRecSampleIdeal.τ Cert.ReferenceRecSampleIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_KernelAdaIdeal_finite_conditioning [hPre_finite_conditioning : Cert.Pre_finite_conditioning.Facts] (m : (ℓ : Loc Cert.KernelAdaIdeal.nD Cert.KernelAdaIdeal.τ Cert.KernelAdaIdeal.sig) → Buf (Elt Ideal) ℓ) : Prop :=
  ∀ c : Dev Cert.KernelAdaIdeal.nD,
    (Cert.Pre_finite_conditioning.fn (F := Ideal) (m ((c.tc : Thread Cert.KernelAdaIdeal.nD Cert.KernelAdaIdeal.τ).loc Cert.KernelAdaIdeal.main_arg0)) (m ((c.tc : Thread Cert.KernelAdaIdeal.nD Cert.KernelAdaIdeal.τ).loc Cert.KernelAdaIdeal.main_arg1)) (m ((c.tc : Thread Cert.KernelAdaIdeal.nD Cert.KernelAdaIdeal.τ).loc Cert.KernelAdaIdeal.main_arg2)) (m ((c.tc : Thread Cert.KernelAdaIdeal.nD Cert.KernelAdaIdeal.τ).loc Cert.KernelAdaIdeal.main_arg3))).1 = (fun _ => 1#1)
    ∧ (Cert.Pre_finite_conditioning.fn (F := Ideal) (m ((c.tc : Thread Cert.KernelAdaIdeal.nD Cert.KernelAdaIdeal.τ).loc Cert.KernelAdaIdeal.main_arg0)) (m ((c.tc : Thread Cert.KernelAdaIdeal.nD Cert.KernelAdaIdeal.τ).loc Cert.KernelAdaIdeal.main_arg1)) (m ((c.tc : Thread Cert.KernelAdaIdeal.nD Cert.KernelAdaIdeal.τ).loc Cert.KernelAdaIdeal.main_arg2)) (m ((c.tc : Thread Cert.KernelAdaIdeal.nD Cert.KernelAdaIdeal.τ).loc Cert.KernelAdaIdeal.main_arg3))).2.1 = (fun _ => 1#1)
    ∧ (Cert.Pre_finite_conditioning.fn (F := Ideal) (m ((c.tc : Thread Cert.KernelAdaIdeal.nD Cert.KernelAdaIdeal.τ).loc Cert.KernelAdaIdeal.main_arg0)) (m ((c.tc : Thread Cert.KernelAdaIdeal.nD Cert.KernelAdaIdeal.τ).loc Cert.KernelAdaIdeal.main_arg1)) (m ((c.tc : Thread Cert.KernelAdaIdeal.nD Cert.KernelAdaIdeal.τ).loc Cert.KernelAdaIdeal.main_arg2)) (m ((c.tc : Thread Cert.KernelAdaIdeal.nD Cert.KernelAdaIdeal.τ).loc Cert.KernelAdaIdeal.main_arg3))).2.2 = (fun _ => 1#1)

def Pre_ReferenceAdaIdeal (m : (ℓ : Loc Cert.ReferenceAdaIdeal.nD Cert.ReferenceAdaIdeal.τ Cert.ReferenceAdaIdeal.sig) → Buf (Elt Ideal) ℓ) : Prop :=
  True

def Pre_ReferenceAdaIdeal_finite_conditioning [hPre_finite_conditioning : Cert.Pre_finite_conditioning.Facts] (m : (ℓ : Loc Cert.ReferenceAdaIdeal.nD Cert.ReferenceAdaIdeal.τ Cert.ReferenceAdaIdeal.sig) → Buf (Elt Ideal) ℓ) : Prop :=
  ∀ c : Dev Cert.ReferenceAdaIdeal.nD,
    (Cert.Pre_finite_conditioning.fn (F := Ideal) (m ((c.tc : Thread Cert.ReferenceAdaIdeal.nD Cert.ReferenceAdaIdeal.τ).loc Cert.ReferenceAdaIdeal.main_arg0)) (m ((c.tc : Thread Cert.ReferenceAdaIdeal.nD Cert.ReferenceAdaIdeal.τ).loc Cert.ReferenceAdaIdeal.main_arg1)) (m ((c.tc : Thread Cert.ReferenceAdaIdeal.nD Cert.ReferenceAdaIdeal.τ).loc Cert.ReferenceAdaIdeal.main_arg2)) (m ((c.tc : Thread Cert.ReferenceAdaIdeal.nD Cert.ReferenceAdaIdeal.τ).loc Cert.ReferenceAdaIdeal.main_arg3))).1 = (fun _ => 1#1)
    ∧ (Cert.Pre_finite_conditioning.fn (F := Ideal) (m ((c.tc : Thread Cert.ReferenceAdaIdeal.nD Cert.ReferenceAdaIdeal.τ).loc Cert.ReferenceAdaIdeal.main_arg0)) (m ((c.tc : Thread Cert.ReferenceAdaIdeal.nD Cert.ReferenceAdaIdeal.τ).loc Cert.ReferenceAdaIdeal.main_arg1)) (m ((c.tc : Thread Cert.ReferenceAdaIdeal.nD Cert.ReferenceAdaIdeal.τ).loc Cert.ReferenceAdaIdeal.main_arg2)) (m ((c.tc : Thread Cert.ReferenceAdaIdeal.nD Cert.ReferenceAdaIdeal.τ).loc Cert.ReferenceAdaIdeal.main_arg3))).2.1 = (fun _ => 1#1)
    ∧ (Cert.Pre_finite_conditioning.fn (F := Ideal) (m ((c.tc : Thread Cert.ReferenceAdaIdeal.nD Cert.ReferenceAdaIdeal.τ).loc Cert.ReferenceAdaIdeal.main_arg0)) (m ((c.tc : Thread Cert.ReferenceAdaIdeal.nD Cert.ReferenceAdaIdeal.τ).loc Cert.ReferenceAdaIdeal.main_arg1)) (m ((c.tc : Thread Cert.ReferenceAdaIdeal.nD Cert.ReferenceAdaIdeal.τ).loc Cert.ReferenceAdaIdeal.main_arg2)) (m ((c.tc : Thread Cert.ReferenceAdaIdeal.nD Cert.ReferenceAdaIdeal.τ).loc Cert.ReferenceAdaIdeal.main_arg3))).2.2 = (fun _ => 1#1)

def Pre_KernelRec (m : (ℓ : Loc Cert.KernelRec.nD Cert.KernelRec.τ Cert.KernelRec.sig) → Buf (Elt Bits) ℓ) : Prop :=
  True

def Pre_KernelRecIdeal (m : (ℓ : Loc Cert.KernelRecIdeal.nD Cert.KernelRecIdeal.τ Cert.KernelRecIdeal.sig) → Buf (Elt Ideal) ℓ) : Prop :=
  True

def Pre_ReferenceRecIdeal (m : (ℓ : Loc Cert.ReferenceRecIdeal.nD Cert.ReferenceRecIdeal.τ Cert.ReferenceRecIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelKeys [hKernelKeys : Cert.KernelKeys.Facts] : Prop :=
  ∀ (m : (ℓ : Loc Cert.KernelKeys.nD Cert.KernelKeys.τ Cert.KernelKeys.sig) → Buf (Elt Bits) ℓ) (g : Dev Cert.KernelKeys.nD → PrngReg), Pre_KernelKeys m →
    θ_run (Cert.KernelKeys.defs (F := Bits)) (onTc (τ := Cert.KernelKeys.τ) (Cert.KernelKeys.main (F := Bits))) ⟨m, fun _ => 0, g⟩ (fun r => (∀ c : Dev Cert.KernelKeys.nD,
      r.2.mem ((c.tc : Thread Cert.KernelKeys.nD Cert.KernelKeys.τ).loc Cert.KernelKeys.main_arg0) = m ((c.tc : Thread Cert.KernelKeys.nD Cert.KernelKeys.τ).loc Cert.KernelKeys.main_arg0)
      ∧ r.2.mem ((c.tc : Thread Cert.KernelKeys.nD Cert.KernelKeys.τ).loc Cert.KernelKeys.main_arg1) = m ((c.tc : Thread Cert.KernelKeys.nD Cert.KernelKeys.τ).loc Cert.KernelKeys.main_arg1))
      ∧ r.2.sem = fun _ => 0)

def quiescent_KernelKeysIdeal [hKernelKeysIdeal : Cert.KernelKeysIdeal.Facts] : Prop :=
  ∀ (m : (ℓ : Loc Cert.KernelKeysIdeal.nD Cert.KernelKeysIdeal.τ Cert.KernelKeysIdeal.sig) → Buf (Elt Ideal) ℓ) (g : Dev Cert.KernelKeysIdeal.nD → PrngReg), Pre_KernelKeysIdeal m →
    θ_run (Cert.KernelKeysIdeal.defs (F := Ideal)) (onTc (τ := Cert.KernelKeysIdeal.τ) (Cert.KernelKeysIdeal.main (F := Ideal))) ⟨m, fun _ => 0, g⟩ (fun r => (∀ c : Dev Cert.KernelKeysIdeal.nD,
      r.2.mem ((c.tc : Thread Cert.KernelKeysIdeal.nD Cert.KernelKeysIdeal.τ).loc Cert.KernelKeysIdeal.main_arg0) = m ((c.tc : Thread Cert.KernelKeysIdeal.nD Cert.KernelKeysIdeal.τ).loc Cert.KernelKeysIdeal.main_arg0)
      ∧ r.2.mem ((c.tc : Thread Cert.KernelKeysIdeal.nD Cert.KernelKeysIdeal.τ).loc Cert.KernelKeysIdeal.main_arg1) = m ((c.tc : Thread Cert.KernelKeysIdeal.nD Cert.KernelKeysIdeal.τ).loc Cert.KernelKeysIdeal.main_arg1))
      ∧ r.2.sem = fun _ => 0)

def quiescent_ReferenceKeysIdeal [hReferenceKeysIdeal : Cert.ReferenceKeysIdeal.Facts] : Prop :=
  ∀ (m : (ℓ : Loc Cert.ReferenceKeysIdeal.nD Cert.ReferenceKeysIdeal.τ Cert.ReferenceKeysIdeal.sig) → Buf (Elt Ideal) ℓ) (g : Dev Cert.ReferenceKeysIdeal.nD → PrngReg), Pre_ReferenceKeysIdeal m →
    θ_run (Cert.ReferenceKeysIdeal.defs (F := Ideal)) (onTc (τ := Cert.ReferenceKeysIdeal.τ) (Cert.ReferenceKeysIdeal.main (F := Ideal))) ⟨m, fun _ => 0, g⟩ (fun r => (∀ c : Dev Cert.ReferenceKeysIdeal.nD,
      r.2.mem ((c.tc : Thread Cert.ReferenceKeysIdeal.nD Cert.ReferenceKeysIdeal.τ).loc Cert.ReferenceKeysIdeal.main_arg0) = m ((c.tc : Thread Cert.ReferenceKeysIdeal.nD Cert.ReferenceKeysIdeal.τ).loc Cert.ReferenceKeysIdeal.main_arg0)
      ∧ r.2.mem ((c.tc : Thread Cert.ReferenceKeysIdeal.nD Cert.ReferenceKeysIdeal.τ).loc Cert.ReferenceKeysIdeal.main_arg1) = m ((c.tc : Thread Cert.ReferenceKeysIdeal.nD Cert.ReferenceKeysIdeal.τ).loc Cert.ReferenceKeysIdeal.main_arg1))
      ∧ r.2.sem = fun _ => 0)

def quiescent_KernelValues [hKernelValues : Cert.KernelValues.Facts] : Prop :=
  ∀ (m : (ℓ : Loc Cert.KernelValues.nD Cert.KernelValues.τ Cert.KernelValues.sig) → Buf (Elt Bits) ℓ) (g : Dev Cert.KernelValues.nD → PrngReg), Pre_KernelValues m →
    θ_run (Cert.KernelValues.defs (F := Bits)) (onTc (τ := Cert.KernelValues.τ) (Cert.KernelValues.main (F := Bits))) ⟨m, fun _ => 0, g⟩ (fun r => (∀ c : Dev Cert.KernelValues.nD,
      r.2.mem ((c.tc : Thread Cert.KernelValues.nD Cert.KernelValues.τ).loc Cert.KernelValues.main_arg0) = m ((c.tc : Thread Cert.KernelValues.nD Cert.KernelValues.τ).loc Cert.KernelValues.main_arg0)
      ∧ r.2.mem ((c.tc : Thread Cert.KernelValues.nD Cert.KernelValues.τ).loc Cert.KernelValues.main_arg1) = m ((c.tc : Thread Cert.KernelValues.nD Cert.KernelValues.τ).loc Cert.KernelValues.main_arg1))
      ∧ r.2.sem = fun _ => 0)

def quiescent_KernelValuesIdeal [hKernelValuesIdeal : Cert.KernelValuesIdeal.Facts] : Prop :=
  ∀ (m : (ℓ : Loc Cert.KernelValuesIdeal.nD Cert.KernelValuesIdeal.τ Cert.KernelValuesIdeal.sig) → Buf (Elt Ideal) ℓ) (g : Dev Cert.KernelValuesIdeal.nD → PrngReg), Pre_KernelValuesIdeal m →
    θ_run (Cert.KernelValuesIdeal.defs (F := Ideal)) (onTc (τ := Cert.KernelValuesIdeal.τ) (Cert.KernelValuesIdeal.main (F := Ideal))) ⟨m, fun _ => 0, g⟩ (fun r => (∀ c : Dev Cert.KernelValuesIdeal.nD,
      r.2.mem ((c.tc : Thread Cert.KernelValuesIdeal.nD Cert.KernelValuesIdeal.τ).loc Cert.KernelValuesIdeal.main_arg0) = m ((c.tc : Thread Cert.KernelValuesIdeal.nD Cert.KernelValuesIdeal.τ).loc Cert.KernelValuesIdeal.main_arg0)
      ∧ r.2.mem ((c.tc : Thread Cert.KernelValuesIdeal.nD Cert.KernelValuesIdeal.τ).loc Cert.KernelValuesIdeal.main_arg1) = m ((c.tc : Thread Cert.KernelValuesIdeal.nD Cert.KernelValuesIdeal.τ).loc Cert.KernelValuesIdeal.main_arg1))
      ∧ r.2.sem = fun _ => 0)

def quiescent_ReferenceValuesIdeal [hReferenceValuesIdeal : Cert.ReferenceValuesIdeal.Facts] : Prop :=
  ∀ (m : (ℓ : Loc Cert.ReferenceValuesIdeal.nD Cert.ReferenceValuesIdeal.τ Cert.ReferenceValuesIdeal.sig) → Buf (Elt Ideal) ℓ) (g : Dev Cert.ReferenceValuesIdeal.nD → PrngReg), Pre_ReferenceValuesIdeal m →
    θ_run (Cert.ReferenceValuesIdeal.defs (F := Ideal)) (onTc (τ := Cert.ReferenceValuesIdeal.τ) (Cert.ReferenceValuesIdeal.main (F := Ideal))) ⟨m, fun _ => 0, g⟩ (fun r => (∀ c : Dev Cert.ReferenceValuesIdeal.nD,
      r.2.mem ((c.tc : Thread Cert.ReferenceValuesIdeal.nD Cert.ReferenceValuesIdeal.τ).loc Cert.ReferenceValuesIdeal.main_arg0) = m ((c.tc : Thread Cert.ReferenceValuesIdeal.nD Cert.ReferenceValuesIdeal.τ).loc Cert.ReferenceValuesIdeal.main_arg0)
      ∧ r.2.mem ((c.tc : Thread Cert.ReferenceValuesIdeal.nD Cert.ReferenceValuesIdeal.τ).loc Cert.ReferenceValuesIdeal.main_arg1) = m ((c.tc : Thread Cert.ReferenceValuesIdeal.nD Cert.ReferenceValuesIdeal.τ).loc Cert.ReferenceValuesIdeal.main_arg1))
      ∧ r.2.sem = fun _ => 0)

def quiescent_KernelLru [hKernelLru : Cert.KernelLru.Facts] : Prop :=
  ∀ (m : (ℓ : Loc Cert.KernelLru.nD Cert.KernelLru.τ Cert.KernelLru.sig) → Buf (Elt Bits) ℓ) (g : Dev Cert.KernelLru.nD → PrngReg), Pre_KernelLru m →
    θ_run (Cert.KernelLru.defs (F := Bits)) (onTc (τ := Cert.KernelLru.τ) (Cert.KernelLru.main (F := Bits))) ⟨m, fun _ => 0, g⟩ (fun r => (∀ c : Dev Cert.KernelLru.nD,
      r.2.mem ((c.tc : Thread Cert.KernelLru.nD Cert.KernelLru.τ).loc Cert.KernelLru.main_arg0) = m ((c.tc : Thread Cert.KernelLru.nD Cert.KernelLru.τ).loc Cert.KernelLru.main_arg0)
      ∧ r.2.mem ((c.tc : Thread Cert.KernelLru.nD Cert.KernelLru.τ).loc Cert.KernelLru.main_arg1) = m ((c.tc : Thread Cert.KernelLru.nD Cert.KernelLru.τ).loc Cert.KernelLru.main_arg1))
      ∧ r.2.sem = fun _ => 0)

def quiescent_KernelLruIdeal [hKernelLruIdeal : Cert.KernelLruIdeal.Facts] : Prop :=
  ∀ (m : (ℓ : Loc Cert.KernelLruIdeal.nD Cert.KernelLruIdeal.τ Cert.KernelLruIdeal.sig) → Buf (Elt Ideal) ℓ) (g : Dev Cert.KernelLruIdeal.nD → PrngReg), Pre_KernelLruIdeal m →
    θ_run (Cert.KernelLruIdeal.defs (F := Ideal)) (onTc (τ := Cert.KernelLruIdeal.τ) (Cert.KernelLruIdeal.main (F := Ideal))) ⟨m, fun _ => 0, g⟩ (fun r => (∀ c : Dev Cert.KernelLruIdeal.nD,
      r.2.mem ((c.tc : Thread Cert.KernelLruIdeal.nD Cert.KernelLruIdeal.τ).loc Cert.KernelLruIdeal.main_arg0) = m ((c.tc : Thread Cert.KernelLruIdeal.nD Cert.KernelLruIdeal.τ).loc Cert.KernelLruIdeal.main_arg0)
      ∧ r.2.mem ((c.tc : Thread Cert.KernelLruIdeal.nD Cert.KernelLruIdeal.τ).loc Cert.KernelLruIdeal.main_arg1) = m ((c.tc : Thread Cert.KernelLruIdeal.nD Cert.KernelLruIdeal.τ).loc Cert.KernelLruIdeal.main_arg1))
      ∧ r.2.sem = fun _ => 0)

def quiescent_ReferenceLruIdeal [hReferenceLruIdeal : Cert.ReferenceLruIdeal.Facts] : Prop :=
  ∀ (m : (ℓ : Loc Cert.ReferenceLruIdeal.nD Cert.ReferenceLruIdeal.τ Cert.ReferenceLruIdeal.sig) → Buf (Elt Ideal) ℓ) (g : Dev Cert.ReferenceLruIdeal.nD → PrngReg), Pre_ReferenceLruIdeal m →
    θ_run (Cert.ReferenceLruIdeal.defs (F := Ideal)) (onTc (τ := Cert.ReferenceLruIdeal.τ) (Cert.ReferenceLruIdeal.main (F := Ideal))) ⟨m, fun _ => 0, g⟩ (fun r => (∀ c : Dev Cert.ReferenceLruIdeal.nD,
      r.2.mem ((c.tc : Thread Cert.ReferenceLruIdeal.nD Cert.ReferenceLruIdeal.τ).loc Cert.ReferenceLruIdeal.main_arg0) = m ((c.tc : Thread Cert.ReferenceLruIdeal.nD Cert.ReferenceLruIdeal.τ).loc Cert.ReferenceLruIdeal.main_arg0)
      ∧ r.2.mem ((c.tc : Thread Cert.ReferenceLruIdeal.nD Cert.ReferenceLruIdeal.τ).loc Cert.ReferenceLruIdeal.main_arg1) = m ((c.tc : Thread Cert.ReferenceLruIdeal.nD Cert.ReferenceLruIdeal.τ).loc Cert.ReferenceLruIdeal.main_arg1))
      ∧ r.2.sem = fun _ => 0)

def quiescent_KernelGelu [hKernelGelu : Cert.KernelGelu.Facts] : Prop :=
  ∀ (m : (ℓ : Loc Cert.KernelGelu.nD Cert.KernelGelu.τ Cert.KernelGelu.sig) → Buf (Elt Bits) ℓ) (g : Dev Cert.KernelGelu.nD → PrngReg), Pre_KernelGelu m →
    θ_run (Cert.KernelGelu.defs (F := Bits)) (onTc (τ := Cert.KernelGelu.τ) (Cert.KernelGelu.main (F := Bits))) ⟨m, fun _ => 0, g⟩ (fun r => (∀ c : Dev Cert.KernelGelu.nD,
      r.2.mem ((c.tc : Thread Cert.KernelGelu.nD Cert.KernelGelu.τ).loc Cert.KernelGelu.main_arg0) = m ((c.tc : Thread Cert.KernelGelu.nD Cert.KernelGelu.τ).loc Cert.KernelGelu.main_arg0)
      ∧ r.2.mem ((c.tc : Thread Cert.KernelGelu.nD Cert.KernelGelu.τ).loc Cert.KernelGelu.main_arg1) = m ((c.tc : Thread Cert.KernelGelu.nD Cert.KernelGelu.τ).loc Cert.KernelGelu.main_arg1))
      ∧ r.2.sem = fun _ => 0)

def quiescent_KernelGeluIdeal [hKernelGeluIdeal : Cert.KernelGeluIdeal.Facts] : Prop :=
  ∀ (m : (ℓ : Loc Cert.KernelGeluIdeal.nD Cert.KernelGeluIdeal.τ Cert.KernelGeluIdeal.sig) → Buf (Elt Ideal) ℓ) (g : Dev Cert.KernelGeluIdeal.nD → PrngReg), Pre_KernelGeluIdeal m →
    θ_run (Cert.KernelGeluIdeal.defs (F := Ideal)) (onTc (τ := Cert.KernelGeluIdeal.τ) (Cert.KernelGeluIdeal.main (F := Ideal))) ⟨m, fun _ => 0, g⟩ (fun r => (∀ c : Dev Cert.KernelGeluIdeal.nD,
      r.2.mem ((c.tc : Thread Cert.KernelGeluIdeal.nD Cert.KernelGeluIdeal.τ).loc Cert.KernelGeluIdeal.main_arg0) = m ((c.tc : Thread Cert.KernelGeluIdeal.nD Cert.KernelGeluIdeal.τ).loc Cert.KernelGeluIdeal.main_arg0)
      ∧ r.2.mem ((c.tc : Thread Cert.KernelGeluIdeal.nD Cert.KernelGeluIdeal.τ).loc Cert.KernelGeluIdeal.main_arg1) = m ((c.tc : Thread Cert.KernelGeluIdeal.nD Cert.KernelGeluIdeal.τ).loc Cert.KernelGeluIdeal.main_arg1))
      ∧ r.2.sem = fun _ => 0)

def quiescent_ReferenceGeluIdeal [hReferenceGeluIdeal : Cert.ReferenceGeluIdeal.Facts] : Prop :=
  ∀ (m : (ℓ : Loc Cert.ReferenceGeluIdeal.nD Cert.ReferenceGeluIdeal.τ Cert.ReferenceGeluIdeal.sig) → Buf (Elt Ideal) ℓ) (g : Dev Cert.ReferenceGeluIdeal.nD → PrngReg), Pre_ReferenceGeluIdeal m →
    θ_run (Cert.ReferenceGeluIdeal.defs (F := Ideal)) (onTc (τ := Cert.ReferenceGeluIdeal.τ) (Cert.ReferenceGeluIdeal.main (F := Ideal))) ⟨m, fun _ => 0, g⟩ (fun r => (∀ c : Dev Cert.ReferenceGeluIdeal.nD,
      r.2.mem ((c.tc : Thread Cert.ReferenceGeluIdeal.nD Cert.ReferenceGeluIdeal.τ).loc Cert.ReferenceGeluIdeal.main_arg0) = m ((c.tc : Thread Cert.ReferenceGeluIdeal.nD Cert.ReferenceGeluIdeal.τ).loc Cert.ReferenceGeluIdeal.main_arg0)
      ∧ r.2.mem ((c.tc : Thread Cert.ReferenceGeluIdeal.nD Cert.ReferenceGeluIdeal.τ).loc Cert.ReferenceGeluIdeal.main_arg1) = m ((c.tc : Thread Cert.ReferenceGeluIdeal.nD Cert.ReferenceGeluIdeal.τ).loc Cert.ReferenceGeluIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2))
      ∧ r.2.sem = fun _ => 0)

def quiescent_KernelKeysSample [hKernelKeysSample : Cert.KernelKeysSample.Facts] : Prop :=
  ∀ (m : (ℓ : Loc Cert.KernelKeysSample.nD Cert.KernelKeysSample.τ Cert.KernelKeysSample.sig) → Buf (Elt Bits) ℓ) (g : Dev Cert.KernelKeysSample.nD → PrngReg), Pre_KernelKeysSample m →
    θ_run (Cert.KernelKeysSample.defs (F := Bits)) (onTc (τ := Cert.KernelKeysSample.τ) (Cert.KernelKeysSample.main (F := Bits))) ⟨m, fun _ => 0, g⟩ (fun r => (∀ c : Dev Cert.KernelKeysSample.nD,
      r.2.mem ((c.tc : Thread Cert.KernelKeysSample.nD Cert.KernelKeysSample.τ).loc Cert.KernelKeysSample.main_arg0) = m ((c.tc : Thread Cert.KernelKeysSample.nD Cert.KernelKeysSample.τ).loc Cert.KernelKeysSample.main_arg0)
      ∧ r.2.mem ((c.tc : Thread Cert.KernelKeysSample.nD Cert.KernelKeysSample.τ).loc Cert.KernelKeysSample.main_arg1) = m ((c.tc : Thread Cert.KernelKeysSample.nD Cert.KernelKeysSample.τ).loc Cert.KernelKeysSample.main_arg1))
      ∧ r.2.sem = fun _ => 0)

def quiescent_KernelKeysSampleIdeal [hKernelKeysSampleIdeal : Cert.KernelKeysSampleIdeal.Facts] : Prop :=
  ∀ (m : (ℓ : Loc Cert.KernelKeysSampleIdeal.nD Cert.KernelKeysSampleIdeal.τ Cert.KernelKeysSampleIdeal.sig) → Buf (Elt Ideal) ℓ) (g : Dev Cert.KernelKeysSampleIdeal.nD → PrngReg), Pre_KernelKeysSampleIdeal m →
    θ_run (Cert.KernelKeysSampleIdeal.defs (F := Ideal)) (onTc (τ := Cert.KernelKeysSampleIdeal.τ) (Cert.KernelKeysSampleIdeal.main (F := Ideal))) ⟨m, fun _ => 0, g⟩ (fun r => (∀ c : Dev Cert.KernelKeysSampleIdeal.nD,
      r.2.mem ((c.tc : Thread Cert.KernelKeysSampleIdeal.nD Cert.KernelKeysSampleIdeal.τ).loc Cert.KernelKeysSampleIdeal.main_arg0) = m ((c.tc : Thread Cert.KernelKeysSampleIdeal.nD Cert.KernelKeysSampleIdeal.τ).loc Cert.KernelKeysSampleIdeal.main_arg0)
      ∧ r.2.mem ((c.tc : Thread Cert.KernelKeysSampleIdeal.nD Cert.KernelKeysSampleIdeal.τ).loc Cert.KernelKeysSampleIdeal.main_arg1) = m ((c.tc : Thread Cert.KernelKeysSampleIdeal.nD Cert.KernelKeysSampleIdeal.τ).loc Cert.KernelKeysSampleIdeal.main_arg1))
      ∧ r.2.sem = fun _ => 0)

def quiescent_ReferenceKeysSampleIdeal [hReferenceKeysSampleIdeal : Cert.ReferenceKeysSampleIdeal.Facts] : Prop :=
  ∀ (m : (ℓ : Loc Cert.ReferenceKeysSampleIdeal.nD Cert.ReferenceKeysSampleIdeal.τ Cert.ReferenceKeysSampleIdeal.sig) → Buf (Elt Ideal) ℓ) (g : Dev Cert.ReferenceKeysSampleIdeal.nD → PrngReg), Pre_ReferenceKeysSampleIdeal m →
    θ_run (Cert.ReferenceKeysSampleIdeal.defs (F := Ideal)) (onTc (τ := Cert.ReferenceKeysSampleIdeal.τ) (Cert.ReferenceKeysSampleIdeal.main (F := Ideal))) ⟨m, fun _ => 0, g⟩ (fun r => (∀ c : Dev Cert.ReferenceKeysSampleIdeal.nD,
      r.2.mem ((c.tc : Thread Cert.ReferenceKeysSampleIdeal.nD Cert.ReferenceKeysSampleIdeal.τ).loc Cert.ReferenceKeysSampleIdeal.main_arg0) = m ((c.tc : Thread Cert.ReferenceKeysSampleIdeal.nD Cert.ReferenceKeysSampleIdeal.τ).loc Cert.ReferenceKeysSampleIdeal.main_arg0)
      ∧ r.2.mem ((c.tc : Thread Cert.ReferenceKeysSampleIdeal.nD Cert.ReferenceKeysSampleIdeal.τ).loc Cert.ReferenceKeysSampleIdeal.main_arg1) = m ((c.tc : Thread Cert.ReferenceKeysSampleIdeal.nD Cert.ReferenceKeysSampleIdeal.τ).loc Cert.ReferenceKeysSampleIdeal.main_arg1))
      ∧ r.2.sem = fun _ => 0)

def quiescent_KernelValuesSample [hKernelValuesSample : Cert.KernelValuesSample.Facts] : Prop :=
  ∀ (m : (ℓ : Loc Cert.KernelValuesSample.nD Cert.KernelValuesSample.τ Cert.KernelValuesSample.sig) → Buf (Elt Bits) ℓ) (g : Dev Cert.KernelValuesSample.nD → PrngReg), Pre_KernelValuesSample m →
    θ_run (Cert.KernelValuesSample.defs (F := Bits)) (onTc (τ := Cert.KernelValuesSample.τ) (Cert.KernelValuesSample.main (F := Bits))) ⟨m, fun _ => 0, g⟩ (fun r => (∀ c : Dev Cert.KernelValuesSample.nD,
      r.2.mem ((c.tc : Thread Cert.KernelValuesSample.nD Cert.KernelValuesSample.τ).loc Cert.KernelValuesSample.main_arg0) = m ((c.tc : Thread Cert.KernelValuesSample.nD Cert.KernelValuesSample.τ).loc Cert.KernelValuesSample.main_arg0)
      ∧ r.2.mem ((c.tc : Thread Cert.KernelValuesSample.nD Cert.KernelValuesSample.τ).loc Cert.KernelValuesSample.main_arg1) = m ((c.tc : Thread Cert.KernelValuesSample.nD Cert.KernelValuesSample.τ).loc Cert.KernelValuesSample.main_arg1))
      ∧ r.2.sem = fun _ => 0)

def quiescent_KernelValuesSampleIdeal [hKernelValuesSampleIdeal : Cert.KernelValuesSampleIdeal.Facts] : Prop :=
  ∀ (m : (ℓ : Loc Cert.KernelValuesSampleIdeal.nD Cert.KernelValuesSampleIdeal.τ Cert.KernelValuesSampleIdeal.sig) → Buf (Elt Ideal) ℓ) (g : Dev Cert.KernelValuesSampleIdeal.nD → PrngReg), Pre_KernelValuesSampleIdeal m →
    θ_run (Cert.KernelValuesSampleIdeal.defs (F := Ideal)) (onTc (τ := Cert.KernelValuesSampleIdeal.τ) (Cert.KernelValuesSampleIdeal.main (F := Ideal))) ⟨m, fun _ => 0, g⟩ (fun r => (∀ c : Dev Cert.KernelValuesSampleIdeal.nD,
      r.2.mem ((c.tc : Thread Cert.KernelValuesSampleIdeal.nD Cert.KernelValuesSampleIdeal.τ).loc Cert.KernelValuesSampleIdeal.main_arg0) = m ((c.tc : Thread Cert.KernelValuesSampleIdeal.nD Cert.KernelValuesSampleIdeal.τ).loc Cert.KernelValuesSampleIdeal.main_arg0)
      ∧ r.2.mem ((c.tc : Thread Cert.KernelValuesSampleIdeal.nD Cert.KernelValuesSampleIdeal.τ).loc Cert.KernelValuesSampleIdeal.main_arg1) = m ((c.tc : Thread Cert.KernelValuesSampleIdeal.nD Cert.KernelValuesSampleIdeal.τ).loc Cert.KernelValuesSampleIdeal.main_arg1))
      ∧ r.2.sem = fun _ => 0)

def quiescent_ReferenceValuesSampleIdeal [hReferenceValuesSampleIdeal : Cert.ReferenceValuesSampleIdeal.Facts] : Prop :=
  ∀ (m : (ℓ : Loc Cert.ReferenceValuesSampleIdeal.nD Cert.ReferenceValuesSampleIdeal.τ Cert.ReferenceValuesSampleIdeal.sig) → Buf (Elt Ideal) ℓ) (g : Dev Cert.ReferenceValuesSampleIdeal.nD → PrngReg), Pre_ReferenceValuesSampleIdeal m →
    θ_run (Cert.ReferenceValuesSampleIdeal.defs (F := Ideal)) (onTc (τ := Cert.ReferenceValuesSampleIdeal.τ) (Cert.ReferenceValuesSampleIdeal.main (F := Ideal))) ⟨m, fun _ => 0, g⟩ (fun r => (∀ c : Dev Cert.ReferenceValuesSampleIdeal.nD,
      r.2.mem ((c.tc : Thread Cert.ReferenceValuesSampleIdeal.nD Cert.ReferenceValuesSampleIdeal.τ).loc Cert.ReferenceValuesSampleIdeal.main_arg0) = m ((c.tc : Thread Cert.ReferenceValuesSampleIdeal.nD Cert.ReferenceValuesSampleIdeal.τ).loc Cert.ReferenceValuesSampleIdeal.main_arg0)
      ∧ r.2.mem ((c.tc : Thread Cert.ReferenceValuesSampleIdeal.nD Cert.ReferenceValuesSampleIdeal.τ).loc Cert.ReferenceValuesSampleIdeal.main_arg1) = m ((c.tc : Thread Cert.ReferenceValuesSampleIdeal.nD Cert.ReferenceValuesSampleIdeal.τ).loc Cert.ReferenceValuesSampleIdeal.main_arg1))
      ∧ r.2.sem = fun _ => 0)

def quiescent_KernelRecSample [hKernelRecSample : Cert.KernelRecSample.Facts] : Prop :=
  ∀ (m : (ℓ : Loc Cert.KernelRecSample.nD Cert.KernelRecSample.τ Cert.KernelRecSample.sig) → Buf (Elt Bits) ℓ) (g : Dev Cert.KernelRecSample.nD → PrngReg), Pre_KernelRecSample m →
    θ_run (Cert.KernelRecSample.defs (F := Bits)) (onTc (τ := Cert.KernelRecSample.τ) (Cert.KernelRecSample.main (F := Bits))) ⟨m, fun _ => 0, g⟩ (fun r => (∀ c : Dev Cert.KernelRecSample.nD,
      r.2.mem ((c.tc : Thread Cert.KernelRecSample.nD Cert.KernelRecSample.τ).loc Cert.KernelRecSample.main_arg0) = m ((c.tc : Thread Cert.KernelRecSample.nD Cert.KernelRecSample.τ).loc Cert.KernelRecSample.main_arg0)
      ∧ r.2.mem ((c.tc : Thread Cert.KernelRecSample.nD Cert.KernelRecSample.τ).loc Cert.KernelRecSample.main_arg1) = m ((c.tc : Thread Cert.KernelRecSample.nD Cert.KernelRecSample.τ).loc Cert.KernelRecSample.main_arg1)
      ∧ r.2.mem ((c.tc : Thread Cert.KernelRecSample.nD Cert.KernelRecSample.τ).loc Cert.KernelRecSample.main_arg2) = m ((c.tc : Thread Cert.KernelRecSample.nD Cert.KernelRecSample.τ).loc Cert.KernelRecSample.main_arg2)
      ∧ r.2.mem ((c.tc : Thread Cert.KernelRecSample.nD Cert.KernelRecSample.τ).loc Cert.KernelRecSample.main_arg3) = m ((c.tc : Thread Cert.KernelRecSample.nD Cert.KernelRecSample.τ).loc Cert.KernelRecSample.main_arg3)
      ∧ r.2.mem ((c.tc : Thread Cert.KernelRecSample.nD Cert.KernelRecSample.τ).loc Cert.KernelRecSample.main_arg4) = m ((c.tc : Thread Cert.KernelRecSample.nD Cert.KernelRecSample.τ).loc Cert.KernelRecSample.main_arg4)
      ∧ r.2.mem ((c.tc : Thread Cert.KernelRecSample.nD Cert.KernelRecSample.τ).loc Cert.KernelRecSample.main_arg5) = m ((c.tc : Thread Cert.KernelRecSample.nD Cert.KernelRecSample.τ).loc Cert.KernelRecSample.main_arg5)
      ∧ r.2.mem ((c.tc : Thread Cert.KernelRecSample.nD Cert.KernelRecSample.τ).loc Cert.KernelRecSample.main_arg6) = m ((c.tc : Thread Cert.KernelRecSample.nD Cert.KernelRecSample.τ).loc Cert.KernelRecSample.main_arg6)
      ∧ r.2.mem ((c.tc : Thread Cert.KernelRecSample.nD Cert.KernelRecSample.τ).loc Cert.KernelRecSample.main_arg7) = m ((c.tc : Thread Cert.KernelRecSample.nD Cert.KernelRecSample.τ).loc Cert.KernelRecSample.main_arg7)
      ∧ r.2.mem ((c.tc : Thread Cert.KernelRecSample.nD Cert.KernelRecSample.τ).loc Cert.KernelRecSample.main_arg8) = m ((c.tc : Thread Cert.KernelRecSample.nD Cert.KernelRecSample.τ).loc Cert.KernelRecSample.main_arg8)
      ∧ r.2.mem ((c.tc : Thread Cert.KernelRecSample.nD Cert.KernelRecSample.τ).loc Cert.KernelRecSample.main_arg9) = m ((c.tc : Thread Cert.KernelRecSample.nD Cert.KernelRecSample.τ).loc Cert.KernelRecSample.main_arg9)
      ∧ r.2.mem ((c.tc : Thread Cert.KernelRecSample.nD Cert.KernelRecSample.τ).loc Cert.KernelRecSample.main_arg10) = m ((c.tc : Thread Cert.KernelRecSample.nD Cert.KernelRecSample.τ).loc Cert.KernelRecSample.main_arg10)
      ∧ r.2.mem ((c.tc : Thread Cert.KernelRecSample.nD Cert.KernelRecSample.τ).loc Cert.KernelRecSample.main_arg11) = m ((c.tc : Thread Cert.KernelRecSample.nD Cert.KernelRecSample.τ).loc Cert.KernelRecSample.main_arg11))
      ∧ r.2.sem = fun _ => 0)

def quiescent_KernelRecSampleIdeal [hKernelRecSampleIdeal : Cert.KernelRecSampleIdeal.Facts] : Prop :=
  ∀ (m : (ℓ : Loc Cert.KernelRecSampleIdeal.nD Cert.KernelRecSampleIdeal.τ Cert.KernelRecSampleIdeal.sig) → Buf (Elt Ideal) ℓ) (g : Dev Cert.KernelRecSampleIdeal.nD → PrngReg), Pre_KernelRecSampleIdeal m →
    θ_run (Cert.KernelRecSampleIdeal.defs (F := Ideal)) (onTc (τ := Cert.KernelRecSampleIdeal.τ) (Cert.KernelRecSampleIdeal.main (F := Ideal))) ⟨m, fun _ => 0, g⟩ (fun r => (∀ c : Dev Cert.KernelRecSampleIdeal.nD,
      r.2.mem ((c.tc : Thread Cert.KernelRecSampleIdeal.nD Cert.KernelRecSampleIdeal.τ).loc Cert.KernelRecSampleIdeal.main_arg0) = m ((c.tc : Thread Cert.KernelRecSampleIdeal.nD Cert.KernelRecSampleIdeal.τ).loc Cert.KernelRecSampleIdeal.main_arg0)
      ∧ r.2.mem ((c.tc : Thread Cert.KernelRecSampleIdeal.nD Cert.KernelRecSampleIdeal.τ).loc Cert.KernelRecSampleIdeal.main_arg1) = m ((c.tc : Thread Cert.KernelRecSampleIdeal.nD Cert.KernelRecSampleIdeal.τ).loc Cert.KernelRecSampleIdeal.main_arg1)
      ∧ r.2.mem ((c.tc : Thread Cert.KernelRecSampleIdeal.nD Cert.KernelRecSampleIdeal.τ).loc Cert.KernelRecSampleIdeal.main_arg2) = m ((c.tc : Thread Cert.KernelRecSampleIdeal.nD Cert.KernelRecSampleIdeal.τ).loc Cert.KernelRecSampleIdeal.main_arg2)
      ∧ r.2.mem ((c.tc : Thread Cert.KernelRecSampleIdeal.nD Cert.KernelRecSampleIdeal.τ).loc Cert.KernelRecSampleIdeal.main_arg3) = m ((c.tc : Thread Cert.KernelRecSampleIdeal.nD Cert.KernelRecSampleIdeal.τ).loc Cert.KernelRecSampleIdeal.main_arg3)
      ∧ r.2.mem ((c.tc : Thread Cert.KernelRecSampleIdeal.nD Cert.KernelRecSampleIdeal.τ).loc Cert.KernelRecSampleIdeal.main_arg4) = m ((c.tc : Thread Cert.KernelRecSampleIdeal.nD Cert.KernelRecSampleIdeal.τ).loc Cert.KernelRecSampleIdeal.main_arg4)
      ∧ r.2.mem ((c.tc : Thread Cert.KernelRecSampleIdeal.nD Cert.KernelRecSampleIdeal.τ).loc Cert.KernelRecSampleIdeal.main_arg5) = m ((c.tc : Thread Cert.KernelRecSampleIdeal.nD Cert.KernelRecSampleIdeal.τ).loc Cert.KernelRecSampleIdeal.main_arg5)
      ∧ r.2.mem ((c.tc : Thread Cert.KernelRecSampleIdeal.nD Cert.KernelRecSampleIdeal.τ).loc Cert.KernelRecSampleIdeal.main_arg6) = m ((c.tc : Thread Cert.KernelRecSampleIdeal.nD Cert.KernelRecSampleIdeal.τ).loc Cert.KernelRecSampleIdeal.main_arg6)
      ∧ r.2.mem ((c.tc : Thread Cert.KernelRecSampleIdeal.nD Cert.KernelRecSampleIdeal.τ).loc Cert.KernelRecSampleIdeal.main_arg7) = m ((c.tc : Thread Cert.KernelRecSampleIdeal.nD Cert.KernelRecSampleIdeal.τ).loc Cert.KernelRecSampleIdeal.main_arg7)
      ∧ r.2.mem ((c.tc : Thread Cert.KernelRecSampleIdeal.nD Cert.KernelRecSampleIdeal.τ).loc Cert.KernelRecSampleIdeal.main_arg8) = m ((c.tc : Thread Cert.KernelRecSampleIdeal.nD Cert.KernelRecSampleIdeal.τ).loc Cert.KernelRecSampleIdeal.main_arg8)
      ∧ r.2.mem ((c.tc : Thread Cert.KernelRecSampleIdeal.nD Cert.KernelRecSampleIdeal.τ).loc Cert.KernelRecSampleIdeal.main_arg9) = m ((c.tc : Thread Cert.KernelRecSampleIdeal.nD Cert.KernelRecSampleIdeal.τ).loc Cert.KernelRecSampleIdeal.main_arg9)
      ∧ r.2.mem ((c.tc : Thread Cert.KernelRecSampleIdeal.nD Cert.KernelRecSampleIdeal.τ).loc Cert.KernelRecSampleIdeal.main_arg10) = m ((c.tc : Thread Cert.KernelRecSampleIdeal.nD Cert.KernelRecSampleIdeal.τ).loc Cert.KernelRecSampleIdeal.main_arg10)
      ∧ r.2.mem ((c.tc : Thread Cert.KernelRecSampleIdeal.nD Cert.KernelRecSampleIdeal.τ).loc Cert.KernelRecSampleIdeal.main_arg11) = m ((c.tc : Thread Cert.KernelRecSampleIdeal.nD Cert.KernelRecSampleIdeal.τ).loc Cert.KernelRecSampleIdeal.main_arg11))
      ∧ r.2.sem = fun _ => 0)

def quiescent_ReferenceRecSampleIdeal [hReferenceRecSampleIdeal : Cert.ReferenceRecSampleIdeal.Facts] : Prop :=
  ∀ (m : (ℓ : Loc Cert.ReferenceRecSampleIdeal.nD Cert.ReferenceRecSampleIdeal.τ Cert.ReferenceRecSampleIdeal.sig) → Buf (Elt Ideal) ℓ) (g : Dev Cert.ReferenceRecSampleIdeal.nD → PrngReg), Pre_ReferenceRecSampleIdeal m →
    θ_run (Cert.ReferenceRecSampleIdeal.defs (F := Ideal)) (onTc (τ := Cert.ReferenceRecSampleIdeal.τ) (Cert.ReferenceRecSampleIdeal.main (F := Ideal))) ⟨m, fun _ => 0, g⟩ (fun r => (∀ c : Dev Cert.ReferenceRecSampleIdeal.nD,
      r.2.mem ((c.tc : Thread Cert.ReferenceRecSampleIdeal.nD Cert.ReferenceRecSampleIdeal.τ).loc Cert.ReferenceRecSampleIdeal.main_arg0) = m ((c.tc : Thread Cert.ReferenceRecSampleIdeal.nD Cert.ReferenceRecSampleIdeal.τ).loc Cert.ReferenceRecSampleIdeal.main_arg0)
      ∧ r.2.mem ((c.tc : Thread Cert.ReferenceRecSampleIdeal.nD Cert.ReferenceRecSampleIdeal.τ).loc Cert.ReferenceRecSampleIdeal.main_arg1) = m ((c.tc : Thread Cert.ReferenceRecSampleIdeal.nD Cert.ReferenceRecSampleIdeal.τ).loc Cert.ReferenceRecSampleIdeal.main_arg1)
      ∧ r.2.mem ((c.tc : Thread Cert.ReferenceRecSampleIdeal.nD Cert.ReferenceRecSampleIdeal.τ).loc Cert.ReferenceRecSampleIdeal.main_arg2) = m ((c.tc : Thread Cert.ReferenceRecSampleIdeal.nD Cert.ReferenceRecSampleIdeal.τ).loc Cert.ReferenceRecSampleIdeal.main_arg2)
      ∧ r.2.mem ((c.tc : Thread Cert.ReferenceRecSampleIdeal.nD Cert.ReferenceRecSampleIdeal.τ).loc Cert.ReferenceRecSampleIdeal.main_arg3) = m ((c.tc : Thread Cert.ReferenceRecSampleIdeal.nD Cert.ReferenceRecSampleIdeal.τ).loc Cert.ReferenceRecSampleIdeal.main_arg3)
      ∧ r.2.mem ((c.tc : Thread Cert.ReferenceRecSampleIdeal.nD Cert.ReferenceRecSampleIdeal.τ).loc Cert.ReferenceRecSampleIdeal.main_arg4) = m ((c.tc : Thread Cert.ReferenceRecSampleIdeal.nD Cert.ReferenceRecSampleIdeal.τ).loc Cert.ReferenceRecSampleIdeal.main_arg4)
      ∧ r.2.mem ((c.tc : Thread Cert.ReferenceRecSampleIdeal.nD Cert.ReferenceRecSampleIdeal.τ).loc Cert.ReferenceRecSampleIdeal.main_arg5) = m ((c.tc : Thread Cert.ReferenceRecSampleIdeal.nD Cert.ReferenceRecSampleIdeal.τ).loc Cert.ReferenceRecSampleIdeal.main_arg5)
      ∧ r.2.mem ((c.tc : Thread Cert.ReferenceRecSampleIdeal.nD Cert.ReferenceRecSampleIdeal.τ).loc Cert.ReferenceRecSampleIdeal.main_arg6) = m ((c.tc : Thread Cert.ReferenceRecSampleIdeal.nD Cert.ReferenceRecSampleIdeal.τ).loc Cert.ReferenceRecSampleIdeal.main_arg6)
      ∧ r.2.mem ((c.tc : Thread Cert.ReferenceRecSampleIdeal.nD Cert.ReferenceRecSampleIdeal.τ).loc Cert.ReferenceRecSampleIdeal.main_arg7) = m ((c.tc : Thread Cert.ReferenceRecSampleIdeal.nD Cert.ReferenceRecSampleIdeal.τ).loc Cert.ReferenceRecSampleIdeal.main_arg7)
      ∧ r.2.mem ((c.tc : Thread Cert.ReferenceRecSampleIdeal.nD Cert.ReferenceRecSampleIdeal.τ).loc Cert.ReferenceRecSampleIdeal.main_arg8) = m ((c.tc : Thread Cert.ReferenceRecSampleIdeal.nD Cert.ReferenceRecSampleIdeal.τ).loc Cert.ReferenceRecSampleIdeal.main_arg8)
      ∧ r.2.mem ((c.tc : Thread Cert.ReferenceRecSampleIdeal.nD Cert.ReferenceRecSampleIdeal.τ).loc Cert.ReferenceRecSampleIdeal.main_arg9) = m ((c.tc : Thread Cert.ReferenceRecSampleIdeal.nD Cert.ReferenceRecSampleIdeal.τ).loc Cert.ReferenceRecSampleIdeal.main_arg9)
      ∧ r.2.mem ((c.tc : Thread Cert.ReferenceRecSampleIdeal.nD Cert.ReferenceRecSampleIdeal.τ).loc Cert.ReferenceRecSampleIdeal.main_arg10) = m ((c.tc : Thread Cert.ReferenceRecSampleIdeal.nD Cert.ReferenceRecSampleIdeal.τ).loc Cert.ReferenceRecSampleIdeal.main_arg10)
      ∧ r.2.mem ((c.tc : Thread Cert.ReferenceRecSampleIdeal.nD Cert.ReferenceRecSampleIdeal.τ).loc Cert.ReferenceRecSampleIdeal.main_arg11) = m ((c.tc : Thread Cert.ReferenceRecSampleIdeal.nD Cert.ReferenceRecSampleIdeal.τ).loc Cert.ReferenceRecSampleIdeal.main_arg11))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ r.2.sem = fun _ => 0)

def quiescent_KernelAdaIdeal_pre_finite_conditioning [hKernelAdaIdeal : Cert.KernelAdaIdeal.Facts] [hPre_finite_conditioning : Cert.Pre_finite_conditioning.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal_finite_conditioning m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3))
      ∧ r.2.sem = fun _ => 0)

def quiescent_ReferenceAdaIdeal_pre_finite_conditioning [hReferenceAdaIdeal : Cert.ReferenceAdaIdeal.Facts] [hPre_finite_conditioning : Cert.Pre_finite_conditioning.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal_finite_conditioning m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3))
      ∧ r.2.sem = fun _ => 0)

def quiescent_KernelRec [hKernelRec : Cert.KernelRec.Facts] : Prop :=
  ∀ (m : (ℓ : Loc Cert.KernelRec.nD Cert.KernelRec.τ Cert.KernelRec.sig) → Buf (Elt Bits) ℓ) (g : Dev Cert.KernelRec.nD → PrngReg), Pre_KernelRec m →
    θ_run (Cert.KernelRec.defs (F := Bits)) (onTc (τ := Cert.KernelRec.τ) (Cert.KernelRec.main (F := Bits))) ⟨m, fun _ => 0, g⟩ (fun r => (∀ c : Dev Cert.KernelRec.nD,
      r.2.mem ((c.tc : Thread Cert.KernelRec.nD Cert.KernelRec.τ).loc Cert.KernelRec.main_arg0) = m ((c.tc : Thread Cert.KernelRec.nD Cert.KernelRec.τ).loc Cert.KernelRec.main_arg0)
      ∧ r.2.mem ((c.tc : Thread Cert.KernelRec.nD Cert.KernelRec.τ).loc Cert.KernelRec.main_arg1) = m ((c.tc : Thread Cert.KernelRec.nD Cert.KernelRec.τ).loc Cert.KernelRec.main_arg1)
      ∧ r.2.mem ((c.tc : Thread Cert.KernelRec.nD Cert.KernelRec.τ).loc Cert.KernelRec.main_arg2) = m ((c.tc : Thread Cert.KernelRec.nD Cert.KernelRec.τ).loc Cert.KernelRec.main_arg2)
      ∧ r.2.mem ((c.tc : Thread Cert.KernelRec.nD Cert.KernelRec.τ).loc Cert.KernelRec.main_arg3) = m ((c.tc : Thread Cert.KernelRec.nD Cert.KernelRec.τ).loc Cert.KernelRec.main_arg3)
      ∧ r.2.mem ((c.tc : Thread Cert.KernelRec.nD Cert.KernelRec.τ).loc Cert.KernelRec.main_arg4) = m ((c.tc : Thread Cert.KernelRec.nD Cert.KernelRec.τ).loc Cert.KernelRec.main_arg4)
      ∧ r.2.mem ((c.tc : Thread Cert.KernelRec.nD Cert.KernelRec.τ).loc Cert.KernelRec.main_arg5) = m ((c.tc : Thread Cert.KernelRec.nD Cert.KernelRec.τ).loc Cert.KernelRec.main_arg5)
      ∧ r.2.mem ((c.tc : Thread Cert.KernelRec.nD Cert.KernelRec.τ).loc Cert.KernelRec.main_arg6) = m ((c.tc : Thread Cert.KernelRec.nD Cert.KernelRec.τ).loc Cert.KernelRec.main_arg6)
      ∧ r.2.mem ((c.tc : Thread Cert.KernelRec.nD Cert.KernelRec.τ).loc Cert.KernelRec.main_arg7) = m ((c.tc : Thread Cert.KernelRec.nD Cert.KernelRec.τ).loc Cert.KernelRec.main_arg7)
      ∧ r.2.mem ((c.tc : Thread Cert.KernelRec.nD Cert.KernelRec.τ).loc Cert.KernelRec.main_arg8) = m ((c.tc : Thread Cert.KernelRec.nD Cert.KernelRec.τ).loc Cert.KernelRec.main_arg8)
      ∧ r.2.mem ((c.tc : Thread Cert.KernelRec.nD Cert.KernelRec.τ).loc Cert.KernelRec.main_arg9) = m ((c.tc : Thread Cert.KernelRec.nD Cert.KernelRec.τ).loc Cert.KernelRec.main_arg9))
      ∧ r.2.sem = fun _ => 0)

def quiescent_KernelRecIdeal [hKernelRecIdeal : Cert.KernelRecIdeal.Facts] : Prop :=
  ∀ (m : (ℓ : Loc Cert.KernelRecIdeal.nD Cert.KernelRecIdeal.τ Cert.KernelRecIdeal.sig) → Buf (Elt Ideal) ℓ) (g : Dev Cert.KernelRecIdeal.nD → PrngReg), Pre_KernelRecIdeal m →
    θ_run (Cert.KernelRecIdeal.defs (F := Ideal)) (onTc (τ := Cert.KernelRecIdeal.τ) (Cert.KernelRecIdeal.main (F := Ideal))) ⟨m, fun _ => 0, g⟩ (fun r => (∀ c : Dev Cert.KernelRecIdeal.nD,
      r.2.mem ((c.tc : Thread Cert.KernelRecIdeal.nD Cert.KernelRecIdeal.τ).loc Cert.KernelRecIdeal.main_arg0) = m ((c.tc : Thread Cert.KernelRecIdeal.nD Cert.KernelRecIdeal.τ).loc Cert.KernelRecIdeal.main_arg0)
      ∧ r.2.mem ((c.tc : Thread Cert.KernelRecIdeal.nD Cert.KernelRecIdeal.τ).loc Cert.KernelRecIdeal.main_arg1) = m ((c.tc : Thread Cert.KernelRecIdeal.nD Cert.KernelRecIdeal.τ).loc Cert.KernelRecIdeal.main_arg1)
      ∧ r.2.mem ((c.tc : Thread Cert.KernelRecIdeal.nD Cert.KernelRecIdeal.τ).loc Cert.KernelRecIdeal.main_arg2) = m ((c.tc : Thread Cert.KernelRecIdeal.nD Cert.KernelRecIdeal.τ).loc Cert.KernelRecIdeal.main_arg2)
      ∧ r.2.mem ((c.tc : Thread Cert.KernelRecIdeal.nD Cert.KernelRecIdeal.τ).loc Cert.KernelRecIdeal.main_arg3) = m ((c.tc : Thread Cert.KernelRecIdeal.nD Cert.KernelRecIdeal.τ).loc Cert.KernelRecIdeal.main_arg3)
      ∧ r.2.mem ((c.tc : Thread Cert.KernelRecIdeal.nD Cert.KernelRecIdeal.τ).loc Cert.KernelRecIdeal.main_arg4) = m ((c.tc : Thread Cert.KernelRecIdeal.nD Cert.KernelRecIdeal.τ).loc Cert.KernelRecIdeal.main_arg4)
      ∧ r.2.mem ((c.tc : Thread Cert.KernelRecIdeal.nD Cert.KernelRecIdeal.τ).loc Cert.KernelRecIdeal.main_arg5) = m ((c.tc : Thread Cert.KernelRecIdeal.nD Cert.KernelRecIdeal.τ).loc Cert.KernelRecIdeal.main_arg5)
      ∧ r.2.mem ((c.tc : Thread Cert.KernelRecIdeal.nD Cert.KernelRecIdeal.τ).loc Cert.KernelRecIdeal.main_arg6) = m ((c.tc : Thread Cert.KernelRecIdeal.nD Cert.KernelRecIdeal.τ).loc Cert.KernelRecIdeal.main_arg6)
      ∧ r.2.mem ((c.tc : Thread Cert.KernelRecIdeal.nD Cert.KernelRecIdeal.τ).loc Cert.KernelRecIdeal.main_arg7) = m ((c.tc : Thread Cert.KernelRecIdeal.nD Cert.KernelRecIdeal.τ).loc Cert.KernelRecIdeal.main_arg7)
      ∧ r.2.mem ((c.tc : Thread Cert.KernelRecIdeal.nD Cert.KernelRecIdeal.τ).loc Cert.KernelRecIdeal.main_arg8) = m ((c.tc : Thread Cert.KernelRecIdeal.nD Cert.KernelRecIdeal.τ).loc Cert.KernelRecIdeal.main_arg8)
      ∧ r.2.mem ((c.tc : Thread Cert.KernelRecIdeal.nD Cert.KernelRecIdeal.τ).loc Cert.KernelRecIdeal.main_arg9) = m ((c.tc : Thread Cert.KernelRecIdeal.nD Cert.KernelRecIdeal.τ).loc Cert.KernelRecIdeal.main_arg9))
      ∧ r.2.sem = fun _ => 0)

def quiescent_ReferenceRecIdeal [hReferenceRecIdeal : Cert.ReferenceRecIdeal.Facts] : Prop :=
  ∀ (m : (ℓ : Loc Cert.ReferenceRecIdeal.nD Cert.ReferenceRecIdeal.τ Cert.ReferenceRecIdeal.sig) → Buf (Elt Ideal) ℓ) (g : Dev Cert.ReferenceRecIdeal.nD → PrngReg), Pre_ReferenceRecIdeal m →
    θ_run (Cert.ReferenceRecIdeal.defs (F := Ideal)) (onTc (τ := Cert.ReferenceRecIdeal.τ) (Cert.ReferenceRecIdeal.main (F := Ideal))) ⟨m, fun _ => 0, g⟩ (fun r => (∀ c : Dev Cert.ReferenceRecIdeal.nD,
      r.2.mem ((c.tc : Thread Cert.ReferenceRecIdeal.nD Cert.ReferenceRecIdeal.τ).loc Cert.ReferenceRecIdeal.main_arg0) = m ((c.tc : Thread Cert.ReferenceRecIdeal.nD Cert.ReferenceRecIdeal.τ).loc Cert.ReferenceRecIdeal.main_arg0)
      ∧ r.2.mem ((c.tc : Thread Cert.ReferenceRecIdeal.nD Cert.ReferenceRecIdeal.τ).loc Cert.ReferenceRecIdeal.main_arg1) = m ((c.tc : Thread Cert.ReferenceRecIdeal.nD Cert.ReferenceRecIdeal.τ).loc Cert.ReferenceRecIdeal.main_arg1)
      ∧ r.2.mem ((c.tc : Thread Cert.ReferenceRecIdeal.nD Cert.ReferenceRecIdeal.τ).loc Cert.ReferenceRecIdeal.main_arg2) = m ((c.tc : Thread Cert.ReferenceRecIdeal.nD Cert.ReferenceRecIdeal.τ).loc Cert.ReferenceRecIdeal.main_arg2)
      ∧ r.2.mem ((c.tc : Thread Cert.ReferenceRecIdeal.nD Cert.ReferenceRecIdeal.τ).loc Cert.ReferenceRecIdeal.main_arg3) = m ((c.tc : Thread Cert.ReferenceRecIdeal.nD Cert.ReferenceRecIdeal.τ).loc Cert.ReferenceRecIdeal.main_arg3)
      ∧ r.2.mem ((c.tc : Thread Cert.ReferenceRecIdeal.nD Cert.ReferenceRecIdeal.τ).loc Cert.ReferenceRecIdeal.main_arg4) = m ((c.tc : Thread Cert.ReferenceRecIdeal.nD Cert.ReferenceRecIdeal.τ).loc Cert.ReferenceRecIdeal.main_arg4)
      ∧ r.2.mem ((c.tc : Thread Cert.ReferenceRecIdeal.nD Cert.ReferenceRecIdeal.τ).loc Cert.ReferenceRecIdeal.main_arg5) = m ((c.tc : Thread Cert.ReferenceRecIdeal.nD Cert.ReferenceRecIdeal.τ).loc Cert.ReferenceRecIdeal.main_arg5)
      ∧ r.2.mem ((c.tc : Thread Cert.ReferenceRecIdeal.nD Cert.ReferenceRecIdeal.τ).loc Cert.ReferenceRecIdeal.main_arg6) = m ((c.tc : Thread Cert.ReferenceRecIdeal.nD Cert.ReferenceRecIdeal.τ).loc Cert.ReferenceRecIdeal.main_arg6)
      ∧ r.2.mem ((c.tc : Thread Cert.ReferenceRecIdeal.nD Cert.ReferenceRecIdeal.τ).loc Cert.ReferenceRecIdeal.main_arg7) = m ((c.tc : Thread Cert.ReferenceRecIdeal.nD Cert.ReferenceRecIdeal.τ).loc Cert.ReferenceRecIdeal.main_arg7)
      ∧ r.2.mem ((c.tc : Thread Cert.ReferenceRecIdeal.nD Cert.ReferenceRecIdeal.τ).loc Cert.ReferenceRecIdeal.main_arg8) = m ((c.tc : Thread Cert.ReferenceRecIdeal.nD Cert.ReferenceRecIdeal.τ).loc Cert.ReferenceRecIdeal.main_arg8)
      ∧ r.2.mem ((c.tc : Thread Cert.ReferenceRecIdeal.nD Cert.ReferenceRecIdeal.τ).loc Cert.ReferenceRecIdeal.main_arg9) = m ((c.tc : Thread Cert.ReferenceRecIdeal.nD Cert.ReferenceRecIdeal.τ).loc Cert.ReferenceRecIdeal.main_arg9))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "zero_weight" .f32 0xC3160000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelKeys_KernelKeysIdeal : Prop :=
  True

def algebraic_KernelKeysIdeal_ReferenceKeysIdeal [hKernelKeysIdeal : Cert.KernelKeysIdeal.Facts] [hReferenceKeysIdeal : Cert.ReferenceKeysIdeal.Facts] : Prop :=
  ∀ (m : (ℓ : Loc Cert.KernelKeysIdeal.nD Cert.KernelKeysIdeal.τ Cert.KernelKeysIdeal.sig) → Buf (Elt Ideal) ℓ) (g : Dev Cert.KernelKeysIdeal.nD → PrngReg)
    (m' : (ℓ : Loc Cert.ReferenceKeysIdeal.nD Cert.ReferenceKeysIdeal.τ Cert.ReferenceKeysIdeal.sig) → Buf (Elt Ideal) ℓ) (g' : Dev Cert.ReferenceKeysIdeal.nD → PrngReg), Pre_KernelKeysIdeal m →
    (∀ c : Dev Cert.KernelKeysIdeal.nD,
      m' ((c.tc : Thread Cert.ReferenceKeysIdeal.nD Cert.ReferenceKeysIdeal.τ).loc Cert.ReferenceKeysIdeal.main_arg0) = m ((c.tc : Thread Cert.KernelKeysIdeal.nD Cert.KernelKeysIdeal.τ).loc Cert.KernelKeysIdeal.main_arg0)
      ∧ m' ((c.tc : Thread Cert.ReferenceKeysIdeal.nD Cert.ReferenceKeysIdeal.τ).loc Cert.ReferenceKeysIdeal.main_arg1) = m ((c.tc : Thread Cert.KernelKeysIdeal.nD Cert.KernelKeysIdeal.τ).loc Cert.KernelKeysIdeal.main_arg1)) →
    ∃ (v0 : (c : Dev Cert.KernelKeysIdeal.nD) → Buf (Elt Ideal) ((c.tc : Thread Cert.KernelKeysIdeal.nD Cert.KernelKeysIdeal.τ).loc Cert.KernelKeysIdeal.main_v2)),
      θ_run (Cert.KernelKeysIdeal.defs (F := Ideal)) (onTc (τ := Cert.KernelKeysIdeal.τ) (Cert.KernelKeysIdeal.main (F := Ideal))) ⟨m, fun _ => 0, g⟩ (fun r => ∀ c : Dev Cert.KernelKeysIdeal.nD,
          r.2.mem ((c.tc : Thread Cert.KernelKeysIdeal.nD Cert.KernelKeysIdeal.τ).loc Cert.KernelKeysIdeal.main_v2) = v0 c
          ∧ r.2.mem ((c.tc : Thread Cert.KernelKeysIdeal.nD Cert.KernelKeysIdeal.τ).loc Cert.KernelKeysIdeal.main_arg0) = m ((c.tc : Thread Cert.KernelKeysIdeal.nD Cert.KernelKeysIdeal.τ).loc Cert.KernelKeysIdeal.main_arg0)
          ∧ r.2.mem ((c.tc : Thread Cert.KernelKeysIdeal.nD Cert.KernelKeysIdeal.τ).loc Cert.KernelKeysIdeal.main_arg1) = m ((c.tc : Thread Cert.KernelKeysIdeal.nD Cert.KernelKeysIdeal.τ).loc Cert.KernelKeysIdeal.main_arg1))
      ∧ θ_run (Cert.ReferenceKeysIdeal.defs (F := Ideal)) (onTc (τ := Cert.ReferenceKeysIdeal.τ) (Cert.ReferenceKeysIdeal.main (F := Ideal))) ⟨m', fun _ => 0, g'⟩ (fun r => ∀ c : Dev Cert.ReferenceKeysIdeal.nD,
          r.2.mem ((c.tc : Thread Cert.ReferenceKeysIdeal.nD Cert.ReferenceKeysIdeal.τ).loc Cert.ReferenceKeysIdeal.main_v2) = v0 c
          ∧ r.2.mem ((c.tc : Thread Cert.ReferenceKeysIdeal.nD Cert.ReferenceKeysIdeal.τ).loc Cert.ReferenceKeysIdeal.main_arg0) = m' ((c.tc : Thread Cert.ReferenceKeysIdeal.nD Cert.ReferenceKeysIdeal.τ).loc Cert.ReferenceKeysIdeal.main_arg0)
          ∧ r.2.mem ((c.tc : Thread Cert.ReferenceKeysIdeal.nD Cert.ReferenceKeysIdeal.τ).loc Cert.ReferenceKeysIdeal.main_arg1) = m' ((c.tc : Thread Cert.ReferenceKeysIdeal.nD Cert.ReferenceKeysIdeal.τ).loc Cert.ReferenceKeysIdeal.main_arg1))

def preserves_KernelValues_KernelValuesIdeal : Prop :=
  True

def algebraic_KernelValuesIdeal_ReferenceValuesIdeal [hKernelValuesIdeal : Cert.KernelValuesIdeal.Facts] [hReferenceValuesIdeal : Cert.ReferenceValuesIdeal.Facts] : Prop :=
  ∀ (m : (ℓ : Loc Cert.KernelValuesIdeal.nD Cert.KernelValuesIdeal.τ Cert.KernelValuesIdeal.sig) → Buf (Elt Ideal) ℓ) (g : Dev Cert.KernelValuesIdeal.nD → PrngReg)
    (m' : (ℓ : Loc Cert.ReferenceValuesIdeal.nD Cert.ReferenceValuesIdeal.τ Cert.ReferenceValuesIdeal.sig) → Buf (Elt Ideal) ℓ) (g' : Dev Cert.ReferenceValuesIdeal.nD → PrngReg), Pre_KernelValuesIdeal m →
    (∀ c : Dev Cert.KernelValuesIdeal.nD,
      m' ((c.tc : Thread Cert.ReferenceValuesIdeal.nD Cert.ReferenceValuesIdeal.τ).loc Cert.ReferenceValuesIdeal.main_arg0) = m ((c.tc : Thread Cert.KernelValuesIdeal.nD Cert.KernelValuesIdeal.τ).loc Cert.KernelValuesIdeal.main_arg0)
      ∧ m' ((c.tc : Thread Cert.ReferenceValuesIdeal.nD Cert.ReferenceValuesIdeal.τ).loc Cert.ReferenceValuesIdeal.main_arg1) = m ((c.tc : Thread Cert.KernelValuesIdeal.nD Cert.KernelValuesIdeal.τ).loc Cert.KernelValuesIdeal.main_arg1)) →
    ∃ (v0 : (c : Dev Cert.KernelValuesIdeal.nD) → Buf (Elt Ideal) ((c.tc : Thread Cert.KernelValuesIdeal.nD Cert.KernelValuesIdeal.τ).loc Cert.KernelValuesIdeal.main_v2)),
      θ_run (Cert.KernelValuesIdeal.defs (F := Ideal)) (onTc (τ := Cert.KernelValuesIdeal.τ) (Cert.KernelValuesIdeal.main (F := Ideal))) ⟨m, fun _ => 0, g⟩ (fun r => ∀ c : Dev Cert.KernelValuesIdeal.nD,
          r.2.mem ((c.tc : Thread Cert.KernelValuesIdeal.nD Cert.KernelValuesIdeal.τ).loc Cert.KernelValuesIdeal.main_v2) = v0 c
          ∧ r.2.mem ((c.tc : Thread Cert.KernelValuesIdeal.nD Cert.KernelValuesIdeal.τ).loc Cert.KernelValuesIdeal.main_arg0) = m ((c.tc : Thread Cert.KernelValuesIdeal.nD Cert.KernelValuesIdeal.τ).loc Cert.KernelValuesIdeal.main_arg0)
          ∧ r.2.mem ((c.tc : Thread Cert.KernelValuesIdeal.nD Cert.KernelValuesIdeal.τ).loc Cert.KernelValuesIdeal.main_arg1) = m ((c.tc : Thread Cert.KernelValuesIdeal.nD Cert.KernelValuesIdeal.τ).loc Cert.KernelValuesIdeal.main_arg1))
      ∧ θ_run (Cert.ReferenceValuesIdeal.defs (F := Ideal)) (onTc (τ := Cert.ReferenceValuesIdeal.τ) (Cert.ReferenceValuesIdeal.main (F := Ideal))) ⟨m', fun _ => 0, g'⟩ (fun r => ∀ c : Dev Cert.ReferenceValuesIdeal.nD,
          r.2.mem ((c.tc : Thread Cert.ReferenceValuesIdeal.nD Cert.ReferenceValuesIdeal.τ).loc Cert.ReferenceValuesIdeal.main_v2) = v0 c
          ∧ r.2.mem ((c.tc : Thread Cert.ReferenceValuesIdeal.nD Cert.ReferenceValuesIdeal.τ).loc Cert.ReferenceValuesIdeal.main_arg0) = m' ((c.tc : Thread Cert.ReferenceValuesIdeal.nD Cert.ReferenceValuesIdeal.τ).loc Cert.ReferenceValuesIdeal.main_arg0)
          ∧ r.2.mem ((c.tc : Thread Cert.ReferenceValuesIdeal.nD Cert.ReferenceValuesIdeal.τ).loc Cert.ReferenceValuesIdeal.main_arg1) = m' ((c.tc : Thread Cert.ReferenceValuesIdeal.nD Cert.ReferenceValuesIdeal.τ).loc Cert.ReferenceValuesIdeal.main_arg1))

def preserves_KernelLru_KernelLruIdeal : Prop :=
  True

def algebraic_KernelLruIdeal_ReferenceLruIdeal [hKernelLruIdeal : Cert.KernelLruIdeal.Facts] [hReferenceLruIdeal : Cert.ReferenceLruIdeal.Facts] : Prop :=
  ∀ (m : (ℓ : Loc Cert.KernelLruIdeal.nD Cert.KernelLruIdeal.τ Cert.KernelLruIdeal.sig) → Buf (Elt Ideal) ℓ) (g : Dev Cert.KernelLruIdeal.nD → PrngReg)
    (m' : (ℓ : Loc Cert.ReferenceLruIdeal.nD Cert.ReferenceLruIdeal.τ Cert.ReferenceLruIdeal.sig) → Buf (Elt Ideal) ℓ) (g' : Dev Cert.ReferenceLruIdeal.nD → PrngReg), Pre_KernelLruIdeal m →
    (∀ c : Dev Cert.KernelLruIdeal.nD,
      m' ((c.tc : Thread Cert.ReferenceLruIdeal.nD Cert.ReferenceLruIdeal.τ).loc Cert.ReferenceLruIdeal.main_arg0) = m ((c.tc : Thread Cert.KernelLruIdeal.nD Cert.KernelLruIdeal.τ).loc Cert.KernelLruIdeal.main_arg0)
      ∧ m' ((c.tc : Thread Cert.ReferenceLruIdeal.nD Cert.ReferenceLruIdeal.τ).loc Cert.ReferenceLruIdeal.main_arg1) = m ((c.tc : Thread Cert.KernelLruIdeal.nD Cert.KernelLruIdeal.τ).loc Cert.KernelLruIdeal.main_arg1)) →
    ∃ (v0 : (c : Dev Cert.KernelLruIdeal.nD) → Buf (Elt Ideal) ((c.tc : Thread Cert.KernelLruIdeal.nD Cert.KernelLruIdeal.τ).loc Cert.KernelLruIdeal.main_v2)),
      θ_run (Cert.KernelLruIdeal.defs (F := Ideal)) (onTc (τ := Cert.KernelLruIdeal.τ) (Cert.KernelLruIdeal.main (F := Ideal))) ⟨m, fun _ => 0, g⟩ (fun r => ∀ c : Dev Cert.KernelLruIdeal.nD,
          r.2.mem ((c.tc : Thread Cert.KernelLruIdeal.nD Cert.KernelLruIdeal.τ).loc Cert.KernelLruIdeal.main_v2) = v0 c
          ∧ r.2.mem ((c.tc : Thread Cert.KernelLruIdeal.nD Cert.KernelLruIdeal.τ).loc Cert.KernelLruIdeal.main_arg0) = m ((c.tc : Thread Cert.KernelLruIdeal.nD Cert.KernelLruIdeal.τ).loc Cert.KernelLruIdeal.main_arg0)
          ∧ r.2.mem ((c.tc : Thread Cert.KernelLruIdeal.nD Cert.KernelLruIdeal.τ).loc Cert.KernelLruIdeal.main_arg1) = m ((c.tc : Thread Cert.KernelLruIdeal.nD Cert.KernelLruIdeal.τ).loc Cert.KernelLruIdeal.main_arg1))
      ∧ θ_run (Cert.ReferenceLruIdeal.defs (F := Ideal)) (onTc (τ := Cert.ReferenceLruIdeal.τ) (Cert.ReferenceLruIdeal.main (F := Ideal))) ⟨m', fun _ => 0, g'⟩ (fun r => ∀ c : Dev Cert.ReferenceLruIdeal.nD,
          r.2.mem ((c.tc : Thread Cert.ReferenceLruIdeal.nD Cert.ReferenceLruIdeal.τ).loc Cert.ReferenceLruIdeal.main_v3) = v0 c
          ∧ r.2.mem ((c.tc : Thread Cert.ReferenceLruIdeal.nD Cert.ReferenceLruIdeal.τ).loc Cert.ReferenceLruIdeal.main_arg0) = m' ((c.tc : Thread Cert.ReferenceLruIdeal.nD Cert.ReferenceLruIdeal.τ).loc Cert.ReferenceLruIdeal.main_arg0)
          ∧ r.2.mem ((c.tc : Thread Cert.ReferenceLruIdeal.nD Cert.ReferenceLruIdeal.τ).loc Cert.ReferenceLruIdeal.main_arg1) = m' ((c.tc : Thread Cert.ReferenceLruIdeal.nD Cert.ReferenceLruIdeal.τ).loc Cert.ReferenceLruIdeal.main_arg1))

def preserves_KernelGelu_KernelGeluIdeal : Prop :=
  True

def algebraic_KernelGeluIdeal_ReferenceGeluIdeal [hKernelGeluIdeal : Cert.KernelGeluIdeal.Facts] [hReferenceGeluIdeal : Cert.ReferenceGeluIdeal.Facts] : Prop :=
  ∀ (m : (ℓ : Loc Cert.KernelGeluIdeal.nD Cert.KernelGeluIdeal.τ Cert.KernelGeluIdeal.sig) → Buf (Elt Ideal) ℓ) (g : Dev Cert.KernelGeluIdeal.nD → PrngReg)
    (m' : (ℓ : Loc Cert.ReferenceGeluIdeal.nD Cert.ReferenceGeluIdeal.τ Cert.ReferenceGeluIdeal.sig) → Buf (Elt Ideal) ℓ) (g' : Dev Cert.ReferenceGeluIdeal.nD → PrngReg), Pre_KernelGeluIdeal m →
    (∀ c : Dev Cert.KernelGeluIdeal.nD,
      m' ((c.tc : Thread Cert.ReferenceGeluIdeal.nD Cert.ReferenceGeluIdeal.τ).loc Cert.ReferenceGeluIdeal.main_arg0) = m ((c.tc : Thread Cert.KernelGeluIdeal.nD Cert.KernelGeluIdeal.τ).loc Cert.KernelGeluIdeal.main_arg0)
      ∧ m' ((c.tc : Thread Cert.ReferenceGeluIdeal.nD Cert.ReferenceGeluIdeal.τ).loc Cert.ReferenceGeluIdeal.main_arg1) = m ((c.tc : Thread Cert.KernelGeluIdeal.nD Cert.KernelGeluIdeal.τ).loc Cert.KernelGeluIdeal.main_arg1)) →
    ∃ (v0 : (c : Dev Cert.KernelGeluIdeal.nD) → Buf (Elt Ideal) ((c.tc : Thread Cert.KernelGeluIdeal.nD Cert.KernelGeluIdeal.τ).loc Cert.KernelGeluIdeal.main_v2)),
      θ_run (Cert.KernelGeluIdeal.defs (F := Ideal)) (onTc (τ := Cert.KernelGeluIdeal.τ) (Cert.KernelGeluIdeal.main (F := Ideal))) ⟨m, fun _ => 0, g⟩ (fun r => ∀ c : Dev Cert.KernelGeluIdeal.nD,
          r.2.mem ((c.tc : Thread Cert.KernelGeluIdeal.nD Cert.KernelGeluIdeal.τ).loc Cert.KernelGeluIdeal.main_v2) = v0 c
          ∧ r.2.mem ((c.tc : Thread Cert.KernelGeluIdeal.nD Cert.KernelGeluIdeal.τ).loc Cert.KernelGeluIdeal.main_arg0) = m ((c.tc : Thread Cert.KernelGeluIdeal.nD Cert.KernelGeluIdeal.τ).loc Cert.KernelGeluIdeal.main_arg0)
          ∧ r.2.mem ((c.tc : Thread Cert.KernelGeluIdeal.nD Cert.KernelGeluIdeal.τ).loc Cert.KernelGeluIdeal.main_arg1) = m ((c.tc : Thread Cert.KernelGeluIdeal.nD Cert.KernelGeluIdeal.τ).loc Cert.KernelGeluIdeal.main_arg1))
      ∧ θ_run (Cert.ReferenceGeluIdeal.defs (F := Ideal)) (onTc (τ := Cert.ReferenceGeluIdeal.τ) (Cert.ReferenceGeluIdeal.main (F := Ideal))) ⟨m', fun _ => 0, g'⟩ (fun r => ∀ c : Dev Cert.ReferenceGeluIdeal.nD,
          r.2.mem ((c.tc : Thread Cert.ReferenceGeluIdeal.nD Cert.ReferenceGeluIdeal.τ).loc Cert.ReferenceGeluIdeal.main_v16) = v0 c
          ∧ r.2.mem ((c.tc : Thread Cert.ReferenceGeluIdeal.nD Cert.ReferenceGeluIdeal.τ).loc Cert.ReferenceGeluIdeal.main_arg0) = m' ((c.tc : Thread Cert.ReferenceGeluIdeal.nD Cert.ReferenceGeluIdeal.τ).loc Cert.ReferenceGeluIdeal.main_arg0)
          ∧ r.2.mem ((c.tc : Thread Cert.ReferenceGeluIdeal.nD Cert.ReferenceGeluIdeal.τ).loc Cert.ReferenceGeluIdeal.main_arg1) = m' ((c.tc : Thread Cert.ReferenceGeluIdeal.nD Cert.ReferenceGeluIdeal.τ).loc Cert.ReferenceGeluIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v2)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v2) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v9) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)) →
    ∃ (v0 : (c : Dev Cert.KernelMixIdeal.nD) → Buf (Elt Ideal) ((c.tc : Thread Cert.KernelMixIdeal.nD Cert.KernelMixIdeal.τ).loc Cert.KernelMixIdeal.main_v2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v2) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v9) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1))

def preserves_KernelQuery_KernelQueryIdeal : Prop :=
  IdealRules.named_const.Statement Cert.KernelQueryIdeal.κ "query_scale" .f32 0x3E0293EE#32 ((((Real.sqrt 128) * (Real.log 2))⁻¹ : ℝ) : EReal)

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)) →
    ∃ (v0 : (c : Dev Cert.KernelQueryIdeal.nD) → Buf (Elt Ideal) ((c.tc : Thread Cert.KernelQueryIdeal.nD Cert.KernelQueryIdeal.τ).loc Cert.KernelQueryIdeal.main_v2)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v2) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v8) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)) →
    ∃ (v0 : (c : Dev Cert.KernelNormIdeal.nD) → Buf (Elt Ideal) ((c.tc : Thread Cert.KernelNormIdeal.nD Cert.KernelNormIdeal.τ).loc Cert.KernelNormIdeal.main_v1_0)) (v1 : (c : Dev Cert.KernelNormIdeal.nD) → Buf (Elt Ideal) ((c.tc : Thread Cert.KernelNormIdeal.nD Cert.KernelNormIdeal.τ).loc Cert.KernelNormIdeal.main_v1_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1_0) = v0 c
          ∧ r.2.mem ((c.tc : Thread Cert.KernelNormIdeal.nD Cert.KernelNormIdeal.τ).loc Cert.KernelNormIdeal.main_v1_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v21) = v0 c
          ∧ r.2.mem ((c.tc : Thread Cert.ReferenceNormIdeal.nD Cert.ReferenceNormIdeal.τ).loc Cert.ReferenceNormIdeal.main_v23) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2))

def preserves_KernelKeysSample_KernelKeysSampleIdeal : Prop :=
  True

def algebraic_KernelKeysSampleIdeal_ReferenceKeysSampleIdeal [hKernelKeysSampleIdeal : Cert.KernelKeysSampleIdeal.Facts] [hReferenceKeysSampleIdeal : Cert.ReferenceKeysSampleIdeal.Facts] : Prop :=
  ∀ (m : (ℓ : Loc Cert.KernelKeysSampleIdeal.nD Cert.KernelKeysSampleIdeal.τ Cert.KernelKeysSampleIdeal.sig) → Buf (Elt Ideal) ℓ) (g : Dev Cert.KernelKeysSampleIdeal.nD → PrngReg)
    (m' : (ℓ : Loc Cert.ReferenceKeysSampleIdeal.nD Cert.ReferenceKeysSampleIdeal.τ Cert.ReferenceKeysSampleIdeal.sig) → Buf (Elt Ideal) ℓ) (g' : Dev Cert.ReferenceKeysSampleIdeal.nD → PrngReg), Pre_KernelKeysSampleIdeal m →
    (∀ c : Dev Cert.KernelKeysSampleIdeal.nD,
      m' ((c.tc : Thread Cert.ReferenceKeysSampleIdeal.nD Cert.ReferenceKeysSampleIdeal.τ).loc Cert.ReferenceKeysSampleIdeal.main_arg0) = m ((c.tc : Thread Cert.KernelKeysSampleIdeal.nD Cert.KernelKeysSampleIdeal.τ).loc Cert.KernelKeysSampleIdeal.main_arg0)
      ∧ m' ((c.tc : Thread Cert.ReferenceKeysSampleIdeal.nD Cert.ReferenceKeysSampleIdeal.τ).loc Cert.ReferenceKeysSampleIdeal.main_arg1) = m ((c.tc : Thread Cert.KernelKeysSampleIdeal.nD Cert.KernelKeysSampleIdeal.τ).loc Cert.KernelKeysSampleIdeal.main_arg1)) →
    ∃ (v0 : (c : Dev Cert.KernelKeysSampleIdeal.nD) → Buf (Elt Ideal) ((c.tc : Thread Cert.KernelKeysSampleIdeal.nD Cert.KernelKeysSampleIdeal.τ).loc Cert.KernelKeysSampleIdeal.main_v2)),
      θ_run (Cert.KernelKeysSampleIdeal.defs (F := Ideal)) (onTc (τ := Cert.KernelKeysSampleIdeal.τ) (Cert.KernelKeysSampleIdeal.main (F := Ideal))) ⟨m, fun _ => 0, g⟩ (fun r => ∀ c : Dev Cert.KernelKeysSampleIdeal.nD,
          r.2.mem ((c.tc : Thread Cert.KernelKeysSampleIdeal.nD Cert.KernelKeysSampleIdeal.τ).loc Cert.KernelKeysSampleIdeal.main_v2) = v0 c
          ∧ r.2.mem ((c.tc : Thread Cert.KernelKeysSampleIdeal.nD Cert.KernelKeysSampleIdeal.τ).loc Cert.KernelKeysSampleIdeal.main_arg0) = m ((c.tc : Thread Cert.KernelKeysSampleIdeal.nD Cert.KernelKeysSampleIdeal.τ).loc Cert.KernelKeysSampleIdeal.main_arg0)
          ∧ r.2.mem ((c.tc : Thread Cert.KernelKeysSampleIdeal.nD Cert.KernelKeysSampleIdeal.τ).loc Cert.KernelKeysSampleIdeal.main_arg1) = m ((c.tc : Thread Cert.KernelKeysSampleIdeal.nD Cert.KernelKeysSampleIdeal.τ).loc Cert.KernelKeysSampleIdeal.main_arg1))
      ∧ θ_run (Cert.ReferenceKeysSampleIdeal.defs (F := Ideal)) (onTc (τ := Cert.ReferenceKeysSampleIdeal.τ) (Cert.ReferenceKeysSampleIdeal.main (F := Ideal))) ⟨m', fun _ => 0, g'⟩ (fun r => ∀ c : Dev Cert.ReferenceKeysSampleIdeal.nD,
          r.2.mem ((c.tc : Thread Cert.ReferenceKeysSampleIdeal.nD Cert.ReferenceKeysSampleIdeal.τ).loc Cert.ReferenceKeysSampleIdeal.main_v2) = v0 c
          ∧ r.2.mem ((c.tc : Thread Cert.ReferenceKeysSampleIdeal.nD Cert.ReferenceKeysSampleIdeal.τ).loc Cert.ReferenceKeysSampleIdeal.main_arg0) = m' ((c.tc : Thread Cert.ReferenceKeysSampleIdeal.nD Cert.ReferenceKeysSampleIdeal.τ).loc Cert.ReferenceKeysSampleIdeal.main_arg0)
          ∧ r.2.mem ((c.tc : Thread Cert.ReferenceKeysSampleIdeal.nD Cert.ReferenceKeysSampleIdeal.τ).loc Cert.ReferenceKeysSampleIdeal.main_arg1) = m' ((c.tc : Thread Cert.ReferenceKeysSampleIdeal.nD Cert.ReferenceKeysSampleIdeal.τ).loc Cert.ReferenceKeysSampleIdeal.main_arg1))

def preserves_KernelValuesSample_KernelValuesSampleIdeal : Prop :=
  True

def algebraic_KernelValuesSampleIdeal_ReferenceValuesSampleIdeal [hKernelValuesSampleIdeal : Cert.KernelValuesSampleIdeal.Facts] [hReferenceValuesSampleIdeal : Cert.ReferenceValuesSampleIdeal.Facts] : Prop :=
  ∀ (m : (ℓ : Loc Cert.KernelValuesSampleIdeal.nD Cert.KernelValuesSampleIdeal.τ Cert.KernelValuesSampleIdeal.sig) → Buf (Elt Ideal) ℓ) (g : Dev Cert.KernelValuesSampleIdeal.nD → PrngReg)
    (m' : (ℓ : Loc Cert.ReferenceValuesSampleIdeal.nD Cert.ReferenceValuesSampleIdeal.τ Cert.ReferenceValuesSampleIdeal.sig) → Buf (Elt Ideal) ℓ) (g' : Dev Cert.ReferenceValuesSampleIdeal.nD → PrngReg), Pre_KernelValuesSampleIdeal m →
    (∀ c : Dev Cert.KernelValuesSampleIdeal.nD,
      m' ((c.tc : Thread Cert.ReferenceValuesSampleIdeal.nD Cert.ReferenceValuesSampleIdeal.τ).loc Cert.ReferenceValuesSampleIdeal.main_arg0) = m ((c.tc : Thread Cert.KernelValuesSampleIdeal.nD Cert.KernelValuesSampleIdeal.τ).loc Cert.KernelValuesSampleIdeal.main_arg0)
      ∧ m' ((c.tc : Thread Cert.ReferenceValuesSampleIdeal.nD Cert.ReferenceValuesSampleIdeal.τ).loc Cert.ReferenceValuesSampleIdeal.main_arg1) = m ((c.tc : Thread Cert.KernelValuesSampleIdeal.nD Cert.KernelValuesSampleIdeal.τ).loc Cert.KernelValuesSampleIdeal.main_arg1)) →
    ∃ (v0 : (c : Dev Cert.KernelValuesSampleIdeal.nD) → Buf (Elt Ideal) ((c.tc : Thread Cert.KernelValuesSampleIdeal.nD Cert.KernelValuesSampleIdeal.τ).loc Cert.KernelValuesSampleIdeal.main_v2)),
      θ_run (Cert.KernelValuesSampleIdeal.defs (F := Ideal)) (onTc (τ := Cert.KernelValuesSampleIdeal.τ) (Cert.KernelValuesSampleIdeal.main (F := Ideal))) ⟨m, fun _ => 0, g⟩ (fun r => ∀ c : Dev Cert.KernelValuesSampleIdeal.nD,
          r.2.mem ((c.tc : Thread Cert.KernelValuesSampleIdeal.nD Cert.KernelValuesSampleIdeal.τ).loc Cert.KernelValuesSampleIdeal.main_v2) = v0 c
          ∧ r.2.mem ((c.tc : Thread Cert.KernelValuesSampleIdeal.nD Cert.KernelValuesSampleIdeal.τ).loc Cert.KernelValuesSampleIdeal.main_arg0) = m ((c.tc : Thread Cert.KernelValuesSampleIdeal.nD Cert.KernelValuesSampleIdeal.τ).loc Cert.KernelValuesSampleIdeal.main_arg0)
          ∧ r.2.mem ((c.tc : Thread Cert.KernelValuesSampleIdeal.nD Cert.KernelValuesSampleIdeal.τ).loc Cert.KernelValuesSampleIdeal.main_arg1) = m ((c.tc : Thread Cert.KernelValuesSampleIdeal.nD Cert.KernelValuesSampleIdeal.τ).loc Cert.KernelValuesSampleIdeal.main_arg1))
      ∧ θ_run (Cert.ReferenceValuesSampleIdeal.defs (F := Ideal)) (onTc (τ := Cert.ReferenceValuesSampleIdeal.τ) (Cert.ReferenceValuesSampleIdeal.main (F := Ideal))) ⟨m', fun _ => 0, g'⟩ (fun r => ∀ c : Dev Cert.ReferenceValuesSampleIdeal.nD,
          r.2.mem ((c.tc : Thread Cert.ReferenceValuesSampleIdeal.nD Cert.ReferenceValuesSampleIdeal.τ).loc Cert.ReferenceValuesSampleIdeal.main_v2) = v0 c
          ∧ r.2.mem ((c.tc : Thread Cert.ReferenceValuesSampleIdeal.nD Cert.ReferenceValuesSampleIdeal.τ).loc Cert.ReferenceValuesSampleIdeal.main_arg0) = m' ((c.tc : Thread Cert.ReferenceValuesSampleIdeal.nD Cert.ReferenceValuesSampleIdeal.τ).loc Cert.ReferenceValuesSampleIdeal.main_arg0)
          ∧ r.2.mem ((c.tc : Thread Cert.ReferenceValuesSampleIdeal.nD Cert.ReferenceValuesSampleIdeal.τ).loc Cert.ReferenceValuesSampleIdeal.main_arg1) = m' ((c.tc : Thread Cert.ReferenceValuesSampleIdeal.nD Cert.ReferenceValuesSampleIdeal.τ).loc Cert.ReferenceValuesSampleIdeal.main_arg1))

def preserves_KernelRecSample_KernelRecSampleIdeal : Prop :=
  True

def algebraic_KernelRecSampleIdeal_ReferenceRecSampleIdeal [hKernelRecSampleIdeal : Cert.KernelRecSampleIdeal.Facts] [hReferenceRecSampleIdeal : Cert.ReferenceRecSampleIdeal.Facts] : Prop :=
  ∀ (m : (ℓ : Loc Cert.KernelRecSampleIdeal.nD Cert.KernelRecSampleIdeal.τ Cert.KernelRecSampleIdeal.sig) → Buf (Elt Ideal) ℓ) (g : Dev Cert.KernelRecSampleIdeal.nD → PrngReg)
    (m' : (ℓ : Loc Cert.ReferenceRecSampleIdeal.nD Cert.ReferenceRecSampleIdeal.τ Cert.ReferenceRecSampleIdeal.sig) → Buf (Elt Ideal) ℓ) (g' : Dev Cert.ReferenceRecSampleIdeal.nD → PrngReg), Pre_KernelRecSampleIdeal m →
    (∀ c : Dev Cert.KernelRecSampleIdeal.nD,
      m' ((c.tc : Thread Cert.ReferenceRecSampleIdeal.nD Cert.ReferenceRecSampleIdeal.τ).loc Cert.ReferenceRecSampleIdeal.main_arg0) = m ((c.tc : Thread Cert.KernelRecSampleIdeal.nD Cert.KernelRecSampleIdeal.τ).loc Cert.KernelRecSampleIdeal.main_arg0)
      ∧ m' ((c.tc : Thread Cert.ReferenceRecSampleIdeal.nD Cert.ReferenceRecSampleIdeal.τ).loc Cert.ReferenceRecSampleIdeal.main_arg1) = m ((c.tc : Thread Cert.KernelRecSampleIdeal.nD Cert.KernelRecSampleIdeal.τ).loc Cert.KernelRecSampleIdeal.main_arg1)
      ∧ m' ((c.tc : Thread Cert.ReferenceRecSampleIdeal.nD Cert.ReferenceRecSampleIdeal.τ).loc Cert.ReferenceRecSampleIdeal.main_arg2) = m ((c.tc : Thread Cert.KernelRecSampleIdeal.nD Cert.KernelRecSampleIdeal.τ).loc Cert.KernelRecSampleIdeal.main_arg2)
      ∧ m' ((c.tc : Thread Cert.ReferenceRecSampleIdeal.nD Cert.ReferenceRecSampleIdeal.τ).loc Cert.ReferenceRecSampleIdeal.main_arg3) = m ((c.tc : Thread Cert.KernelRecSampleIdeal.nD Cert.KernelRecSampleIdeal.τ).loc Cert.KernelRecSampleIdeal.main_arg3)
      ∧ m' ((c.tc : Thread Cert.ReferenceRecSampleIdeal.nD Cert.ReferenceRecSampleIdeal.τ).loc Cert.ReferenceRecSampleIdeal.main_arg4) = m ((c.tc : Thread Cert.KernelRecSampleIdeal.nD Cert.KernelRecSampleIdeal.τ).loc Cert.KernelRecSampleIdeal.main_arg4)
      ∧ m' ((c.tc : Thread Cert.ReferenceRecSampleIdeal.nD Cert.ReferenceRecSampleIdeal.τ).loc Cert.ReferenceRecSampleIdeal.main_arg5) = m ((c.tc : Thread Cert.KernelRecSampleIdeal.nD Cert.KernelRecSampleIdeal.τ).loc Cert.KernelRecSampleIdeal.main_arg5)
      ∧ m' ((c.tc : Thread Cert.ReferenceRecSampleIdeal.nD Cert.ReferenceRecSampleIdeal.τ).loc Cert.ReferenceRecSampleIdeal.main_arg6) = m ((c.tc : Thread Cert.KernelRecSampleIdeal.nD Cert.KernelRecSampleIdeal.τ).loc Cert.KernelRecSampleIdeal.main_arg6)
      ∧ m' ((c.tc : Thread Cert.ReferenceRecSampleIdeal.nD Cert.ReferenceRecSampleIdeal.τ).loc Cert.ReferenceRecSampleIdeal.main_arg7) = m ((c.tc : Thread Cert.KernelRecSampleIdeal.nD Cert.KernelRecSampleIdeal.τ).loc Cert.KernelRecSampleIdeal.main_arg7)
      ∧ m' ((c.tc : Thread Cert.ReferenceRecSampleIdeal.nD Cert.ReferenceRecSampleIdeal.τ).loc Cert.ReferenceRecSampleIdeal.main_arg8) = m ((c.tc : Thread Cert.KernelRecSampleIdeal.nD Cert.KernelRecSampleIdeal.τ).loc Cert.KernelRecSampleIdeal.main_arg8)
      ∧ m' ((c.tc : Thread Cert.ReferenceRecSampleIdeal.nD Cert.ReferenceRecSampleIdeal.τ).loc Cert.ReferenceRecSampleIdeal.main_arg9) = m ((c.tc : Thread Cert.KernelRecSampleIdeal.nD Cert.KernelRecSampleIdeal.τ).loc Cert.KernelRecSampleIdeal.main_arg9)
      ∧ m' ((c.tc : Thread Cert.ReferenceRecSampleIdeal.nD Cert.ReferenceRecSampleIdeal.τ).loc Cert.ReferenceRecSampleIdeal.main_arg10) = m ((c.tc : Thread Cert.KernelRecSampleIdeal.nD Cert.KernelRecSampleIdeal.τ).loc Cert.KernelRecSampleIdeal.main_arg10)
      ∧ m' ((c.tc : Thread Cert.ReferenceRecSampleIdeal.nD Cert.ReferenceRecSampleIdeal.τ).loc Cert.ReferenceRecSampleIdeal.main_arg11) = m ((c.tc : Thread Cert.KernelRecSampleIdeal.nD Cert.KernelRecSampleIdeal.τ).loc Cert.KernelRecSampleIdeal.main_arg11)) →
    ∃ (v0 : (c : Dev Cert.KernelRecSampleIdeal.nD) → Buf (Elt Ideal) ((c.tc : Thread Cert.KernelRecSampleIdeal.nD Cert.KernelRecSampleIdeal.τ).loc Cert.KernelRecSampleIdeal.main_v10_0)) (v1 : (c : Dev Cert.KernelRecSampleIdeal.nD) → Buf (Elt Ideal) ((c.tc : Thread Cert.KernelRecSampleIdeal.nD Cert.KernelRecSampleIdeal.τ).loc Cert.KernelRecSampleIdeal.main_v10_1)) (v2 : (c : Dev Cert.KernelRecSampleIdeal.nD) → Buf (Elt Ideal) ((c.tc : Thread Cert.KernelRecSampleIdeal.nD Cert.KernelRecSampleIdeal.τ).loc Cert.KernelRecSampleIdeal.main_v11)),
      θ_run (Cert.KernelRecSampleIdeal.defs (F := Ideal)) (onTc (τ := Cert.KernelRecSampleIdeal.τ) (Cert.KernelRecSampleIdeal.main (F := Ideal))) ⟨m, fun _ => 0, g⟩ (fun r => ∀ c : Dev Cert.KernelRecSampleIdeal.nD,
          r.2.mem ((c.tc : Thread Cert.KernelRecSampleIdeal.nD Cert.KernelRecSampleIdeal.τ).loc Cert.KernelRecSampleIdeal.main_v10_0) = v0 c
          ∧ r.2.mem ((c.tc : Thread Cert.KernelRecSampleIdeal.nD Cert.KernelRecSampleIdeal.τ).loc Cert.KernelRecSampleIdeal.main_v10_1) = v1 c
          ∧ r.2.mem ((c.tc : Thread Cert.KernelRecSampleIdeal.nD Cert.KernelRecSampleIdeal.τ).loc Cert.KernelRecSampleIdeal.main_v11) = v2 c
          ∧ r.2.mem ((c.tc : Thread Cert.KernelRecSampleIdeal.nD Cert.KernelRecSampleIdeal.τ).loc Cert.KernelRecSampleIdeal.main_arg0) = m ((c.tc : Thread Cert.KernelRecSampleIdeal.nD Cert.KernelRecSampleIdeal.τ).loc Cert.KernelRecSampleIdeal.main_arg0)
          ∧ r.2.mem ((c.tc : Thread Cert.KernelRecSampleIdeal.nD Cert.KernelRecSampleIdeal.τ).loc Cert.KernelRecSampleIdeal.main_arg1) = m ((c.tc : Thread Cert.KernelRecSampleIdeal.nD Cert.KernelRecSampleIdeal.τ).loc Cert.KernelRecSampleIdeal.main_arg1)
          ∧ r.2.mem ((c.tc : Thread Cert.KernelRecSampleIdeal.nD Cert.KernelRecSampleIdeal.τ).loc Cert.KernelRecSampleIdeal.main_arg2) = m ((c.tc : Thread Cert.KernelRecSampleIdeal.nD Cert.KernelRecSampleIdeal.τ).loc Cert.KernelRecSampleIdeal.main_arg2)
          ∧ r.2.mem ((c.tc : Thread Cert.KernelRecSampleIdeal.nD Cert.KernelRecSampleIdeal.τ).loc Cert.KernelRecSampleIdeal.main_arg3) = m ((c.tc : Thread Cert.KernelRecSampleIdeal.nD Cert.KernelRecSampleIdeal.τ).loc Cert.KernelRecSampleIdeal.main_arg3)
          ∧ r.2.mem ((c.tc : Thread Cert.KernelRecSampleIdeal.nD Cert.KernelRecSampleIdeal.τ).loc Cert.KernelRecSampleIdeal.main_arg4) = m ((c.tc : Thread Cert.KernelRecSampleIdeal.nD Cert.KernelRecSampleIdeal.τ).loc Cert.KernelRecSampleIdeal.main_arg4)
          ∧ r.2.mem ((c.tc : Thread Cert.KernelRecSampleIdeal.nD Cert.KernelRecSampleIdeal.τ).loc Cert.KernelRecSampleIdeal.main_arg5) = m ((c.tc : Thread Cert.KernelRecSampleIdeal.nD Cert.KernelRecSampleIdeal.τ).loc Cert.KernelRecSampleIdeal.main_arg5)
          ∧ r.2.mem ((c.tc : Thread Cert.KernelRecSampleIdeal.nD Cert.KernelRecSampleIdeal.τ).loc Cert.KernelRecSampleIdeal.main_arg6) = m ((c.tc : Thread Cert.KernelRecSampleIdeal.nD Cert.KernelRecSampleIdeal.τ).loc Cert.KernelRecSampleIdeal.main_arg6)
          ∧ r.2.mem ((c.tc : Thread Cert.KernelRecSampleIdeal.nD Cert.KernelRecSampleIdeal.τ).loc Cert.KernelRecSampleIdeal.main_arg7) = m ((c.tc : Thread Cert.KernelRecSampleIdeal.nD Cert.KernelRecSampleIdeal.τ).loc Cert.KernelRecSampleIdeal.main_arg7)
          ∧ r.2.mem ((c.tc : Thread Cert.KernelRecSampleIdeal.nD Cert.KernelRecSampleIdeal.τ).loc Cert.KernelRecSampleIdeal.main_arg8) = m ((c.tc : Thread Cert.KernelRecSampleIdeal.nD Cert.KernelRecSampleIdeal.τ).loc Cert.KernelRecSampleIdeal.main_arg8)
          ∧ r.2.mem ((c.tc : Thread Cert.KernelRecSampleIdeal.nD Cert.KernelRecSampleIdeal.τ).loc Cert.KernelRecSampleIdeal.main_arg9) = m ((c.tc : Thread Cert.KernelRecSampleIdeal.nD Cert.KernelRecSampleIdeal.τ).loc Cert.KernelRecSampleIdeal.main_arg9)
          ∧ r.2.mem ((c.tc : Thread Cert.KernelRecSampleIdeal.nD Cert.KernelRecSampleIdeal.τ).loc Cert.KernelRecSampleIdeal.main_arg10) = m ((c.tc : Thread Cert.KernelRecSampleIdeal.nD Cert.KernelRecSampleIdeal.τ).loc Cert.KernelRecSampleIdeal.main_arg10)
          ∧ r.2.mem ((c.tc : Thread Cert.KernelRecSampleIdeal.nD Cert.KernelRecSampleIdeal.τ).loc Cert.KernelRecSampleIdeal.main_arg11) = m ((c.tc : Thread Cert.KernelRecSampleIdeal.nD Cert.KernelRecSampleIdeal.τ).loc Cert.KernelRecSampleIdeal.main_arg11))
      ∧ θ_run (Cert.ReferenceRecSampleIdeal.defs (F := Ideal)) (onTc (τ := Cert.ReferenceRecSampleIdeal.τ) (Cert.ReferenceRecSampleIdeal.main (F := Ideal))) ⟨m', fun _ => 0, g'⟩ (fun r => ∀ c : Dev Cert.ReferenceRecSampleIdeal.nD,
          r.2.mem ((c.tc : Thread Cert.ReferenceRecSampleIdeal.nD Cert.ReferenceRecSampleIdeal.τ).loc Cert.ReferenceRecSampleIdeal.main_v188) = v0 c
          ∧ r.2.mem ((c.tc : Thread Cert.ReferenceRecSampleIdeal.nD Cert.ReferenceRecSampleIdeal.τ).loc Cert.ReferenceRecSampleIdeal.main_v167) = v1 c
          ∧ r.2.mem ((c.tc : Thread Cert.ReferenceRecSampleIdeal.nD Cert.ReferenceRecSampleIdeal.τ).loc Cert.ReferenceRecSampleIdeal.main_v189) = v2 c
          ∧ r.2.mem ((c.tc : Thread Cert.ReferenceRecSampleIdeal.nD Cert.ReferenceRecSampleIdeal.τ).loc Cert.ReferenceRecSampleIdeal.main_arg0) = m' ((c.tc : Thread Cert.ReferenceRecSampleIdeal.nD Cert.ReferenceRecSampleIdeal.τ).loc Cert.ReferenceRecSampleIdeal.main_arg0)
          ∧ r.2.mem ((c.tc : Thread Cert.ReferenceRecSampleIdeal.nD Cert.ReferenceRecSampleIdeal.τ).loc Cert.ReferenceRecSampleIdeal.main_arg1) = m' ((c.tc : Thread Cert.ReferenceRecSampleIdeal.nD Cert.ReferenceRecSampleIdeal.τ).loc Cert.ReferenceRecSampleIdeal.main_arg1)
          ∧ r.2.mem ((c.tc : Thread Cert.ReferenceRecSampleIdeal.nD Cert.ReferenceRecSampleIdeal.τ).loc Cert.ReferenceRecSampleIdeal.main_arg2) = m' ((c.tc : Thread Cert.ReferenceRecSampleIdeal.nD Cert.ReferenceRecSampleIdeal.τ).loc Cert.ReferenceRecSampleIdeal.main_arg2)
          ∧ r.2.mem ((c.tc : Thread Cert.ReferenceRecSampleIdeal.nD Cert.ReferenceRecSampleIdeal.τ).loc Cert.ReferenceRecSampleIdeal.main_arg3) = m' ((c.tc : Thread Cert.ReferenceRecSampleIdeal.nD Cert.ReferenceRecSampleIdeal.τ).loc Cert.ReferenceRecSampleIdeal.main_arg3)
          ∧ r.2.mem ((c.tc : Thread Cert.ReferenceRecSampleIdeal.nD Cert.ReferenceRecSampleIdeal.τ).loc Cert.ReferenceRecSampleIdeal.main_arg4) = m' ((c.tc : Thread Cert.ReferenceRecSampleIdeal.nD Cert.ReferenceRecSampleIdeal.τ).loc Cert.ReferenceRecSampleIdeal.main_arg4)
          ∧ r.2.mem ((c.tc : Thread Cert.ReferenceRecSampleIdeal.nD Cert.ReferenceRecSampleIdeal.τ).loc Cert.ReferenceRecSampleIdeal.main_arg5) = m' ((c.tc : Thread Cert.ReferenceRecSampleIdeal.nD Cert.ReferenceRecSampleIdeal.τ).loc Cert.ReferenceRecSampleIdeal.main_arg5)
          ∧ r.2.mem ((c.tc : Thread Cert.ReferenceRecSampleIdeal.nD Cert.ReferenceRecSampleIdeal.τ).loc Cert.ReferenceRecSampleIdeal.main_arg6) = m' ((c.tc : Thread Cert.ReferenceRecSampleIdeal.nD Cert.ReferenceRecSampleIdeal.τ).loc Cert.ReferenceRecSampleIdeal.main_arg6)
          ∧ r.2.mem ((c.tc : Thread Cert.ReferenceRecSampleIdeal.nD Cert.ReferenceRecSampleIdeal.τ).loc Cert.ReferenceRecSampleIdeal.main_arg7) = m' ((c.tc : Thread Cert.ReferenceRecSampleIdeal.nD Cert.ReferenceRecSampleIdeal.τ).loc Cert.ReferenceRecSampleIdeal.main_arg7)
          ∧ r.2.mem ((c.tc : Thread Cert.ReferenceRecSampleIdeal.nD Cert.ReferenceRecSampleIdeal.τ).loc Cert.ReferenceRecSampleIdeal.main_arg8) = m' ((c.tc : Thread Cert.ReferenceRecSampleIdeal.nD Cert.ReferenceRecSampleIdeal.τ).loc Cert.ReferenceRecSampleIdeal.main_arg8)
          ∧ r.2.mem ((c.tc : Thread Cert.ReferenceRecSampleIdeal.nD Cert.ReferenceRecSampleIdeal.τ).loc Cert.ReferenceRecSampleIdeal.main_arg9) = m' ((c.tc : Thread Cert.ReferenceRecSampleIdeal.nD Cert.ReferenceRecSampleIdeal.τ).loc Cert.ReferenceRecSampleIdeal.main_arg9)
          ∧ r.2.mem ((c.tc : Thread Cert.ReferenceRecSampleIdeal.nD Cert.ReferenceRecSampleIdeal.τ).loc Cert.ReferenceRecSampleIdeal.main_arg10) = m' ((c.tc : Thread Cert.ReferenceRecSampleIdeal.nD Cert.ReferenceRecSampleIdeal.τ).loc Cert.ReferenceRecSampleIdeal.main_arg10)
          ∧ r.2.mem ((c.tc : Thread Cert.ReferenceRecSampleIdeal.nD Cert.ReferenceRecSampleIdeal.τ).loc Cert.ReferenceRecSampleIdeal.main_arg11) = m' ((c.tc : Thread Cert.ReferenceRecSampleIdeal.nD Cert.ReferenceRecSampleIdeal.τ).loc Cert.ReferenceRecSampleIdeal.main_arg11))

def preserves_KernelAda_KernelAdaIdeal : Prop :=
  True

def algebraic_KernelAdaIdeal_ReferenceAdaIdeal_pre_finite_conditioning [hKernelAdaIdeal : Cert.KernelAdaIdeal.Facts] [hReferenceAdaIdeal : Cert.ReferenceAdaIdeal.Facts] [hPre_finite_conditioning : Cert.Pre_finite_conditioning.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal_finite_conditioning m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)) →
    ∃ (v0 : (c : Dev Cert.KernelAdaIdeal.nD) → Buf (Elt Ideal) ((c.tc : Thread Cert.KernelAdaIdeal.nD Cert.KernelAdaIdeal.τ).loc Cert.KernelAdaIdeal.main_v2)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v2) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v5) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3))

def preserves_KernelRec_KernelRecIdeal : Prop :=
  True

def algebraic_KernelRecIdeal_ReferenceRecIdeal [hKernelRecIdeal : Cert.KernelRecIdeal.Facts] [hReferenceRecIdeal : Cert.ReferenceRecIdeal.Facts] : Prop :=
  ∀ (m : (ℓ : Loc Cert.KernelRecIdeal.nD Cert.KernelRecIdeal.τ Cert.KernelRecIdeal.sig) → Buf (Elt Ideal) ℓ) (g : Dev Cert.KernelRecIdeal.nD → PrngReg)
    (m' : (ℓ : Loc Cert.ReferenceRecIdeal.nD Cert.ReferenceRecIdeal.τ Cert.ReferenceRecIdeal.sig) → Buf (Elt Ideal) ℓ) (g' : Dev Cert.ReferenceRecIdeal.nD → PrngReg), Pre_KernelRecIdeal m →
    (∀ c : Dev Cert.KernelRecIdeal.nD,
      m' ((c.tc : Thread Cert.ReferenceRecIdeal.nD Cert.ReferenceRecIdeal.τ).loc Cert.ReferenceRecIdeal.main_arg0) = m ((c.tc : Thread Cert.KernelRecIdeal.nD Cert.KernelRecIdeal.τ).loc Cert.KernelRecIdeal.main_arg0)
      ∧ m' ((c.tc : Thread Cert.ReferenceRecIdeal.nD Cert.ReferenceRecIdeal.τ).loc Cert.ReferenceRecIdeal.main_arg1) = m ((c.tc : Thread Cert.KernelRecIdeal.nD Cert.KernelRecIdeal.τ).loc Cert.KernelRecIdeal.main_arg1)
      ∧ m' ((c.tc : Thread Cert.ReferenceRecIdeal.nD Cert.ReferenceRecIdeal.τ).loc Cert.ReferenceRecIdeal.main_arg2) = m ((c.tc : Thread Cert.KernelRecIdeal.nD Cert.KernelRecIdeal.τ).loc Cert.KernelRecIdeal.main_arg2)
      ∧ m' ((c.tc : Thread Cert.ReferenceRecIdeal.nD Cert.ReferenceRecIdeal.τ).loc Cert.ReferenceRecIdeal.main_arg3) = m ((c.tc : Thread Cert.KernelRecIdeal.nD Cert.KernelRecIdeal.τ).loc Cert.KernelRecIdeal.main_arg3)
      ∧ m' ((c.tc : Thread Cert.ReferenceRecIdeal.nD Cert.ReferenceRecIdeal.τ).loc Cert.ReferenceRecIdeal.main_arg4) = m ((c.tc : Thread Cert.KernelRecIdeal.nD Cert.KernelRecIdeal.τ).loc Cert.KernelRecIdeal.main_arg4)
      ∧ m' ((c.tc : Thread Cert.ReferenceRecIdeal.nD Cert.ReferenceRecIdeal.τ).loc Cert.ReferenceRecIdeal.main_arg5) = m ((c.tc : Thread Cert.KernelRecIdeal.nD Cert.KernelRecIdeal.τ).loc Cert.KernelRecIdeal.main_arg5)
      ∧ m' ((c.tc : Thread Cert.ReferenceRecIdeal.nD Cert.ReferenceRecIdeal.τ).loc Cert.ReferenceRecIdeal.main_arg6) = m ((c.tc : Thread Cert.KernelRecIdeal.nD Cert.KernelRecIdeal.τ).loc Cert.KernelRecIdeal.main_arg6)
      ∧ m' ((c.tc : Thread Cert.ReferenceRecIdeal.nD Cert.ReferenceRecIdeal.τ).loc Cert.ReferenceRecIdeal.main_arg7) = m ((c.tc : Thread Cert.KernelRecIdeal.nD Cert.KernelRecIdeal.τ).loc Cert.KernelRecIdeal.main_arg7)
      ∧ m' ((c.tc : Thread Cert.ReferenceRecIdeal.nD Cert.ReferenceRecIdeal.τ).loc Cert.ReferenceRecIdeal.main_arg8) = m ((c.tc : Thread Cert.KernelRecIdeal.nD Cert.KernelRecIdeal.τ).loc Cert.KernelRecIdeal.main_arg8)
      ∧ m' ((c.tc : Thread Cert.ReferenceRecIdeal.nD Cert.ReferenceRecIdeal.τ).loc Cert.ReferenceRecIdeal.main_arg9) = m ((c.tc : Thread Cert.KernelRecIdeal.nD Cert.KernelRecIdeal.τ).loc Cert.KernelRecIdeal.main_arg9)) →
    ∃ (v0 : (c : Dev Cert.KernelRecIdeal.nD) → Buf (Elt Ideal) ((c.tc : Thread Cert.KernelRecIdeal.nD Cert.KernelRecIdeal.τ).loc Cert.KernelRecIdeal.main_v11_2)),
      θ_run (Cert.KernelRecIdeal.defs (F := Ideal)) (onTc (τ := Cert.KernelRecIdeal.τ) (Cert.KernelRecIdeal.main (F := Ideal))) ⟨m, fun _ => 0, g⟩ (fun r => ∀ c : Dev Cert.KernelRecIdeal.nD,
          r.2.mem ((c.tc : Thread Cert.KernelRecIdeal.nD Cert.KernelRecIdeal.τ).loc Cert.KernelRecIdeal.main_v11_2) = v0 c
          ∧ r.2.mem ((c.tc : Thread Cert.KernelRecIdeal.nD Cert.KernelRecIdeal.τ).loc Cert.KernelRecIdeal.main_arg0) = m ((c.tc : Thread Cert.KernelRecIdeal.nD Cert.KernelRecIdeal.τ).loc Cert.KernelRecIdeal.main_arg0)
          ∧ r.2.mem ((c.tc : Thread Cert.KernelRecIdeal.nD Cert.KernelRecIdeal.τ).loc Cert.KernelRecIdeal.main_arg1) = m ((c.tc : Thread Cert.KernelRecIdeal.nD Cert.KernelRecIdeal.τ).loc Cert.KernelRecIdeal.main_arg1)
          ∧ r.2.mem ((c.tc : Thread Cert.KernelRecIdeal.nD Cert.KernelRecIdeal.τ).loc Cert.KernelRecIdeal.main_arg2) = m ((c.tc : Thread Cert.KernelRecIdeal.nD Cert.KernelRecIdeal.τ).loc Cert.KernelRecIdeal.main_arg2)
          ∧ r.2.mem ((c.tc : Thread Cert.KernelRecIdeal.nD Cert.KernelRecIdeal.τ).loc Cert.KernelRecIdeal.main_arg3) = m ((c.tc : Thread Cert.KernelRecIdeal.nD Cert.KernelRecIdeal.τ).loc Cert.KernelRecIdeal.main_arg3)
          ∧ r.2.mem ((c.tc : Thread Cert.KernelRecIdeal.nD Cert.KernelRecIdeal.τ).loc Cert.KernelRecIdeal.main_arg4) = m ((c.tc : Thread Cert.KernelRecIdeal.nD Cert.KernelRecIdeal.τ).loc Cert.KernelRecIdeal.main_arg4)
          ∧ r.2.mem ((c.tc : Thread Cert.KernelRecIdeal.nD Cert.KernelRecIdeal.τ).loc Cert.KernelRecIdeal.main_arg5) = m ((c.tc : Thread Cert.KernelRecIdeal.nD Cert.KernelRecIdeal.τ).loc Cert.KernelRecIdeal.main_arg5)
          ∧ r.2.mem ((c.tc : Thread Cert.KernelRecIdeal.nD Cert.KernelRecIdeal.τ).loc Cert.KernelRecIdeal.main_arg6) = m ((c.tc : Thread Cert.KernelRecIdeal.nD Cert.KernelRecIdeal.τ).loc Cert.KernelRecIdeal.main_arg6)
          ∧ r.2.mem ((c.tc : Thread Cert.KernelRecIdeal.nD Cert.KernelRecIdeal.τ).loc Cert.KernelRecIdeal.main_arg7) = m ((c.tc : Thread Cert.KernelRecIdeal.nD Cert.KernelRecIdeal.τ).loc Cert.KernelRecIdeal.main_arg7)
          ∧ r.2.mem ((c.tc : Thread Cert.KernelRecIdeal.nD Cert.KernelRecIdeal.τ).loc Cert.KernelRecIdeal.main_arg8) = m ((c.tc : Thread Cert.KernelRecIdeal.nD Cert.KernelRecIdeal.τ).loc Cert.KernelRecIdeal.main_arg8)
          ∧ r.2.mem ((c.tc : Thread Cert.KernelRecIdeal.nD Cert.KernelRecIdeal.τ).loc Cert.KernelRecIdeal.main_arg9) = m ((c.tc : Thread Cert.KernelRecIdeal.nD Cert.KernelRecIdeal.τ).loc Cert.KernelRecIdeal.main_arg9))
      ∧ θ_run (Cert.ReferenceRecIdeal.defs (F := Ideal)) (onTc (τ := Cert.ReferenceRecIdeal.τ) (Cert.ReferenceRecIdeal.main (F := Ideal))) ⟨m', fun _ => 0, g'⟩ (fun r => ∀ c : Dev Cert.ReferenceRecIdeal.nD,
          r.2.mem ((c.tc : Thread Cert.ReferenceRecIdeal.nD Cert.ReferenceRecIdeal.τ).loc Cert.ReferenceRecIdeal.main_v4) = v0 c
          ∧ r.2.mem ((c.tc : Thread Cert.ReferenceRecIdeal.nD Cert.ReferenceRecIdeal.τ).loc Cert.ReferenceRecIdeal.main_arg0) = m' ((c.tc : Thread Cert.ReferenceRecIdeal.nD Cert.ReferenceRecIdeal.τ).loc Cert.ReferenceRecIdeal.main_arg0)
          ∧ r.2.mem ((c.tc : Thread Cert.ReferenceRecIdeal.nD Cert.ReferenceRecIdeal.τ).loc Cert.ReferenceRecIdeal.main_arg1) = m' ((c.tc : Thread Cert.ReferenceRecIdeal.nD Cert.ReferenceRecIdeal.τ).loc Cert.ReferenceRecIdeal.main_arg1)
          ∧ r.2.mem ((c.tc : Thread Cert.ReferenceRecIdeal.nD Cert.ReferenceRecIdeal.τ).loc Cert.ReferenceRecIdeal.main_arg2) = m' ((c.tc : Thread Cert.ReferenceRecIdeal.nD Cert.ReferenceRecIdeal.τ).loc Cert.ReferenceRecIdeal.main_arg2)
          ∧ r.2.mem ((c.tc : Thread Cert.ReferenceRecIdeal.nD Cert.ReferenceRecIdeal.τ).loc Cert.ReferenceRecIdeal.main_arg3) = m' ((c.tc : Thread Cert.ReferenceRecIdeal.nD Cert.ReferenceRecIdeal.τ).loc Cert.ReferenceRecIdeal.main_arg3)
          ∧ r.2.mem ((c.tc : Thread Cert.ReferenceRecIdeal.nD Cert.ReferenceRecIdeal.τ).loc Cert.ReferenceRecIdeal.main_arg4) = m' ((c.tc : Thread Cert.ReferenceRecIdeal.nD Cert.ReferenceRecIdeal.τ).loc Cert.ReferenceRecIdeal.main_arg4)
          ∧ r.2.mem ((c.tc : Thread Cert.ReferenceRecIdeal.nD Cert.ReferenceRecIdeal.τ).loc Cert.ReferenceRecIdeal.main_arg5) = m' ((c.tc : Thread Cert.ReferenceRecIdeal.nD Cert.ReferenceRecIdeal.τ).loc Cert.ReferenceRecIdeal.main_arg5)
          ∧ r.2.mem ((c.tc : Thread Cert.ReferenceRecIdeal.nD Cert.ReferenceRecIdeal.τ).loc Cert.ReferenceRecIdeal.main_arg6) = m' ((c.tc : Thread Cert.ReferenceRecIdeal.nD Cert.ReferenceRecIdeal.τ).loc Cert.ReferenceRecIdeal.main_arg6)
          ∧ r.2.mem ((c.tc : Thread Cert.ReferenceRecIdeal.nD Cert.ReferenceRecIdeal.τ).loc Cert.ReferenceRecIdeal.main_arg7) = m' ((c.tc : Thread Cert.ReferenceRecIdeal.nD Cert.ReferenceRecIdeal.τ).loc Cert.ReferenceRecIdeal.main_arg7)
          ∧ r.2.mem ((c.tc : Thread Cert.ReferenceRecIdeal.nD Cert.ReferenceRecIdeal.τ).loc Cert.ReferenceRecIdeal.main_arg8) = m' ((c.tc : Thread Cert.ReferenceRecIdeal.nD Cert.ReferenceRecIdeal.τ).loc Cert.ReferenceRecIdeal.main_arg8)
          ∧ r.2.mem ((c.tc : Thread Cert.ReferenceRecIdeal.nD Cert.ReferenceRecIdeal.τ).loc Cert.ReferenceRecIdeal.main_arg9) = m' ((c.tc : Thread Cert.ReferenceRecIdeal.nD Cert.ReferenceRecIdeal.τ).loc Cert.ReferenceRecIdeal.main_arg9))

def Claim : Prop :=
  ∃ (hKernel : Cert.Kernel.Facts) (hKernelIdeal : Cert.KernelIdeal.Facts) (hReferenceIdeal : Cert.ReferenceIdeal.Facts) (hKernelKeys : Cert.KernelKeys.Facts) (hKernelKeysIdeal : Cert.KernelKeysIdeal.Facts) (hReferenceKeysIdeal : Cert.ReferenceKeysIdeal.Facts) (hKernelValues : Cert.KernelValues.Facts) (hKernelValuesIdeal : Cert.KernelValuesIdeal.Facts) (hReferenceValuesIdeal : Cert.ReferenceValuesIdeal.Facts) (hKernelLru : Cert.KernelLru.Facts) (hKernelLruIdeal : Cert.KernelLruIdeal.Facts) (hReferenceLruIdeal : Cert.ReferenceLruIdeal.Facts) (hKernelGelu : Cert.KernelGelu.Facts) (hKernelGeluIdeal : Cert.KernelGeluIdeal.Facts) (hReferenceGeluIdeal : Cert.ReferenceGeluIdeal.Facts) (hKernelGate : Cert.KernelGate.Facts) (hKernelGateIdeal : Cert.KernelGateIdeal.Facts) (hReferenceGateIdeal : Cert.ReferenceGateIdeal.Facts) (hKernelMix : Cert.KernelMix.Facts) (hKernelMixIdeal : Cert.KernelMixIdeal.Facts) (hReferenceMixIdeal : Cert.ReferenceMixIdeal.Facts) (hKernelQuery : Cert.KernelQuery.Facts) (hKernelQueryIdeal : Cert.KernelQueryIdeal.Facts) (hReferenceQueryIdeal : Cert.ReferenceQueryIdeal.Facts) (hKernelNorm : Cert.KernelNorm.Facts) (hKernelNormIdeal : Cert.KernelNormIdeal.Facts) (hReferenceNormIdeal : Cert.ReferenceNormIdeal.Facts) (hKernelKeysSample : Cert.KernelKeysSample.Facts) (hKernelKeysSampleIdeal : Cert.KernelKeysSampleIdeal.Facts) (hReferenceKeysSampleIdeal : Cert.ReferenceKeysSampleIdeal.Facts) (hKernelValuesSample : Cert.KernelValuesSample.Facts) (hKernelValuesSampleIdeal : Cert.KernelValuesSampleIdeal.Facts) (hReferenceValuesSampleIdeal : Cert.ReferenceValuesSampleIdeal.Facts) (hKernelRecSample : Cert.KernelRecSample.Facts) (hKernelRecSampleIdeal : Cert.KernelRecSampleIdeal.Facts) (hReferenceRecSampleIdeal : Cert.ReferenceRecSampleIdeal.Facts) (hKernelAda : Cert.KernelAda.Facts) (hKernelAdaIdeal : Cert.KernelAdaIdeal.Facts) (hReferenceAdaIdeal : Cert.ReferenceAdaIdeal.Facts) (hKernelRec : Cert.KernelRec.Facts) (hKernelRecIdeal : Cert.KernelRecIdeal.Facts) (hReferenceRecIdeal : Cert.ReferenceRecIdeal.Facts) (hPre_finite_scores : Cert.Pre_finite_scores.Facts) (hPre_finite_conditioning : Cert.Pre_finite_conditioning.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelKeys (hKernelKeys := hKernelKeys)
    ∧ quiescent_KernelKeysIdeal (hKernelKeysIdeal := hKernelKeysIdeal)
    ∧ quiescent_ReferenceKeysIdeal (hReferenceKeysIdeal := hReferenceKeysIdeal)
    ∧ quiescent_KernelValues (hKernelValues := hKernelValues)
    ∧ quiescent_KernelValuesIdeal (hKernelValuesIdeal := hKernelValuesIdeal)
    ∧ quiescent_ReferenceValuesIdeal (hReferenceValuesIdeal := hReferenceValuesIdeal)
    ∧ quiescent_KernelLru (hKernelLru := hKernelLru)
    ∧ quiescent_KernelLruIdeal (hKernelLruIdeal := hKernelLruIdeal)
    ∧ quiescent_ReferenceLruIdeal (hReferenceLruIdeal := hReferenceLruIdeal)
    ∧ quiescent_KernelGelu (hKernelGelu := hKernelGelu)
    ∧ quiescent_KernelGeluIdeal (hKernelGeluIdeal := hKernelGeluIdeal)
    ∧ quiescent_ReferenceGeluIdeal (hReferenceGeluIdeal := hReferenceGeluIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelKeysSample (hKernelKeysSample := hKernelKeysSample)
    ∧ quiescent_KernelKeysSampleIdeal (hKernelKeysSampleIdeal := hKernelKeysSampleIdeal)
    ∧ quiescent_ReferenceKeysSampleIdeal (hReferenceKeysSampleIdeal := hReferenceKeysSampleIdeal)
    ∧ quiescent_KernelValuesSample (hKernelValuesSample := hKernelValuesSample)
    ∧ quiescent_KernelValuesSampleIdeal (hKernelValuesSampleIdeal := hKernelValuesSampleIdeal)
    ∧ quiescent_ReferenceValuesSampleIdeal (hReferenceValuesSampleIdeal := hReferenceValuesSampleIdeal)
    ∧ quiescent_KernelRecSample (hKernelRecSample := hKernelRecSample)
    ∧ quiescent_KernelRecSampleIdeal (hKernelRecSampleIdeal := hKernelRecSampleIdeal)
    ∧ quiescent_ReferenceRecSampleIdeal (hReferenceRecSampleIdeal := hReferenceRecSampleIdeal)
    ∧ quiescent_KernelAda (hKernelAda := hKernelAda)
    ∧ quiescent_KernelAdaIdeal (hKernelAdaIdeal := hKernelAdaIdeal)
    ∧ quiescent_KernelAdaIdeal_pre_finite_conditioning (hKernelAdaIdeal := hKernelAdaIdeal) (hPre_finite_conditioning := hPre_finite_conditioning)
    ∧ quiescent_ReferenceAdaIdeal (hReferenceAdaIdeal := hReferenceAdaIdeal)
    ∧ quiescent_ReferenceAdaIdeal_pre_finite_conditioning (hReferenceAdaIdeal := hReferenceAdaIdeal) (hPre_finite_conditioning := hPre_finite_conditioning)
    ∧ quiescent_KernelRec (hKernelRec := hKernelRec)
    ∧ quiescent_KernelRecIdeal (hKernelRecIdeal := hKernelRecIdeal)
    ∧ quiescent_ReferenceRecIdeal (hReferenceRecIdeal := hReferenceRecIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelKeys_KernelKeysIdeal
    ∧ algebraic_KernelKeysIdeal_ReferenceKeysIdeal (hKernelKeysIdeal := hKernelKeysIdeal) (hReferenceKeysIdeal := hReferenceKeysIdeal)
    ∧ preserves_KernelValues_KernelValuesIdeal
    ∧ algebraic_KernelValuesIdeal_ReferenceValuesIdeal (hKernelValuesIdeal := hKernelValuesIdeal) (hReferenceValuesIdeal := hReferenceValuesIdeal)
    ∧ preserves_KernelLru_KernelLruIdeal
    ∧ algebraic_KernelLruIdeal_ReferenceLruIdeal (hKernelLruIdeal := hKernelLruIdeal) (hReferenceLruIdeal := hReferenceLruIdeal)
    ∧ preserves_KernelGelu_KernelGeluIdeal
    ∧ algebraic_KernelGeluIdeal_ReferenceGeluIdeal (hKernelGeluIdeal := hKernelGeluIdeal) (hReferenceGeluIdeal := hReferenceGeluIdeal)
    ∧ preserves_KernelGate_KernelGateIdeal
    ∧ algebraic_KernelGateIdeal_ReferenceGateIdeal (hKernelGateIdeal := hKernelGateIdeal) (hReferenceGateIdeal := hReferenceGateIdeal)
    ∧ preserves_KernelMix_KernelMixIdeal
    ∧ algebraic_KernelMixIdeal_ReferenceMixIdeal (hKernelMixIdeal := hKernelMixIdeal) (hReferenceMixIdeal := hReferenceMixIdeal)
    ∧ preserves_KernelQuery_KernelQueryIdeal
    ∧ algebraic_KernelQueryIdeal_ReferenceQueryIdeal (hKernelQueryIdeal := hKernelQueryIdeal) (hReferenceQueryIdeal := hReferenceQueryIdeal)
    ∧ preserves_KernelNorm_KernelNormIdeal
    ∧ algebraic_KernelNormIdeal_ReferenceNormIdeal (hKernelNormIdeal := hKernelNormIdeal) (hReferenceNormIdeal := hReferenceNormIdeal)
    ∧ preserves_KernelKeysSample_KernelKeysSampleIdeal
    ∧ algebraic_KernelKeysSampleIdeal_ReferenceKeysSampleIdeal (hKernelKeysSampleIdeal := hKernelKeysSampleIdeal) (hReferenceKeysSampleIdeal := hReferenceKeysSampleIdeal)
    ∧ preserves_KernelValuesSample_KernelValuesSampleIdeal
    ∧ algebraic_KernelValuesSampleIdeal_ReferenceValuesSampleIdeal (hKernelValuesSampleIdeal := hKernelValuesSampleIdeal) (hReferenceValuesSampleIdeal := hReferenceValuesSampleIdeal)
    ∧ preserves_KernelRecSample_KernelRecSampleIdeal
    ∧ algebraic_KernelRecSampleIdeal_ReferenceRecSampleIdeal (hKernelRecSampleIdeal := hKernelRecSampleIdeal) (hReferenceRecSampleIdeal := hReferenceRecSampleIdeal)
    ∧ preserves_KernelAda_KernelAdaIdeal
    ∧ algebraic_KernelAdaIdeal_ReferenceAdaIdeal_pre_finite_conditioning (hKernelAdaIdeal := hKernelAdaIdeal) (hReferenceAdaIdeal := hReferenceAdaIdeal) (hPre_finite_conditioning := hPre_finite_conditioning)
    ∧ preserves_KernelRec_KernelRecIdeal
    ∧ algebraic_KernelRecIdeal_ReferenceRecIdeal (hKernelRecIdeal := hKernelRecIdeal) (hReferenceRecIdeal := hReferenceRecIdeal)
-- ==== Pre_finite_conditioning.lean ====
abbrev S16x2048 : Shape := ⟨2, ![16, 2048]⟩
abbrev S2048x12288 : Shape := ⟨2, ![2048, 12288]⟩
abbrev S12288 : Shape := ⟨1, ![12288]⟩
abbrev S_ : Shape := ⟨0, ![]⟩

class Facts : Prop where
  bcast_S_S16x2048 : S_.BroadcastsInDim S16x2048 (![] : Fin 0 → Fin S16x2048.rank)
  bcast_S_S2048x12288 : S_.BroadcastsInDim S2048x12288 (![] : Fin 0 → Fin S2048x12288.rank)

variable [Facts]

def fn {F : FTy → Type} [FloatOps F] (main_arg0 : FVec F S16x2048 .f32) (main_arg1 : FVec F S16x2048 .f32) (main_arg2 : FVec F S2048x12288 .f32) (main_arg3 : FVec F S12288 .f32) : IVec S16x2048 1 × IVec S16x2048 1 × IVec S2048x12288 1 :=
  let main_v0 : FVec F S16x2048 .f32 := Host.absf main_arg0
  let main_cst : FVec F S_ .f32 := constant S_ .f32 0x7F800000#32
  let main_v1 : FVec F S16x2048 .f32 := broadcastInDim S16x2048 ![] bcast_S_S16x2048 main_cst
  let main_v2 : IVec S16x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  let main_v6 : FVec F S2048x12288 .f32 := Host.absf main_arg2
  let main_cst_1 : FVec F S_ .f32 := constant S_ .f32 0x7F800000#32
  let main_v7 : FVec F S2048x12288 .f32 := broadcastInDim S2048x12288 ![] bcast_S_S2048x12288 main_cst_1
  let main_v8 : IVec S2048x12288 1 := cmpf .olt main_v6 main_v7
  (main_v2, main_v5, main_v8)
-- ==== Pre_finite_scores.lean ====
abbrev S16x2048x2048 : Shape := ⟨3, ![16, 2048, 2048]⟩
abbrev S_ : Shape := ⟨0, ![]⟩

class Facts : Prop where
  bcast_S_S16x2048x2048 : S_.BroadcastsInDim S16x2048x2048 (![] : Fin 0 → Fin S16x2048x2048.rank)

variable [Facts]

def fn {F : FTy → Type} [FloatOps F] (main_arg0 : FVec F S16x2048x2048 .f32) (main_arg1 : FVec F S16x2048x2048 .f32) (main_arg2 : FVec F S16x2048x2048 .f32) (main_arg3 : FVec F S16x2048x2048 .f32) (main_arg4 : FVec F S16x2048x2048 .f32) : IVec S16x2048x2048 1 × IVec S16x2048x2048 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_v3 : FVec F S16x2048x2048 .f32 := Host.absf main_arg1
  let main_cst_0 : FVec F S_ .f32 := constant S_ .f32 0x7F800000#32
  let main_v4 : FVec F S16x2048x2048 .f32 := broadcastInDim S16x2048x2048 ![] bcast_S_S16x2048x2048 main_cst_0
  let main_v5 : IVec S16x2048x2048 1 := cmpf .olt main_v3 main_v4
  (main_v2, main_v5)
-- ==== Kernel.lean ====
abbrev S16x2048x2048 : Shape := ⟨3, ![16, 2048, 2048]⟩
abbrev S_ : Shape := ⟨0, ![]⟩
abbrev S1x256x1024 : Shape := ⟨3, ![1, 256, 1024]⟩
abbrev S1x2048x1024 : Shape := ⟨3, ![1, 2048, 1024]⟩
abbrev S256x256 : Shape := ⟨2, ![256, 256]⟩
abbrev S256x128 : Shape := ⟨2, ![256, 128]⟩
abbrev S256x1 : Shape := ⟨2, ![256, 1]⟩
abbrev S1x256x128 : Shape := ⟨3, ![1, 256, 128]⟩
abbrev S1x256x1 : Shape := ⟨3, ![1, 256, 1]⟩
abbrev S1 : Shape := ⟨1, ![1]⟩
abbrev S1x1x1 : Shape := ⟨3, ![1, 1, 1]⟩
abbrev S256x1024 : Shape := ⟨2, ![256, 1024]⟩

abbrev nBuf : Space → Nat
  | .hbm => 16
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S16x2048x2048, .bf16⟩
  | .hbm, ⟨13, _⟩ => ⟨S16x2048x2048, .bf16⟩
  | .hbm, ⟨14, _⟩ => ⟨S16x2048x2048, .bf16⟩
  | .hbm, ⟨15, _⟩ => ⟨S16x2048x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def k0_mult1 (i : grid0.Coords) : BitVec 32 :=
  let arg2 : BitVec 32 := BitVec.ofNat 32 (i 2).val
  let c256_i32 : BitVec 32 := 256#32
  let v23 : BitVec 32 := Scalar.muli arg2 c256_i32
  v23
def k0_off1 (i : grid0.Coords) : Fin 3 → Nat :=
  let c0_17 : Index := 0#32
  let arg2 : BitVec 32 := BitVec.ofNat 32 (i 2).val
  let c256_i32 : BitVec 32 := 256#32
  let v23 : BitVec 32 := Scalar.muli arg2 c256_i32
  let v24 : BitVec 32 := v23
  let v27 : Index := Scalar.indexCast v24
  let c0_18 : Index := 0#32
  ![0, v27.toNat, 0]
def k0_off2 (i : grid0.Coords) : Fin 3 → Nat :=
  let c0_22 : Index := 0#32
  let arg2 : BitVec 32 := BitVec.ofNat 32 (i 2).val
  let c256_i32 : BitVec 32 := 256#32
  let v23 : BitVec 32 := Scalar.muli arg2 c256_i32
  let v24 : BitVec 32 := v23
  let v34 : Index := Scalar.indexCast v24
  let c128_23 : Index := 128#32
  ![0, v34.toNat, 128]
def k0_off3 (i : grid0.Coords) : Fin 3 → Nat :=
  let c0_27 : Index := 0#32
  let arg2 : BitVec 32 := BitVec.ofNat 32 (i 2).val
  let c256_i32 : BitVec 32 := 256#32
  let v23 : BitVec 32 := Scalar.muli arg2 c256_i32
  let v24 : BitVec 32 := v23
  let v41 : Index := Scalar.indexCast v24
  let c256_28 : Index := 256#32
  ![0, v41.toNat, 256]
def k0_off4 (i : grid0.Coords) : Fin 3 → Nat :=
  let c0_32 : Index := 0#32
  let arg2 : BitVec 32 := BitVec.ofNat 32 (i 2).val
  let c256_i32 : BitVec 32 := 256#32
  let v23 : BitVec 32 := Scalar.muli arg2 c256_i32
  let v24 : BitVec 32 := v23
  let v48 : Index := Scalar.indexCast v24
  let c384_33 : Index := 384#32
  ![0, v48.toNat, 384]
def k0_off5 (i : grid0.Coords) : Fin 3 → Nat :=
  let c0_37 : Index := 0#32
  let arg2 : BitVec 32 := BitVec.ofNat 32 (i 2).val
  let c256_i32 : BitVec 32 := 256#32
  let v23 : BitVec 32 := Scalar.muli arg2 c256_i32
  let v24 : BitVec 32 := v23
  let v55 : Index := Scalar.indexCast v24
  let c512_38 : Index := 512#32
  ![0, v55.toNat, 512]
def k0_off6 (i : grid0.Coords) : Fin 3 → Nat :=
  let c0_42 : Index := 0#32
  let arg2 : BitVec 32 := BitVec.ofNat 32 (i 2).val
  let c256_i32 : BitVec 32 := 256#32
  let v23 : BitVec 32 := Scalar.muli arg2 c256_i32
  let v24 : BitVec 32 := v23
  let v62 : Index := Scalar.indexCast v24
  let c640_43 : Index := 640#32
  ![0, v62.toNat, 640]
def k0_off7 (i : grid0.Coords) : Fin 3 → Nat :=
  let c0_47 : Index := 0#32
  let arg2 : BitVec 32 := BitVec.ofNat 32 (i 2).val
  let c256_i32 : BitVec 32 := 256#32
  let v23 : BitVec 32 := Scalar.muli arg2 c256_i32
  let v24 : BitVec 32 := v23
  let v69 : Index := Scalar.indexCast v24
  let c768_48 : Index := 768#32
  ![0, v69.toNat, 768]
def k0_off8 (i : grid0.Coords) : Fin 3 → Nat :=
  let c0_52 : Index := 0#32
  let arg2 : BitVec 32 := BitVec.ofNat 32 (i 2).val
  let c256_i32 : BitVec 32 := 256#32
  let v23 : BitVec 32 := Scalar.muli arg2 c256_i32
  let v24 : BitVec 32 := v23
  let v76 : Index := Scalar.indexCast v24
  let c896_53 : Index := 896#32
  ![0, v76.toNat, 896]
def k0_mult2 (i : grid0.Coords) (arg9 : BitVec 32) : BitVec 32 :=
  let arg2 : BitVec 32 := BitVec.ofNat 32 (i 2).val
  let c1_i32 : BitVec 32 := 1#32
  let v419 : BitVec 32 := Scalar.subi arg2 c1_i32
  let v420 : BitVec 32 := Scalar.subi v419 arg9
  let c256_i32_154 : BitVec 32 := 256#32
  let v421 : BitVec 32 := Scalar.muli v420 c256_i32_154
  v421

def k0_off9 (i : grid0.Coords) (arg9 : BitVec 32) : Fin 3 → Nat :=
  let c0_158 : Index := 0#32
  let arg2 : BitVec 32 := BitVec.ofNat 32 (i 2).val
  let c1_i32 : BitVec 32 := 1#32
  let v419 : BitVec 32 := Scalar.subi arg2 c1_i32
  let v420 : BitVec 32 := Scalar.subi v419 arg9
  let c256_i32_154 : BitVec 32 := 256#32
  let v421 : BitVec 32 := Scalar.muli v420 c256_i32_154
  let v422 : BitVec 32 := v421
  let v425 : Index := Scalar.indexCast v422
  let c0_159 : Index := 0#32
  ![0, v425.toNat, 0]
def k0_off10 (i : grid0.Coords) (arg9 : BitVec 32) : Fin 3 → Nat :=
  let c0_164 : Index := 0#32
  let arg2 : BitVec 32 := BitVec.ofNat 32 (i 2).val
  let c1_i32 : BitVec 32 := 1#32
  let v419 : BitVec 32 := Scalar.subi arg2 c1_i32
  let v420 : BitVec 32 := Scalar.subi v419 arg9
  let c256_i32_154 : BitVec 32 := 256#32
  let v421 : BitVec 32 := Scalar.muli v420 c256_i32_154
  let v422 : BitVec 32 := v421
  let v432 : Index := Scalar.indexCast v422
  let c128_165 : Index := 128#32
  ![0, v432.toNat, 128]
def k0_off11 (i : grid0.Coords) (arg9 : BitVec 32) : Fin 3 → Nat :=
  let c0_170 : Index := 0#32
  let arg2 : BitVec 32 := BitVec.ofNat 32 (i 2).val
  let c1_i32 : BitVec 32 := 1#32
  let v419 : BitVec 32 := Scalar.subi arg2 c1_i32
  let v420 : BitVec 32 := Scalar.subi v419 arg9
  let c256_i32_154 : BitVec 32 := 256#32
  let v421 : BitVec 32 := Scalar.muli v420 c256_i32_154
  let v422 : BitVec 32 := v421
  let v439 : Index := Scalar.indexCast v422
  let c256_171 : Index := 256#32
  ![0, v439.toNat, 256]
def k0_off12 (i : grid0.Coords) (arg9 : BitVec 32) : Fin 3 → Nat :=
  let c0_176 : Index := 0#32
  let arg2 : BitVec 32 := BitVec.ofNat 32 (i 2).val
  let c1_i32 : BitVec 32 := 1#32
  let v419 : BitVec 32 := Scalar.subi arg2 c1_i32
  let v420 : BitVec 32 := Scalar.subi v419 arg9
  let c256_i32_154 : BitVec 32 := 256#32
  let v421 : BitVec 32 := Scalar.muli v420 c256_i32_154
  let v422 : BitVec 32 := v421
  let v446 : Index := Scalar.indexCast v422
  let c384_177 : Index := 384#32
  ![0, v446.toNat, 384]
def k0_off13 (i : grid0.Coords) (arg9 : BitVec 32) : Fin 3 → Nat :=
  let c0_182 : Index := 0#32
  let arg2 : BitVec 32 := BitVec.ofNat 32 (i 2).val
  let c1_i32 : BitVec 32 := 1#32
  let v419 : BitVec 32 := Scalar.subi arg2 c1_i32
  let v420 : BitVec 32 := Scalar.subi v419 arg9
  let c256_i32_154 : BitVec 32 := 256#32
  let v421 : BitVec 32 := Scalar.muli v420 c256_i32_154
  let v422 : BitVec 32 := v421
  let v453 : Index := Scalar.indexCast v422
  let c512_183 : Index := 512#32
  ![0, v453.toNat, 512]
def k0_off14 (i : grid0.Coords) (arg9 : BitVec 32) : Fin 3 → Nat :=
  let c0_188 : Index := 0#32
  let arg2 : BitVec 32 := BitVec.ofNat 32 (i 2).val
  let c1_i32 : BitVec 32 := 1#32
  let v419 : BitVec 32 := Scalar.subi arg2 c1_i32
  let v420 : BitVec 32 := Scalar.subi v419 arg9
  let c256_i32_154 : BitVec 32 := 256#32
  let v421 : BitVec 32 := Scalar.muli v420 c256_i32_154
  let v422 : BitVec 32 := v421
  let v460 : Index := Scalar.indexCast v422
  let c640_189 : Index := 640#32
  ![0, v460.toNat, 640]
def k0_off15 (i : grid0.Coords) (arg9 : BitVec 32) : Fin 3 → Nat :=
  let c0_194 : Index := 0#32
  let arg2 : BitVec 32 := BitVec.ofNat 32 (i 2).val
  let c1_i32 : BitVec 32 := 1#32
  let v419 : BitVec 32 := Scalar.subi arg2 c1_i32
  let v420 : BitVec 32 := Scalar.subi v419 arg9
  let c256_i32_154 : BitVec 32 := 256#32
  let v421 : BitVec 32 := Scalar.muli v420 c256_i32_154
  let v422 : BitVec 32 := v421
  let v467 : Index := Scalar.indexCast v422
  let c768_195 : Index := 768#32
  ![0, v467.toNat, 768]
def k0_off16 (i : grid0.Coords) (arg9 : BitVec 32) : Fin 3 → Nat :=
  let c0_200 : Index := 0#32
  let arg2 : BitVec 32 := BitVec.ofNat 32 (i 2).val
  let c1_i32 : BitVec 32 := 1#32
  let v419 : BitVec 32 := Scalar.subi arg2 c1_i32
  let v420 : BitVec 32 := Scalar.subi v419 arg9
  let c256_i32_154 : BitVec 32 := 256#32
  let v421 : BitVec 32 := Scalar.muli v420 c256_i32_154
  let v422 : BitVec 32 := v421
  let v474 : Index := Scalar.indexCast v422
  let c896_201 : Index := 896#32
  ![0, v474.toNat, 896]

def k0_chk1 (i : grid0.Coords) (arg9 : BitVec 32) : Prop :=
  (256 ∣ (k0_mult2 i arg9).toNat) ∧
  (∀ a, (k0_off9 i arg9) a + S1x256x128.size a ≤ S1x2048x1024.size a) ∧
  (∀ a, (k0_off10 i arg9) a + S1x256x128.size a ≤ S1x2048x1024.size a) ∧
  (∀ a, (k0_off11 i arg9) a + S1x256x128.size a ≤ S1x2048x1024.size a) ∧
  (∀ a, (k0_off12 i arg9) a + S1x256x128.size a ≤ S1x2048x1024.size a) ∧
  (∀ a, (k0_off13 i arg9) a + S1x256x128.size a ≤ S1x2048x1024.size a) ∧
  (∀ a, (k0_off14 i arg9) a + S1x256x128.size a ≤ S1x2048x1024.size a) ∧
  (∀ a, (k0_off15 i arg9) a + S1x256x128.size a ≤ S1x2048x1024.size a) ∧
  (∀ a, (k0_off16 i arg9) a + S1x256x128.size a ≤ S1x2048x1024.size a)
theorem k0_mult2_dvd : ∀ (i : grid0.Coords) (arg9 : BitVec 32) (k0_hw1 : k0_chk1 i arg9), 256 ∣ (k0_mult2 i arg9).toNat := fun i arg9 k0_hw1 => k0_hw1.1
theorem k0_off9_inb : ∀ (i : grid0.Coords) (arg9 : BitVec 32) (k0_hw1 : k0_chk1 i arg9), ∀ a, (k0_off9 i arg9) a + S1x256x128.size a ≤ S1x2048x1024.size a := fun i arg9 k0_hw1 => k0_hw1.2.1
theorem k0_off10_inb : ∀ (i : grid0.Coords) (arg9 : BitVec 32) (k0_hw1 : k0_chk1 i arg9), ∀ a, (k0_off10 i arg9) a + S1x256x128.size a ≤ S1x2048x1024.size a := fun i arg9 k0_hw1 => k0_hw1.2.2.1
theorem k0_off11_inb : ∀ (i : grid0.Coords) (arg9 : BitVec 32) (k0_hw1 : k0_chk1 i arg9), ∀ a, (k0_off11 i arg9) a + S1x256x128.size a ≤ S1x2048x1024.size a := fun i arg9 k0_hw1 => k0_hw1.2.2.2.1
theorem k0_off12_inb : ∀ (i : grid0.Coords) (arg9 : BitVec 32) (k0_hw1 : k0_chk1 i arg9), ∀ a, (k0_off12 i arg9) a + S1x256x128.size a ≤ S1x2048x1024.size a := fun i arg9 k0_hw1 => k0_hw1.2.2.2.2.1
theorem k0_off13_inb : ∀ (i : grid0.Coords) (arg9 : BitVec 32) (k0_hw1 : k0_chk1 i arg9), ∀ a, (k0_off13 i arg9) a + S1x256x128.size a ≤ S1x2048x1024.size a := fun i arg9 k0_hw1 => k0_hw1.2.2.2.2.2.1
theorem k0_off14_inb : ∀ (i : grid0.Coords) (arg9 : BitVec 32) (k0_hw1 : k0_chk1 i arg9), ∀ a, (k0_off14 i arg9) a + S1x256x128.size a ≤ S1x2048x1024.size a := fun i arg9 k0_hw1 => k0_hw1.2.2.2.2.2.2.1
theorem k0_off15_inb : ∀ (i : grid0.Coords) (arg9 : BitVec 32) (k0_hw1 : k0_chk1 i arg9), ∀ a, (k0_off15 i arg9) a + S1x256x128.size a ≤ S1x2048x1024.size a := fun i arg9 k0_hw1 => k0_hw1.2.2.2.2.2.2.2.1
theorem k0_off16_inb : ∀ (i : grid0.Coords) (arg9 : BitVec 32) (k0_hw1 : k0_chk1 i arg9), ∀ a, (k0_off16 i arg9) a + S1x256x128.size a ≤ S1x2048x1024.size a := fun i arg9 k0_hw1 => k0_hw1.2.2.2.2.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2_e" => some (((Real.log 2)⁻¹ : ℝ) : EReal)
  | "zero_weight" => some ⊥
  | _ => none
-- ==== ReferenceIdeal.lean ====
abbrev S16x2048x2048 : Shape := ⟨3, ![16, 2048, 2048]⟩
abbrev S16x2048x16x128 : Shape := ⟨4, ![16, 2048, 16, 128]⟩
abbrev S2048 : Shape := ⟨1, ![2048]⟩
abbrev S16x16x2048x2048 : Shape := ⟨4, ![16, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x16x128x2048 : Shape := ⟨4, ![16, 16, 128, 2048]⟩

abbrev nBuf : Space → Nat
  | .hbm => 75
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S16x2048x16x128, .f32⟩
  | .hbm, ⟨6, _⟩ => ⟨S16x2048x16x128, .f32⟩
  | .hbm, ⟨7, _⟩ => ⟨S16x2048x16x128, .f32⟩
  | .hbm, ⟨8, _⟩ => ⟨S2048, .i32⟩
  | .hbm, ⟨9, _⟩ => ⟨S16x16x2048x2048, .f32⟩
  | .hbm, ⟨10, _⟩ => ⟨S_, .f32⟩
  | .hbm, ⟨11, _⟩ => ⟨S_, .f32⟩
  | .hbm, ⟨12, _⟩ => ⟨S16x16x2048x2048, .f32⟩
  | .hbm, ⟨13, _⟩ => ⟨S16x16x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x1x2048x2048, .i1⟩
  | .hbm, ⟨20, _⟩ => ⟨S16x16x2048x2048, .f32⟩
  | .hbm, ⟨21, _⟩ => ⟨S16x16x2048x2048, .f32⟩
  | .hbm, ⟨22, _⟩ => ⟨S_, .f32⟩
  | .hbm, ⟨23, _⟩ => ⟨S16x16x2048x2048, .f32⟩
  | .hbm, ⟨24, _⟩ => ⟨S16x16x2048x2048, .f32⟩
  | .hbm, ⟨25, _⟩ => ⟨S16x16x2048x2048, .f32⟩
  | .hbm, ⟨26, _⟩ => ⟨S16x16x2048x2048, .f32⟩
  | .hbm, ⟨27, _⟩ => ⟨S16x16x2048x2048, .i1⟩
  | .hbm, ⟨28, _⟩ => ⟨S16x16x2048x2048, .f32⟩
  | .hbm, ⟨29, _⟩ => ⟨S16x16x2048x2048, .f32⟩
  | .hbm, ⟨30, _⟩ => ⟨S16x16x2048x2048, .f32⟩
  | .hbm, ⟨31, _⟩ => ⟨S16x16x2048x2048, .f32⟩
  | .hbm, ⟨32, _⟩ => ⟨S16x16x2048x2048, .f32⟩
  | .hbm, ⟨33, _⟩ => ⟨S16x16x2048x2048, .f32⟩
  | .hbm, ⟨34, _⟩ => ⟨S16x16x2048x2048, .f32⟩
  | .hbm, ⟨35, _⟩ => ⟨S16x16x2048x2048, .f32⟩
  | .hbm, ⟨36, _⟩ => ⟨S16x16x2048x2048, .f32⟩
  | .hbm, ⟨37, _⟩ => ⟨S_, .f32⟩
  | .hbm, ⟨38, _⟩ => ⟨S_, .f32⟩
  | .hbm, ⟨39, _⟩ => ⟨S16x16x2048x2048, .i1⟩
  | .hbm, ⟨40, _⟩ => ⟨S16x16x2048x2048, .f32⟩
  | .hbm, ⟨41, _⟩ => ⟨S16x16x2048x2048, .f32⟩
  | .hbm, ⟨42, _⟩ => ⟨S_, .f32⟩
  | .hbm, ⟨43, _⟩ => ⟨S_, .f32⟩
  | .hbm, ⟨44, _⟩ => ⟨S16x16x2048x2048, .f32⟩
  | .hbm, ⟨45, _⟩ => ⟨S16x16x2048x2048, .f32⟩
  | .hbm, ⟨46, _⟩ => ⟨S16x16x2048x2048, .f32⟩
  | .hbm, ⟨47, _⟩ => ⟨S_, .f32⟩
  | .hbm, ⟨48, _⟩ => ⟨S16x16x2048x2048, .f32⟩
  | .hbm, ⟨49, _⟩ => ⟨S16x16x2048x2048, .f32⟩
  | .hbm, ⟨50, _⟩ => ⟨S16x16x2048x2048, .f32⟩
  | .hbm, ⟨51, _⟩ => ⟨S16x16x2048x2048, .f32⟩
  | .hbm, ⟨52, _⟩ => ⟨S16x16x2048x2048, .i1⟩
  | .hbm, ⟨53, _⟩ => ⟨S16x16x2048x2048, .f32⟩
  | .hbm, ⟨54, _⟩ => ⟨S16x16x2048x2048, .f32⟩
  | .hbm, ⟨55, _⟩ => ⟨S16x16x2048x2048, .f32⟩
  | .hbm, ⟨56, _⟩ => ⟨S16x16x2048x2048, .f32⟩
  | .hbm, ⟨57, _⟩ => ⟨S16x16x2048x2048, .f32⟩
  | .hbm, ⟨58, _⟩ => ⟨S16x16x2048x2048, .f32⟩
  | .hbm, ⟨59, _⟩ => ⟨S16x16x2048x2048, .f32⟩
  | .hbm, ⟨60, _⟩ => ⟨S16x16x2048x2048, .f32⟩
  | .hbm, ⟨61, _⟩ => ⟨S16x16x2048x2048, .f32⟩
  | .hbm, ⟨62, _⟩ => ⟨S16x16x2048x2048, .f32⟩
  | .hbm, ⟨63, _⟩ => ⟨S16x16x2048x2048, .f32⟩
  | .hbm, ⟨64, _⟩ => ⟨S_, .f32⟩
  | .hbm, ⟨65, _⟩ => ⟨S_, .f32⟩
  | .hbm, ⟨66, _⟩ => ⟨S16x16x2048x2048, .i1⟩
  | .hbm, ⟨67, _⟩ => ⟨S16x16x2048x2048, .f32⟩
  | .hbm, ⟨68, _⟩ => ⟨S16x16x2048x2048, .f32⟩
  | .hbm, ⟨69, _⟩ => ⟨S16x16x128x2048, .f32⟩
  | .hbm, ⟨70, _⟩ => ⟨S16x2048x16x128, .f32⟩
  | .hbm, ⟨71, _⟩ => ⟨S16x2048x2048, .f32⟩
  | .hbm, ⟨72, _⟩ => ⟨S16x2048x2048, .f32⟩
  | .hbm, ⟨73, _⟩ => ⟨S16x2048x2048, .f32⟩
  | .hbm, ⟨74, _⟩ => ⟨S16x2048x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v15 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v16 : Ref sig .tc := ⟨.hbm, 41, rfl⟩
abbrev main_call2_cst : Ref sig .tc := ⟨.hbm, 42, rfl⟩
abbrev main_call2_v0 : Ref sig .tc := ⟨.hbm, 43, rfl⟩
abbrev main_v17 : Ref sig .tc := ⟨.hbm, 44, rfl⟩
abbrev main_v18 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩

abbrev nD : Nat := 1
abbrev τ : Topo := Topo.v7x

variable {F : FTy → Type} [FloatOps F]
-- ==== KernelKeys.lean ====
abbrev S16x2048x2048 : Shape := ⟨3, ![16, 2048, 2048]⟩
abbrev S2048x14336 : Shape := ⟨2, ![2048, 14336]⟩
abbrev S32768x2048 : Shape := ⟨2, ![32768, 2048]⟩
abbrev S512x2048 : Shape := ⟨2, ![512, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x2048, .bf16⟩
  | .hbm, ⟨3, _⟩ => ⟨S32768x2048, .bf16⟩
  | .hbm, ⟨4, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S2048x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceKeysIdeal.lean ====
abbrev S16x2048x2048 : Shape := ⟨3, ![16, 2048, 2048]⟩
abbrev S2048x14336 : Shape := ⟨2, ![2048, 14336]⟩
abbrev S16x2048x14336 : Shape := ⟨3, ![16, 2048, 14336]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x14336, .f32⟩
  | .hbm, ⟨3, _⟩ => ⟨S16x2048x2048, .f32⟩
  | .hbm, ⟨4, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelValues.lean ====
abbrev S16x2048x2048 : Shape := ⟨3, ![16, 2048, 2048]⟩
abbrev S2048x14336 : Shape := ⟨2, ![2048, 14336]⟩
abbrev S32768x2048 : Shape := ⟨2, ![32768, 2048]⟩
abbrev S512x2048 : Shape := ⟨2, ![512, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x2048, .bf16⟩
  | .hbm, ⟨3, _⟩ => ⟨S32768x2048, .bf16⟩
  | .hbm, ⟨4, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S2048x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceValuesIdeal.lean ====
abbrev S16x2048x2048 : Shape := ⟨3, ![16, 2048, 2048]⟩
abbrev S2048x14336 : Shape := ⟨2, ![2048, 14336]⟩
abbrev S16x2048x14336 : Shape := ⟨3, ![16, 2048, 14336]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x14336, .f32⟩
  | .hbm, ⟨3, _⟩ => ⟨S16x2048x2048, .f32⟩
  | .hbm, ⟨4, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelLru.lean ====
abbrev S16x2048x2048 : Shape := ⟨3, ![16, 2048, 2048]⟩
abbrev S2048x14336 : Shape := ⟨2, ![2048, 14336]⟩
abbrev S32768x2048 : Shape := ⟨2, ![32768, 2048]⟩
abbrev S1024x2048 : Shape := ⟨2, ![1024, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x2048, .bf16⟩
  | .hbm, ⟨3, _⟩ => ⟨S32768x2048, .bf16⟩
  | .hbm, ⟨4, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .f32⟩
  | .local _ .vmem, ⟨3, _⟩ => ⟨S1024x2048, .bf16⟩
  | .local _ .vmem, ⟨4, _⟩ => ⟨S1024x2048, .bf16⟩
  | .local _ .vmem, ⟨5, _⟩ => ⟨S2048x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceLruIdeal.lean ====
abbrev S16x2048x2048 : Shape := ⟨3, ![16, 2048, 2048]⟩
abbrev S2048x14336 : Shape := ⟨2, ![2048, 14336]⟩
abbrev S16x2048x14336 : Shape := ⟨3, ![16, 2048, 14336]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x14336, .f32⟩
  | .hbm, ⟨3, _⟩ => ⟨S16x2048x2048, .f32⟩
  | .hbm, ⟨4, _⟩ => ⟨S16x2048x2048, .bf16⟩
  | .hbm, ⟨5, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelGelu.lean ====
abbrev S16x2048x2048 : Shape := ⟨3, ![16, 2048, 2048]⟩
abbrev S2048x14336 : Shape := ⟨2, ![2048, 14336]⟩
abbrev S32768x2048 : Shape := ⟨2, ![32768, 2048]⟩
abbrev S1024x2048 : Shape := ⟨2, ![1024, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x2048, .bf16⟩
  | .hbm, ⟨3, _⟩ => ⟨S32768x2048, .bf16⟩
  | .hbm, ⟨4, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .f32⟩
  | .local _ .vmem, ⟨3, _⟩ => ⟨S1024x2048, .bf16⟩
  | .local _ .vmem, ⟨4, _⟩ => ⟨S1024x2048, .bf16⟩
  | .local _ .vmem, ⟨5, _⟩ => ⟨S2048x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceGeluIdeal.lean ====
abbrev S16x2048x2048 : Shape := ⟨3, ![16, 2048, 2048]⟩
abbrev S2048x14336 : Shape := ⟨2, ![2048, 14336]⟩
abbrev S16x2048x14336 : Shape := ⟨3, ![16, 2048, 14336]⟩
abbrev S_ : Shape := ⟨0, ![]⟩
abbrev S32768x2048 : Shape := ⟨2, ![32768, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x14336, .f32⟩
  | .hbm, ⟨3, _⟩ => ⟨S16x2048x2048, .f32⟩
  | .hbm, ⟨4, _⟩ => ⟨S16x2048x2048, .f32⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S_, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .bf16⟩
  | .hbm, ⟨22, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelGate.lean ====
abbrev S16x2048x2048 : Shape := ⟨3, ![16, 2048, 2048]⟩
abbrev S2048x14336 : Shape := ⟨2, ![2048, 14336]⟩
abbrev S32768x2048 : Shape := ⟨2, ![32768, 2048]⟩
abbrev S1024x2048 : Shape := ⟨2, ![1024, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x2048, .bf16⟩
  | .hbm, ⟨3, _⟩ => ⟨S32768x2048, .bf16⟩
  | .hbm, ⟨4, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .f32⟩
  | .local _ .vmem, ⟨3, _⟩ => ⟨S1024x2048, .bf16⟩
  | .local _ .vmem, ⟨4, _⟩ => ⟨S1024x2048, .bf16⟩
  | .local _ .vmem, ⟨5, _⟩ => ⟨S2048x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceGateIdeal.lean ====
abbrev S16x2048x2048 : Shape := ⟨3, ![16, 2048, 2048]⟩
abbrev S2048x14336 : Shape := ⟨2, ![2048, 14336]⟩
abbrev S16x2048x14336 : Shape := ⟨3, ![16, 2048, 14336]⟩
abbrev S_ : Shape := ⟨0, ![]⟩
abbrev S32768x2048 : Shape := ⟨2, ![32768, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x14336, .f32⟩
  | .hbm, ⟨3, _⟩ => ⟨S16x2048x2048, .f32⟩
  | .hbm, ⟨4, _⟩ => ⟨S16x2048x2048, .f32⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S16x2048x2048, .bf16⟩
  | .hbm, ⟨13, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelMix.lean ====
abbrev S16x2048x2048 : Shape := ⟨3, ![16, 2048, 2048]⟩
abbrev S2048x14336 : Shape := ⟨2, ![2048, 14336]⟩
abbrev S32768x2048 : Shape := ⟨2, ![32768, 2048]⟩
abbrev S1024x2048 : Shape := ⟨2, ![1024, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x2048, .bf16⟩
  | .hbm, ⟨3, _⟩ => ⟨S32768x2048, .bf16⟩
  | .hbm, ⟨4, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .f32⟩
  | .local _ .vmem, ⟨3, _⟩ => ⟨S1024x2048, .bf16⟩
  | .local _ .vmem, ⟨4, _⟩ => ⟨S1024x2048, .bf16⟩
  | .local _ .vmem, ⟨5, _⟩ => ⟨S2048x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceMixIdeal.lean ====
abbrev S16x2048x2048 : Shape := ⟨3, ![16, 2048, 2048]⟩
abbrev S2048x14336 : Shape := ⟨2, ![2048, 14336]⟩
abbrev S16x2048x14336 : Shape := ⟨3, ![16, 2048, 14336]⟩
abbrev S_ : Shape := ⟨0, ![]⟩
abbrev S32768x2048 : Shape := ⟨2, ![32768, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x14336, .f32⟩
  | .hbm, ⟨3, _⟩ => ⟨S16x2048x2048, .f32⟩
  | .hbm, ⟨4, _⟩ => ⟨S16x2048x2048, .f32⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048x2048, .f32⟩
  | .hbm, ⟨11, _⟩ => ⟨S16x2048x2048, .f32⟩
  | .hbm, ⟨12, _⟩ => ⟨S16x2048x2048, .bf16⟩
  | .hbm, ⟨13, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelQuery.lean ====
abbrev S16x2048x2048 : Shape := ⟨3, ![16, 2048, 2048]⟩
abbrev S2048x14336 : Shape := ⟨2, ![2048, 14336]⟩
abbrev S32768x2048 : Shape := ⟨2, ![32768, 2048]⟩
abbrev S1024x2048 : Shape := ⟨2, ![1024, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x2048, .bf16⟩
  | .hbm, ⟨3, _⟩ => ⟨S32768x2048, .bf16⟩
  | .hbm, ⟨4, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .f32⟩
  | .local _ .vmem, ⟨3, _⟩ => ⟨S1024x2048, .bf16⟩
  | .local _ .vmem, ⟨4, _⟩ => ⟨S1024x2048, .bf16⟩
  | .local _ .vmem, ⟨5, _⟩ => ⟨S2048x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelQueryIdeal.lean ====
variable {F : FTy → Type} [FloatOps F] [Named F]
def κ : String → Option EReal := fun
  | "query_scale" => some ((((Real.sqrt 128) * (Real.log 2))⁻¹ : ℝ) : EReal)
  | _ => none
-- ==== ReferenceQueryIdeal.lean ====
abbrev S16x2048x2048 : Shape := ⟨3, ![16, 2048, 2048]⟩
abbrev S2048x14336 : Shape := ⟨2, ![2048, 14336]⟩
abbrev S16x2048x14336 : Shape := ⟨3, ![16, 2048, 14336]⟩
abbrev S_ : Shape := ⟨0, ![]⟩
abbrev S32768x2048 : Shape := ⟨2, ![32768, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x14336, .f32⟩
  | .hbm, ⟨2, _⟩ => ⟨S16x2048x14336, .f32⟩
  | .hbm, ⟨3, _⟩ => ⟨S16x2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x2048x2048, .f32⟩
  | .hbm, ⟨10, _⟩ => ⟨S16x2048x2048, .f32⟩
  | .hbm, ⟨11, _⟩ => ⟨S16x2048x2048, .bf16⟩
  | .hbm, ⟨12, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelNorm.lean ====
abbrev S16x2048x2048 : Shape := ⟨3, ![16, 2048, 2048]⟩
abbrev S16x6x2048 : Shape := ⟨3, ![16, 6, 2048]⟩
abbrev S2048 : Shape := ⟨1, ![2048]⟩
abbrev S1x2048 : Shape := ⟨2, ![1, 2048]⟩
abbrev S32768x2048 : Shape := ⟨2, ![32768, 2048]⟩
abbrev S16x16x2048 : Shape := ⟨3, ![16, 16, 2048]⟩
abbrev S256x2048 : Shape := ⟨2, ![256, 2048]⟩
abbrev S16x16 : Shape := ⟨2, ![16, 16]⟩
abbrev S16x16x1 : Shape := ⟨3, ![16, 16, 1]⟩
abbrev S1x1x2048 : Shape := ⟨3, ![1, 1, 2048]⟩
abbrev S16x1x2048 : Shape := ⟨3, ![16, 1, 2048]⟩
abbrev S256x256 : Shape := ⟨2, ![256, 256]⟩

abbrev nBuf : Space → Nat
  | .hbm => 6
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S16x6x2048, .f32⟩
  | .hbm, ⟨2, _⟩ => ⟨S2048, .f32⟩
  | .hbm, ⟨3, _⟩ => ⟨S1x2048, .f32⟩
  | .hbm, ⟨4, _⟩ => ⟨S16x2048x2048, .bf16⟩
  | .hbm, ⟨5, _⟩ => ⟨S32768x2048, .bf16⟩
  | .local _ .vmem, ⟨0, _⟩ => ⟨S16x16x2048, .f32⟩
  | .local _ .vmem, ⟨1, _⟩ => ⟨S16x16x2048, .f32⟩
  | .local _ .vmem, ⟨2, _⟩ => ⟨S16x6x2048, .f32⟩
  | .local _ .vmem, ⟨3, _⟩ => ⟨S1x2048, .f32⟩
  | .local _ .vmem, ⟨4, _⟩ => ⟨S16x16x2048, .bf16⟩
  | .local _ .vmem, ⟨5, _⟩ => ⟨S16x16x2048, .bf16⟩
  | .local _ .vmem, ⟨6, _⟩ => ⟨S256x2048, .bf16⟩
  | .local _ .vmem, ⟨7, _⟩ => ⟨S256x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x6x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S16x2048x2048 : Shape := ⟨3, ![16, 2048, 2048]⟩
abbrev S16x6x2048 : Shape := ⟨3, ![16, 6, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x1x2048 : Shape := ⟨3, ![16, 1, 2048]⟩
abbrev S2048x16x2048 : Shape := ⟨3, ![2048, 16, 2048]⟩
abbrev S32768x2048 : Shape := ⟨2, ![32768, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x6x2048, .f32⟩
  | .hbm, ⟨2, _⟩ => ⟨S2048, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S16x1x2048, .f32⟩
  | .hbm, ⟨20, _⟩ => ⟨S_, .f32⟩
  | .hbm, ⟨21, _⟩ => ⟨S16x1x2048, .f32⟩
  | .hbm, ⟨22, _⟩ => ⟨S16x1x2048, .f32⟩
  | .hbm, ⟨23, _⟩ => ⟨S16x2048x2048, .f32⟩
  | .hbm, ⟨24, _⟩ => ⟨S16x2048x2048, .f32⟩
  | .hbm, ⟨25, _⟩ => ⟨S16x1x2048, .f32⟩
  | .hbm, ⟨26, _⟩ => ⟨S16x2048x2048, .f32⟩
  | .hbm, ⟨27, _⟩ => ⟨S16x2048x2048, .f32⟩
  | .hbm, ⟨28, _⟩ => ⟨S16x2048x2048, .bf16⟩
  | .hbm, ⟨29, _⟩ => ⟨S2048x16x2048, .bf16⟩
  | .hbm, ⟨30, _⟩ => ⟨S32768x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== KernelKeysSample.lean ====
abbrev S16x16x2048 : Shape := ⟨3, ![16, 16, 2048]⟩
abbrev S2048x14336 : Shape := ⟨2, ![2048, 14336]⟩
abbrev S256x2048 : Shape := ⟨2, ![256, 2048]⟩
abbrev S2048x2048 : Shape := ⟨2, ![2048, 2048]⟩

abbrev nBuf : Space → Nat
  | .hbm => 5
  | .vmem => 4
  | .smem => 0
  | _ => 0

abbrev bufTy : (tb : Table) → Fin (tcTables nBuf tb) → BufTy
  | .hbm, ⟨0, _⟩ => ⟨S16x16x2048, .f32⟩
  | .hbm, ⟨1, _⟩ => ⟨S2048x14336, .f32⟩
  | .hbm, ⟨2, _⟩ => ⟨S16x16x2048, .bf16⟩
  | .hbm, ⟨3, _⟩ => ⟨S256x2048, .bf16⟩
  | .hbm, ⟨4, _⟩ => ⟨S256x2048, .f32⟩
  | .local _ .vmem, ⟨0, _⟩ => ⟨S256x2048, .bf16⟩
  | .local _ .vmem, ⟨1, _⟩ => ⟨S2048x2048, .f32⟩
  | .local _ .vmem, ⟨2, _⟩ => ⟨S256x2048, .f32⟩
  | .local _ .vmem, ⟨3, _⟩ => ⟨S2048x2048, .bf16⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceKeysSampleIdeal.lean ====
abbrev S16x16x2048 : Shape := ⟨3, ![16, 16, 2048]⟩
abbrev S2048x14336 : Shape := ⟨2, ![2048, 14336]⟩
abbrev S16x16x14336 : Shape := ⟨3, ![16, 16, 14336]⟩
abbrev S256x2048 : Shape := ⟨2, ![256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S2048x14336, .f32⟩
  | .hbm, ⟨2, _⟩ => ⟨S16x16x14336, .f32⟩
  | .hbm, ⟨3, _⟩ => ⟨S16x16x2048, .f32⟩
  | .hbm, ⟨4, _⟩ => ⟨S256x2048, .f32⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelValuesSample.lean ====
abbrev S16x16x2048 : Shape := ⟨3, ![16, 16, 2048]⟩
abbrev S2048x14336 : Shape := ⟨2, ![2048, 14336]⟩
abbrev S256x2048 : Shape := ⟨2, ![256, 2048]⟩
abbrev S2048x2048 : Shape := ⟨2, ![2048, 2048]⟩

abbrev nBuf : Space → Nat
  | .hbm => 5
  | .vmem => 4
  | .smem => 0
  | _ => 0

abbrev bufTy : (tb : Table) → Fin (tcTables nBuf tb) → BufTy
  | .hbm, ⟨0, _⟩ => ⟨S16x16x2048, .f32⟩
  | .hbm, ⟨1, _⟩ => ⟨S2048x14336, .f32⟩
  | .hbm, ⟨2, _⟩ => ⟨S16x16x2048, .bf16⟩
  | .hbm, ⟨3, _⟩ => ⟨S256x2048, .bf16⟩
  | .hbm, ⟨4, _⟩ => ⟨S256x2048, .f32⟩
  | .local _ .vmem, ⟨0, _⟩ => ⟨S256x2048, .bf16⟩
  | .local _ .vmem, ⟨1, _⟩ => ⟨S2048x2048, .f32⟩
  | .local _ .vmem, ⟨2, _⟩ => ⟨S256x2048, .f32⟩
  | .local _ .vmem, ⟨3, _⟩ => ⟨S2048x2048, .bf16⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ReferenceValuesSampleIdeal.lean ====
abbrev S16x16x2048 : Shape := ⟨3, ![16, 16, 2048]⟩
abbrev S2048x14336 : Shape := ⟨2, ![2048, 14336]⟩
abbrev S16x16x14336 : Shape := ⟨3, ![16, 16, 14336]⟩
abbrev S256x2048 : Shape := ⟨2, ![256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S2048x14336, .f32⟩
  | .hbm, ⟨2, _⟩ => ⟨S16x16x14336, .f32⟩
  | .hbm, ⟨3, _⟩ => ⟨S16x16x2048, .f32⟩
  | .hbm, ⟨4, _⟩ => ⟨S256x2048, .f32⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelRecSample.lean ====
abbrev S16x16x2048 : Shape := ⟨3, ![16, 16, 2048]⟩
abbrev S4x2048 : Shape := ⟨2, ![4, 2048]⟩
abbrev S2048 : Shape := ⟨1, ![2048]⟩
abbrev S8x256x256 : Shape := ⟨3, ![8, 256, 256]⟩
abbrev S8x256 : Shape := ⟨2, ![8, 256]⟩
abbrev S16x2048 : Shape := ⟨2, ![16, 2048]⟩
abbrev S16x3x2048 : Shape := ⟨3, ![16, 3, 2048]⟩
abbrev S3x16x2048 : Shape := ⟨3, ![3, 16, 2048]⟩
abbrev S1x2048 : Shape := ⟨2, ![1, 2048]⟩
abbrev S8x1x256 : Shape := ⟨3, ![8, 1, 256]⟩
abbrev S16x16x256 : Shape := ⟨3, ![16, 16, 256]⟩
abbrev S4x256 : Shape := ⟨2, ![4, 256]⟩
abbrev S1x256 : Shape := ⟨2, ![1, 256]⟩
abbrev S1x256x256 : Shape := ⟨3, ![1, 256, 256]⟩
abbrev S1x1x256 : Shape := ⟨3, ![1, 1, 256]⟩
abbrev S16x256 : Shape := ⟨2, ![16, 256]⟩
abbrev S3x16x256 : Shape := ⟨3, ![3, 16, 256]⟩
abbrev S19x16x256 : Shape := ⟨3, ![19, 16, 256]⟩
abbrev S256x256 : Shape := ⟨2, ![256, 256]⟩
abbrev S1x16x256 : Shape := ⟨3, ![1, 16, 256]⟩

abbrev nBuf : Space → Nat
  | .hbm => 26
  | .vmem => 35
  | .smem => 0
  | _ => 0

abbrev bufTy : (tb : Table) → Fin (tcTables nBuf tb) → BufTy
  | .hbm, ⟨0, _⟩ => ⟨S16x16x2048, .f32⟩
  | .hbm, ⟨1, _⟩ => ⟨S16x16x2048, .f32⟩
  | .hbm, ⟨2, _⟩ => ⟨S16x16x2048, .f32⟩
  | .hbm, ⟨3, _⟩ => ⟨S4x2048, .f32⟩
  | .hbm, ⟨4, _⟩ => ⟨S2048, .f32⟩
  | .hbm, ⟨5, _⟩ => ⟨S8x256x256, .f32⟩
  | .hbm, ⟨6, _⟩ => ⟨S8x256, .f32⟩
  | .hbm, ⟨7, _⟩ => ⟨S8x256x256, .f32⟩
  | .hbm, ⟨8, _⟩ => ⟨S8x256, .f32⟩
  | .hbm, ⟨9, _⟩ => ⟨S2048, .f32⟩
  | .hbm, ⟨10, _⟩ => ⟨S16x2048, .f32⟩
  | .hbm, ⟨11, _⟩ => ⟨S16x3x2048, .f32⟩
  | .hbm, ⟨12, _⟩ => ⟨S16x16x2048, .bf16⟩
  | .hbm, ⟨13, _⟩ => ⟨S16x16x2048, .bf16⟩
  | .hbm, ⟨14, _⟩ => ⟨S16x16x2048, .bf16⟩
  | .hbm, ⟨15, _⟩ => ⟨S8x256x256, .bf16⟩
  | .hbm, ⟨16, _⟩ => ⟨S8x256x256, .bf16⟩
  | .hbm, ⟨17, _⟩ => ⟨S3x16x2048, .f32⟩
  | .hbm, ⟨18, _⟩ => ⟨S1x2048, .f32⟩
  | .hbm, ⟨19, _⟩ => ⟨S8x1x256, .f32⟩
  | .hbm, ⟨20, _⟩ => ⟨S8x1x256, .f32⟩
  | .hbm, ⟨21, _⟩ => ⟨S1x2048, .f32⟩
  | .hbm, ⟨22, _⟩ => ⟨S16x16x2048, .bf16⟩
  | .hbm, ⟨23, _⟩ => ⟨S16x2048, .f32⟩
  | .hbm, ⟨24, _⟩ => ⟨S3x16x2048, .f32⟩
  | .hbm, ⟨25, _⟩ => ⟨S16x3x2048, .f32⟩
  | .local _ .vmem, ⟨0, _⟩ => ⟨S16x16x256, .bf16⟩
  | .local _ .vmem, ⟨1, _⟩ => ⟨S16x16x256, .bf16⟩
  | .local _ .vmem, ⟨2, _⟩ => ⟨S16x16x256, .bf16⟩
  | .local _ .vmem, ⟨3, _⟩ => ⟨S16x16x256, .bf16⟩
  | .local _ .vmem, ⟨4, _⟩ => ⟨S16x16x256, .bf16⟩
  | .local _ .vmem, ⟨5, _⟩ => ⟨S16x16x256, .bf16⟩
  | .local _ .vmem, ⟨6, _⟩ => ⟨S4x256, .f32⟩
  | .local _ .vmem, ⟨7, _⟩ => ⟨S4x256, .f32⟩
  | .local _ .vmem, ⟨8, _⟩ => ⟨S1x256, .f32⟩
  | .local _ .vmem, ⟨9, _⟩ => ⟨S1x256, .f32⟩
  | .local _ .vmem, ⟨10, _⟩ => ⟨S1x256x256, .bf16⟩
  | .local _ .vmem, ⟨11, _⟩ => ⟨S1x256x256, .bf16⟩
  | .local _ .vmem, ⟨12, _⟩ => ⟨S1x1x256, .f32⟩
  | .local _ .vmem, ⟨13, _⟩ => ⟨S1x1x256, .f32⟩
  | .local _ .vmem, ⟨14, _⟩ => ⟨S1x256x256, .bf16⟩
  | .local _ .vmem, ⟨15, _⟩ => ⟨S1x256x256, .bf16⟩
  | .local _ .vmem, ⟨16, _⟩ => ⟨S1x1x256, .f32⟩
  | .local _ .vmem, ⟨17, _⟩ => ⟨S1x1x256, .f32⟩
  | .local _ .vmem, ⟨18, _⟩ => ⟨S1x256, .f32⟩
  | .local _ .vmem, ⟨19, _⟩ => ⟨S1x256, .f32⟩
  | .local _ .vmem, ⟨20, _⟩ => ⟨S16x256, .f32⟩
  | .local _ .vmem, ⟨21, _⟩ => ⟨S16x256, .f32⟩
  | .local _ .vmem, ⟨22, _⟩ => ⟨S3x16x256, .f32⟩
  | .local _ .vmem, ⟨23, _⟩ => ⟨S3x16x256, .f32⟩
  | .local _ .vmem, ⟨24, _⟩ => ⟨S16x16x256, .bf16⟩
  | .local _ .vmem, ⟨25, _⟩ => ⟨S16x16x256, .bf16⟩
  | .local _ .vmem, ⟨26, _⟩ => ⟨S16x256, .f32⟩
  | .local _ .vmem, ⟨27, _⟩ => ⟨S16x256, .f32⟩
  | .local _ .vmem, ⟨28, _⟩ => ⟨S3x16x256, .f32⟩
  | .local _ .vmem, ⟨29, _⟩ => ⟨S3x16x256, .f32⟩
  | .local _ .vmem, ⟨30, _⟩ => ⟨S3x16x256, .f32⟩
  | .local _ .vmem, ⟨31, _⟩ => ⟨S16x256, .f32⟩
  | .local _ .vmem, ⟨32, _⟩ => ⟨S16x16x256, .f32⟩
  | .local _ .vmem, ⟨33, _⟩ => ⟨S16x16x256, .f32⟩
  | .local _ .vmem, ⟨34, _⟩ => ⟨S16x16x256, .f32⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_47 : BitVec 32 := 0#32
  let c16_i32 : BitVec 32 := 16#32
  let v107 : BitVec 32 := Scalar.addi c0_i32_47 c16_i32
  let c1_i32 : BitVec 32 := 1#32
  ⟨c0_i32_47, v107, c1_i32⟩
def k0_off1 (k0_t1 : Fin k0_t1_loop.trips) : Fin 3 → Nat :=
  let c0_i32_47 : BitVec 32 := 0#32
  let c1_i32 : BitVec 32 := 1#32
  let arg22 : BitVec 32 := Scf.iv c0_i32_47 c1_i32 k0_t1
  let v208 : Index := Scalar.indexCast arg22
  let c0_86 : Index := 0#32
  let c0_87 : Index := 0#32
  ![v208.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x16x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S3x16x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceRecSampleIdeal.lean ====
abbrev S16x16x2048 : Shape := ⟨3, ![16, 16, 2048]⟩
abbrev S4x2048 : Shape := ⟨2, ![4, 2048]⟩
abbrev S2048 : Shape := ⟨1, ![2048]⟩
abbrev S8x256x256 : Shape := ⟨3, ![8, 256, 256]⟩
abbrev S8x256 : Shape := ⟨2, ![8, 256]⟩
abbrev S16x2048 : Shape := ⟨2, ![16, 2048]⟩
abbrev S16x3x2048 : Shape := ⟨3, ![16, 3, 2048]⟩
abbrev S16x19x2048 : Shape := ⟨3, ![16, 19, 2048]⟩
abbrev S1x2048 : Shape := ⟨2, ![1, 2048]⟩
abbrev S1x1x2048 : Shape := ⟨3, ![1, 1, 2048]⟩
abbrev S16x16x8x256 : Shape := ⟨4, ![16, 16, 8, 256]⟩
abbrev S8x256x16x16 : Shape := ⟨4, ![8, 256, 16, 16]⟩
abbrev S1x1x8x256 : Shape := ⟨4, ![1, 1, 8, 256]⟩
abbrev S_ : Shape := ⟨0, ![]⟩
abbrev S16x1x2048 : Shape := ⟨3, ![16, 1, 2048]⟩

abbrev nBuf : Space → Nat
  | .hbm => 221
  | .vmem => 0
  | .smem => 0
  | _ => 0

abbrev hbmTy0_0 (i : Nat) : BufTy := match i % 128 with
  | 0 => ⟨S16x16x2048, .f32⟩
  | 1 => ⟨S16x16x2048, .f32⟩
  | 2 => ⟨S16x16x2048, .f32⟩
  | 3 => ⟨S4x2048, .f32⟩
  | 4 => ⟨S2048, .f32⟩
  | 5 => ⟨S8x256x256, .f32⟩
  | 6 => ⟨S8x256, .f32⟩
  | 7 => ⟨S8x256x256, .f32⟩
  | 8 => ⟨S8x256, .f32⟩
  | 9 => ⟨S2048, .f32⟩
  | 10 => ⟨S16x2048, .f32⟩
  | 11 => ⟨S16x3x2048, .f32⟩
  | 12 => ⟨S16x16x2048, .f32⟩
  | 13 => ⟨S16x19x2048, .f32⟩
  | 14 => ⟨S16x16x2048, .f32⟩
  | 15 => ⟨S1x2048, .f32⟩
  | 16 => ⟨S2048, .f32⟩
  | 17 => ⟨S1x1x2048, .f32⟩
  | 18 => ⟨S16x16x2048, .f32⟩
  | 19 => ⟨S16x16x2048, .f32⟩
  | 20 => ⟨S1x1x2048, .f32⟩
  | 21 => ⟨S16x16x2048, .f32⟩
  | 22 => ⟨S16x16x2048, .f32⟩
  | 23 => ⟨S16x16x2048, .f32⟩
  | 24 => ⟨S1x2048, .f32⟩
  | 25 => ⟨S2048, .f32⟩
  | 26 => ⟨S1x1x2048, .f32⟩
  | 27 => ⟨S16x16x2048, .f32⟩
  | 28 => ⟨S16x16x2048, .f32⟩
  | 29 => ⟨S16x16x2048, .f32⟩
  | 30 => ⟨S16x16x2048, .f32⟩
  | 31 => ⟨S1x2048, .f32⟩
  | 32 => ⟨S2048, .f32⟩
  | 33 => ⟨S1x1x2048, .f32⟩
  | 34 => ⟨S16x16x2048, .f32⟩
  | 35 => ⟨S16x16x2048, .f32⟩
  | 36 => ⟨S16x16x2048, .f32⟩
  | 37 => ⟨S16x16x2048, .f32⟩
  | 38 => ⟨S1x2048, .f32⟩
  | 39 => ⟨S2048, .f32⟩
  | 40 => ⟨S1x1x2048, .f32⟩
  | 41 => ⟨S16x16x2048, .f32⟩
  | 42 => ⟨S16x16x2048, .f32⟩
  | 43 => ⟨S16x16x2048, .f32⟩
  | 44 => ⟨S16x16x8x256, .f32⟩
  | 45 => ⟨S8x256x16x16, .f32⟩
  | 46 => ⟨S16x16x8x256, .f32⟩
  | 47 => ⟨S1x1x8x256, .f32⟩
  | 48 => ⟨S16x16x8x256, .f32⟩
  | 49 => ⟨S16x16x8x256, .f32⟩
  | 50 => ⟨S16x16x8x256, .f32⟩
  | 51 => ⟨S16x16x8x256, .f32⟩
  | 52 => ⟨S_, .f32⟩
  | 53 => ⟨S16x16x8x256, .f32⟩
  | 54 => ⟨S16x16x8x256, .f32⟩
  | 55 => ⟨S_, .f32⟩
  | 56 => ⟨S16x16x8x256, .f32⟩
  | 57 => ⟨S16x16x8x256, .f32⟩
  | 58 => ⟨S16x16x2048, .f32⟩
  | 59 => ⟨S8x256x16x16, .f32⟩
  | 60 => ⟨S16x16x8x256, .f32⟩
  | 61 => ⟨S1x1x8x256, .f32⟩
  | 62 => ⟨S16x16x8x256, .f32⟩
  | 63 => ⟨S16x16x8x256, .f32⟩
  | 64 => ⟨S16x16x8x256, .f32⟩
  | 65 => ⟨S16x16x8x256, .f32⟩
  | 66 => ⟨S_, .f32⟩
  | 67 => ⟨S16x16x8x256, .f32⟩
  | 68 => ⟨S16x16x8x256, .f32⟩
  | 69 => ⟨S_, .f32⟩
  | 70 => ⟨S16x16x8x256, .f32⟩
  | 71 => ⟨S16x16x8x256, .f32⟩
  | 72 => ⟨S16x16x2048, .f32⟩
  | 73 => ⟨S_, .f32⟩
  | 74 => ⟨S16x16x2048, .f32⟩
  | 75 => ⟨S16x16x2048, .f32⟩
  | 76 => ⟨S2048, .f32⟩
  | 77 => ⟨S_, .f32⟩
  | 78 => ⟨S2048, .f32⟩
  | 79 => ⟨S2048, .f32⟩
  | 80 => ⟨S2048, .f32⟩
  | 81 => ⟨S2048, .f32⟩
  | 82 => ⟨S2048, .i1⟩
  | 83 => ⟨S2048, .f32⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S1x1x2048, .f32⟩
  | 92 => ⟨S16x16x2048, .f32⟩
  | 93 => ⟨S16x16x2048, .f32⟩
  | 94 => ⟨S16x16x2048, .f32⟩
  | 95 => ⟨S_, .f32⟩
  | 96 => ⟨S16x16x2048, .f32⟩
  | 97 => ⟨S16x16x2048, .f32⟩
  | 98 => ⟨S16x16x2048, .f32⟩
  | 99 => ⟨S16x16x2048, .f32⟩
  | 100 => ⟨S16x16x2048, .f32⟩
  | 101 => ⟨S16x16x2048, .f32⟩
  | 102 => ⟨S16x16x2048, .f32⟩
  | 103 => ⟨S16x1x2048, .f32⟩
  | 104 => ⟨S16x2048, .f32⟩
  | 105 => ⟨S16x2048, .f32⟩
  | 106 => ⟨S16x1x2048, .f32⟩
  | 107 => ⟨S16x2048, .f32⟩
  | 108 => ⟨S16x2048, .f32⟩
  | 109 => ⟨S16x1x2048, .f32⟩
  | 110 => ⟨S16x2048, .f32⟩
  | 111 => ⟨S16x2048, .f32⟩
  | 112 => ⟨S16x1x2048, .f32⟩
  | 113 => ⟨S16x2048, .f32⟩
  | 114 => ⟨S16x2048, .f32⟩
  | 115 => ⟨S16x1x2048, .f32⟩
  | 116 => ⟨S16x2048, .f32⟩
  | 117 => ⟨S16x2048, .f32⟩
  | 118 => ⟨S16x1x2048, .f32⟩
  | 119 => ⟨S16x2048, .f32⟩
  | 120 => ⟨S16x2048, .f32⟩
  | 121 => ⟨S16x1x2048, .f32⟩
  | 122 => ⟨S16x2048, .f32⟩
  | 123 => ⟨S16x2048, .f32⟩
  | 124 => ⟨S16x1x2048, .f32⟩
  | 125 => ⟨S16x2048, .f32⟩
  | 126 => ⟨S16x2048, .f32⟩
  | 127 => ⟨S16x1x2048, .f32⟩
  | _ => ⟨S16x16x2048, .f32⟩

abbrev hbmTy0_1 (i : Nat) : BufTy := match i % 128 with
  | 0 => ⟨S16x2048, .f32⟩
  | 1 => ⟨S16x2048, .f32⟩
  | 2 => ⟨S16x1x2048, .f32⟩
  | 3 => ⟨S16x2048, .f32⟩
  | 4 => ⟨S16x2048, .f32⟩
  | 5 => ⟨S16x1x2048, .f32⟩
  | 6 => ⟨S16x2048, .f32⟩
  | 7 => ⟨S16x2048, .f32⟩
  | 8 => ⟨S16x1x2048, .f32⟩
  | 9 => ⟨S16x2048, .f32⟩
  | 10 => ⟨S16x2048, .f32⟩
  | 11 => ⟨S16x1x2048, .f32⟩
  | 12 => ⟨S16x2048, .f32⟩
  | 13 => ⟨S16x2048, .f32⟩
  | 14 => ⟨S16x1x2048, .f32⟩
  | 15 => ⟨S16x2048, .f32⟩
  | 16 => ⟨S16x2048, .f32⟩
  | 17 => ⟨S16x1x2048, .f32⟩
  | 18 => ⟨S16x2048, .f32⟩
  | 19 => ⟨S16x2048, .f32⟩
  | 20 => ⟨S16x1x2048, .f32⟩
  | 21 => ⟨S16x2048, .f32⟩
  | 22 => ⟨S16x2048, .f32⟩
  | 23 => ⟨S16x1x2048, .f32⟩
  | 24 => ⟨S16x2048, .f32⟩
  | 25 => ⟨S16x2048, .f32⟩
  | 26 => ⟨S16x1x2048, .f32⟩
  | 27 => ⟨S16x2048, .f32⟩
  | 28 => ⟨S16x2048, .f32⟩
  | 29 => ⟨S16x1x2048, .f32⟩
  | 30 => ⟨S16x2048, .f32⟩
  | 31 => ⟨S16x2048, .f32⟩
  | 32 => ⟨S16x1x2048, .f32⟩
  | 33 => ⟨S16x2048, .f32⟩
  | 34 => ⟨S16x2048, .f32⟩
  | 35 => ⟨S16x1x2048, .f32⟩
  | 36 => ⟨S16x2048, .f32⟩
  | 37 => ⟨S16x2048, .f32⟩
  | 38 => ⟨S16x1x2048, .f32⟩
  | 39 => ⟨S16x2048, .f32⟩
  | 40 => ⟨S16x2048, .f32⟩
  | 41 => ⟨S16x1x2048, .f32⟩
  | 42 => ⟨S16x2048, .f32⟩
  | 43 => ⟨S16x2048, .f32⟩
  | 44 => ⟨S16x1x2048, .f32⟩
  | 45 => ⟨S16x2048, .f32⟩
  | 46 => ⟨S16x2048, .f32⟩
  | 47 => ⟨S16x1x2048, .f32⟩
  | 48 => ⟨S16x2048, .f32⟩
  | 49 => ⟨S16x2048, .f32⟩
  | 50 => ⟨S16x1x2048, .f32⟩
  | 51 => ⟨S16x2048, .f32⟩
  | 52 => ⟨S16x2048, .f32⟩
  | 53 => ⟨S16x1x2048, .f32⟩
  | 54 => ⟨S16x2048, .f32⟩
  | 55 => ⟨S16x2048, .f32⟩
  | 56 => ⟨S16x1x2048, .f32⟩
  | 57 => ⟨S16x2048, .f32⟩
  | 58 => ⟨S16x2048, .f32⟩
  | 59 => ⟨S16x1x2048, .f32⟩
  | 60 => ⟨S16x2048, .f32⟩
  | 61 => ⟨S16x2048, .f32⟩
  | 62 => ⟨S16x1x2048, .f32⟩
  | 63 => ⟨S16x2048, .f32⟩
  | 64 => ⟨S16x2048, .f32⟩
  | 65 => ⟨S16x1x2048, .f32⟩
  | 66 => ⟨S16x2048, .f32⟩
  | 67 => ⟨S16x2048, .f32⟩
  | 68 => ⟨S16x1x2048, .f32⟩
  | 69 => ⟨S16x2048, .f32⟩
  | 70 => ⟨S16x2048, .f32⟩
  | 71 => ⟨S16x1x2048, .f32⟩
  | 72 => ⟨S16x1x2048, .f32⟩
  | 73 => ⟨S16x1x2048, .f32⟩
  | 74 => ⟨S16x1x2048, .f32⟩
  | 75 => ⟨S16x1x2048, .f32⟩
  | 76 => ⟨S16x1x2048, .f32⟩
  | 77 => ⟨S16x1x2048, .f32⟩
  | 78 => ⟨S16x1x2048, .f32⟩
  | 79 => ⟨S16x1x2048, .f32⟩
  | 80 => ⟨S16x1x2048, .f32⟩
  | 81 => ⟨S16x1x2048, .f32⟩
  | 82 => ⟨S16x1x2048, .f32⟩
  | 83 => ⟨S16x1x2048, .f32⟩
  | 84 => ⟨S16x1x2048, .f32⟩
  | 85 => ⟨S16x1x2048, .f32⟩
  | 86 => ⟨S16x1x2048, .f32⟩
  | 87 => ⟨S16x16x2048, .f32⟩
  | 88 => ⟨S16x16x2048, .f32⟩
  | 89 => ⟨S16x16x2048, .f32⟩
  | 90 => ⟨S16x16x2048, .f32⟩
  | 91 => ⟨S16x16x2048, .bf16⟩
  | 92 => ⟨S16x3x2048, .f32⟩
  | _ => ⟨S16x16x2048, .f32⟩

abbrev hbmTy (i : Nat) : BufTy := match i / 128 with
  | 0 => hbmTy0_0 i
  | 1 => hbmTy0_1 i
  | _ => ⟨S16x16x2048, .f32⟩

abbrev bufTy : (tb : Table) → Fin (tcTables nBuf tb) → BufTy
  | .hbm, ⟨i, _⟩ => hbmTy i
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst : Ref sig .tc := ⟨.hbm, 52, rfl⟩
abbrev main_v40 : Ref sig .tc := ⟨.hbm, 53, rfl⟩
abbrev main_v41 : Ref sig .tc := ⟨.hbm, 54, rfl⟩
abbrev main_cst_0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_1 : Ref sig .tc := ⟨.hbm, 66, rfl⟩
abbrev main_v52 : Ref sig .tc := ⟨.hbm, 67, rfl⟩
abbrev main_v53 : Ref sig .tc := ⟨.hbm, 68, rfl⟩
abbrev main_cst_2 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_v6 : Ref sig .tc := ⟨.hbm, 84, rfl⟩
abbrev main_call0_v7 : Ref sig .tc := ⟨.hbm, 85, rfl⟩
abbrev main_call0_v8 : Ref sig .tc := ⟨.hbm, 86, rfl⟩
abbrev main_call0_v9 : Ref sig .tc := ⟨.hbm, 87, rfl⟩
abbrev main_call0_v10 : Ref sig .tc := ⟨.hbm, 88, rfl⟩
abbrev main_call0_v11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_4 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩

abbrev nD : Nat := 1
abbrev τ : Topo := Topo.v7x

variable {F : FTy → Type} [FloatOps F]
-- ==== KernelAda.lean ====
abbrev S16x2048 : Shape := ⟨2, ![16, 2048]⟩
abbrev S2048x12288 : Shape := ⟨2, ![2048, 12288]⟩
abbrev S12288 : Shape := ⟨1, ![12288]⟩
abbrev S32x2048 : Shape := ⟨2, ![32, 2048]⟩
abbrev S1x12288 : Shape := ⟨2, ![1, 12288]⟩
abbrev S32x12288 : Shape := ⟨2, ![32, 12288]⟩
abbrev S2048x1024 : Shape := ⟨2, ![2048, 1024]⟩
abbrev S1x1024 : Shape := ⟨2, ![1, 1024]⟩
abbrev S32x1024 : Shape := ⟨2, ![32, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S2048x12288, .f32⟩
  | .hbm, ⟨3, _⟩ => ⟨S12288, .f32⟩
  | .hbm, ⟨4, _⟩ => ⟨S32x2048, .f32⟩
  | .hbm, ⟨5, _⟩ => ⟨S1x12288, .f32⟩
  | .hbm, ⟨6, _⟩ => ⟨S32x12288, .f32⟩
  | .local _ .vmem, ⟨0, _⟩ => ⟨S32x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S32x1024, .f32⟩
  | .local _ .vmem, ⟨6, _⟩ => ⟨S32x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceAdaIdeal.lean ====
abbrev S16x2048 : Shape := ⟨2, ![16, 2048]⟩
abbrev S2048x12288 : Shape := ⟨2, ![2048, 12288]⟩
abbrev S12288 : Shape := ⟨1, ![12288]⟩
abbrev S32x2048 : Shape := ⟨2, ![32, 2048]⟩
abbrev S_ : Shape := ⟨0, ![]⟩
abbrev S32x12288 : Shape := ⟨2, ![32, 12288]⟩
abbrev S1x12288 : Shape := ⟨2, ![1, 12288]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2048, .f32⟩
  | .hbm, ⟨2, _⟩ => ⟨S2048x12288, .f32⟩
  | .hbm, ⟨3, _⟩ => ⟨S12288, .f32⟩
  | .hbm, ⟨4, _⟩ => ⟨S32x2048, .f32⟩
  | .hbm, ⟨5, _⟩ => ⟨S32x2048, .f32⟩
  | .hbm, ⟨6, _⟩ => ⟨S32x2048, .f32⟩
  | .hbm, ⟨7, _⟩ => ⟨S_, .f32⟩
  | .hbm, ⟨8, _⟩ => ⟨S32x2048, .f32⟩
  | .hbm, ⟨9, _⟩ => ⟨S32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S32x2048, .f32⟩
  | .hbm, ⟨14, _⟩ => ⟨S32x12288, .f32⟩
  | .hbm, ⟨15, _⟩ => ⟨S1x12288, .f32⟩
  | .hbm, ⟨16, _⟩ => ⟨S32x12288, .f32⟩
  | .hbm, ⟨17, _⟩ => ⟨S32x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== KernelRec.lean ====
abbrev S2048x16x2048 : Shape := ⟨3, ![2048, 16, 2048]⟩
abbrev S4x2048 : Shape := ⟨2, ![4, 2048]⟩
abbrev S2048 : Shape := ⟨1, ![2048]⟩
abbrev S8x256x256 : Shape := ⟨3, ![8, 256, 256]⟩
abbrev S8x256 : Shape := ⟨2, ![8, 256]⟩
abbrev S_ : Shape := ⟨0, ![]⟩
abbrev S16x2048 : Shape := ⟨2, ![16, 2048]⟩
abbrev S3x16x2048 : Shape := ⟨3, ![3, 16, 2048]⟩
abbrev S1x2048 : Shape := ⟨2, ![1, 2048]⟩
abbrev S8x1x256 : Shape := ⟨3, ![8, 1, 256]⟩
abbrev S16x2048x2048 : Shape := ⟨3, ![16, 2048, 2048]⟩
abbrev S128x16x256 : Shape := ⟨3, ![128, 16, 256]⟩
abbrev S4x256 : Shape := ⟨2, ![4, 256]⟩
abbrev S1x256 : Shape := ⟨2, ![1, 256]⟩
abbrev S1x256x256 : Shape := ⟨3, ![1, 256, 256]⟩
abbrev S1x1x256 : Shape := ⟨3, ![1, 1, 256]⟩
abbrev S16x256 : Shape := ⟨2, ![16, 256]⟩
abbrev S3x16x256 : Shape := ⟨3, ![3, 16, 256]⟩
abbrev S16x128x256 : Shape := ⟨3, ![16, 128, 256]⟩
abbrev S131x16x256 : Shape := ⟨3, ![131, 16, 256]⟩
abbrev S2048x256 : Shape := ⟨2, ![2048, 256]⟩
abbrev S256x256 : Shape := ⟨2, ![256, 256]⟩
abbrev S1x16x256 : Shape := ⟨3, ![1, 16, 256]⟩
abbrev S16x16x256 : Shape := ⟨3, ![16, 16, 256]⟩

abbrev nBuf : Space → Nat
  | .hbm => 26
  | .vmem => 35
  | .smem => 0
  | _ => 0

abbrev bufTy : (tb : Table) → Fin (tcTables nBuf tb) → BufTy
  | .hbm, ⟨0, _⟩ => ⟨S2048x16x2048, .f32⟩
  | .hbm, ⟨1, _⟩ => ⟨S2048x16x2048, .f32⟩
  | .hbm, ⟨2, _⟩ => ⟨S2048x16x2048, .f32⟩
  | .hbm, ⟨3, _⟩ => ⟨S4x2048, .f32⟩
  | .hbm, ⟨4, _⟩ => ⟨S2048, .f32⟩
  | .hbm, ⟨5, _⟩ => ⟨S8x256x256, .f32⟩
  | .hbm, ⟨6, _⟩ => ⟨S8x256, .f32⟩
  | .hbm, ⟨7, _⟩ => ⟨S8x256x256, .f32⟩
  | .hbm, ⟨8, _⟩ => ⟨S8x256, .f32⟩
  | .hbm, ⟨9, _⟩ => ⟨S2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S3x16x2048, .f32⟩
  | .hbm, ⟨14, _⟩ => ⟨S2048x16x2048, .bf16⟩
  | .hbm, ⟨15, _⟩ => ⟨S2048x16x2048, .bf16⟩
  | .hbm, ⟨16, _⟩ => ⟨S2048x16x2048, .bf16⟩
  | .hbm, ⟨17, _⟩ => ⟨S8x256x256, .bf16⟩
  | .hbm, ⟨18, _⟩ => ⟨S8x256x256, .bf16⟩
  | .hbm, ⟨19, _⟩ => ⟨S1x2048, .f32⟩
  | .hbm, ⟨20, _⟩ => ⟨S8x1x256, .f32⟩
  | .hbm, ⟨21, _⟩ => ⟨S8x1x256, .f32⟩
  | .hbm, ⟨22, _⟩ => ⟨S1x2048, .f32⟩
  | .hbm, ⟨23, _⟩ => ⟨S16x2048x2048, .bf16⟩
  | .hbm, ⟨24, _⟩ => ⟨S16x2048, .f32⟩
  | .hbm, ⟨25, _⟩ => ⟨S3x16x2048, .f32⟩
  | .local _ .vmem, ⟨0, _⟩ => ⟨S128x16x256, .bf16⟩
  | .local _ .vmem, ⟨1, _⟩ => ⟨S128x16x256, .bf16⟩
  | .local _ .vmem, ⟨2, _⟩ => ⟨S128x16x256, .bf16⟩
  | .local _ .vmem, ⟨3, _⟩ => ⟨S128x16x256, .bf16⟩
  | .local _ .vmem, ⟨4, _⟩ => ⟨S128x16x256, .bf16⟩
  | .local _ .vmem, ⟨5, _⟩ => ⟨S128x16x256, .bf16⟩
  | .local _ .vmem, ⟨6, _⟩ => ⟨S4x256, .f32⟩
  | .local _ .vmem, ⟨7, _⟩ => ⟨S4x256, .f32⟩
  | .local _ .vmem, ⟨8, _⟩ => ⟨S1x256, .f32⟩
  | .local _ .vmem, ⟨9, _⟩ => ⟨S1x256, .f32⟩
  | .local _ .vmem, ⟨10, _⟩ => ⟨S1x256x256, .bf16⟩
  | .local _ .vmem, ⟨11, _⟩ => ⟨S1x256x256, .bf16⟩
  | .local _ .vmem, ⟨12, _⟩ => ⟨S1x1x256, .f32⟩
  | .local _ .vmem, ⟨13, _⟩ => ⟨S1x1x256, .f32⟩
  | .local _ .vmem, ⟨14, _⟩ => ⟨S1x256x256, .bf16⟩
  | .local _ .vmem, ⟨15, _⟩ => ⟨S1x256x256, .bf16⟩
  | .local _ .vmem, ⟨16, _⟩ => ⟨S1x1x256, .f32⟩
  | .local _ .vmem, ⟨17, _⟩ => ⟨S1x1x256, .f32⟩
  | .local _ .vmem, ⟨18, _⟩ => ⟨S1x256, .f32⟩
  | .local _ .vmem, ⟨19, _⟩ => ⟨S1x256, .f32⟩
  | .local _ .vmem, ⟨20, _⟩ => ⟨S16x256, .f32⟩
  | .local _ .vmem, ⟨21, _⟩ => ⟨S16x256, .f32⟩
  | .local _ .vmem, ⟨22, _⟩ => ⟨S3x16x256, .f32⟩
  | .local _ .vmem, ⟨23, _⟩ => ⟨S3x16x256, .f32⟩
  | .local _ .vmem, ⟨24, _⟩ => ⟨S16x128x256, .bf16⟩
  | .local _ .vmem, ⟨25, _⟩ => ⟨S16x128x256, .bf16⟩
  | .local _ .vmem, ⟨26, _⟩ => ⟨S16x256, .f32⟩
  | .local _ .vmem, ⟨27, _⟩ => ⟨S16x256, .f32⟩
  | .local _ .vmem, ⟨28, _⟩ => ⟨S3x16x256, .f32⟩
  | .local _ .vmem, ⟨29, _⟩ => ⟨S3x16x256, .f32⟩
  | .local _ .vmem, ⟨30, _⟩ => ⟨S3x16x256, .f32⟩
  | .local _ .vmem, ⟨31, _⟩ => ⟨S16x256, .f32⟩
  | .local _ .vmem, ⟨32, _⟩ => ⟨S128x16x256, .f32⟩
  | .local _ .vmem, ⟨33, _⟩ => ⟨S128x16x256, .f32⟩
  | .local _ .vmem, ⟨34, _⟩ => ⟨S128x16x256, .f32⟩
  | _, _ => ⟨S2048x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_49 : BitVec 32 := 0#32
  let c128_i32 : BitVec 32 := 128#32
  let v115 : BitVec 32 := Scalar.addi c0_i32_49 c128_i32
  let c1_i32 : BitVec 32 := 1#32
  ⟨c0_i32_49, v115, c1_i32⟩
def k0_off1 (k0_t1 : Fin k0_t1_loop.trips) : Fin 3 → Nat :=
  let c0_i32_49 : BitVec 32 := 0#32
  let c1_i32 : BitVec 32 := 1#32
  let arg22 : BitVec 32 := Scf.iv c0_i32_49 c1_i32 k0_t1
  let v265 : Index := Scalar.indexCast arg22
  let c0_130 : Index := 0#32
  let c0_131 : Index := 0#32
  ![v265.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S3x16x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceRecIdeal.lean ====
abbrev S2048x16x2048 : Shape := ⟨3, ![2048, 16, 2048]⟩
abbrev S4x2048 : Shape := ⟨2, ![4, 2048]⟩
abbrev S2048 : Shape := ⟨1, ![2048]⟩
abbrev S8x256x256 : Shape := ⟨3, ![8, 256, 256]⟩
abbrev S8x256 : Shape := ⟨2, ![8, 256]⟩
abbrev S16x2048x2048 : Shape := ⟨3, ![16, 2048, 2048]⟩
abbrev S_ : Shape := ⟨0, ![]⟩
abbrev S16x3x2048 : Shape := ⟨3, ![16, 3, 2048]⟩
abbrev S16x2051x2048 : Shape := ⟨3, ![16, 2051, 2048]⟩
abbrev S3x16x2048 : Shape := ⟨3, ![3, 16, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2048x16x2048, .f32⟩
  | .hbm, ⟨1, _⟩ => ⟨S2048x16x2048, .f32⟩
  | .hbm, ⟨2, _⟩ => ⟨S2048x16x2048, .f32⟩
  | .hbm, ⟨3, _⟩ => ⟨S4x2048, .f32⟩
  | .hbm, ⟨4, _⟩ => ⟨S2048, .f32⟩
  | .hbm, ⟨5, _⟩ => ⟨S8x256x256, .f32⟩
  | .hbm, ⟨6, _⟩ => ⟨S8x256, .f32⟩
  | .hbm, ⟨7, _⟩ => ⟨S8x256x256, .f32⟩
  | .hbm, ⟨8, _⟩ => ⟨S8x256, .f32⟩
  | .hbm, ⟨9, _⟩ => ⟨S2048, .f32⟩
  | .hbm, ⟨10, _⟩ => ⟨S16x2048x2048, .f32⟩
  | .hbm, ⟨11, _⟩ => ⟨S_, .f32⟩
  | .hbm, ⟨12, _⟩ => ⟨S16x3x2048, .f32⟩
  | .hbm, ⟨13, _⟩ => ⟨S16x2051x2048, .f32⟩
  | .hbm, ⟨14, _⟩ => ⟨S16x3x2048, .f32⟩
  | .hbm, ⟨15, _⟩ => ⟨S3x16x2048, .f32⟩
  | _, _ => ⟨S2048x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Attn.Tile.lean ====
/- The attention kernel's arithmetic, one head at a time: what a tile of keys does to a head's running sum and to its
   running carry, the tile of the queries' own positions, and the tiles before it taken one after another. The kernel
   computes eight heads side by side; every definition here is stated once and used for each of the eight. -/
module

public import proofs.«01_k».proof.Proof.Gen.KernelIdeal.Skeleton
public import Idealize.ShloMosaic.Lib.Pointwise.Index

@[expose] public section

noncomputable section

namespace Cert.KernelIdeal.Attn

open Cert.KernelIdeal Cert.KernelIdeal.Gen
open Idealize.ShloMosaic Idealize.SL.Sem

variable {F : FTy → Type} [FloatOps F] [Named F]

/-! ## The two constants of the arithmetic -/

/-- The factor that turns a natural logarithm into one to base two. -/
def log2E : F .f32 := Named.named κ "log2_e" 0x3FB8AA3B#32

/-- The bound under which a carry is taken to leave no weight to earlier keys. -/
def zeroW : F .f32 := Named.named κ "zero_weight" 0xC3160000#32

/-! ## A tile of scores, and what is made of it -/

/-- The scores of 256 queries against 256 keys, one head. -/
def zOf (q : Vec F S1x256x128 .bf16) (k : Vec F S1x256x128 .f32) : FVec F S256x256 .f32 :=
  matmul dot_S256x128_S256x128_S256x256_1_1_0_0_n_n none (shapeCast S256x128 q shapeCasts_S1x256x128_S256x128)
    (truncf .bf16 (shapeCast S256x128 k shapeCasts_S1x256x128_S256x128) bitsLt_bf16_f32) (constant S256x256 .f32 0x00000000#32)

/-- Minus a score. -/
def negOf (z : FVec F S256x256 .f32) : FVec F S256x256 .f32 :=
  subf (broadcast S256x256 (Scalar.ofBits .f32 0x00000000#32)) z

/-- The logarithm to base two of the share a query keeps back from a key. -/
def keepOf (z : FVec F S256x256 .f32) : FVec F S256x256 .f32 :=
  subf (minimumf (negOf z) (broadcast S256x256 (Scalar.ofBits .f32 0x00000000#32)))
    (mulf (log (addf (broadcast S256x256 (Scalar.ofBits .f32 0x3F800000#32)) (exp2 (minimumf z (negOf z)))))
      (broadcast S256x256 log2E))

/-- The logarithm to base two of the share it gives. -/
def giveOf (z : FVec F S256x256 .f32) : FVec F S256x256 .f32 := addf z (keepOf z)

/-- The kept shares on the diagonal tile: only those of keys before the query. -/
def keepDiag (z : FVec F S256x256 .f32) : FVec F S256x256 .f32 :=
  select k0_pay7 (keepOf z) (broadcast S256x256 (Scalar.ofBits .f32 0x00000000#32))

/-- The sums of the kept shares of the later keys of a tile, taken as two products with the triangle of ones. -/
def laterOf (l : FVec F S256x256 .f32) : FVec F S256x256 .f32 :=
  addf (matmul dot_S256x256_S256x256_S256x256_1_0_0_1_n_n none (truncf .bf16 l bitsLt_bf16_f32) (k0_pay6 (F := F))
      (constant S256x256 .f32 0x00000000#32))
    (matmul dot_S256x256_S256x256_S256x256_1_0_0_1_n_n none
      (truncf .bf16 (subf l (extf .f32 (truncf .bf16 l bitsLt_bf16_f32) bitsLt_bf16_f32)) bitsLt_bf16_f32) (k0_pay6 (F := F))
      (constant S256x256 .f32 0x00000000#32))

/-- The weights of a tile, before rounding, from the given share, the later keys' kept shares and the carry. -/
def weightOf (g l : FVec F S256x256 .f32) (c : FVec F S256x1 .f32) : FVec F S256x256 .f32 :=
  exp2 (addf (addf g l) (broadcastTo S256x256 c broadcasts_S256x1_S256x256))

/-- A head's running sum with a tile's weighted values added. -/
def accOf (a : FVec F S256x128 .f32) (w : FVec F S256x256 .f32) (v : Vec F S1x256x128 .f32) : FVec F S256x128 .f32 :=
  addf a (matmul dot_S256x256_S256x128_S256x128_1_0_0_1_n_n none (truncf .bf16 w bitsLt_bf16_f32)
    (truncf .bf16 (shapeCast S256x128 v shapeCasts_S1x256x128_S256x128) bitsLt_bf16_f32) (constant S256x128 .f32 0x00000000#32))

/-- A head's carry with all of a tile's kept shares added: the later keys' of the tile's first key, and its own. -/
def carryOf (c : FVec F S256x1 .f32) (r l : FVec F S256x256 .f32) : FVec F S256x1 .f32 :=
  addf c (addf (extractStridedSlice S256x1 ![0, 0] r slices_S256x256_o0_0_S256x1)
    (extractStridedSlice S256x1 ![0, 0] l slices_S256x256_o0_0_S256x1))

/-- The running sum after the diagonal tile, from nothing. -/
def diagA (q : Vec F S1x256x128 .bf16) (k v : Vec F S1x256x128 .f32) : FVec F S256x128 .f32 :=
  accOf (broadcast S256x128 (Scalar.ofBits .f32 0x00000000#32))
    (select k0_pay7 (weightOf (giveOf (zOf q k)) (laterOf (keepDiag (zOf q k)))
      (broadcast S256x1 (Scalar.ofBits .f32 0x00000000#32))) (broadcast S256x256 (Scalar.ofBits .f32 0x00000000#32))) v

/-- The carry after the diagonal tile, from nothing. -/
def diagC (q : Vec F S1x256x128 .bf16) (k : Vec F S1x256x128 .f32) : FVec F S256x1 .f32 :=
  carryOf (broadcast S256x1 (Scalar.ofBits .f32 0x00000000#32)) (laterOf (keepDiag (zOf q k))) (keepDiag (zOf q k))

/-- The running sum after one tile more. -/
def stepA (q : Vec F S1x256x128 .bf16) (k v : Vec F S1x256x128 .f32) (a : FVec F S256x128 .f32) (c : FVec F S256x1 .f32) :
    FVec F S256x128 .f32 :=
  accOf a (weightOf (giveOf (zOf q k)) (laterOf (keepOf (zOf q k))) c) v

/-- The carry after one tile more. -/
def stepC (q : Vec F S1x256x128 .bf16) (k : Vec F S1x256x128 .f32) (c : FVec F S256x1 .f32) : FVec F S256x1 .f32 :=
  carryOf c (laterOf (keepOf (zOf q k))) (keepOf (zOf q k))

/-! ## Eight heads at a time -/

/-- The largest carry of the eight heads, row by row. -/
def maxC (C : Fin 8 → FVec F S256x1 .f32) : FVec F S256x1 .f32 :=
  maximumf (maximumf (maximumf (maximumf (maximumf (maximumf (maximumf (C 0) (C 1)) (C 2)) (C 3)) (C 4)) (C 5)) (C 6)) (C 7)

/-- Whether some query of some head has weight left for earlier keys. -/
def anyLeft (C : Fin 8 → FVec F S256x1 .f32) : BitVec 1 :=
  Scalar.cmpf .ogt (k0_pay5 (shapeCast S1x256x1 (maxC C) shapeCasts_S256x1_S1x256x1)) zeroW

/-- Rows `256 n …` of head `h` of a block of keys or values. -/
def tileOf (x : Vec F S1x2048x1024 .f32) (n : ℕ) (h : Fin 8) : Vec F S1x256x128 .f32 := fun y =>
  x (ix3 (0 : Fin 1) (⟨(256 * n + (y 1).val) % 2048, Nat.mod_lt _ (by decide)⟩ : Fin 2048)
    (⟨128 * h.val + (y 2).val, by have := h.isLt; have : (y 2).val < 128 := (y 2).isLt; omega⟩ : Fin 1024))

/-- Head `h` of a block of queries. -/
def headOf (x : Vec F S1x256x1024 .bf16) (h : Fin 8) : Vec F S1x256x128 .bf16 := fun y =>
  x (ix3 (0 : Fin 1) (⟨(y 1).val, (y 1).isLt⟩ : Fin 256)
    (⟨128 * h.val + (y 2).val, by have := h.isLt; have : (y 2).val < 128 := (y 2).isLt; omega⟩ : Fin 1024))

/-- The running sums of the eight heads after the `n` tiles before the current one, latest first, stopping as soon as
    the flag says that no weight is left. -/
def loopA (x0 : Vec F S1x256x1024 .bf16) (x1 x2 : Vec F S1x2048x1024 .f32) :
    ℕ → BitVec 1 → (Fin 8 → FVec F S256x128 .f32) → (Fin 8 → FVec F S256x1 .f32) → (Fin 8 → FVec F S256x128 .f32)
  | 0, _, A, _ => A
  | n + 1, b, A, C =>
    if b = 1#1 then
      loopA x0 x1 x2 n (anyLeft fun h => stepC (headOf x0 h) (tileOf x1 n h) (C h))
        (fun h => stepA (headOf x0 h) (tileOf x1 n h) (tileOf x2 n h) (A h) (C h))
        (fun h => stepC (headOf x0 h) (tileOf x1 n h) (C h))
    else A

/-- The eight heads' sums at query tile `n`: the diagonal tile, then the tiles before it. -/
def headsA (x0 : Vec F S1x256x1024 .bf16) (x1 x2 : Vec F S1x2048x1024 .f32) (n : ℕ) : Fin 8 → FVec F S256x128 .f32 :=
  loopA x0 x1 x2 n (anyLeft fun h => diagC (headOf x0 h) (tileOf x1 n h))
    (fun h => diagA (headOf x0 h) (tileOf x1 n h) (tileOf x2 n h)) (fun h => diagC (headOf x0 h) (tileOf x1 n h))

/-- What the kernel leaves in its block of the result. -/
def blockOut (x0 : Vec F S1x256x1024 .bf16) (x1 x2 : Vec F S1x2048x1024 .f32) (x3 x4 : Vec F S1x256x1024 .bf16) (n : ℕ) :
    FVec F S1x256x1024 .bf16 :=
  k0_pay4 (headsA x0 x1 x2 n 0) (headsA x0 x1 x2 n 1) (headsA x0 x1 x2 n 2) (headsA x0 x1 x2 n 3) (headsA x0 x1 x2 n 4)
    (headsA x0 x1 x2 n 5) (headsA x0 x1 x2 n 6) (headsA x0 x1 x2 n 7) x4 x3

/-! ## The tiles the kernel reads -/

/-- The row a trip's tile starts at, in the kernel's words. -/
theorem row_word : ∀ a : Fin 8, ∀ n : Fin 8, n.val < a.val →
    (Scalar.indexCast (Scalar.muli (Scalar.subi (Scalar.subi (BitVec.ofNat 32 a.val) 1#32) (BitVec.ofNat 32 (a.val - 1 - n.val))) 256#32)).toNat
      = 256 * n.val := by decide

/-- The row the diagonal tile starts at. -/
theorem row_diag : ∀ a : Fin 8, (Scalar.indexCast (Scalar.muli (BitVec.ofNat 32 a.val) 256#32)).toNat = 256 * a.val := by decide

end Cert.KernelIdeal.Attn

end
-- ==== Proof.Attn.Loop.lean ====
/- The loop over the tiles before the current one: its specification with `n` tiles still to take, met by its body. -/
module

public import proofs.«01_k».proof.Proof.Attn.Tile
public import proofs.«01_k».proof.Proof.Gen.KernelIdeal.Launch
public import Idealize.ShloMosaic.Lib.Pipeline.FrameBody
public import Idealize.ShloMosaic.Lib.WholeRead
public import Idealize.ShloMosaic.Lib.Pipeline.ValueKit.Tiles
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loop's variants: the tiles still to take. -/
abbrev 𝒱₀ : Variants := Variants.nat

/-! ## What is read -/

theorem row_at (i : grid0.Coords) {n : ℕ} (hn : n < (i 2).val) :
    (Scalar.indexCast (Scalar.muli (Scalar.subi (Scalar.subi (BitVec.ofNat 32 (i 2).val) 1#32)
      (BitVec.ofNat 32 ((i 2).val - 1 - n))) 256#32)).toNat = 256 * n :=
  row_word (i 2) ⟨n, lt_trans hn (i 2).isLt⟩ hn

theorem row_diag_at (i : grid0.Coords) :
    (Scalar.indexCast (Scalar.muli (BitVec.ofNat 32 (i 2).val) 256#32)).toNat = 256 * (i 2).val := row_diag (i 2)

theorem off9 (i : grid0.Coords) {n : ℕ} (hn : n < (i 2).val) :
    k0_off9 i (BitVec.ofNat 32 ((i 2).val - 1 - n)) = ![0, 256 * n, 128 * ((0 : Fin 8) : ℕ)] := by
  unfold k0_off9; simp only [row_at i hn]; rfl
theorem off10 (i : grid0.Coords) {n : ℕ} (hn : n < (i 2).val) :
    k0_off10 i (BitVec.ofNat 32 ((i 2).val - 1 - n)) = ![0, 256 * n, 128 * ((1 : Fin 8) : ℕ)] := by
  unfold k0_off10; simp only [row_at i hn]; rfl
theorem off11 (i : grid0.Coords) {n : ℕ} (hn : n < (i 2).val) :
    k0_off11 i (BitVec.ofNat 32 ((i 2).val - 1 - n)) = ![0, 256 * n, 128 * ((2 : Fin 8) : ℕ)] := by
  unfold k0_off11; simp only [row_at i hn]; rfl
theorem off12 (i : grid0.Coords) {n : ℕ} (hn : n < (i 2).val) :
    k0_off12 i (BitVec.ofNat 32 ((i 2).val - 1 - n)) = ![0, 256 * n, 128 * ((3 : Fin 8) : ℕ)] := by
  unfold k0_off12; simp only [row_at i hn]; rfl
theorem off13 (i : grid0.Coords) {n : ℕ} (hn : n < (i 2).val) :
    k0_off13 i (BitVec.ofNat 32 ((i 2).val - 1 - n)) = ![0, 256 * n, 128 * ((4 : Fin 8) : ℕ)] := by
  unfold k0_off13; simp only [row_at i hn]; rfl
theorem off14 (i : grid0.Coords) {n : ℕ} (hn : n < (i 2).val) :
    k0_off14 i (BitVec.ofNat 32 ((i 2).val - 1 - n)) = ![0, 256 * n, 128 * ((5 : Fin 8) : ℕ)] := by
  unfold k0_off14; simp only [row_at i hn]; rfl
theorem off15 (i : grid0.Coords) {n : ℕ} (hn : n < (i 2).val) :
    k0_off15 i (BitVec.ofNat 32 ((i 2).val - 1 - n)) = ![0, 256 * n, 128 * ((6 : Fin 8) : ℕ)] := by
  unfold k0_off15; simp only [row_at i hn]; rfl
theorem off16 (i : grid0.Coords) {n : ℕ} (hn : n < (i 2).val) :
    k0_off16 i (BitVec.ofNat 32 ((i 2).val - 1 - n)) = ![0, 256 * n, 128 * ((7 : Fin 8) : ℕ)] := by
  unfold k0_off16; simp only [row_at i hn]; rfl
theorem off1 (i : grid0.Coords) : k0_off1 i = ![0, 256 * (i 2).val, 128 * ((0 : Fin 8) : ℕ)] := by
  unfold k0_off1; simp only [row_diag_at i]; rfl
theorem off2 (i : grid0.Coords) : k0_off2 i = ![0, 256 * (i 2).val, 128 * ((1 : Fin 8) : ℕ)] := by
  unfold k0_off2; simp only [row_diag_at i]; rfl
theorem off3 (i : grid0.Coords) : k0_off3 i = ![0, 256 * (i 2).val, 128 * ((2 : Fin 8) : ℕ)] := by
  unfold k0_off3; simp only [row_diag_at i]; rfl
theorem off4 (i : grid0.Coords) : k0_off4 i = ![0, 256 * (i 2).val, 128 * ((3 : Fin 8) : ℕ)] := by
  unfold k0_off4; simp only [row_diag_at i]; rfl
theorem off5 (i : grid0.Coords) : k0_off5 i = ![0, 256 * (i 2).val, 128 * ((4 : Fin 8) : ℕ)] := by
  unfold k0_off5; simp only [row_diag_at i]; rfl
theorem off6 (i : grid0.Coords) : k0_off6 i = ![0, 256 * (i 2).val, 128 * ((5 : Fin 8) : ℕ)] := by
  unfold k0_off6; simp only [row_diag_at i]; rfl
theorem off7 (i : grid0.Coords) : k0_off7 i = ![0, 256 * (i 2).val, 128 * ((6 : Fin 8) : ℕ)] := by
  unfold k0_off7; simp only [row_diag_at i]; rfl
theorem off8 (i : grid0.Coords) : k0_off8 i = ![0, 256 * (i 2).val, 128 * ((7 : Fin 8) : ℕ)] := by
  unfold k0_off8; simp only [row_diag_at i]; rfl

/-- A load of a head's tile of keys or values. -/
theorem read_tile {arg : Memref sig .tc .vmem S1x2048x1024 .f32} (harg : arg.IsWhole) (X : Vec F S1x2048x1024 .f32)
    (off : Fin 3 → ℕ) (inb) {n : ℕ} (hn : n < 8) (h : Fin 8) (ho : off = ![0, 256 * n, 128 * (h : ℕ)]) :
    arg.view.readAt (Elt F) (Rect.unit (s := S1x2048x1024) off S1x256x128.size inb).toLoadRect (harg.unread X) = tileOf X n h := by
  subst ho
  funext y
  rw [Memref.IsWhole.readAt_unread]
  unfold tileOf
  congr 1
  funext a
  apply Fin.ext
  have h1 : (y 1).val < 256 := (y 1).isLt
  have h0 : (y 0).val < 1 := (y 0).isLt
  fin_cases a
  · show 0 + 1 * (y 0).val = 0
    omega
  · show 256 * n + 1 * (y 1).val = (256 * n + (y 1).val) % 2048
    rw [Nat.mod_eq_of_lt (by omega)]; omega
  · show 128 * (h : ℕ) + 1 * (y 2).val = 128 * (h : ℕ) + (y 2).val
    omega

/-- A load of a head of the queries. -/
theorem read_head {arg : Memref sig .tc .vmem S1x256x1024 .bf16} (harg : arg.IsWhole) (X : Vec F S1x256x1024 .bf16)
    (off : Fin 3 → ℕ) (inb) (h : Fin 8) (ho : off = ![0, 0, 128 * (h : ℕ)]) :
    arg.view.readAt (Elt F) (Rect.unit (s := S1x256x1024) off S1x256x128.size inb).toLoadRect (harg.unread X) = headOf X h := by
  subst ho
  funext y
  rw [Memref.IsWhole.readAt_unread]
  unfold headOf
  congr 1
  funext a
  apply Fin.ext
  have h0 : (y 0).val < 1 := (y 0).isLt
  fin_cases a
  · show 0 + 1 * (y 0).val = 0
    omega
  · show 0 + 1 * (y 1).val = (y 1).val
    omega
  · show 128 * (h : ℕ) + 1 * (y 2).val = 128 * (h : ℕ) + (y 2).val
    omega

/-! ## The trip counter -/

/-- A trip's tile lies inside the block: the side condition the body assumes. -/
theorem chk_of_lt (i : grid0.Coords) {n : ℕ} (hn : n < (i 2).val) : k0_chk1 i (BitVec.ofNat 32 ((i 2).val - 1 - n)) := by
  have h8 : (i 2).val < 8 := (i 2).isLt
  unfold k0_chk1
  rw [off9 i hn, off10 i hn, off11 i hn, off12 i hn, off13 i hn, off14 i hn, off15 i hn, off16 i hn]
  have key : ∀ h : Fin 8, ∀ a, (![0, 256 * n, 128 * (h : ℕ)] : Fin 3 → ℕ) a + S1x256x128.size a ≤ S1x2048x1024.size a := by
    intro h a
    have := h.isLt
    fin_cases a
    · show 0 + 1 ≤ 1
      omega
    · show 256 * n + 256 ≤ 2048
      omega
    · show 128 * (h : ℕ) + 128 ≤ 1024
      omega
  have hm : 256 ∣ (k0_mult2 i (BitVec.ofNat 32 ((i 2).val - 1 - n))).toNat := by
    have : (k0_mult2 i (BitVec.ofNat 32 ((i 2).val - 1 - n))).toNat = 256 * n := row_at i hn
    rw [this]; exact Dvd.intro _ rfl
  exact ⟨hm, key 0, key 1, key 2, key 3, key 4, key 5, key 6, key 7⟩

theorem slt_word : ∀ a : Fin 8, ∀ n : Fin 8, n.val < a.val →
    Scalar.cmpi .slt (BitVec.ofNat 32 (a.val - 1 - n.val)) (BitVec.ofNat 32 a.val) = 1#1 := by decide

theorem slt_end : ∀ a : Fin 8, Scalar.cmpi .slt (BitVec.ofNat 32 a.val) (BitVec.ofNat 32 a.val) = 0#1 := by decide

theorem addi_word : ∀ a : Fin 8, ∀ n : Fin 8, n.val < a.val →
    Scalar.addi (BitVec.ofNat 32 (a.val - 1 - n.val)) 1#32 = BitVec.ofNat 32 (a.val - n.val) := by decide

/-- The loop's test with a tile to take is the flag, and with none it fails. -/
theorem test_word : ∀ b : BitVec 1, Scalar.andi 1#1 b = b ∧ Scalar.andi 0#1 b = 0#1 := by decide

/-! ## The specification -/

/-- What the loop's function returns. -/
abbrev LoopRes (F : FTy → Type) : Type := BitVec 32 × BitVec 1 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32

section Label

variable (c : Dev nD) (i : grid0.Coords)
  {arg3 : Memref sig .tc .vmem S1x256x1024 .bf16} (harg3 : arg3.IsWhole) {arg4 : Memref sig .tc .vmem S1x2048x1024 .f32} (harg4 : arg4.IsWhole)
  {arg5 : Memref sig .tc .vmem S1x2048x1024 .f32} (harg5 : arg5.IsWhole)
  (x0 : Vec F S1x256x1024 .bf16) (x1 x2 : Vec F S1x2048x1024 .f32)

/-- The three blocks the loop reads: the queries', the keys' and the values'. -/
def held : sProp 𝕄 :=
  iprop(owns (c : Thread nD τ) arg3 fullShare x0 ∗ owns (c : Thread nD τ) arg4 fullShare x1 ∗ owns (c : Thread nD τ) arg5 fullShare x2)

/-- The running sums among what is returned. -/
def Returns (r : LoopRes F) (R : Fin 8 → FVec F S256x128 .f32) : Prop :=
  r.2.2.1 = R 0 ∧ r.2.2.2.2.1 = R 1 ∧ r.2.2.2.2.2.2.1 = R 2 ∧ r.2.2.2.2.2.2.2.2.1 = R 3 ∧ r.2.2.2.2.2.2.2.2.2.2.1 = R 4 ∧ r.2.2.2.2.2.2.2.2.2.2.2.2.1 = R 5 ∧ r.2.2.2.2.2.2.2.2.2.2.2.2.2.2.1 = R 6 ∧ r.2.2.2.2.2.2.2.2.2.2.2.2.2.2.2.2.1 = R 7

/-- The loop reads the three blocks, gives them back, and returns the running sums. -/
def spec (R : Fin 8 → FVec F S256x128 .f32) : sWPT 𝕄 (LoopRes F) := do
  sWPT.consume (held (arg3 := arg3) (arg4 := arg4) (arg5 := arg5) c x0 x1 x2)
  let r ← sWPT.arbitrary
  sWPT.assume (Returns r R)
  sWPT.produce (held (arg3 := arg3) (arg4 := arg4) (arg5 := arg5) c x0 x1 x2)
  pure r

theorem spec_apply (R : Fin 8 → FVec F S256x128 .f32) (K : LoopRes F → sProp 𝕄) :
    spec (arg3 := arg3) (arg4 := arg4) (arg5 := arg5) c x0 x1 x2 R K
      = iprop(held (arg3 := arg3) (arg4 := arg4) (arg5 := arg5) c x0 x1 x2
        ∗ ∀ r : LoopRes F, ⌜Returns r R⌝ -∗ (held (arg3 := arg3) (arg4 := arg4) (arg5 := arg5) c x0 x1 x2 -∗ K r)) := rfl

set_option maxHeartbeats 8000000 in
/-- The specification with `n` tiles still to take is met by the loop's function, by induction on `n`: with none left
    the test fails and the sums come back as they are; with one more, a flag that says nothing is left ends the loop, and
    otherwise the tile is read, the sums and the carries stepped, and the loop entered again with one tile fewer. -/
theorem spec_le (E : Set ℕ) :
    ∀ n, n ≤ (i 2).val → ∀ (w : BitVec 32), w = BitVec.ofNat 32 ((i 2).val - n) → ∀ (b b' : BitVec 1), b = b' → ∀
      (A : Fin 8 → FVec F S256x128 .f32) (C : Fin 8 → FVec F S256x1 .f32)
      (a0 : FVec F S256x128 .f32) (c0 : FVec F S256x1 .f32) (a1 : FVec F S256x128 .f32) (c1 : FVec F S256x1 .f32) (a2 : FVec F S256x128 .f32) (c2 : FVec F S256x1 .f32) (a3 : FVec F S256x128 .f32) (c3 : FVec F S256x1 .f32) (a4 : FVec F S256x128 .f32) (c4 : FVec F S256x1 .f32) (a5 : FVec F S256x128 .f32) (c5 : FVec F S256x1 .f32) (a6 : FVec F S256x128 .f32) (c6 : FVec F S256x1 .f32) (a7 : FVec F S256x128 .f32) (c7 : FVec F S256x1 .f32),
      a0 = A 0 → c0 = C 0 → a1 = A 1 → c1 = C 1 → a2 = A 2 → c2 = C 2 → a3 = A 3 → c3 = C 3 → a4 = A 4 → c4 = C 4 → a5 = A 5 → c5 = C 5 → a6 = A 6 → c6 = C 6 → a7 = A 7 → c7 = C 7 → ∀ K,
      spec (arg3 := arg3) (arg4 := arg4) (arg5 := arg5) c x0 x1 x2 (loopA x0 x1 x2 n b A C) K
      ⊢ wp frame (wpE (defs₀ (F := F)) 𝒱₀ (c : Thread nD τ) (some n)) E
          (defs₀ (F := F) .tc 1 ⟨i, arg3, harg3, arg4, harg4, k0_pay6, arg5, harg5, w, b', a0, c0, a1, c1, a2, c2, a3, c3, a4, c4, a5, c5, a6, c6, a7, c7⟩) K := by
  intro n
  induction n with
  | zero =>
    intro _ w hw b b' hbb A C a0 c0 a1 c1 a2 c2 a3 c3 a4 c4 a5 c5 a6 c6 a7 c7 ha0 hc0 ha1 hc1 ha2 hc2 ha3 hc3 ha4 hc4 ha5 hc5 ha6 hc6 ha7 hc7 K
    subst ha0 hc0 ha1 hc1 ha2 hc2 ha3 hc3 ha4 hc4 ha5 hc5 ha6 hc6 ha7 hc7 hw hbb
    rw [spec_apply]
    show _ ⊢ wp frame (wpE (defs₀ (F := F)) 𝒱₀ (c : Thread nD τ) (some 0)) E
      (cc0_while1 i arg3 harg3 arg4 harg4 k0_pay6 arg5 harg5 (BitVec.ofNat 32 ((i 2).val - 0)) b (A 0) (C 0) (A 1) (C 1) (A 2) (C 2) (A 3) (C 3) (A 4) (C 4) (A 5) (C 5) (A 6) (C 6) (A 7) (C 7)) K
    simp only [cc0_while1_eq_skeleton]; unfold cc0_while1_skel
    have ht : ¬ Scalar.andi (Scalar.cmpi .slt (BitVec.ofNat 32 ((i 2).val - 0)) (BitVec.ofNat 32 (i 2).val)) b = 1#1 := by
      rw [Nat.sub_zero, show Scalar.cmpi .slt (BitVec.ofNat 32 (i 2).val) (BitVec.ofNat 32 (i 2).val) = 0#1 from slt_end (i 2),
        (test_word b).2]; decide
    simp only [ht, ↓reduceIte, Prog.pure_eq_ret]
    iintro ⟨H, Hk⟩
    rw [wp_ret]; imodintro
    iapply Hk
    · ipureintro; exact ⟨rfl, rfl, rfl, rfl, rfl, rfl, rfl, rfl⟩
    · iexact H
  | succ n ih =>
    intro hn w hw b b' hbb A C a0 c0 a1 c1 a2 c2 a3 c3 a4 c4 a5 c5 a6 c6 a7 c7 ha0 hc0 ha1 hc1 ha2 hc2 ha3 hc3 ha4 hc4 ha5 hc5 ha6 hc6 ha7 hc7 K
    have hlt : n < (i 2).val := hn
    have h8 : (i 2).val < 8 := (i 2).isLt
    subst ha0 hc0 ha1 hc1 ha2 hc2 ha3 hc3 ha4 hc4 ha5 hc5 ha6 hc6 ha7 hc7 hw hbb
    rw [spec_apply]
    show _ ⊢ wp frame (wpE (defs₀ (F := F)) 𝒱₀ (c : Thread nD τ) (some (n + 1))) E
      (cc0_while1 i arg3 harg3 arg4 harg4 k0_pay6 arg5 harg5 (BitVec.ofNat 32 ((i 2).val - (n + 1))) b (A 0) (C 0) (A 1) (C 1) (A 2) (C 2) (A 3) (C 3) (A 4) (C 4) (A 5) (C 5) (A 6) (C 6) (A 7) (C 7)) K
    rw [show (i 2).val - (n + 1) = (i 2).val - 1 - n by omega]
    simp only [cc0_while1_eq_skeleton]; unfold cc0_while1_skel
    have hs : Scalar.cmpi .slt (BitVec.ofNat 32 ((i 2).val - 1 - n)) (BitVec.ofNat 32 (i 2).val) = 1#1 :=
      slt_word (i 2) ⟨n, by omega⟩ hlt
    simp only [hs, (test_word b).1]
    by_cases hb : b = 1#1
    · simp only [hb, ↓reduceIte]
      simp only [k0_part10_eq_skeleton, k0_part11_eq_skeleton, k0_part12_eq_skeleton, k0_part13_eq_skeleton, k0_part14_eq_skeleton,
        k0_part15_eq_skeleton, k0_part16_eq_skeleton, k0_part17_eq_skeleton]
      unfold held owns
      iintro ⟨⟨⟨%f0, %hf0, H0⟩, ⟨%f1, %hf1, H1⟩, ⟨%f2, %hf2, H2⟩⟩, Hk⟩
      obtain rfl := harg3.eq_unread hf0; obtain rfl := harg4.eq_unread hf1; obtain rfl := harg5.eq_unread hf2
      have hchk := chk_of_lt i hlt
      sl_exec
      have hn8 : n < 8 := by omega
      have q0 := read_head harg3 x0 ![0, 0, 0] inb_S1x256x1024_S1x256x128_0_0_0 0 rfl
      have k0 := read_tile harg4 x1 _ (k0_off9_inb i _ hchk) hn8 0 (off9 i hlt)
      have v0 := read_tile harg5 x2 _ (k0_off9_inb i _ hchk) hn8 0 (off9 i hlt)
      have q1 := read_head harg3 x0 ![0, 0, 128] inb_S1x256x1024_S1x256x128_0_0_128 1 rfl
      have k1 := read_tile harg4 x1 _ (k0_off10_inb i _ hchk) hn8 1 (off10 i hlt)
      have v1 := read_tile harg5 x2 _ (k0_off10_inb i _ hchk) hn8 1 (off10 i hlt)
      have q2 := read_head harg3 x0 ![0, 0, 256] inb_S1x256x1024_S1x256x128_0_0_256 2 rfl
      have k2 := read_tile harg4 x1 _ (k0_off11_inb i _ hchk) hn8 2 (off11 i hlt)
      have v2 := read_tile harg5 x2 _ (k0_off11_inb i _ hchk) hn8 2 (off11 i hlt)
      have q3 := read_head harg3 x0 ![0, 0, 384] inb_S1x256x1024_S1x256x128_0_0_384 3 rfl
      have k3 := read_tile harg4 x1 _ (k0_off12_inb i _ hchk) hn8 3 (off12 i hlt)
      have v3 := read_tile harg5 x2 _ (k0_off12_inb i _ hchk) hn8 3 (off12 i hlt)
      have q4 := read_head harg3 x0 ![0, 0, 512] inb_S1x256x1024_S1x256x128_0_0_512 4 rfl
      have k4 := read_tile harg4 x1 _ (k0_off13_inb i _ hchk) hn8 4 (off13 i hlt)
      have v4 := read_tile harg5 x2 _ (k0_off13_inb i _ hchk) hn8 4 (off13 i hlt)
      have q5 := read_head harg3 x0 ![0, 0, 640] inb_S1x256x1024_S1x256x128_0_0_640 5 rfl
      have k5 := read_tile harg4 x1 _ (k0_off14_inb i _ hchk) hn8 5 (off14 i hlt)
      have v5 := read_tile harg5 x2 _ (k0_off14_inb i _ hchk) hn8 5 (off14 i hlt)
      have q6 := read_head harg3 x0 ![0, 0, 768] inb_S1x256x1024_S1x256x128_0_0_768 6 rfl
      have k6 := read_tile harg4 x1 _ (k0_off15_inb i _ hchk) hn8 6 (off15 i hlt)
      have v6 := read_tile harg5 x2 _ (k0_off15_inb i _ hchk) hn8 6 (off15 i hlt)
      have q7 := read_head harg3 x0 ![0, 0, 896] inb_S1x256x1024_S1x256x128_0_0_896 7 rfl
      have k7 := read_tile harg4 x1 _ (k0_off16_inb i _ hchk) hn8 7 (off16 i hlt)
      have v7 := read_tile harg5 x2 _ (k0_off16_inb i _ hchk) hn8 7 (off16 i hlt)
      iapply (wp_call_spec 𝒱₀ (c : Thread nD τ) (some (n + 1)) E
        (spec (arg3 := arg3) (arg4 := arg4) (arg5 := arg5) c x0 x1 x2 (loopA x0 x1 x2 (n + 1) (1#1) A C)) n
        (fun u hu => by cases hu; exact Nat.lt_succ_self n)
        (fun K' => by
          have e : loopA x0 x1 x2 (n + 1) (1#1) A C = _ := if_pos rfl
          rw [e]
          refine ih (by omega) _ ?_ _ _ ?_ _ _ _ _ _ _ _ _ _ _ _ _ _ _ _ _ _ _ ?_ ?_ ?_ ?_ ?_ ?_ ?_ ?_ ?_ ?_ ?_ ?_ ?_ ?_ ?_ ?_ K'
          · exact (addi_word (i 2) ⟨n, hn8⟩ hlt)
          · unfold anyLeft maxC; dsimp only
            rw [← q0, ← k0, ← q1, ← k1, ← q2, ← k2, ← q3, ← k3, ← q4, ← k4, ← q5, ← k5, ← q6, ← k6, ← q7, ← k7]; rfl
          · rw [← q0, ← k0, ← v0]; rfl
          · rw [← q0, ← k0]; rfl
          · rw [← q1, ← k1, ← v1]; rfl
          · rw [← q1, ← k1]; rfl
          · rw [← q2, ← k2, ← v2]; rfl
          · rw [← q2, ← k2]; rfl
          · rw [← q3, ← k3, ← v3]; rfl
          · rw [← q3, ← k3]; rfl
          · rw [← q4, ← k4, ← v4]; rfl
          · rw [← q4, ← k4]; rfl
          · rw [← q5, ← k5, ← v5]; rfl
          · rw [← q5, ← k5]; rfl
          · rw [← q6, ← k6, ← v6]; rfl
          · rw [← q6, ← k6]; rfl
          · rw [← q7, ← k7, ← v7]; rfl
          · rw [← q7, ← k7]; rfl))
      rw [spec_apply]; unfold held owns
      isplitl [H0 H1 H2]
      · isplitl [H0]
        · iexists _; isplitr; · ipureintro; exact hf0
          iexact H0
        isplitl [H1]
        · iexists _; isplitr; · ipureintro; exact hf1
          iexact H1
        iexists _; isplitr; · ipureintro; exact hf2
        iexact H2
      iintro %r %hr H
      rw [wp_ret]; imodintro
      iapply Hk
      · ipureintro; exact hr
      · iexact H
    · simp only [hb, ↓reduceIte, Prog.pure_eq_ret]
      iintro ⟨H, Hk⟩
      rw [wp_ret]; imodintro
      iapply Hk
      · ipureintro; unfold loopA; simp only [hb, ↓reduceIte]; exact ⟨rfl, rfl, rfl, rfl, rfl, rfl, rfl, rfl⟩
      · iexact H

end Label

end Cert.KernelIdeal.Attn

end
-- ==== Proof.Attn.Body.lean ====
/- One run of the kernel's body: from its blocks of the five operands to its block of the result. -/
module

public import proofs.«01_k».proof.Proof.Attn.Loop
public import Idealize.ShloMosaic.Lib.VecWindow

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A load of a whole block is the block. -/
theorem read_whole {arg : Memref sig .tc .vmem S1x256x1024 .bf16} (harg : arg.IsWhole) (X : Vec F S1x256x1024 .bf16) (inb) :
    arg.view.readAt (Elt F) (Rect.unit (s := S1x256x1024) ![0, 0, 0] S1x256x1024.size inb).toLoadRect (harg.unread X) = X := by
  funext y
  rw [Memref.IsWhole.readAt_unread]
  congr 1
  funext a
  apply Fin.ext
  fin_cases a
  · show 0 + 1 * (y 0).val = (y 0).val
    omega
  · show 0 + 1 * (y 1).val = (y 1).val
    omega
  · show 0 + 1 * (y 2).val = (y 2).val
    omega

set_option maxHeartbeats 8000000 in
/-- The body reads its five blocks, leaves them as they were, and leaves `blockOut` of them in the result's. -/
theorem body_run (c : Dev nD) (i : grid0.Coords) (arg3 : Memref sig .tc .vmem S1x256x1024 .bf16) (harg3 : arg3.IsWhole) (arg4 : Memref sig .tc .vmem S1x2048x1024 .f32) (harg4 : arg4.IsWhole) (arg5 : Memref sig .tc .vmem S1x2048x1024 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x1024 .bf16) (harg8 : arg8.IsWhole)
    (x0 : Vec F S1x256x1024 .bf16) (x1 x2 : Vec F S1x2048x1024 .f32) (x3 x4 : Vec F S1x256x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blockOut x0 x1 x2 x3 x4 (i 2).val)) -∗ K ⟨⟩))
      ⊢ wp frame (wpE (defs₀ (F := F)) 𝒱₀ c none) E (cc0_attn_prompt i arg3 harg3 arg4 harg4 arg5 harg5 arg6 harg6 arg7 harg7 arg8 harg8) K := by
  simp only [cc0_attn_prompt_eq_skeleton]; unfold cc0_attn_prompt_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  have h8 : (i 2).val < 8 := (i 2).isLt
  sl_exec
  have q0 := read_head harg3 x0 ![0, 0, 0] inb_S1x256x1024_S1x256x128_0_0_0 0 rfl
  have k0 := read_tile harg4 x1 _ (k0_off1_inb i) h8 0 (off1 i)
  have v0 := read_tile harg5 x2 _ (k0_off1_inb i) h8 0 (off1 i)
  have q1 := read_head harg3 x0 ![0, 0, 128] inb_S1x256x1024_S1x256x128_0_0_128 1 rfl
  have k1 := read_tile harg4 x1 _ (k0_off2_inb i) h8 1 (off2 i)
  have v1 := read_tile harg5 x2 _ (k0_off2_inb i) h8 1 (off2 i)
  have q2 := read_head harg3 x0 ![0, 0, 256] inb_S1x256x1024_S1x256x128_0_0_256 2 rfl
  have k2 := read_tile harg4 x1 _ (k0_off3_inb i) h8 2 (off3 i)
  have v2 := read_tile harg5 x2 _ (k0_off3_inb i) h8 2 (off3 i)
  have q3 := read_head harg3 x0 ![0, 0, 384] inb_S1x256x1024_S1x256x128_0_0_384 3 rfl
  have k3 := read_tile harg4 x1 _ (k0_off4_inb i) h8 3 (off4 i)
  have v3 := read_tile harg5 x2 _ (k0_off4_inb i) h8 3 (off4 i)
  have q4 := read_head harg3 x0 ![0, 0, 512] inb_S1x256x1024_S1x256x128_0_0_512 4 rfl
  have k4 := read_tile harg4 x1 _ (k0_off5_inb i) h8 4 (off5 i)
  have v4 := read_tile harg5 x2 _ (k0_off5_inb i) h8 4 (off5 i)
  have q5 := read_head harg3 x0 ![0, 0, 640] inb_S1x256x1024_S1x256x128_0_0_640 5 rfl
  have k5 := read_tile harg4 x1 _ (k0_off6_inb i) h8 5 (off6 i)
  have v5 := read_tile harg5 x2 _ (k0_off6_inb i) h8 5 (off6 i)
  have q6 := read_head harg3 x0 ![0, 0, 768] inb_S1x256x1024_S1x256x128_0_0_768 6 rfl
  have k6 := read_tile harg4 x1 _ (k0_off7_inb i) h8 6 (off7 i)
  have v6 := read_tile harg5 x2 _ (k0_off7_inb i) h8 6 (off7 i)
  have q7 := read_head harg3 x0 ![0, 0, 896] inb_S1x256x1024_S1x256x128_0_0_896 7 rfl
  have k7 := read_tile harg4 x1 _ (k0_off8_inb i) h8 7 (off8 i)
  have v7 := read_tile harg5 x2 _ (k0_off8_inb i) h8 7 (off8 i)
  iapply (wp_call_spec 𝒱₀ (c : Thread nD τ) none E
    (spec (arg3 := arg3) (arg4 := arg4) (arg5 := arg5) c x0 x1 x2 (headsA x0 x1 x2 (i 2).val)) (i 2).val
    (fun u hu => nomatch hu)
    (fun K' => by
      unfold headsA
      refine spec_le c i harg3 harg4 harg5 x0 x1 x2 _ (i 2).val le_rfl _ ?_ _ _ ?_ _ _ _ _ _ _ _ _ _ _ _ _ _ _ _ _ _ _ ?_ ?_ ?_ ?_ ?_ ?_ ?_ ?_ ?_ ?_ ?_ ?_ ?_ ?_ ?_ ?_ K'
      · rw [Nat.sub_self]
      · unfold anyLeft maxC; dsimp only
        rw [← q0, ← k0, ← q1, ← k1, ← q2, ← k2, ← q3, ← k3, ← q4, ← k4, ← q5, ← k5, ← q6, ← k6, ← q7, ← k7]; rfl
      · rw [← q0, ← k0, ← v0]; rfl
      · rw [← q0, ← k0]; rfl
      · rw [← q1, ← k1, ← v1]; rfl
      · rw [← q1, ← k1]; rfl
      · rw [← q2, ← k2, ← v2]; rfl
      · rw [← q2, ← k2]; rfl
      · rw [← q3, ← k3, ← v3]; rfl
      · rw [← q3, ← k3]; rfl
      · rw [← q4, ← k4, ← v4]; rfl
      · rw [← q4, ← k4]; rfl
      · rw [← q5, ← k5, ← v5]; rfl
      · rw [← q5, ← k5]; rfl
      · rw [← q6, ← k6, ← v6]; rfl
      · rw [← q6, ← k6]; rfl
      · rw [← q7, ← k7, ← v7]; rfl
      · rw [← q7, ← k7]; rfl))
  rw [spec_apply]; unfold held owns
  isplitl [H0 H1 H2]
  · isplitl [H0]
    · iexists _; isplitr; · ipureintro; exact hf0
      iexact H0
    isplitl [H1]
    · iexists _; isplitr; · ipureintro; exact hf1
      iexact H1
    iexists _; isplitr; · ipureintro; exact hf2
    iexact H2
  iintro %r %hr ⟨⟨%f0, %hf0, H0⟩, ⟨%f1, %hf1, H1⟩, ⟨%f2, %hf2, H2⟩⟩
  obtain ⟨r0, r1, r2, r3, r4, r5, r6, r7, r8, r9, r10, r11, r12, r13, r14, r15, r16, r17⟩ := r
  obtain ⟨e0, e1, e2, e3, e4, e5, e6, e7⟩ := hr
  dsimp only at e0 e1 e2 e3 e4 e5 e6 e7
  subst e0 e1 e2 e3 e4 e5 e6 e7
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  refine (View.read_writes_full arg8.view f5 inb_S1x256x1024_S1x256x1024_0_0_0 _ []).trans ?_
  rw [read_whole harg7 x4 inb_S1x256x1024_S1x256x1024_0_0_0, read_whole harg6 x3 inb_S1x256x1024_S1x256x1024_0_0_0]
  rfl

end Cert.KernelIdeal.Attn

end
-- ==== Proof.Attn.Run.lean ====
/- The launch: the host operations before the kernel, the kernel at its 256 points, and what the machine holds at the end. -/
module

public import proofs.«01_k».proof.Proof.Attn.Body
public import proofs.«01_k».proof.Proof.Gen.KernelIdeal.Points

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the kernel -/

/-- A core's buffers when the kernel starts: the launch memory after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the kernel. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1600000 in
/-- No host operation writes an argument. -/
theorem V_arg (c : Dev nD) (b : Ref sig .tc) (hb : b ∈ [main_arg0, main_arg1, main_arg2, main_arg3, main_arg4]) :
    V m c b = m ((c : Thread nD τ).loc b) :=
  StableHlo.after_of_forall_not_mem (b := Proc.devRef .tc b) _ _ (List.forall_iff_forall_mem.mp (by
    simp only [List.mem_cons, List.not_mem_nil, or_false] at hb
    simp only [hostOps0, List.flatten_cons, List.flatten_nil, List.append_nil, List.cons_append, List.nil_append, List.Forall,
      StableHlo.nullary_writes, StableHlo.unary_writes, StableHlo.binary_writes, Finset.mem_singleton]
    rcases hb with rfl | rfl | rfl | rfl | rfl <;> (repeat' apply And.intro) <;>
      exact StableHlo.devRef_ne_of_ne (by decide)))

/-! ## The blocks, and what the kernel leaves in its own -/

/-- Window `w`'s block at point `t`, of its array as the kernel finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The block of the result after point `t`. -/
def outAt (c : Dev nD) (t : Fin (cfg0 (F := F)).N) : Vec F S1x256x1024 .bf16 :=
  blockOut (iblk m c 0 t) (iblk m c 1 t) (iblk m c 2 t) (iblk m c 3 t) (iblk m c 4 t) (grid0.coords t 2).val

/-- The kernel's data: the arrays as it finds them, the input blocks left in place, the result's at `outAt`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl
theorem after_5 (c : Dev nD) (t : Fin (cfg0 (F := F)).N) : (dats m 0 c).after 5 t = outAt m c t := rfl

/-! An input's staging buffer holds its block at every point, fetched there or kept from the point before. -/

theorem before_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)

/-! ## The body at a point -/

/-- What the body is called with at point `t`, window by window, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold outAt
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- Every fair run ends, with the arrays at what the blocks left make of them, the other buffers as the kernel found
    them, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- A buffer that is none of the kernel's six arrays. -/
theorem array_ne (b : Ref sig .tc) (hb : b ∉ [main_v5, main_arg1, main_arg2, main_v6, main_v7, main_v8])
    (w : Fin (cfgs (F := F) 0).W) : ((cfgs (F := F) 0).spec w).arr.view.ref ≠ b := by
  rintro rfl
  refine hb ?_
  match w with
  | ⟨0, _⟩ => exact (by decide : main_v5 ∈ [main_v5, main_arg1, main_arg2, main_v6, main_v7, main_v8])
  | ⟨1, _⟩ => exact (by decide : main_arg1 ∈ [main_v5, main_arg1, main_arg2, main_v6, main_v7, main_v8])
  | ⟨2, _⟩ => exact (by decide : main_arg2 ∈ [main_v5, main_arg1, main_arg2, main_v6, main_v7, main_v8])
  | ⟨3, _⟩ => exact (by decide : main_v6 ∈ [main_v5, main_arg1, main_arg2, main_v6, main_v7, main_v8])
  | ⟨4, _⟩ => exact (by decide : main_v7 ∈ [main_v5, main_arg1, main_arg2, main_v6, main_v7, main_v8])
  | ⟨5, _⟩ => exact (by decide : main_v8 ∈ [main_v5, main_arg1, main_arg2, main_v6, main_v7, main_v8])

/-- The result's array at the end. -/
def result (c : Dev nD) : Buf (Elt F) ((c : Thread nD τ).loc main_v8) := (dats m 0 c).arrAt 5 (cfg0 (F := F)).N

/-- Every fair run ends with the result's array at `result`, the arguments as they were and every counter at zero. -/
theorem run_result : θ_run defs (onTc (τ := τ) (main (F := F))) ⟨m, fun _ => 0, ρ⟩ (fun r =>
      (∀ c : Dev nD, r.2.mem ((c.tc : Thread nD τ).loc main_v8) = result m c)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => by
    obtain ⟨h, hs⟩ := h
    refine ⟨fun c => (h c).1 5, fun c => ⟨?_, ?_, ?_, ?_, ?_⟩, hs⟩
    · exact ((h c).2 main_arg0 (Pipeline.mem_restRefs_of main_arg0 (by decide) (array_ne main_arg0 (by decide)))).trans (V_arg m c _ (by decide))
    · exact ((h c).1 1).trans (((dats m 0 c).arrAt_in 1 rfl _).trans ((A_eq m c 1).trans (V_arg m c main_arg1 (by decide))))
    · exact ((h c).1 2).trans (((dats m 0 c).arrAt_in 2 rfl _).trans ((A_eq m c 2).trans (V_arg m c main_arg2 (by decide))))
    · exact ((h c).2 main_arg3 (Pipeline.mem_restRefs_of main_arg3 (by decide) (array_ne main_arg3 (by decide)))).trans (V_arg m c _ (by decide))
    · exact ((h c).2 main_arg4 (Pipeline.mem_restRefs_of main_arg4 (by decide) (array_ne main_arg4 (by decide)))).trans (V_arg m c _ (by decide)))
    (run_main m ρ)

/-- The arguments end as they were, and every counter at zero. -/
theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => h.2) (run_result m ρ)

end Cert.KernelIdeal.Attn

end
-- ==== Proof.Attn.Share.lean ====
/- Stick-breaking weights over the reals: a query gives each earlier key a share of what later keys have left. The two
   sides' ways to the logarithm of a share are equal, and sums over keys are cut into tiles of 256. -/
module

public import Idealize.ShloMosaic.PureOps.Ideal
public import Idealize.ShloMosaic.Lib.Pointwise.Tactic

@[expose] public section

noncomputable section

namespace Cert.Share

open Idealize.ShloMosaic

/-- The logarithm of what a query keeps back from a key of score `s`. -/
def keep (s : ℝ) : ℝ := -Real.log (1 + Real.exp s)

/-- The same, for query `i` and key `j`: nothing is taken by keys that are not earlier. -/
def kept (S : ℕ → ℝ) (i j : ℕ) : ℝ := if j < i then keep (S j) else 0

/-- What the keys from `a` on keep back together. -/
def keptFrom (S : ℕ → ℝ) (i a : ℕ) : ℝ := ∑ j ∈ Finset.Ico a 2048, kept S i j

/-- The weight of key `j` for query `i`. -/
def wt (S : ℕ → ℝ) (i j : ℕ) : ℝ := if j < i then Real.exp (S j + keep (S j) + keptFrom S i (j + 1)) else 0

/-! ## The logarithm of a share -/

theorem log_one_add_exp (s : ℝ) : Real.log (1 + Real.exp s) = max s 0 + Real.log (1 + Real.exp (-|s|)) := by
  have e : 1 + Real.exp s = Real.exp (max s 0) * (1 + Real.exp (-|s|)) := by
    rw [mul_add, mul_one, ← Real.exp_add]
    rcases le_total 0 s with h | h
    · rw [max_eq_left h, abs_of_nonneg h, add_neg_cancel, Real.exp_zero, add_comm]
    · rw [max_eq_right h, abs_of_nonpos h, Real.exp_zero, neg_neg, zero_add]
  rw [e, Real.log_mul (Real.exp_pos _).ne' (by positivity), Real.log_exp]

theorem keep_eq (s : ℝ) : keep s = min (-s) 0 - Real.log (1 + Real.exp (-|s|)) := by
  rw [keep, log_one_add_exp, neg_add, ← sub_eq_add_neg, ← min_neg_neg, neg_zero]

/-- What a key takes is its score times odds: `log σ(s) = s + log (1 - σ(s))`. -/
theorem keep_neg (s : ℝ) : keep (-s) = s + keep s := by
  rw [keep_eq, keep_eq, abs_neg, neg_neg]
  rcases le_total 0 s with h | h
  · rw [min_eq_right h, min_eq_left (by linarith)]; ring
  · rw [min_eq_left h, min_eq_right (by linarith)]; ring

/-- The factor from natural logarithms to those to base two. -/
def lam : ℝ := (Real.log 2)⁻¹

theorem lam_pos : 0 < lam := inv_pos.mpr (Real.log_pos (by norm_num))

theorem rpow_lam (x : ℝ) : Real.rpow 2 (x * lam) = Real.exp x := by
  show (2 : ℝ) ^ (x * lam) = _
  rw [Real.rpow_def_of_pos (by norm_num), lam]
  congr 1
  have : Real.log 2 ≠ 0 := (Real.log_pos (by norm_num)).ne'
  field_simp

theorem coe_min (a b : ℝ) : min (a : EReal) b = ((min a b : ℝ) : EReal) := (EReal.coe_strictMono.monotone.map_min).symm
theorem coe_max (a b : ℝ) : max (a : EReal) b = ((max a b : ℝ) : EReal) := (EReal.coe_strictMono.monotone.map_max).symm

theorem coe_sum {ι : Type*} (s : Finset ι) (f : ι → ℝ) : ((∑ i ∈ s, f i : ℝ) : EReal) = ∑ i ∈ s, ((f i : ℝ) : EReal) :=
  map_sum (⟨⟨fun x : ℝ => (x : EReal), EReal.coe_zero⟩, EReal.coe_add⟩ : ℝ →+ EReal) f s

/-- The tiles' way to the logarithm, to base two, of what is kept back. -/
theorem keep_base_two (s : ℝ) :
    min ((0 : EReal) - ((s * lam : ℝ) : EReal)) 0
      - Ideal.log (1 + Ideal.exp2 (min ((s * lam : ℝ) : EReal) (0 - ((s * lam : ℝ) : EReal)))) * ((lam : ℝ) : EReal)
      = ((keep s * lam : ℝ) : EReal) := by
  have e : (0 : EReal) - ((s * lam : ℝ) : EReal) = ((-s * lam : ℝ) : EReal) := by
    rw [zero_sub, ← EReal.coe_neg, neg_mul]
  rw [e, coe_min, ← EReal.coe_zero, coe_min, Ideal.exp2_coe,
    show min (s * lam) (-s * lam) = -|s| * lam by
      rw [← min_mul_of_nonneg _ _ lam_pos.le]; congr 1
      rcases le_total 0 s with h | h
      · rw [abs_of_nonneg h, min_eq_right (by linarith)]
      · rw [abs_of_nonpos h, neg_neg, min_eq_left (by linarith)],
    rpow_lam, ← EReal.coe_one, ← EReal.coe_add, Ideal.log_coe, if_neg (not_le.mpr (by positivity)), ← EReal.coe_mul, ← EReal.coe_sub,
    keep_eq]
  congr 1
  rw [sub_mul, min_mul_of_nonneg _ _ lam_pos.le, zero_mul]

/-- The reference's way to it: minus the softplus of the score. -/
theorem keep_softplus (s : ℝ) :
    -(max ((s : ℝ) : EReal) 0 + Ideal.log1p (Ideal.exp (-(max (((s : ℝ) : EReal) - 0) (-(((s : ℝ) : EReal) - 0))))))
      = ((keep s : ℝ) : EReal) := by
  have e : max (((s : ℝ) : EReal) - 0) (-(((s : ℝ) : EReal) - 0)) = ((|s| : ℝ) : EReal) := by
    rw [sub_zero, ← EReal.coe_neg, coe_max]; rfl
  have e0 : max ((s : ℝ) : EReal) 0 = ((max s 0 : ℝ) : EReal) := by rw [← EReal.coe_zero, coe_max]
  rw [e, e0, ← EReal.coe_neg, Ideal.exp_coe, Ideal.log1p, ← EReal.coe_one, ← EReal.coe_add, Ideal.log_coe,
    if_neg (not_le.mpr (by positivity)), ← EReal.coe_add, ← EReal.coe_neg, keep, log_one_add_exp s]

/-! ## Sums over keys, tile by tile -/

/-- A sum over a tile's keys after column `c`. -/
theorem sum_after {M : Type*} [AddCommMonoid M] (f : ℕ → M) (n c : ℕ) :
    (∑ k : Fin 256, if c < k.val then f (256 * n + k.val) else 0) = ∑ j ∈ Finset.Ico (256 * n + c + 1) (256 * n + 256), f j := by
  rw [Fin.sum_univ_eq_sum_range (fun k => if c < k then f (256 * n + k) else 0) 256, ← Finset.sum_filter,
    show Finset.Ico (256 * n + c + 1) (256 * n + 256) = Finset.Ico ((c + 1) + 256 * n) (256 + 256 * n) by congr 1 <;> omega,
    ← Finset.sum_Ico_add f (c + 1) 256 (256 * n)]
  refine Finset.sum_congr ?_ fun k _ => rfl
  ext k; simp only [Finset.mem_filter, Finset.mem_range, Finset.mem_Ico]; omega

/-- A sum over all of a tile's keys. -/
theorem sum_tile {M : Type*} [AddCommMonoid M] (f : ℕ → M) (n : ℕ) :
    (∑ k : Fin 256, f (256 * n + k.val)) = ∑ j ∈ Finset.Ico (256 * n) (256 * n + 256), f j := by
  rw [Fin.sum_univ_eq_sum_range (fun k => f (256 * n + k)) 256, Finset.range_eq_Ico, Finset.sum_Ico_add f 0 256 (256 * n), zero_add,
    add_comm 256]

/-- No key from the query's own position on keeps anything back. -/
theorem keptFrom_of_le (S : ℕ → ℝ) {i a : ℕ} (h : i ≤ a) : keptFrom S i a = 0 :=
  Finset.sum_eq_zero fun j hj => by
    rw [Finset.mem_Ico] at hj
    rw [kept, if_neg (by omega)]

/-- The later keys of a tile, then the tiles after it. -/
theorem keptFrom_tile (S : ℕ → ℝ) (i : ℕ) {n c : ℕ} (hn : n < 8) (hc : c < 256) :
    (∑ k : Fin 256, if c < k.val then kept S i (256 * n + k.val) else 0) + keptFrom S i (256 * (n + 1)) = keptFrom S i (256 * n + c + 1) := by
  rw [sum_after, keptFrom, keptFrom, show 256 * (n + 1) = 256 * n + 256 by ring, Finset.sum_Ico_consecutive] <;> omega

/-- A whole tile, then the tiles after it. -/
theorem keptFrom_whole (S : ℕ → ℝ) (i : ℕ) {n : ℕ} (hn : n < 8) :
    keptFrom S i (256 * (n + 1)) + ((∑ k : Fin 256, if 0 < k.val then kept S i (256 * n + k.val) else 0) + kept S i (256 * n))
      = keptFrom S i (256 * n) := by
  have h := keptFrom_tile S i hn (show 0 < 256 by omega)
  have h' : keptFrom S i (256 * n) = kept S i (256 * n) + keptFrom S i (256 * n + 0 + 1) := by
    rw [keptFrom, keptFrom, Finset.sum_eq_sum_Ico_succ_bot (by omega)]
  rw [h', ← h]; ring

/-- The weighted values of the keys from `a` on. -/
def sumFrom (S : ℕ → ℝ) (v : ℕ → EReal) (i a : ℕ) : EReal := ∑ j ∈ Finset.Ico a 2048, ((wt S i j : ℝ) : EReal) * v j

theorem sumFrom_of_le (S : ℕ → ℝ) (v : ℕ → EReal) {i a : ℕ} (h : i ≤ a) : sumFrom S v i a = 0 :=
  Finset.sum_eq_zero fun j hj => by
    rw [Finset.mem_Ico] at hj
    rw [wt, if_neg (by omega), EReal.coe_zero, zero_mul]

/-- A tile's weighted values added to those of the tiles after it. -/
theorem sumFrom_tile (S : ℕ → ℝ) (v : ℕ → EReal) (i : ℕ) {n : ℕ} (hn : n < 8) :
    sumFrom S v i (256 * (n + 1)) + ∑ k : Fin 256, ((wt S i (256 * n + k.val) : ℝ) : EReal) * v (256 * n + k.val) = sumFrom S v i (256 * n) := by
  rw [sum_tile (fun j => ((wt S i j : ℝ) : EReal) * v j), add_comm, sumFrom, sumFrom, show 256 * (n + 1) = 256 * n + 256 by ring,
    Finset.sum_Ico_consecutive] <;> omega

end Cert.Share

end
-- ==== Proof.Attn.TileIdeal.lean ====
/- The kernel's tile arithmetic at exact numbers, element by element. -/
module

public import proofs.«01_k».proof.Proof.Attn.Tile
public import proofs.«01_k».proof.Proof.Attn.Share
public import Idealize.ShloMosaic.Lib.Pointwise
public import Idealize.ShloMosaic.Lib.WordCmp

@[expose] public section

noncomputable section

namespace Cert.KernelIdeal.Attn

open Cert.KernelIdeal Cert.KernelIdeal.Gen Cert.Share
open Idealize.ShloMosaic Idealize.SL.Sem

theorem log2E_ideal : (log2E : Ideal .f32) = ((lam : ℝ) : EReal) :=
  IdealRules.named_const.ideal_named_scalar _ _ _ _ rfl

theorem zeroW_ideal : (zeroW : Ideal .f32) = ⊥ :=
  IdealRules.named_const.ideal_named_scalar _ _ _ _ rfl

theorem zOf_apply (q : Vec Ideal S1x256x128 .bf16) (k : Vec Ideal S1x256x128 .f32) (r c : Fin 256) :
    zOf q k (ix2 r c) = ∑ d : Fin 128, q (ix3 0 r d) * k (ix3 0 c d) := by
  pointwise [zOf]

theorem keepOf_apply (z : FVec Ideal S256x256 .f32) (r c : Fin 256) (s : ℝ) (h : z (ix2 r c) = ((s * lam : ℝ) : EReal)) :
    keepOf z (ix2 r c) = ((keep s * lam : ℝ) : EReal) := by
  rw [← keep_base_two, ← h, ← log2E_ideal]
  pointwise [keepOf, negOf]
  rfl

/-- Signed order of small words is the order of the numbers. -/
theorem slt_ofNat {a b : ℕ} (ha : a < 2048) (hb : b < 2048) :
    IntOp.cmpi .slt (BitVec.ofNat 32 a) (BitVec.ofNat 32 b) = if a < b then 1#1 else 0#1 := by
  rw [WordCmp.cmpi_slt_ofNat (by omega) (by omega)]
  by_cases h : a < b <;> simp [h]

/-- The triangle of ones: row after column. -/
theorem tri_apply (r c : Fin 256) : (k0_pay6 (F := Ideal)) (ix2 r c) = if c.val < r.val then 1 else 0 := by
  pointwise [k0_pay6]
  have := slt_ofNat (a := c.val) (b := r.val) (by have := c.isLt; omega) (by have := r.isLt; omega)
  rw [show IntOp.cmpi .sgt (BitVec.ofNat 32 r.val) (BitVec.ofNat 32 c.val) = IntOp.cmpi .slt (BitVec.ofNat 32 c.val) (BitVec.ofNat 32 r.val) from rfl,
    this]
  by_cases h : c.val < r.val
  · rw [if_pos h, if_pos h]; show (((((1#1 : BitVec 1).setWidth 32).toInt : ℤ) : ℝ) : EReal) = 1
    rw [show ((1#1 : BitVec 1).setWidth 32).toInt = 1 by decide]; norm_num
  · rw [if_neg h, if_neg h]; show (((((0#1 : BitVec 1).setWidth 32).toInt : ℤ) : ℝ) : EReal) = 0
    rw [show ((0#1 : BitVec 1).setWidth 32).toInt = 0 by decide]; norm_num

/-- The diagonal tile's mask: column before row. -/
theorem mask_apply (r c : Fin 256) : k0_pay7 (ix2 r c) = if c.val < r.val then 1#1 else 0#1 := by
  pointwise [k0_pay7]
  exact slt_ofNat (by have := c.isLt; omega) (by have := r.isLt; omega)

theorem accOf_apply (a : FVec Ideal S256x128 .f32) (w : FVec Ideal S256x256 .f32) (v : Vec Ideal S1x256x128 .f32) (r : Fin 256) (d : Fin 128) :
    accOf a w v (ix2 r d) = a (ix2 r d) + ∑ k : Fin 256, w (ix2 r k) * v (ix3 0 k d) := by
  pointwise [accOf]

theorem carryOf_apply (c : FVec Ideal S256x1 .f32) (x l : FVec Ideal S256x256 .f32) (r : Fin 256) :
    carryOf c x l (ix2 r 0) = c (ix2 r 0) + (x (ix2 r 0) + l (ix2 r 0)) := by
  pointwise [carryOf]

theorem weightOf_apply (g l : FVec Ideal S256x256 .f32) (x : FVec Ideal S256x1 .f32) (r c : Fin 256) :
    weightOf g l x (ix2 r c) = Ideal.exp2 (g (ix2 r c) + l (ix2 r c) + x (ix2 r 0)) := by
  pointwise [weightOf]
  rfl

theorem laterOf_raw (l : FVec Ideal S256x256 .f32) (r c : Fin 256) :
    laterOf l (ix2 r c) = (∑ k : Fin 256, l (ix2 r k) * k0_pay6 (F := Ideal) (ix2 k c))
      + ∑ k : Fin 256, (l (ix2 r k) - l (ix2 r k)) * k0_pay6 (F := Ideal) (ix2 k c) := by
  pointwise [laterOf]

/-- The later keys' sum in a tile of finite shares: the rounding's remainder is nothing. -/
theorem laterOf_apply (l : FVec Ideal S256x256 .f32) (r c : Fin 256) (L : ℕ → ℝ) (hl : ∀ k : Fin 256, l (ix2 r k) = ((L k.val : ℝ) : EReal)) :
    laterOf l (ix2 r c) = ((∑ k : Fin 256, if c.val < k.val then L k.val else 0 : ℝ) : EReal) := by
  rw [laterOf_raw]
  have e : ∀ k : Fin 256, (l (ix2 r k) - l (ix2 r k)) * k0_pay6 (F := Ideal) (ix2 k c) = 0 := fun k => by
    rw [hl, ← EReal.coe_sub, sub_self, EReal.coe_zero, zero_mul]
  simp only [e, Finset.sum_const_zero, add_zero]
  simp only [hl, tri_apply]
  rw [Share.coe_sum]
  refine Finset.sum_congr (M := EReal) rfl fun k _ => ?_
  by_cases h : c.val < k.val
  · rw [if_pos h, if_pos h, mul_one]
  · rw [if_neg h, if_neg h, mul_zero, EReal.coe_zero]

/-- As long as a carry is finite, some weight is left. -/
theorem anyLeft_of (C : Fin 8 → FVec Ideal S256x1 .f32) (h : C 0 (ix2 0 0) ≠ ⊥) : anyLeft C = 1#1 := by
  unfold anyLeft k0_pay5
  rw [zeroW_ideal]
  pointwise [maxC]
  rw [decide_eq_true]; · rfl
  rw [Finset.lt_fold_max]
  refine .inr ⟨(0, 0), Finset.mem_univ _, ?_⟩
  simp only [lt_max_iff]
  exact .inl (.inl (.inl (.inl (.inl (.inl (.inl (bot_lt_iff_ne_bot.mpr h)))))))

end Cert.KernelIdeal.Attn

end
-- ==== Proof.Attn.HeadIdeal.lean ====
/- A head's running sum and carry at exact numbers: after the tiles from `n` on, the carry is what their keys keep back and
   the sum is their weighted values, for every query of the tile. -/
module

public import proofs.«01_k».proof.Proof.Attn.TileIdeal

@[expose] public section

noncomputable section

namespace Cert.KernelIdeal.Attn

open Cert.KernelIdeal Cert.KernelIdeal.Gen Cert.Share
open Idealize.ShloMosaic Idealize.SL.Sem

section Tile

variable {i n : ℕ} {r : Fin 256} {S : ℕ → ℝ}

/-- Row `r` of a tile's kept shares is query `i`'s, at the tile's keys. -/
def KeptRow (l : FVec Ideal S256x256 .f32) (r : Fin 256) (S : ℕ → ℝ) (i n : ℕ) : Prop :=
  ∀ k : Fin 256, l (ix2 r k) = ((kept S i (256 * n + k.val) * lam : ℝ) : EReal)

theorem later_row {l : FVec Ideal S256x256 .f32} (hl : KeptRow l r S i n) (c : Fin 256) :
    laterOf l (ix2 r c) = (((∑ k : Fin 256, if c.val < k.val then kept S i (256 * n + k.val) else 0) * lam : ℝ) : EReal) := by
  rw [laterOf_apply l r c (fun k => kept S i (256 * n + k) * lam) hl, Finset.sum_mul]
  congr 1
  refine Finset.sum_congr rfl fun k _ => ?_
  by_cases h : c.val < k.val
  · rw [if_pos h, if_pos h]
  · rw [if_neg h, if_neg h, zero_mul]

/-- The carry goes from the keys after the tile to the tile's too. -/
theorem carry_row {l : FVec Ideal S256x256 .f32} (hn : n < 8) (hl : KeptRow l r S i n) {c : FVec Ideal S256x1 .f32}
    (hc : c (ix2 r 0) = ((keptFrom S i (256 * (n + 1)) * lam : ℝ) : EReal)) :
    carryOf c (laterOf l) l (ix2 r 0) = ((keptFrom S i (256 * n) * lam : ℝ) : EReal) := by
  rw [carryOf_apply, later_row hl, hl, hc, ← EReal.coe_add, ← EReal.coe_add, ← add_mul, ← add_mul, ← keptFrom_whole S i hn]
  rfl

/-- A tile's weight, from the score, the later keys of the tile and the carry. -/
theorem weight_row {l g : FVec Ideal S256x256 .f32} (hn : n < 8) (hl : KeptRow l r S i n) {c : FVec Ideal S256x1 .f32}
    (hc : c (ix2 r 0) = ((keptFrom S i (256 * (n + 1)) * lam : ℝ) : EReal)) (k : Fin 256) (s : ℝ)
    (hg : g (ix2 r k) = ((s * lam : ℝ) : EReal)) :
    weightOf g (laterOf l) c (ix2 r k) = ((Real.exp (s + keptFrom S i (256 * n + k.val + 1)) : ℝ) : EReal) := by
  rw [weightOf_apply, later_row hl, hc, hg, ← EReal.coe_add, ← EReal.coe_add, ← add_mul, ← add_mul, add_assoc,
    keptFrom_tile S i hn k.isLt, Ideal.exp2_coe, rpow_lam]

/-- A tile's weighted values are added to the sum. -/
theorem acc_row {w : FVec Ideal S256x256 .f32} (hn : n < 8) (hw : ∀ k : Fin 256, w (ix2 r k) = ((wt S i (256 * n + k.val) : ℝ) : EReal))
    {a : FVec Ideal S256x128 .f32} {v : Vec Ideal S1x256x128 .f32} {V : ℕ → EReal} (d : Fin 128)
    (hv : ∀ k : Fin 256, v (ix3 0 k d) = V (256 * n + k.val)) (ha : a (ix2 r d) = sumFrom S V i (256 * (n + 1))) :
    accOf a w v (ix2 r d) = sumFrom S V i (256 * n) := by
  rw [accOf_apply, ha, ← sumFrom_tile S V i hn]
  simp only [hw, hv]

/-! ### The diagonal tile -/

variable {q : Vec Ideal S1x256x128 .bf16} {k v : Vec Ideal S1x256x128 .f32}

theorem keepDiag_row (hz : ∀ c : Fin 256, zOf q k (ix2 r c) = ((S (256 * n + c.val) * lam : ℝ) : EReal)) :
    KeptRow (keepDiag (zOf q k)) r S (256 * n + r.val) n := fun c => by
  show Scalar.select (k0_pay7 (ix2 r c)) (keepOf (zOf q k) (ix2 r c)) (Ideal.ofBits .f32 0x00000000#32) = _
  rw [mask_apply, keepOf_apply _ r c _ (hz c), kept]
  by_cases h : c.val < r.val
  · rw [if_pos h, if_pos (by omega)]; rfl
  · rw [if_neg h, if_neg (by omega), zero_mul]; exact Ideal.ofBits_zero_f32

theorem giveOf_row (z : FVec Ideal S256x256 .f32) (c : Fin 256) (s : ℝ) (h : z (ix2 r c) = ((s * lam : ℝ) : EReal)) :
    giveOf z (ix2 r c) = (((s + keep s) * lam : ℝ) : EReal) := by
  show z (ix2 r c) + keepOf z (ix2 r c) = _
  rw [keepOf_apply z r c s h, h, ← EReal.coe_add, add_mul]

theorem zero_carry {S : ℕ → ℝ} : (broadcast S256x1 (Scalar.ofBits .f32 0x00000000#32) : FVec Ideal S256x1 .f32) (ix2 r 0)
    = ((keptFrom S (256 * n + r.val) (256 * (n + 1)) * lam : ℝ) : EReal) := by
  rw [keptFrom_of_le S (by have := r.isLt; omega), zero_mul]; exact Ideal.ofBits_zero_f32

theorem diagC_row (hn : n < 8) (hz : ∀ c : Fin 256, zOf q k (ix2 r c) = ((S (256 * n + c.val) * lam : ℝ) : EReal)) :
    diagC q k (ix2 r 0) = ((keptFrom S (256 * n + r.val) (256 * n) * lam : ℝ) : EReal) :=
  carry_row hn (keepDiag_row hz) zero_carry

theorem diagA_row (hn : n < 8) (hz : ∀ c : Fin 256, zOf q k (ix2 r c) = ((S (256 * n + c.val) * lam : ℝ) : EReal))
    {V : ℕ → EReal} (d : Fin 128) (hv : ∀ c : Fin 256, v (ix3 0 c d) = V (256 * n + c.val)) :
    diagA q k v (ix2 r d) = sumFrom S V (256 * n + r.val) (256 * n) := by
  refine acc_row hn (fun c => ?_) d hv ?_
  · show Scalar.select (k0_pay7 (ix2 r c)) (weightOf _ _ _ (ix2 r c)) (Ideal.ofBits .f32 0x00000000#32) = _
    rw [mask_apply, weight_row hn (keepDiag_row hz) zero_carry c _ (giveOf_row _ c _ (hz c)), wt]
    by_cases h : c.val < r.val
    · rw [if_pos h, if_pos (by omega)]; rfl
    · rw [if_neg h, if_neg (by omega)]; exact Ideal.ofBits_zero_f32
  · rw [sumFrom_of_le S V (by have := r.isLt; omega)]; exact Ideal.ofBits_zero_f32

/-! ### A tile before it -/

variable (hi : 256 * (n + 1) ≤ i)
include hi

theorem keepOf_row (hz : ∀ c : Fin 256, zOf q k (ix2 r c) = ((S (256 * n + c.val) * lam : ℝ) : EReal)) :
    KeptRow (keepOf (zOf q k)) r S i n := fun c => by
  rw [keepOf_apply _ r c _ (hz c), kept, if_pos (by have := c.isLt; omega)]

theorem stepC_row (hn : n < 8) (hz : ∀ c : Fin 256, zOf q k (ix2 r c) = ((S (256 * n + c.val) * lam : ℝ) : EReal))
    {c : FVec Ideal S256x1 .f32} (hc : c (ix2 r 0) = ((keptFrom S i (256 * (n + 1)) * lam : ℝ) : EReal)) :
    stepC q k c (ix2 r 0) = ((keptFrom S i (256 * n) * lam : ℝ) : EReal) :=
  carry_row hn (keepOf_row hi hz) hc

theorem stepA_row (hn : n < 8) (hz : ∀ c : Fin 256, zOf q k (ix2 r c) = ((S (256 * n + c.val) * lam : ℝ) : EReal))
    {c : FVec Ideal S256x1 .f32} (hc : c (ix2 r 0) = ((keptFrom S i (256 * (n + 1)) * lam : ℝ) : EReal))
    {a : FVec Ideal S256x128 .f32} {V : ℕ → EReal} (d : Fin 128) (hv : ∀ c : Fin 256, v (ix3 0 c d) = V (256 * n + c.val))
    (ha : a (ix2 r d) = sumFrom S V i (256 * (n + 1))) :
    stepA q k v a c (ix2 r d) = sumFrom S V i (256 * n) := by
  refine acc_row hn (fun c => ?_) d hv ha
  rw [weight_row hn (keepOf_row hi hz) hc c _ (giveOf_row _ c _ (hz c)), wt, if_pos (by have := c.isLt; omega)]

end Tile

/-! ## All tiles -/

variable (x0 : Vec Ideal S1x256x1024 .bf16) (x1 x2 : Vec Ideal S1x2048x1024 .f32)

/-- The blocks' scores are the numbers `S`, head by head, row by row, -/
def Scores (S : Fin 8 → Fin 256 → ℕ → ℝ) : Prop :=
  ∀ n < 8, ∀ (h : Fin 8) (r c : Fin 256), zOf (headOf x0 h) (tileOf x1 n h) (ix2 r c) = ((S h r (256 * n + c.val) * lam : ℝ) : EReal)

/-- and their values `V`. -/
def Values (V : Fin 8 → Fin 128 → ℕ → EReal) : Prop :=
  ∀ n < 8, ∀ (h : Fin 8) (c : Fin 256) (d : Fin 128), tileOf x2 n h (ix3 0 c d) = V h d (256 * n + c.val)

variable {x0 x1 x2} {S : Fin 8 → Fin 256 → ℕ → ℝ} {V : Fin 8 → Fin 128 → ℕ → EReal}

/-- From the tile after `n` on down to the first: every tile is taken, and the sums are over all keys. -/
theorem loopA_row (hS : Scores x0 x1 S) (hV : Values x2 V) {g : ℕ} (hg : g < 8) : ∀ n ≤ g, ∀ (b : BitVec 1)
    (A : Fin 8 → FVec Ideal S256x128 .f32) (C : Fin 8 → FVec Ideal S256x1 .f32), b = 1#1 →
    (∀ h r, C h (ix2 r 0) = ((keptFrom (S h r) (256 * g + r.val) (256 * n) * lam : ℝ) : EReal)) →
    (∀ h r d, A h (ix2 r d) = sumFrom (S h r) (V h d) (256 * g + r.val) (256 * n)) →
    ∀ h r d, loopA x0 x1 x2 n b A C h (ix2 r d) = sumFrom (S h r) (V h d) (256 * g + r.val) 0
  | 0, _, b, A, C, _, _, hA => fun h r d => by rw [loopA, hA]
  | n + 1, hn, b, A, C, hb, hC, hA => fun h r d => by
    have hC' : ∀ h r, stepC (headOf x0 h) (tileOf x1 n h) (C h) (ix2 r 0)
        = ((keptFrom (S h r) (256 * g + r.val) (256 * n) * lam : ℝ) : EReal) := fun h r =>
      stepC_row (by omega) (by omega) (hS n (by omega) h r) (hC h r)
    rw [loopA, if_pos hb]
    refine loopA_row hS hV hg n (by omega) _ _ _ (anyLeft_of _ ?_) hC' (fun h r d => ?_) h r d
    · rw [hC' 0 0]; exact EReal.coe_ne_bot _
    · exact stepA_row (by omega) (by omega) (hS n (by omega) h r) (hC h r) d (fun c => hV n (by omega) h c d) (hA h r d)

/-- The eight heads' sums at query tile `g`: every key's value, at its weight. -/
theorem headsA_row (hS : Scores x0 x1 S) (hV : Values x2 V) {g : ℕ} (hg : g < 8) (h : Fin 8) (r : Fin 256) (d : Fin 128) :
    headsA x0 x1 x2 g h (ix2 r d) = sumFrom (S h r) (V h d) (256 * g + r.val) 0 := by
  have hC : ∀ h r, diagC (headOf x0 h) (tileOf x1 g h) (ix2 r 0)
      = ((keptFrom (S h r) (256 * g + r.val) (256 * g) * lam : ℝ) : EReal) := fun h r => diagC_row hg (hS g hg h r)
  refine loopA_row hS hV hg g le_rfl _ _ _ (anyLeft_of _ ?_) hC (fun h r d => ?_) h r d
  · rw [hC 0 0]; exact EReal.coe_ne_bot _
  · exact diagA_row hg (hS g hg h r) d (fun c => hV g hg h c d)

/-- The block's element for head `h` at row `r`. -/
theorem blockOut_apply (x3 x4 : Vec Ideal S1x256x1024 .bf16) (g : ℕ) (h : Fin 8) (r : Fin 256) (d : Fin 128) :
    blockOut x0 x1 x2 x3 x4 g (ix3 0 r ⟨128 * h.val + d.val, by have := h.isLt; have := d.isLt; omega⟩)
      = x4 (ix3 0 r ⟨128 * h.val + d.val, by have := h.isLt; have := d.isLt; omega⟩)
        + x3 (ix3 0 r ⟨128 * h.val + d.val, by have := h.isLt; have := d.isLt; omega⟩) * headsA x0 x1 x2 g h (ix2 r d) := by
  pointwise [blockOut, k0_pay4]
  generalize headsA x0 x1 x2 g = A
  refine congrArg _ (congrArg _ ?_)
  have hd := d.isLt
  match h with
  | 0 =>
    have e : (((0 : Fin 8)).val) = 0 := rfl
    rw [dif_pos (by omega)]
    exact congrArg (A 0) (congrArg (ix2 r) (Fin.ext (by simp only; omega)))
  | 1 =>
    have e : (((1 : Fin 8)).val) = 1 := rfl
    rw [dif_neg (by omega), dif_pos (by omega)]
    exact congrArg (A 1) (congrArg (ix2 r) (Fin.ext (by simp only; omega)))
  | 2 =>
    have e : (((2 : Fin 8)).val) = 2 := rfl
    rw [dif_neg (by omega), dif_neg (by omega), dif_pos (by omega)]
    exact congrArg (A 2) (congrArg (ix2 r) (Fin.ext (by simp only; omega)))
  | 3 =>
    have e : (((3 : Fin 8)).val) = 3 := rfl
    rw [dif_neg (by omega), dif_neg (by omega), dif_neg (by omega), dif_pos (by omega)]
    exact congrArg (A 3) (congrArg (ix2 r) (Fin.ext (by simp only; omega)))
  | 4 =>
    have e : (((4 : Fin 8)).val) = 4 := rfl
    rw [dif_neg (by omega), dif_neg (by omega), dif_neg (by omega), dif_neg (by omega), dif_pos (by omega)]
    exact congrArg (A 4) (congrArg (ix2 r) (Fin.ext (by simp only; omega)))
  | 5 =>
    have e : (((5 : Fin 8)).val) = 5 := rfl
    rw [dif_neg (by omega), dif_neg (by omega), dif_neg (by omega), dif_neg (by omega), dif_neg (by omega), dif_pos (by omega)]
    exact congrArg (A 5) (congrArg (ix2 r) (Fin.ext (by simp only; omega)))
  | 6 =>
    have e : (((6 : Fin 8)).val) = 6 := rfl
    rw [dif_neg (by omega), dif_neg (by omega), dif_neg (by omega), dif_neg (by omega), dif_neg (by omega), dif_neg (by omega), dif_pos (by omega)]
    exact congrArg (A 6) (congrArg (ix2 r) (Fin.ext (by simp only; omega)))
  | 7 =>
    have e : (((7 : Fin 8)).val) = 7 := rfl
    rw [dif_neg (by omega), dif_neg (by omega), dif_neg (by omega), dif_neg (by omega), dif_neg (by omega), dif_neg (by omega), dif_neg (by omega)]
    exact congrArg (A 7) (congrArg (ix2 r) (Fin.ext (by simp only; omega)))

end Cert.KernelIdeal.Attn

end
-- ==== Proof.Attn.Want.lean ====
/- The attention's answer in exact numbers, of the five arrays, and the two constants of the scores' scale. -/
module

public import proofs.«01_k».proof.Proof.Attn.Share
public import Idealize.ShloMosaic.Lib.Pointwise

@[expose] public section

noncomputable section

namespace Cert.Share

open Idealize.ShloMosaic

/-! ## The constants -/

theorem head_dim : Ideal.ofBits .f32 0x43000000#32 = ((128 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem infinity : Ideal.ofBits .f32 0x7F800000#32 = (⊤ : EReal) := by
  simp [Ideal.ofBits, Ideal.ieee]

/-! ## The answer -/

/-- An array of the prompts: 16 sequences, 2048 places, 2048 lanes. -/
abbrev Arr := (⟨3, ![16, 2048, 2048]⟩ : Shape).Idx → EReal

/-- Place `j`, -/
def place (j : ℕ) : Fin 2048 := ⟨j % 2048, Nat.mod_lt _ (by decide)⟩

/-- and lane `d` of head `h`. -/
def lane (h : Fin 16) (d : Fin 128) : Fin 2048 := ⟨128 * h.val + d.val, by have := h.isLt; have := d.isLt; omega⟩

theorem place_val {j : ℕ} (h : j < 2048) : (place j).val = j := Nat.mod_eq_of_lt h

theorem place_fin (i : Fin 2048) : place i.val = i := Fin.ext (place_val i.isLt)

/-- Every element of an array is no infinity. -/
def Finite (x : Arr) : Prop := ∀ y, x y = (((x y).toReal : ℝ) : EReal)

/-- The score of key `j` for query `i` of head `h` in sequence `b`. -/
def score (q k : Arr) (b h : Fin 16) (i j : ℕ) : ℝ :=
  (∑ d : Fin 128, (q (ix3 b (place i) (lane h d))).toReal * (k (ix3 b (place j) (lane h d))).toReal) / Real.sqrt 128

/-- Lane `d` of the value of key `j`. -/
def value (v : Arr) (b h : Fin 16) (d : Fin 128) (j : ℕ) : EReal := v (ix3 b (place j) (lane h d))

/-- The weighted values of every earlier key, together. -/
def attended (q k v : Arr) (b : Fin 16) (i : ℕ) (h : Fin 16) (d : Fin 128) : EReal :=
  sumFrom (score q k b h i) (value v b h d) i 0

/-- The answer at a place and a lane of a head. -/
def answer (q k v sz yl : Arr) : Arr := fun y =>
  yl y + sz y * attended q k v (y 0) (y 1).val ⟨(y 2).val / 128, by have : (y 2).val < 2048 := (y 2).isLt; omega⟩
    ⟨(y 2).val % 128, Nat.mod_lt _ (by decide)⟩

theorem answer_lane (q k v sz yl : Arr) (b : Fin 16) (i : Fin 2048) (h : Fin 16) (d : Fin 128) :
    answer q k v sz yl (ix3 b i (lane h d))
      = yl (ix3 b i (lane h d)) + sz (ix3 b i (lane h d)) * attended q k v b i.val h d := by
  have hd := d.isLt
  have h1 : (⟨(lane h d).val / 128, by have := (lane h d).isLt; omega⟩ : Fin 16) = h := Fin.ext (by simp only [lane]; omega)
  have h2 : (⟨(lane h d).val % 128, Nat.mod_lt _ (by decide)⟩ : Fin 128) = d := Fin.ext (by simp only [lane]; omega)
  exact congrArg (fun x => yl (ix3 b i (lane h d)) + sz (ix3 b i (lane h d)) * x) (congrArg₂ (attended q k v b i.val) h1 h2)

/-- Every lane is a head's. -/
theorem exists_lane (a : Fin 2048) : ∃ h d, a = lane h d :=
  ⟨⟨a.val / 128, by have := a.isLt; omega⟩, ⟨a.val % 128, Nat.mod_lt _ (by decide)⟩, Fin.ext (by simp only [lane]; omega)⟩

end Cert.Share

end
-- ==== Proof.Attn.Array.lean ====
/- The result's array at exact numbers: every element is the attention's answer of the five arguments. -/
module

public import proofs.«01_k».proof.Proof.Attn.Run
public import proofs.«01_k».proof.Proof.Attn.HeadIdeal
public import proofs.«01_k».proof.Proof.Attn.Want
public import Idealize.ShloMosaic.Lib.Pipeline.ValueKit

@[expose] public section

set_option maxRecDepth 16384

noncomputable section

namespace Cert.KernelIdeal.Attn

open Cert.KernelIdeal Cert.KernelIdeal.Gen Cert.Share
open Idealize.ShloMosaic Idealize.ShloMosaic.TcCoe Idealize.SL.Sem
open Idealize.ShloMosaic.Pipeline (Dat Window)

variable (m : (ℓ : Loc nD τ sig) → Buf (Elt Ideal) ℓ) (c : Dev nD)

/-! ## The arrays the kernel reads -/

/-- The queries, keys, values, gates and local parts the kernel is called with. -/
abbrev queries : Arr := m ((c : Thread nD τ).loc main_arg0)
abbrev keys : Arr := m ((c : Thread nD τ).loc main_arg1)
abbrev values : Arr := m ((c : Thread nD τ).loc main_arg2)
abbrev gates : Arr := m ((c : Thread nD τ).loc main_arg3)
abbrev locals : Arr := m ((c : Thread nD τ).loc main_arg4)

/-- The queries, over the root of the head's size and the logarithm of two. -/
theorem V_queries (y : S16x2048x2048.Idx) :
    (V m c main_v5 : Arr) y = queries m c y * ((1 / (Real.sqrt 128 * Real.log 2) : ℝ) : EReal) := by
  have e : V m c main_v5 = (truncf .bf16 (Host.divf (m ((c : Thread nD τ).loc main_arg0)) (broadcastInDim S16x2048x2048 ![] bcast_S_S16x2048x2048
      (mulf (Host.sqrt (constant S_ .f32 0x43000000#32)) (Host.log (constant S_ .f32 0x40000000#32))))) bitsLt_bf16_f32
        : FVec Ideal S16x2048x2048 .bf16) := by
    unfold V
    simp only [hostOps0]
    after_results
  rw [e]
  pointwise
  have h2 : Real.log 2 ≠ 0 := (Real.log_pos (by norm_num)).ne'
  have h128 : Real.sqrt 128 ≠ 0 := by positivity
  rw [head_dim, two, Ideal.sqrt_coe, Ideal.log_coe, if_neg (by norm_num), if_neg (by norm_num), ← EReal.coe_mul, Ideal.div_coe (mul_ne_zero h128 h2)]

theorem V_gate (y : S16x2048x2048.Idx) : (V m c main_v6 : Arr) y = gates m c y := by
  have e : V m c main_v6 = (truncf .bf16 (m ((c : Thread nD τ).loc main_arg3)) bitsLt_bf16_f32 : FVec Ideal S16x2048x2048 .bf16) := by
    unfold V
    simp only [hostOps0]
    after_results
  rw [e]
  pointwise

theorem V_local (y : S16x2048x2048.Idx) : (V m c main_v7 : Arr) y = locals m c y := by
  have e : V m c main_v7 = (truncf .bf16 (m ((c : Thread nD τ).loc main_arg4)) bitsLt_bf16_f32 : FVec Ideal S16x2048x2048 .bf16) := by
    unfold V
    simp only [hostOps0]
    after_results
  rw [e]
  pointwise

/-! ## The blocks of a point -/

theorem index_0 : ∀ t : Fin grid0.N, win0_0.index t = ![(grid0.coords t 0).val, (grid0.coords t 2).val, (grid0.coords t 1).val] := by decide +kernel
theorem index_1 : ∀ t : Fin grid0.N, win0_1.index t = ![(grid0.coords t 0).val, 0, (grid0.coords t 1).val] := by decide +kernel
theorem index_2 : ∀ t : Fin grid0.N, win0_2.index t = ![(grid0.coords t 0).val, 0, (grid0.coords t 1).val] := by decide +kernel
theorem index_3 : ∀ t : Fin grid0.N, win0_3.index t = ![(grid0.coords t 0).val, (grid0.coords t 2).val, (grid0.coords t 1).val] := by decide +kernel
theorem index_4 : ∀ t : Fin grid0.N, win0_4.index t = ![(grid0.coords t 0).val, (grid0.coords t 2).val, (grid0.coords t 1).val] := by decide +kernel
theorem index_5 : ∀ t : Fin grid0.N, win0_5.index t = ![(grid0.coords t 0).val, (grid0.coords t 2).val, (grid0.coords t 1).val] := by decide +kernel

theorem covers : win0_5.Covers := by decide +kernel

/-- The head a point's `h`-th is. -/
def headAt (t : Fin grid0.N) (h : Fin 8) : Fin 16 :=
  ⟨8 * (grid0.coords t 1).val + h.val, by have : (grid0.coords t 1).val < 2 := (grid0.coords t 1).isLt; have := h.isLt; omega⟩

/-- The sequence a point works on. -/
def seqAt (t : Fin grid0.N) : Fin 16 := ⟨(grid0.coords t 0).val, (grid0.coords t 0).isLt⟩

/-- The place row `r` of a point's queries is. -/
def placeAt (t : Fin grid0.N) (r : Fin 256) : Fin 2048 :=
  ⟨256 * (grid0.coords t 2).val + r.val, by have : (grid0.coords t 2).val < 8 := (grid0.coords t 2).isLt; have := r.isLt; omega⟩

abbrev inner (h : Fin 8) (d : Fin 128) : Fin 1024 := ⟨128 * h.val + d.val, by have := h.isLt; have := d.isLt; omega⟩

/-- An element of a block of queries, gates, local parts or results sits in its array at the point's place and head; -/
theorem emb_5 (t : Fin grid0.N) (h : Fin 8) (r : Fin 256) (d : Fin 128) :
    (win0_5.blk t).view.emb (ix3 0 r (inner h d)) = ix3 (seqAt t) (placeAt t r) (lane (headAt t h) d) :=
  funext fun a => Fin.ext (match a with
  | 0 => by blk_simp [index_5]; simp [seqAt]
  | 1 => by blk_simp [index_5]; simp only [placeAt]; omega
  | 2 => by blk_simp [index_5]; simp only [lane, headAt, inner]; omega)

theorem blk_0 (t : Fin (cfg0 (F := Ideal)).N) (h : Fin 8) (r : Fin 256) (d : Fin 128) :
    iblk m c 0 t (ix3 0 r (inner h d)) = V m c main_v5 (ix3 (seqAt t) (placeAt t r) (lane (headAt t h) d)) := by
  blk_simp [iblk]
  refine congrArg _ (funext fun a => Fin.ext ?_)
  match a with
  | 0 => blk_simp [index_0]; simp [seqAt]
  | 1 => blk_simp [index_0]; simp only [placeAt]; omega
  | 2 => blk_simp [index_0]; simp only [lane, headAt, inner]; omega

theorem blk_3 (t : Fin (cfg0 (F := Ideal)).N) (h : Fin 8) (r : Fin 256) (d : Fin 128) :
    iblk m c 3 t (ix3 0 r (inner h d)) = V m c main_v6 (ix3 (seqAt t) (placeAt t r) (lane (headAt t h) d)) := by
  blk_simp [iblk]
  refine congrArg _ (funext fun a => Fin.ext ?_)
  match a with
  | 0 => blk_simp [index_3]; simp [seqAt]
  | 1 => blk_simp [index_3]; simp only [placeAt]; omega
  | 2 => blk_simp [index_3]; simp only [lane, headAt, inner]; omega

theorem blk_4 (t : Fin (cfg0 (F := Ideal)).N) (h : Fin 8) (r : Fin 256) (d : Fin 128) :
    iblk m c 4 t (ix3 0 r (inner h d)) = V m c main_v7 (ix3 (seqAt t) (placeAt t r) (lane (headAt t h) d)) := by
  blk_simp [iblk]
  refine congrArg _ (funext fun a => Fin.ext ?_)
  match a with
  | 0 => blk_simp [index_4]; simp [seqAt]
  | 1 => blk_simp [index_4]; simp only [placeAt]; omega
  | 2 => blk_simp [index_4]; simp only [lane, headAt, inner]; omega

/-! and one of keys or values at the place itself. -/

theorem blk_1 (t : Fin (cfg0 (F := Ideal)).N) (h : Fin 8) (r : Fin 2048) (d : Fin 128) :
    iblk m c 1 t (ix3 0 r (inner h d)) = V m c main_arg1 (ix3 (seqAt t) r (lane (headAt t h) d)) := by
  blk_simp [iblk]
  refine congrArg _ (funext fun a => Fin.ext ?_)
  match a with
  | 0 => blk_simp [index_1]; simp [seqAt]
  | 1 => blk_simp [index_1]; try simp
  | 2 => blk_simp [index_1]; simp only [lane, headAt, inner]; omega

theorem blk_2 (t : Fin (cfg0 (F := Ideal)).N) (h : Fin 8) (r : Fin 2048) (d : Fin 128) :
    iblk m c 2 t (ix3 0 r (inner h d)) = V m c main_arg2 (ix3 (seqAt t) r (lane (headAt t h) d)) := by
  blk_simp [iblk]
  refine congrArg _ (funext fun a => Fin.ext ?_)
  match a with
  | 0 => blk_simp [index_2]; simp [seqAt]
  | 1 => blk_simp [index_2]; try simp
  | 2 => blk_simp [index_2]; simp only [lane, headAt, inner]; omega

/-! ## The point's scores and values -/

variable {m c}

theorem scores (hq : Finite (queries m c)) (hk : Finite (keys m c)) (t : Fin (cfg0 (F := Ideal)).N) :
    Scores (iblk m c 0 t) (iblk m c 1 t)
      (fun h r => score (queries m c) (keys m c) (seqAt t) (headAt t h) (placeAt t r).val) := by
  intro n hn h r k
  have hk' := k.isLt
  have key : (⟨(256 * n + k.val) % 2048, Nat.mod_lt _ (by decide)⟩ : Fin 2048) = place (256 * n + k.val) := rfl
  have eq : ∀ d : Fin 128, headOf (iblk m c 0 t) h (ix3 0 r d) * tileOf (iblk m c 1 t) n h (ix3 0 k d)
      = (((queries m c (ix3 (seqAt t) (placeAt t r) (lane (headAt t h) d))).toReal * (1 / (Real.sqrt 128 * Real.log 2))
        * (keys m c (ix3 (seqAt t) (place (256 * n + k.val)) (lane (headAt t h) d))).toReal : ℝ) : EReal) := by
    intro d
    have e0 : headOf (iblk m c 0 t) h (ix3 0 r d) = (V m c main_v5 : Arr) (ix3 (seqAt t) (placeAt t r) (lane (headAt t h) d)) :=
      blk_0 m c t h r d
    have e1 : tileOf (iblk m c 1 t) n h (ix3 0 k d) = keys m c (ix3 (seqAt t) (place (256 * n + k.val)) (lane (headAt t h) d)) :=
      (blk_1 m c t h (place (256 * n + k.val)) d).trans (congrFun (V_arg m c main_arg1 (by decide)) _)
    rw [e0, e1, V_queries, hq, hk, EReal.toReal_coe, EReal.toReal_coe, EReal.coe_mul, EReal.coe_mul]
  rw [zOf_apply, Finset.sum_congr rfl fun d _ => eq d, ← coe_sum]
  refine congrArg _ ?_
  simp only [score, place_fin, lam]
  rw [div_mul_eq_mul_div, Finset.sum_mul, Finset.sum_div]
  refine Finset.sum_congr rfl fun d _ => ?_
  field_simp

theorem vals (t : Fin (cfg0 (F := Ideal)).N) :
    Values (iblk m c 2 t) (fun h d => value (values m c) (seqAt t) (headAt t h) d) := by
  intro n hn h k d
  exact (blk_2 m c t h (place (256 * n + k.val)) d).trans (congrFun (V_arg m c main_arg2 (by decide)) _)

/-- The result's block after a point, at a row and a head's lane. -/
theorem outAt_apply (hq : Finite (queries m c)) (hk : Finite (keys m c)) (t : Fin (cfg0 (F := Ideal)).N)
    (h : Fin 8) (r : Fin 256) (d : Fin 128) :
    outAt m c t (ix3 0 r (inner h d)) = answer (queries m c) (keys m c) (values m c) (gates m c) (locals m c)
      (ix3 (seqAt t) (placeAt t r) (lane (headAt t h) d)) := by
  rw [outAt, blockOut_apply, headsA_row (scores hq hk t) (vals t) (grid0.coords t 2).isLt, answer_lane]
  have e3 : iblk m c 3 t (ix3 0 r (inner h d)) = gates m c (ix3 (seqAt t) (placeAt t r) (lane (headAt t h) d)) :=
    (blk_3 m c t h r d).trans (V_gate m c _)
  have e4 : iblk m c 4 t (ix3 0 r (inner h d)) = locals m c (ix3 (seqAt t) (placeAt t r) (lane (headAt t h) d)) :=
    (blk_4 m c t h r d).trans (V_local m c _)
  exact congrArg₂ (· + ·) e4 (congrArg₂ (· * ·) e3 rfl)

/-- The result's array is the attention's answer. -/
theorem result_eq (hq : Finite (queries m c)) (hk : Finite (keys m c)) :
    result m c = answer (queries m c) (keys m c) (values m c) (gates m c) (locals m c) := by
  refine (dats m 0 c).arrAt_eq_of_covers 5 _ covers fun t hf y => ?_
  blk_simp
  rw [after_5]
  obtain ⟨h, d, hy⟩ : ∃ (h : Fin 8) (d : Fin 128), y = ix3 0 (y 1) (inner h d) := by
    have h2 : (y 2).val < 1024 := (y 2).isLt
    refine ⟨⟨(y 2).val / 128, by omega⟩, ⟨(y 2).val % 128, Nat.mod_lt _ (by decide)⟩, funext fun a => Fin.ext ?_⟩
    match a with
    | 0 => have h0 : (y 0).val < 1 := (y 0).isLt; show (y 0).val = 0; omega
    | 1 => rfl
    | 2 => show (y 2).val = 128 * ((y 2).val / 128) + (y 2).val % 128; omega
  rw [hy]
  exact (outAt_apply hq hk t h (y 1) d).trans (congrArg _ (emb_5 t h (y 1) d).symm)

end Cert.KernelIdeal.Attn

end
-- ==== Proof.Attn.RefRows.lean ====
/- The reference's operations read at an index: the scores, the shares kept back and the running sum along the keys. -/
module

public import proofs.«01_k».proof.Proof.Attn.Want
public import proofs.«01_k».proof.Proof.Gen.ReferenceIdeal.Run
public import Idealize.ShloMosaic.Lib.WordCmp

@[expose] public section

set_option maxRecDepth 16384

noncomputable section

namespace Cert.ReferenceIdeal.Attn

open Cert.ReferenceIdeal Cert.ReferenceIdeal.Gen Cert.Share
open Idealize.ShloMosaic Idealize.SL.Sem

/-! ## A running sum from the right -/

/-- The sum over a window that starts at `j` and ends with the row is the sum of what follows from `j` on. -/
theorem sum_window (f : ℕ → EReal) (j : ℕ) : (∑ w : Fin 2048, if j + w.val < 2048 then f (j + w.val) else 0) = ∑ k ∈ Finset.Ico j 2048, f k := by
  rw [Fin.sum_univ_eq_sum_range (fun w => if j + w < 2048 then f (j + w) else 0) 2048, ← Finset.sum_filter, Finset.sum_Ico_eq_sum_range]
  refine Finset.sum_congr (Finset.ext fun w => ?_) fun _ _ => rfl
  rw [Finset.mem_filter, Finset.mem_range, Finset.mem_range]
  omega

/-- Adding up a list from zero is the sum. -/
theorem foldl_add {n : ℕ} (g : Fin n → EReal) : (List.finRange n).foldl (fun r k => r + g k) 0 = ∑ k, g k := by
  rw [Fin.sum_univ_def, List.sum_eq_foldl, List.foldl_map]

theorem sum_from_right (x : FVec Ideal S16x16x2048x2048 .f32) (init : FVec Ideal S_ .f32) (h0 : ∀ y, init y = 0)
    (b h : Fin 16) (i j : Fin 2048) (f : ℕ → EReal) (hx : ∀ k : Fin 2048, x (ix4 b h i k) = f k.val) :
    Host.reduceWindowAdd ![1, 1, 1, 2048] ![1, 1, 1, 1] ![0, 0, 0, 0] ![0, 0, 0, 2047] x init
        reduceWindows_S16x16x2048x2048_S16x16x2048x2048_w1s1p0_0_w1s1p0_0_w1s1p0_0_w2048s1p0_2047 h_S_ (ix4 b h i j)
      = ∑ k ∈ Finset.Ico j.val 2048, f k := by
  have hb := b.isLt
  have hh := h.isLt
  have hi := i.isLt
  unfold Host.reduceWindowAdd
  rw [Ideal.hostReduceWindowAdd_def, h0]
  unfold Ideal.hostReduceWindowAdd Host.reduceWindow
  refine (foldl_add _).trans ?_
  rw [← sum_window f j.val]
  have term : ∀ w : (⟨4, ![1, 1, 1, 2048]⟩ : Shape).Idx, (w 0).val = 0 ∧ (w 1).val = 0 ∧ (w 2).val = 0 := fun w => by
    have h0 : (w 0).val < 1 := (w 0).isLt
    have h1 : (w 1).val < 1 := (w 1).isLt
    have h2 : (w 2).val < 1 := (w 2).isLt
    omega
  refine (Finset.sum_congr rfl fun n _ => ?_).trans ((Equiv.sum_comp ((⟨4, ![1, 1, 1, 2048]⟩ : Shape).rowMajor.symm)
    (fun w : (⟨4, ![1, 1, 1, 2048]⟩ : Shape).Idx => if j.val + (w 3).val < 2048 then f (j.val + (w 3).val) else 0)).trans ?_)
  · let w := (⟨4, ![1, 1, 1, 2048]⟩ : Shape).rowMajor.symm n
    obtain ⟨w0, w1, w2⟩ := term w
    show _ = if j.val + (w 3).val < 2048 then f (j.val + (w 3).val) else 0
    by_cases hin : j.val + (w 3).val < 2048
    · rw [if_pos hin]
      refine (dif_pos (fun a => match a with
        | 0 => ⟨Nat.zero_le _, by show b.val * 1 + (w 0).val - 0 < 16; omega⟩
        | 1 => ⟨Nat.zero_le _, by show h.val * 1 + (w 1).val - 0 < 16; omega⟩
        | 2 => ⟨Nat.zero_le _, by show i.val * 1 + (w 2).val - 0 < 2048; omega⟩
        | 3 => ⟨Nat.zero_le _, by show j.val * 1 + (w 3).val - 0 < 2048; omega⟩)).trans ?_
      refine (congrArg x (funext fun a => Fin.ext ?_)).trans (hx ⟨j.val + (w 3).val, hin⟩)
      match a with
      | 0 => show b.val * 1 + (w 0).val - 0 = b.val; omega
      | 1 => show h.val * 1 + (w 1).val - 0 = h.val; omega
      | 2 => show i.val * 1 + (w 2).val - 0 = i.val; omega
      | 3 => show j.val * 1 + (w 3).val - 0 = j.val + (w 3).val; omega
    · rw [if_neg hin]
      exact dif_neg fun hall => hin (by
        have h3 : j.val * 1 + (w 3).val - 0 < 2048 := (hall 3).2
        omega)
  · rw [sum_idx4]
    simp only [Fin.sum_univ_one]
    rfl

/-! ## The stages -/

/-- Zero everywhere. -/
def zeros : FVec Ideal S16x16x2048x2048 .f32 := broadcastInDim S16x16x2048x2048 ![] bcast_S_S16x16x2048x2048 (constant S_ .f32 0x00000000#32)

/-- All scores. -/
def scoresOf (q k : FVec Ideal S16x2048x2048 .f32) : FVec Ideal S16x16x2048x2048 .f32 :=
  Host.divf (Host.dotGeneral dot_S16x2048x16x128_S16x2048x16x128_S16x16x2048x2048_3_3_1_1_02_02 none
      (shapeCast _ q shapeCasts_S16x2048x2048_S16x2048x16x128) (shapeCast _ k shapeCasts_S16x2048x2048_S16x2048x16x128))
    (broadcastInDim S16x16x2048x2048 ![] bcast_S_S16x16x2048x2048 (Host.sqrt (constant S_ .f32 0x43000000#32)))

/-- The logarithm of what a score leaves to others: minus the soft positive part. -/
def keepOfAll (x : FVec Ideal S16x16x2048x2048 .f32) : FVec Ideal S16x16x2048x2048 .f32 :=
  Host.negf (select (cmpf .une (subf x zeros) (subf x zeros)) (addf x zeros)
    (addf (maximumf x zeros) (Host.log1p (Host.exp (Host.negf (Host.absf (subf x zeros)))))))

/-- Which keys come before the query. -/
def earlier : IVec S16x16x2048x2048 1 :=
  broadcastInDim S16x16x2048x2048 ![0, 1, 2, 3] bcast_S1x1x2048x2048_S16x16x2048x2048_0_1_2_3
    (broadcastInDim S1x1x2048x2048 ![2, 3] bcast_S2048x2048_S1x1x2048x2048_2_3
      (cmpi .slt (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))

/-- What the earlier keys keep back. -/
def keptAll (z : FVec Ideal S16x16x2048x2048 .f32) : FVec Ideal S16x16x2048x2048 .f32 :=
  select earlier (keepOfAll (Host.negf (Host.negf z))) (broadcastInDim S16x16x2048x2048 ![] bcast_S_S16x16x2048x2048 (id (constant S_ .f32 0x00000000#32)))

/-- What is kept back from a key on to the end. -/
def keptFromAll (z : FVec Ideal S16x16x2048x2048 .f32) : FVec Ideal S16x16x2048x2048 .f32 :=
  Host.reduceWindowAdd ![1, 1, 1, 2048] ![1, 1, 1, 1] ![0, 0, 0, 0] ![0, 0, 0, 2047] (keptAll z)
    (broadcastInDim S_ ![] bcast_S_S_ (constant S_ .f32 0x00000000#32))
    reduceWindows_S16x16x2048x2048_S16x16x2048x2048_w1s1p0_0_w1s1p0_0_w1s1p0_0_w2048s1p0_2047 h_S_

/-- The weights. -/
def weightsOf (z : FVec Ideal S16x16x2048x2048 .f32) : FVec Ideal S16x16x2048x2048 .f32 :=
  select earlier (Host.exp (addf (keepOfAll (Host.negf z)) (subf (keptFromAll z) (keptAll z))))
    (broadcastInDim S16x16x2048x2048 ![] bcast_S_S16x16x2048x2048 (id (constant S_ .f32 0x00000000#32)))

/-- The weighted values, lanes of heads back in a row. -/
def attendedOf (w : FVec Ideal S16x16x2048x2048 .f32) (v : FVec Ideal S16x2048x2048 .f32) : FVec Ideal S16x2048x2048 .f32 :=
  shapeCast _ (transpose S16x2048x16x128 [0, 3, 1, 2] (Host.dotGeneral dot_S16x2048x16x128_S16x16x2048x2048_S16x16x128x2048_1_3_3_2_02_01 none
    (shapeCast _ v shapeCasts_S16x2048x2048_S16x2048x16x128) w) transposes_S16x16x128x2048_S16x2048x16x128_0_3_1_2) shapeCasts_S16x2048x16x128_S16x2048x2048

theorem res_eq (m : (ℓ : Loc nD τ sig) → Buf (Elt Ideal) ℓ) (c : Dev nD) :
    Value.res_main_v28 m c = (truncf .bf16 (addf (m ((c.tc : Thread nD τ).loc main_arg4)) (mulf (m ((c.tc : Thread nD τ).loc main_arg3))
      (attendedOf (weightsOf (scoresOf (m ((c.tc : Thread nD τ).loc main_arg0)) (m ((c.tc : Thread nD τ).loc main_arg1))))
        (m ((c.tc : Thread nD τ).loc main_arg2))))) bitsLt_bf16_f32 : FVec Ideal S16x2048x2048 .bf16) := rfl

/-! ## The stages at an index -/

theorem scoresOf_apply {q k : FVec Ideal S16x2048x2048 .f32} (hq : Finite q) (hk : Finite k) (b h : Fin 16) (i j : Fin 2048) :
    scoresOf q k (ix4 b h i j) = ((score q k b h i.val j.val : ℝ) : EReal) := by
  have h128 : Real.sqrt 128 ≠ 0 := by positivity
  have eq : ∀ d : Fin 128, q (ix3 b i ⟨h.val * 128 + d.val, by have := h.isLt; have := d.isLt; omega⟩)
        * k (ix3 b j ⟨h.val * 128 + d.val, by have := h.isLt; have := d.isLt; omega⟩)
      = (((q (ix3 b (place i.val) (lane h d))).toReal * (k (ix3 b (place j.val) (lane h d))).toReal : ℝ) : EReal) := by
    intro d
    have e : (⟨h.val * 128 + d.val, by have := h.isLt; have := d.isLt; omega⟩ : Fin 2048) = lane h d :=
      Fin.ext (by simp only [lane]; omega)
    rw [e, place_fin, place_fin, hq (ix3 b i (lane h d)), hk (ix3 b j (lane h d)), EReal.toReal_coe, EReal.toReal_coe, EReal.coe_mul]
  pointwise [scoresOf]
  rw [head_dim, Ideal.sqrt_coe, if_neg (by norm_num), Ideal.div_coe h128, Finset.sum_congr rfl fun d _ => eq d, ← coe_sum, ← EReal.coe_mul, score,
    mul_one_div]

theorem attendedOf_apply (w : FVec Ideal S16x16x2048x2048 .f32) (v : FVec Ideal S16x2048x2048 .f32) (b h : Fin 16) (i : Fin 2048) (d : Fin 128) :
    attendedOf w v (ix3 b i (lane h d)) = ∑ j : Fin 2048, v (ix3 b j (lane h d)) * w (ix4 b h i j) := by
  have hd := d.isLt
  have e : (⟨(lane h d).val / 128, by have := (lane h d).isLt; omega⟩ : Fin 16) = h := Fin.ext (by simp only [lane]; omega)
  pointwise [attendedOf]
  rw [e]

theorem earlier_apply (b h : Fin 16) (i j : Fin 2048) : earlier (ix4 b h i j) = if j.val < i.val then 1#1 else 0#1 := by
  pointwise [earlier]
  have hi := i.isLt
  have hj := j.isLt
  rw [WordCmp.cmpi_slt_ofNat (by omega) (by omega)]
  by_cases hij : j.val < i.val <;> simp [hij]

theorem keepOfAll_apply {x : FVec Ideal S16x16x2048x2048 .f32} {s : ℝ} {y : S16x16x2048x2048.Idx} (h : x y = (s : EReal)) :
    keepOfAll x y = ((keep s : ℝ) : EReal) := by
  have key := keep_softplus s
  rw [sub_zero] at key
  pointwise [keepOfAll, zeros]
  rw [if_neg (not_not.mpr rfl), h]
  exact key

section Row

variable {z : FVec Ideal S16x16x2048x2048 .f32} {S : ℕ → ℝ} {b h : Fin 16} {i : Fin 2048}

theorem keptAll_apply (hz : ∀ j : Fin 2048, z (ix4 b h i j) = ((S j.val : ℝ) : EReal)) (j : Fin 2048) :
    keptAll z (ix4 b h i j) = ((kept S i.val j.val : ℝ) : EReal) := by
  have e : Host.negf (Host.negf z) (ix4 b h i j) = ((S j.val : ℝ) : EReal) := by
    pointwise
    rw [neg_neg, hz]
  have e' := keepOfAll_apply e
  unfold keptAll
  generalize keepOfAll (Host.negf (Host.negf z)) = l at e'
  pointwise [id]
  rw [earlier_apply, kept]
  by_cases hij : j.val < i.val
  · simpa [hij, Scalar.select] using e'
  · simp [hij, Scalar.select]

theorem keptFromAll_apply (hz : ∀ j : Fin 2048, z (ix4 b h i j) = ((S j.val : ℝ) : EReal)) (j : Fin 2048) :
    keptFromAll z (ix4 b h i j) = ((keptFrom S i.val j.val : ℝ) : EReal) := by
  rw [keptFromAll, sum_from_right _ _ (fun y => by pointwise) b h i j (fun k => ((kept S i.val k : ℝ) : EReal)) (keptAll_apply hz), ← coe_sum, keptFrom]

theorem weightsOf_apply (hz : ∀ j : Fin 2048, z (ix4 b h i j) = ((S j.val : ℝ) : EReal)) (j : Fin 2048) :
    weightsOf z (ix4 b h i j) = ((wt S i.val j.val : ℝ) : EReal) := by
  have hj := j.isLt
  have e : Host.negf z (ix4 b h i j) = ((-(S j.val) : ℝ) : EReal) := by
    pointwise
    rw [hz, EReal.coe_neg]
  have e1 := keepOfAll_apply e
  have e2 := keptFromAll_apply hz j
  have e3 := keptAll_apply hz j
  unfold weightsOf
  generalize keepOfAll (Host.negf z) = l at e1
  generalize keptFromAll z = kf at e2
  generalize keptAll z = ka at e3
  pointwise [id]
  rw [earlier_apply, wt]
  by_cases hij : j.val < i.val
  · have step : keptFrom S i.val j.val = kept S i.val j.val + keptFrom S i.val (j.val + 1) := by
      rw [keptFrom, keptFrom, Finset.sum_eq_sum_Ico_succ_bot hj]
    rw [if_pos hij, if_pos hij, e1, e2, e3, step, keep_neg, ← EReal.coe_sub, ← EReal.coe_add, Ideal.exp_coe, add_sub_cancel_left]
    rfl
  · simp [hij, Scalar.select]

end Row

/-- The weighted values at a place and a head's lane. -/
theorem attended_apply {q k : FVec Ideal S16x2048x2048 .f32} (v : FVec Ideal S16x2048x2048 .f32) (hq : Finite q) (hk : Finite k)
    (b h : Fin 16) (i : Fin 2048) (d : Fin 128) :
    attendedOf (weightsOf (scoresOf q k)) v (ix3 b i (lane h d)) = attended q k v b i.val h d := by
  rw [attendedOf_apply, Finset.sum_congr rfl fun j _ => by
      rw [weightsOf_apply (S := score q k b h i.val) (fun j => scoresOf_apply hq hk b h i j) j, mul_comm]]
  unfold attended sumFrom
  rw [Nat.Ico_zero_eq_range, ← Fin.sum_univ_eq_sum_range (fun j => ((wt (score q k b h i.val) i.val j : ℝ) : EReal) * value v b h d j)]
  simp only [value, place_fin]

/-- The reference's result is the attention's answer. -/
theorem res_answer (m : (ℓ : Loc nD τ sig) → Buf (Elt Ideal) ℓ) (c : Dev nD) (q k v sz yl : Arr)
    (e0 : m ((c.tc : Thread nD τ).loc main_arg0) = q) (e1 : m ((c.tc : Thread nD τ).loc main_arg1) = k)
    (e2 : m ((c.tc : Thread nD τ).loc main_arg2) = v) (e3 : m ((c.tc : Thread nD τ).loc main_arg3) = sz)
    (e4 : m ((c.tc : Thread nD τ).loc main_arg4) = yl) (hq : Finite q) (hk : Finite k) :
    Value.res_main_v28 m c = answer q k v sz yl := by
  rw [res_eq, e0, e1, e2, e3, e4]
  have main : ∀ (b h : Fin 16) (i : Fin 2048) (d : Fin 128),
      (truncf .bf16 (addf (φ := .f32) yl (mulf (φ := .f32) sz (attendedOf (weightsOf (scoresOf q k)) v))) bitsLt_bf16_f32 : FVec Ideal S16x2048x2048 .bf16)
        (ix3 b i (lane h d)) = answer q k v sz yl (ix3 b i (lane h d)) := fun b h i d => by
    rw [answer_lane, ← attended_apply v hq hk b h i d]
    rfl
  funext y
  obtain ⟨h, d, hl⟩ := exists_lane (y 2)
  have hy : y = ix3 (y 0) (y 1) (lane h d) := (eq_ix3 y).trans (congrArg (ix3 (y 0) (y 1)) hl)
  rw [hy]
  exact main (y 0) h (y 1) d

end Cert.ReferenceIdeal.Attn

end
-- ==== Proof.Attn.Same.lean ====
/- The kernel and the reference, at exact numbers, from memories that agree on the arguments, with finite queries and keys. -/
module

public import proofs.«01_k».proof.Defs
public import proofs.«01_k».proof.Proof.Attn.Array
public import proofs.«01_k».proof.Proof.Attn.RefRows
public import proofs.«01_k».proof.Proof.Gen.Pre_finite_scores

@[expose] public section

noncomputable section

namespace Cert.Proof

open Idealize.ShloMosaic Idealize.ShloMosaic.TcCoe Idealize.SL.Sem
open Cert.Share

/-- An array whose absolute values are all compared as less than infinity holds real numbers. -/
theorem real_of_lt {S : Shape} (x : FVec Ideal S .f32) (b : (⟨0, ![]⟩ : Shape).BroadcastsInDim S (![] : Fin 0 → Fin S.rank))
    (h : cmpf .olt (Host.absf x) (broadcastInDim S ![] b (constant ⟨0, ![]⟩ .f32 0x7F800000#32)) = (fun _ => 1#1)) (y : S.Idx) :
    x y = (((x y).toReal : ℝ) : EReal) := by
  have hy := congrFun h y
  pointwise at hy
  rw [infinity] at hy
  have lt : max (x y) (-(x y)) < ⊤ := by
    by_contra hn
    rw [show FloatOps.absf (x y) = max (x y) (-(x y)) from rfl, decide_eq_false hn] at hy
    exact absurd hy (by decide)
  rw [max_lt_iff] at lt
  refine (EReal.coe_toReal lt.1.ne fun hb => ?_).symm
  rw [hb, EReal.neg_bot] at lt
  exact lt_irrefl _ lt.2

theorem finite_of_pre {m : (ℓ : Loc Cert.KernelIdeal.nD Cert.KernelIdeal.τ Cert.KernelIdeal.sig) → Buf (Elt Ideal) ℓ}
    (h : Cert.Pre_KernelIdeal_finite_scores m) (c : Dev Cert.KernelIdeal.nD) :
    Finite (Cert.KernelIdeal.Attn.queries m c) ∧ Finite (Cert.KernelIdeal.Attn.keys m c) :=
  ⟨real_of_lt _ _ (h c).1, real_of_lt _ _ (h c).2⟩

theorem algebraic : Cert.algebraic_KernelIdeal_ReferenceIdeal_pre_finite_scores := fun m g m' g' hpre hagree =>
  ⟨fun c => Cert.KernelIdeal.Attn.result m c,
    (θ_run _ _ _).mono (fun _ h c => ⟨h.1 c, h.2.1 c⟩) (Cert.KernelIdeal.Attn.run_result (F := Ideal) m g),
    (θ_run _ _ _).mono (fun _ h c => ⟨(h c).1.trans (by
      obtain ⟨hq, hk⟩ := finite_of_pre hpre c
      obtain ⟨e0, e1, e2, e3, e4⟩ := hagree c
      exact (Cert.ReferenceIdeal.Attn.res_answer m' c _ _ _ _ _ e0 e1 e2 e3 e4 hq hk).trans (Cert.KernelIdeal.Attn.result_eq hq hk).symm), (h c).2⟩)
      (Cert.ReferenceIdeal.Value.run (F := Ideal) m' g')⟩

end Cert.Proof

end
-- ==== Proof.Proj.Want.lean ====
/- A projection in exact numbers: the rows of the activations against one block of the weights' columns. -/
module

public import proofs.«01_k».proof.Proof.Attn.Want
public import Idealize.ShloMosaic.Lib.Pipeline.Value

@[expose] public section

noncomputable section

namespace Cert.Share

open Idealize.ShloMosaic

/-- The weights of all the projections, side by side. -/
abbrev Weights := (⟨2, ![2048, 14336]⟩ : Shape).Idx → EReal

/-- A projection's rows, the sequences' rows one after another. -/
abbrev Rows := (⟨2, ![32768, 2048]⟩ : Shape).Idx → EReal

/-- The activations' element that row `r` has at lane `k`. -/
def rowAt (r : Fin 32768) (k : Fin 2048) : (⟨3, ![16, 2048, 2048]⟩ : Shape).Idx :=
  ix3 ⟨r.val / 2048, by have := r.isLt; omega⟩ ⟨r.val % 2048, Nat.mod_lt _ (by decide)⟩ k

/-- Column `j` of the weights' block number `col`. -/
def colAt (col : Fin 7) (j : Fin 2048) : Fin 14336 := ⟨2048 * col.val + j.val, by have := col.isLt; have := j.isLt; omega⟩

/-- The rows' products with the block's columns. -/
def product (x : Arr) (w : Weights) (col : Fin 7) : Rows := fun y =>
  ∑ k : Fin 2048, x (rowAt (y 0) k) * w (ix2 k (colAt col (y 1)))

/-- Laid out row after row, the array of the sequences has the element of the row's sequence and place. -/
theorem laid_apply {e : EltTy} {F : FTy → Type} (x : Vec F ⟨3, ![16, 2048, 2048]⟩ e)
    (h : (⟨3, ![16, 2048, 2048]⟩ : Shape).ShapeCasts ⟨2, ![32768, 2048]⟩) (r : Fin 32768) (k : Fin 2048) :
    shapeCast ⟨2, ![32768, 2048]⟩ x h (ix2 r k) = x (rowAt r k) := by
  refine shapeCast_apply x h _ _ ?_
  rw [Shape.rowMajor_val_three, Shape.rowMajor_val_two]
  show (r.val / 2048 * 2048 + r.val % 2048) * 2048 + k.val = r.val * 2048 + k.val
  omega

/-- A row's number and its lane's, read off its place in the whole. -/
theorem place_of (y : (⟨2, ![32768, 2048]⟩ : Shape).Idx) :
    ((y 0).val * 2048 + (y 1).val) / 4194304 = (y 0).val / 2048
    ∧ ((y 0).val * 2048 + (y 1).val) / 2048 % 2048 = (y 0).val % 2048 ∧ ((y 0).val * 2048 + (y 1).val) % 2048 = (y 1).val := by
  have h1 : (y 1).val < 2048 := (y 1).isLt
  omega

/-- A sum of products is the projection's element, where its factors sit in the element's row and column. -/
theorem product_at (x : Arr) (w : Weights) (col : Fin 7) (y : (⟨2, ![32768, 2048]⟩ : Shape).Idx)
    (l : Fin 2048 → (⟨3, ![16, 2048, 2048]⟩ : Shape).Idx) (r : Fin 2048 → (⟨2, ![2048, 14336]⟩ : Shape).Idx)
    (l0 : ∀ k, (l k 0).val = ((y 0).val * 2048 + (y 1).val) / 4194304)
    (l1 : ∀ k, (l k 1).val = ((y 0).val * 2048 + (y 1).val) / 2048 % 2048) (l2 : ∀ k, (l k 2).val = k.val)
    (r0 : ∀ k, (r k 0).val = k.val) (r1 : ∀ k, (r k 1).val = 2048 * col.val + ((y 0).val * 2048 + (y 1).val) % 2048) :
    ∑ k : Fin 2048, x (l k) * w (r k) = product x w col y := by
  obtain ⟨e0, e1, e2⟩ := place_of y
  refine Finset.sum_congr rfl fun k _ => congrArg₂ (· * ·) (congrArg x (funext fun a => Fin.ext ?_)) (congrArg w (funext fun a => Fin.ext ?_))
  · match a with
    | 0 => exact (l0 k).trans e0
    | 1 => exact (l1 k).trans e1
    | 2 => exact l2 k
  · match a with
    | 0 => exact r0 k
    | 1 => exact (r1 k).trans (congrArg (2048 * col.val + ·) e2)

/-! ## What is done to a product's element -/

/-- The gelu, by its hyperbolic tangent; -/
def gelu (z : EReal) : EReal :=
  z * (Ideal.ofBits .f32 0x3F000000#32 * (1 + Ideal.tanh (Ideal.ofBits .f32 0x3F4C422A#32 * (z + Ideal.ofBits .f32 0x3D372713#32 * (z * (z * z))))))

/-- the scale of the queries. -/
def scaled (z : EReal) : EReal := z * (((Real.sqrt 128 * Real.log 2)⁻¹ : ℝ) : EReal)

theorem one : Ideal.ofBits .f32 0x3F800000#32 = (1 : EReal) := by
  rw [← EReal.coe_one]
  simp [Ideal.ofBits, Ideal.ieee, -EReal.coe_mul, -EReal.coe_one]
  norm_num

/-- The gelu as the host spells it; -/
theorem gelu_spelled (z : EReal) :
    z * (Ideal.ofBits .f32 0x3F000000#32 * (Ideal.ofBits .f32 0x3F800000#32
      + Ideal.tanh (Ideal.ofBits .f32 0x3F4C422A#32 * (z + Ideal.ofBits .f32 0x3D372713#32 * (z * z * z))))) = gelu z := by
  rw [one, gelu, mul_assoc z z z]

/-- the logistic function; -/
theorem logistic_spelled (z : EReal) :
    Ideal.div (Ideal.ofBits .f32 0x3F800000#32) (Ideal.ofBits .f32 0x3F800000#32 + Ideal.exp (-z)) = Ideal.logistic z := by
  rw [one]
  rfl

/-- and the scale. -/
theorem scaled_spelled (z : EReal) :
    Ideal.div z (Ideal.sqrt (Ideal.ofBits .f32 0x43000000#32) * Ideal.log (Ideal.ofBits .f32 0x40000000#32)) = scaled z := by
  have h2 : Real.log 2 ≠ 0 := (Real.log_pos (by norm_num)).ne'
  have h128 : Real.sqrt 128 ≠ 0 := by positivity
  rw [head_dim, two, Ideal.sqrt_coe, Ideal.log_coe, if_neg (by norm_num), if_neg (by norm_num), ← EReal.coe_mul,
    Ideal.div_coe (mul_ne_zero h128 h2), one_div, scaled]

end Cert.Share

end
-- ==== Proof.Proj.Keys.lean ====
/- The projection onto the keys at exact numbers: what the kernel leaves is the product of the rows and the keys' columns. -/
module

public import proofs.«01_k».proof.Defs
public import proofs.«01_k».proof.Proof.Gen.KernelKeysIdeal.Value
public import proofs.«01_k».proof.Proof.Gen.ReferenceKeysIdeal.Run
public import proofs.«01_k».proof.Proof.Gen.ReferenceKeysIdeal.Read
public import proofs.«01_k».proof.Proof.Proj.Want
public import Idealize.ShloMosaic.Lib.Pipeline.ValueKit

@[expose] public section

set_option maxRecDepth 16384

noncomputable section

namespace Cert.KernelKeysIdeal.Proj

open Cert.KernelKeysIdeal Cert.KernelKeysIdeal.Gen Cert.Share
open Idealize.ShloMosaic Idealize.ShloMosaic.TcCoe Idealize.SL.Sem
open Idealize.ShloMosaic.Pipeline (Dat Window)

variable (m : (ℓ : Loc nD τ sig) → Buf (Elt Ideal) ℓ) (c : Dev nD)

theorem origin : (![0, 0] : Fin 2 → ℕ) = fun _ => 0 := by decide

/-! ## One point -/

/-- The first point puts the rounded weights in the scratch; -/
theorem kept_first (i : grid0.Coords) (a1) (h1) (a2) (h2) (a3) (h3) (a4) (h4) (hc)
    (x0 : Vec Ideal S512x2048 .bf16) (x1 : Vec Ideal S2048x2048 .f32) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero origin]
  simp only [View.readAt_eq_ld, h2.read_unread, View.ld_unit_zero (S := S2048x2048) origin]

/-- its block is the product with what it put there; -/
theorem block_first (i : grid0.Coords) (a1) (h1) (a2) (h2) (a3) (h3) (a4) (h4) (hc)
    (x0 : Vec Ideal S512x2048 .bf16) (x1 : Vec Ideal S2048x2048 .f32) :
    out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero origin]
  simp only [View.readAt_eq_ld, h1.read_unread, h2.read_unread, View.ld_unit_zero (S := S2048x2048) origin, View.ld_unit_zero (S := S512x2048) origin,
    View.readCov_unit_zero (S := S2048x2048) _ origin]

/-- and a later point's is the product with what the scratch holds. -/
theorem block_later (i : grid0.Coords) (a1) (h1) (a2) (h2) (a3) (h3) (a4) (h4) (hc)
    (x0 : Vec Ideal S512x2048 .bf16) (x1 : Vec Ideal S2048x2048 .f32) (w : Vec Ideal S2048x2048 .bf16) :
    out0_B_2 c i a1 h1 a2 h2 a3 h3 a4 h4 hc x0 x1 w = k0_pay2 x0 w := by
  unfold out0_B_2
  rw [View.read_writes_eq_canon _ _ _ (cover0_B_2 c i a1 h1 a2 h2 a3 h3 a4 h4 hc x0 x1 w)]
  unfold kernelRun0_B
  dsimp only
  sl_unfold_words
  rw [View.canon_unit_zero origin]
  simp only [View.readAt_eq_ld, h1.read_unread, h4.read_unread, View.ld_unit_zero (S := S2048x2048) origin, View.ld_unit_zero (S := S512x2048) origin]

/-! ## Every point -/

/-- The activations and the weights the kernel is called with. -/
abbrev acts : Arr := m ((c : Thread nD τ).loc main_arg0)
abbrev weights : Weights := m ((c : Thread nD τ).loc main_arg1)

theorem index_0 : ∀ t : Fin grid0.N, win0_0.index t = ![t.val, 0] := by decide +kernel
theorem index_1 : ∀ t : Fin grid0.N, win0_1.index t = ![0, 3] := by decide +kernel
theorem index_2 : ∀ t : Fin grid0.N, win0_2.index t = ![t.val, 0] := by decide +kernel

theorem covers : win0_2.Covers := by decide +kernel

/-- The rows the kernel is given are the activations' rows. -/
theorem V_rows (r : Fin 32768) (k : Fin 2048) : (V m c main_v1 : Rows) (ix2 r k) = acts m c (rowAt r k) := by
  have e : V m c main_v1 = (shapeCast S32768x2048 (truncf .bf16 (m ((c : Thread nD τ).loc main_arg0)) bitsLt_bf16_f32)
      shapeCasts_S16x2048x2048_S32768x2048 : FVec Ideal S32768x2048 .bf16) := by
    unfold V
    simp only [hostOps0]
    after_results
    rfl
  rw [e]
  exact laid_apply _ _ r k

/-- The weights' block, at every point. -/
theorem blk_1 (t : Fin cfg0.N) (k j : Fin 2048) : iblk m c 1 t (ix2 k j) = weights m c (ix2 k (colAt 3 j)) := by
  rw [weights, ← V_main_arg1 m c]
  blk_simp [iblk]
  refine congrArg _ (funext fun a => Fin.ext ?_)
  match a with
  | 0 => blk_simp [index_1]; try simp
  | 1 => blk_simp [index_1]; simp [colAt]

/-- The row that a point's row is. -/
def rowOf (t : Fin grid0.N) (r : Fin 512) : Fin 32768 :=
  ⟨512 * t.val + r.val, by have := lt_of_lt_of_eq t.isLt N_0; have := r.isLt; omega⟩

theorem blk_0 (t : Fin cfg0.N) (r : Fin 512) (k : Fin 2048) :
    iblk m c 0 t (ix2 r k) = acts m c (rowAt (rowOf t r) k) := by
  rw [← V_rows]
  blk_simp [iblk]
  refine congrArg _ (funext fun a => Fin.ext ?_)
  match a with
  | 0 => blk_simp [index_0]; simp only [rowOf]; omega
  | 1 => blk_simp [index_0]; try simp

theorem emb_2 (t : Fin grid0.N) (r : Fin 512) (j : Fin 2048) : (win0_2.blk t).view.emb (ix2 r j) = ix2 (rowOf t r) j :=
  funext fun a => Fin.ext (match a with
  | 0 => by blk_simp [index_2]; simp only [rowOf]; omega
  | 1 => by blk_simp [index_2]; try simp)

/-- A later point leaves the scratch as the point before left it. -/
theorem kept_step (n : ℕ) (h : n + 1 < cfg0.N) : (outsAt0 m c (n + 1) h).2 = (outsAt0 m c n (Nat.lt_of_succ_lt h)).2 := by
  have hN : n + 1 < 64 := lt_of_lt_of_eq h N_0
  rw [outsAt0_B m c ⟨n + 1, h⟩ (by show ¬(n + 1) % 64 = 0; omega)]
  rfl

/-- What the scratch holds after the first point, and so after every point: the weights' block, rounded. -/
theorem kept_zero (t : Fin cfg0.N) (h : t.val % 64 = 0) : (outsAt0 m c t.val t.isLt).2 = k0_pay1 (iblk m c 1 t) := by
  rw [outsAt0_A m c t h]
  dsimp only
  rw [kept_first]

theorem kept : ∀ (n : ℕ) (h : n < cfg0.N), (outsAt0 m c n h).2 = k0_pay1 (iblk m c 1 ⟨0, lt_of_le_of_lt (Nat.zero_le n) h⟩) :=
  Nat.rec (fun h => kept_zero m c ⟨0, h⟩ (Nat.zero_mod 64)) fun n ih h => (kept_step m c n h).trans (ih (Nat.lt_of_succ_lt h))

theorem kept_apply (t : Fin cfg0.N) (k j : Fin 2048) : k0_pay1 (iblk m c 1 t) (ix2 k j) = weights m c (ix2 k (colAt 3 j)) := by
  rw [← blk_1 m c t]
  pointwise [k0_pay1]

/-- A block's element, from rows and columns known element by element. -/
theorem pay_apply (x : Vec Ideal S512x2048 .bf16) (w : Vec Ideal S2048x2048 .bf16) (r : Fin 512) (j : Fin 2048) :
    k0_pay2 x w (ix2 r j) = ∑ k : Fin 2048, x (ix2 r k) * w (ix2 k j) := by
  pointwise [k0_pay2]

/-- What a point leaves in the result's block. -/
theorem after_2 (t : Fin cfg0.N) (r : Fin 512) (j : Fin 2048) :
    (outsAt0 m c t.val t.isLt).1 (ix2 r j) = product (acts m c) (weights m c) 3 (ix2 (rowOf t r) j) := by
  have fold : ∀ w : Vec Ideal S2048x2048 .bf16, (∀ k j : Fin 2048, w (ix2 k j) = weights m c (ix2 k (colAt 3 j))) →
      k0_pay2 (iblk m c 0 t) w (ix2 r j) = product (acts m c) (weights m c) 3 (ix2 (rowOf t r) j) := fun w hw =>
    (pay_apply _ w r j).trans (Finset.sum_congr rfl fun k _ => congrArg₂ (· * ·) (blk_0 m c t r k) (hw k j))
  by_cases h0 : t.val % 64 = 0
  · rw [outsAt0_A m c t h0]
    dsimp only
    rw [block_first]
    exact fold _ (kept_apply m c t)
  · rw [outsAt0_B m c t h0]
    dsimp only
    rw [block_later, kept]
    exact fold _ (kept_apply m c _)

/-- The result's array. -/
theorem result_eq : (dats m 0 c).arrAt 2 cfg0.N = product (acts m c) (weights m c) 3 := by
  refine (dats m 0 c).arrAt_eq_of_covers 2 _ covers fun t hf y => ?_
  blk_simp
  rw [after0_2]
  obtain ⟨r, j, hy⟩ : ∃ (r : Fin 512) (j : Fin 2048), y = ix2 r j := ⟨y 0, y 1, funext fun a => match a with | 0 => rfl | 1 => rfl⟩
  rw [hy]
  exact (after_2 m c t r j).trans (congrArg _ (emb_2 t r j).symm)

end Cert.KernelKeysIdeal.Proj

namespace Cert.ReferenceKeysIdeal.Proj

open Cert.ReferenceKeysIdeal Cert.ReferenceKeysIdeal.Read Cert.Share
open Idealize.ShloMosaic Idealize.ShloMosaic.TcCoe Idealize.SL.Sem

/-- The reference's result, element by element, is the same product. -/
theorem res_eq (x : Arr) (w : Weights) : val_main_v2 (F := Ideal) x w = product x w 3 := by
  funext y
  rw [val_main_v2_apply, val_main_v1_apply, val_main_v0_apply]
  exact product_at x w 3 y _ _ (fun k => rfl) (fun k => rfl) (fun k => rfl) (fun k => rfl) (fun k => rfl)

end Cert.ReferenceKeysIdeal.Proj

namespace Cert.Proof

open Idealize.ShloMosaic Idealize.ShloMosaic.TcCoe Idealize.SL.Sem
open Cert.Share

/-- Kernel and reference give the same keys. -/
theorem algebraic_keys : Cert.algebraic_KernelKeysIdeal_ReferenceKeysIdeal := fun m g m' g' _ hagree =>
  ⟨fun c => product (Cert.KernelKeysIdeal.Proj.acts m c) (Cert.KernelKeysIdeal.Proj.weights m c) 3,
    (θ_run _ _ _).mono (fun _ h c => ⟨(h c).1.trans (Cert.KernelKeysIdeal.Proj.result_eq m c), (h c).2⟩)
      (Cert.KernelKeysIdeal.Value.run_blocks (F := Ideal) m g),
    (θ_run _ _ _).mono (fun _ h c => ⟨(h c).1.trans ((Cert.ReferenceKeysIdeal.Proj.res_eq _ _).trans
        (congrArg₂ (product · · 3) (hagree c).1 (hagree c).2)), (h c).2⟩)
      (Cert.ReferenceKeysIdeal.Value.run (F := Ideal) m' g')⟩

end Cert.Proof

end
-- ==== Proof.Proj.Values.lean ====
/- The projection onto the values at exact numbers: what the kernel leaves is the product of the rows and the values' columns. -/
module

public import proofs.«01_k».proof.Defs
public import proofs.«01_k».proof.Proof.Gen.KernelValuesIdeal.Value
public import proofs.«01_k».proof.Proof.Gen.ReferenceValuesIdeal.Run
public import proofs.«01_k».proof.Proof.Gen.ReferenceValuesIdeal.Read
public import proofs.«01_k».proof.Proof.Proj.Want
public import Idealize.ShloMosaic.Lib.Pipeline.ValueKit

@[expose] public section

set_option maxRecDepth 16384

noncomputable section

namespace Cert.KernelValuesIdeal.Proj

open Cert.KernelValuesIdeal Cert.KernelValuesIdeal.Gen Cert.Share
open Idealize.ShloMosaic Idealize.ShloMosaic.TcCoe Idealize.SL.Sem
open Idealize.ShloMosaic.Pipeline (Dat Window)

variable (m : (ℓ : Loc nD τ sig) → Buf (Elt Ideal) ℓ) (c : Dev nD)

theorem origin : (![0, 0] : Fin 2 → ℕ) = fun _ => 0 := by decide

/-! ## One point -/

/-- The first point puts the rounded weights in the scratch; -/
theorem kept_first (i : grid0.Coords) (a1) (h1) (a2) (h2) (a3) (h3) (a4) (h4) (hc)
    (x0 : Vec Ideal S512x2048 .bf16) (x1 : Vec Ideal S2048x2048 .f32) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero origin]
  simp only [View.readAt_eq_ld, h2.read_unread, View.ld_unit_zero (S := S2048x2048) origin]

/-- its block is the product with what it put there; -/
theorem block_first (i : grid0.Coords) (a1) (h1) (a2) (h2) (a3) (h3) (a4) (h4) (hc)
    (x0 : Vec Ideal S512x2048 .bf16) (x1 : Vec Ideal S2048x2048 .f32) :
    out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero origin]
  simp only [View.readAt_eq_ld, h1.read_unread, h2.read_unread, View.ld_unit_zero (S := S2048x2048) origin, View.ld_unit_zero (S := S512x2048) origin,
    View.readCov_unit_zero (S := S2048x2048) _ origin]

/-- and a later point's is the product with what the scratch holds. -/
theorem block_later (i : grid0.Coords) (a1) (h1) (a2) (h2) (a3) (h3) (a4) (h4) (hc)
    (x0 : Vec Ideal S512x2048 .bf16) (x1 : Vec Ideal S2048x2048 .f32) (w : Vec Ideal S2048x2048 .bf16) :
    out0_B_2 c i a1 h1 a2 h2 a3 h3 a4 h4 hc x0 x1 w = k0_pay2 x0 w := by
  unfold out0_B_2
  rw [View.read_writes_eq_canon _ _ _ (cover0_B_2 c i a1 h1 a2 h2 a3 h3 a4 h4 hc x0 x1 w)]
  unfold kernelRun0_B
  dsimp only
  sl_unfold_words
  rw [View.canon_unit_zero origin]
  simp only [View.readAt_eq_ld, h1.read_unread, h4.read_unread, View.ld_unit_zero (S := S2048x2048) origin, View.ld_unit_zero (S := S512x2048) origin]

/-! ## Every point -/

/-- The activations and the weights the kernel is called with. -/
abbrev acts : Arr := m ((c : Thread nD τ).loc main_arg0)
abbrev weights : Weights := m ((c : Thread nD τ).loc main_arg1)

theorem index_0 : ∀ t : Fin grid0.N, win0_0.index t = ![t.val, 0] := by decide +kernel
theorem index_1 : ∀ t : Fin grid0.N, win0_1.index t = ![0, 4] := by decide +kernel
theorem index_2 : ∀ t : Fin grid0.N, win0_2.index t = ![t.val, 0] := by decide +kernel

theorem covers : win0_2.Covers := by decide +kernel

/-- The rows the kernel is given are the activations' rows. -/
theorem V_rows (r : Fin 32768) (k : Fin 2048) : (V m c main_v1 : Rows) (ix2 r k) = acts m c (rowAt r k) := by
  have e : V m c main_v1 = (shapeCast S32768x2048 (truncf .bf16 (m ((c : Thread nD τ).loc main_arg0)) bitsLt_bf16_f32)
      shapeCasts_S16x2048x2048_S32768x2048 : FVec Ideal S32768x2048 .bf16) := by
    unfold V
    simp only [hostOps0]
    after_results
    rfl
  rw [e]
  exact laid_apply _ _ r k

/-- The weights' block, at every point. -/
theorem blk_1 (t : Fin cfg0.N) (k j : Fin 2048) : iblk m c 1 t (ix2 k j) = weights m c (ix2 k (colAt 4 j)) := by
  rw [weights, ← V_main_arg1 m c]
  blk_simp [iblk]
  refine congrArg _ (funext fun a => Fin.ext ?_)
  match a with
  | 0 => blk_simp [index_1]; try simp
  | 1 => blk_simp [index_1]; simp [colAt]

/-- The row that a point's row is. -/
def rowOf (t : Fin grid0.N) (r : Fin 512) : Fin 32768 :=
  ⟨512 * t.val + r.val, by have := lt_of_lt_of_eq t.isLt N_0; have := r.isLt; omega⟩

theorem blk_0 (t : Fin cfg0.N) (r : Fin 512) (k : Fin 2048) :
    iblk m c 0 t (ix2 r k) = acts m c (rowAt (rowOf t r) k) := by
  rw [← V_rows]
  blk_simp [iblk]
  refine congrArg _ (funext fun a => Fin.ext ?_)
  match a with
  | 0 => blk_simp [index_0]; simp only [rowOf]; omega
  | 1 => blk_simp [index_0]; try simp

theorem emb_2 (t : Fin grid0.N) (r : Fin 512) (j : Fin 2048) : (win0_2.blk t).view.emb (ix2 r j) = ix2 (rowOf t r) j :=
  funext fun a => Fin.ext (match a with
  | 0 => by blk_simp [index_2]; simp only [rowOf]; omega
  | 1 => by blk_simp [index_2]; try simp)

/-- A later point leaves the scratch as the point before left it. -/
theorem kept_step (n : ℕ) (h : n + 1 < cfg0.N) : (outsAt0 m c (n + 1) h).2 = (outsAt0 m c n (Nat.lt_of_succ_lt h)).2 := by
  have hN : n + 1 < 64 := lt_of_lt_of_eq h N_0
  rw [outsAt0_B m c ⟨n + 1, h⟩ (by show ¬(n + 1) % 64 = 0; omega)]
  rfl

/-- What the scratch holds after the first point, and so after every point: the weights' block, rounded. -/
theorem kept_zero (t : Fin cfg0.N) (h : t.val % 64 = 0) : (outsAt0 m c t.val t.isLt).2 = k0_pay1 (iblk m c 1 t) := by
  rw [outsAt0_A m c t h]
  dsimp only
  rw [kept_first]

theorem kept : ∀ (n : ℕ) (h : n < cfg0.N), (outsAt0 m c n h).2 = k0_pay1 (iblk m c 1 ⟨0, lt_of_le_of_lt (Nat.zero_le n) h⟩) :=
  Nat.rec (fun h => kept_zero m c ⟨0, h⟩ (Nat.zero_mod 64)) fun n ih h => (kept_step m c n h).trans (ih (Nat.lt_of_succ_lt h))

theorem kept_apply (t : Fin cfg0.N) (k j : Fin 2048) : k0_pay1 (iblk m c 1 t) (ix2 k j) = weights m c (ix2 k (colAt 4 j)) := by
  rw [← blk_1 m c t]
  pointwise [k0_pay1]

/-- A block's element, from rows and columns known element by element. -/
theorem pay_apply (x : Vec Ideal S512x2048 .bf16) (w : Vec Ideal S2048x2048 .bf16) (r : Fin 512) (j : Fin 2048) :
    k0_pay2 x w (ix2 r j) = ∑ k : Fin 2048, x (ix2 r k) * w (ix2 k j) := by
  pointwise [k0_pay2]

/-- What a point leaves in the result's block. -/
theorem after_2 (t : Fin cfg0.N) (r : Fin 512) (j : Fin 2048) :
    (outsAt0 m c t.val t.isLt).1 (ix2 r j) = product (acts m c) (weights m c) 4 (ix2 (rowOf t r) j) := by
  have fold : ∀ w : Vec Ideal S2048x2048 .bf16, (∀ k j : Fin 2048, w (ix2 k j) = weights m c (ix2 k (colAt 4 j))) →
      k0_pay2 (iblk m c 0 t) w (ix2 r j) = product (acts m c) (weights m c) 4 (ix2 (rowOf t r) j) := fun w hw =>
    (pay_apply _ w r j).trans (Finset.sum_congr rfl fun k _ => congrArg₂ (· * ·) (blk_0 m c t r k) (hw k j))
  by_cases h0 : t.val % 64 = 0
  · rw [outsAt0_A m c t h0]
    dsimp only
    rw [block_first]
    exact fold _ (kept_apply m c t)
  · rw [outsAt0_B m c t h0]
    dsimp only
    rw [block_later, kept]
    exact fold _ (kept_apply m c _)

/-- The result's array. -/
theorem result_eq : (dats m 0 c).arrAt 2 cfg0.N = product (acts m c) (weights m c) 4 := by
  refine (dats m 0 c).arrAt_eq_of_covers 2 _ covers fun t hf y => ?_
  blk_simp
  rw [after0_2]
  obtain ⟨r, j, hy⟩ : ∃ (r : Fin 512) (j : Fin 2048), y = ix2 r j := ⟨y 0, y 1, funext fun a => match a with | 0 => rfl | 1 => rfl⟩
  rw [hy]
  exact (after_2 m c t r j).trans (congrArg _ (emb_2 t r j).symm)

end Cert.KernelValuesIdeal.Proj

namespace Cert.ReferenceValuesIdeal.Proj

open Cert.ReferenceValuesIdeal Cert.ReferenceValuesIdeal.Read Cert.Share
open Idealize.ShloMosaic Idealize.ShloMosaic.TcCoe Idealize.SL.Sem

/-- The reference's result, element by element, is the same product. -/
theorem res_eq (x : Arr) (w : Weights) : val_main_v2 (F := Ideal) x w = product x w 4 := by
  funext y
  rw [val_main_v2_apply, val_main_v1_apply, val_main_v0_apply]
  exact product_at x w 4 y _ _ (fun k => rfl) (fun k => rfl) (fun k => rfl) (fun k => rfl) (fun k => rfl)

end Cert.ReferenceValuesIdeal.Proj

namespace Cert.Proof

open Idealize.ShloMosaic Idealize.ShloMosaic.TcCoe Idealize.SL.Sem
open Cert.Share

/-- Kernel and reference give the same values. -/
theorem algebraic_values : Cert.algebraic_KernelValuesIdeal_ReferenceValuesIdeal := fun m g m' g' _ hagree =>
  ⟨fun c => product (Cert.KernelValuesIdeal.Proj.acts m c) (Cert.KernelValuesIdeal.Proj.weights m c) 4,
    (θ_run _ _ _).mono (fun _ h c => ⟨(h c).1.trans (Cert.KernelValuesIdeal.Proj.result_eq m c), (h c).2⟩)
      (Cert.KernelValuesIdeal.Value.run_blocks (F := Ideal) m g),
    (θ_run _ _ _).mono (fun _ h c => ⟨(h c).1.trans ((Cert.ReferenceValuesIdeal.Proj.res_eq _ _).trans
        (congrArg₂ (product · · 4) (hagree c).1 (hagree c).2)), (h c).2⟩)
      (Cert.ReferenceValuesIdeal.Value.run (F := Ideal) m' g')⟩

end Cert.Proof

end
-- ==== Proof.Proj.Lru.lean ====
/- The projection onto the recurrence's inputs at exact numbers: what the kernel leaves is the product of the rows and the
   first block of columns. -/
module

public import proofs.«01_k».proof.Defs
public import proofs.«01_k».proof.Proof.Gen.KernelLruIdeal.Value
public import proofs.«01_k».proof.Proof.Gen.ReferenceLruIdeal.Run
public import proofs.«01_k».proof.Proof.Gen.ReferenceLruIdeal.Read
public import proofs.«01_k».proof.Proof.Proj.Want
public import Idealize.ShloMosaic.Lib.Pipeline.ValueKit

@[expose] public section

set_option maxRecDepth 16384

noncomputable section

namespace Cert.KernelLruIdeal.Proj

open Cert.KernelLruIdeal Cert.KernelLruIdeal.Gen Cert.Share
open Idealize.ShloMosaic Idealize.ShloMosaic.TcCoe Idealize.SL.Sem
open Idealize.ShloMosaic.Pipeline (Dat Window)

variable (m : (ℓ : Loc nD τ sig) → Buf (Elt Ideal) ℓ) (c : Dev nD)

theorem origin : (![0, 0] : Fin 2 → ℕ) = fun _ => 0 := by decide

/-! ## One point -/

/-- The first point puts the rounded weights in the scratch; -/
theorem kept_first (i : grid0.Coords) (a1) (h1) (a2) (h2) (a3) (h3) (a4) (h4) (hc)
    (x0 : Vec Ideal S1024x2048 .bf16) (x1 : Vec Ideal S2048x2048 .f32) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero origin]
  simp only [View.readAt_eq_ld, h2.read_unread, View.ld_unit_zero (S := S2048x2048) origin]

/-- its block is the product with what it put there; -/
theorem block_first (i : grid0.Coords) (a1) (h1) (a2) (h2) (a3) (h3) (a4) (h4) (hc)
    (x0 : Vec Ideal S1024x2048 .bf16) (x1 : Vec Ideal S2048x2048 .f32) :
    out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero origin]
  simp only [View.readAt_eq_ld, h1.read_unread, h2.read_unread, View.ld_unit_zero (S := S2048x2048) origin, View.ld_unit_zero (S := S1024x2048) origin,
    View.readCov_unit_zero (S := S2048x2048) _ origin]

/-- and a later point's is the product with what the scratch holds. -/
theorem block_later (i : grid0.Coords) (a1) (h1) (a2) (h2) (a3) (h3) (a4) (h4) (hc)
    (x0 : Vec Ideal S1024x2048 .bf16) (x1 : Vec Ideal S2048x2048 .f32) (w : Vec Ideal S2048x2048 .bf16) :
    out0_B_2 c i a1 h1 a2 h2 a3 h3 a4 h4 hc x0 x1 w = k0_pay2 x0 w := by
  unfold out0_B_2
  rw [View.read_writes_eq_canon _ _ _ (cover0_B_2 c i a1 h1 a2 h2 a3 h3 a4 h4 hc x0 x1 w)]
  unfold kernelRun0_B
  dsimp only
  sl_unfold_words
  rw [View.canon_unit_zero origin]
  simp only [View.readAt_eq_ld, h1.read_unread, h4.read_unread, View.ld_unit_zero (S := S2048x2048) origin, View.ld_unit_zero (S := S1024x2048) origin]

/-! ## Every point -/

/-- The activations and the weights the kernel is called with. -/
abbrev acts : Arr := m ((c : Thread nD τ).loc main_arg0)
abbrev weights : Weights := m ((c : Thread nD τ).loc main_arg1)

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel

theorem covers : win0_2.Covers := by decide +kernel

/-- The rows the kernel is given are the activations' rows. -/
theorem V_rows (r : Fin 32768) (k : Fin 2048) : (V m c main_v1 : Rows) (ix2 r k) = acts m c (rowAt r k) := by
  have e : V m c main_v1 = (shapeCast S32768x2048 (truncf .bf16 (m ((c : Thread nD τ).loc main_arg0)) bitsLt_bf16_f32)
      shapeCasts_S16x2048x2048_S32768x2048 : FVec Ideal S32768x2048 .bf16) := by
    unfold V
    simp only [hostOps0]
    after_results
    rfl
  rw [e]
  exact laid_apply _ _ r k

/-- The weights' block, at every point. -/
theorem blk_1 (t : Fin cfg0.N) (k j : Fin 2048) : iblk m c 1 t (ix2 k j) = weights m c (ix2 k (colAt 0 j)) := by
  rw [weights, ← V_main_arg1 m c]
  blk_simp [iblk]
  refine congrArg _ (funext fun a => Fin.ext ?_)
  match a with
  | 0 => blk_simp [index_1]; try simp
  | 1 => blk_simp [index_1]; simp [colAt]

/-- The row that a point's row is. -/
def rowOf (t : Fin grid0.N) (r : Fin 1024) : Fin 32768 :=
  ⟨1024 * t.val + r.val, by have := lt_of_lt_of_eq t.isLt N_0; have := r.isLt; omega⟩

theorem blk_0 (t : Fin cfg0.N) (r : Fin 1024) (k : Fin 2048) :
    iblk m c 0 t (ix2 r k) = acts m c (rowAt (rowOf t r) k) := by
  rw [← V_rows]
  blk_simp [iblk]
  refine congrArg _ (funext fun a => Fin.ext ?_)
  match a with
  | 0 => blk_simp [index_0]; simp only [rowOf]; omega
  | 1 => blk_simp [index_0]; try simp

theorem emb_2 (t : Fin grid0.N) (r : Fin 1024) (j : Fin 2048) : (win0_2.blk t).view.emb (ix2 r j) = ix2 (rowOf t r) j :=
  funext fun a => Fin.ext (match a with
  | 0 => by blk_simp [index_2]; simp only [rowOf]; omega
  | 1 => by blk_simp [index_2]; try simp)

/-- A later point leaves the scratch as the point before left it. -/
theorem kept_step (n : ℕ) (h : n + 1 < cfg0.N) : (outsAt0 m c (n + 1) h).2 = (outsAt0 m c n (Nat.lt_of_succ_lt h)).2 := by
  have hN : n + 1 < 32 := lt_of_lt_of_eq h N_0
  rw [outsAt0_B m c ⟨n + 1, h⟩ (by show ¬(n + 1) % 32 = 0; omega)]
  rfl

/-- What the scratch holds after the first point, and so after every point: the weights' block, rounded. -/
theorem kept_zero (t : Fin cfg0.N) (h : t.val % 32 = 0) : (outsAt0 m c t.val t.isLt).2 = k0_pay1 (iblk m c 1 t) := by
  rw [outsAt0_A m c t h]
  dsimp only
  rw [kept_first]

theorem kept : ∀ (n : ℕ) (h : n < cfg0.N), (outsAt0 m c n h).2 = k0_pay1 (iblk m c 1 ⟨0, lt_of_le_of_lt (Nat.zero_le n) h⟩) :=
  Nat.rec (fun h => kept_zero m c ⟨0, h⟩ (Nat.zero_mod 32)) fun n ih h => (kept_step m c n h).trans (ih (Nat.lt_of_succ_lt h))

theorem kept_apply (t : Fin cfg0.N) (k j : Fin 2048) : k0_pay1 (iblk m c 1 t) (ix2 k j) = weights m c (ix2 k (colAt 0 j)) := by
  rw [← blk_1 m c t]
  pointwise [k0_pay1]

/-- A block's element, from rows and columns known element by element. -/
theorem pay_apply (x : Vec Ideal S1024x2048 .bf16) (w : Vec Ideal S2048x2048 .bf16) (r : Fin 1024) (j : Fin 2048) :
    k0_pay2 x w (ix2 r j) = ∑ k : Fin 2048, x (ix2 r k) * w (ix2 k j) := by
  pointwise [k0_pay2]

/-- What a point leaves in the result's block. -/
theorem after_2 (t : Fin cfg0.N) (r : Fin 1024) (j : Fin 2048) :
    (outsAt0 m c t.val t.isLt).1 (ix2 r j) = product (acts m c) (weights m c) 0 (ix2 (rowOf t r) j) := by
  have fold : ∀ w : Vec Ideal S2048x2048 .bf16, (∀ k j : Fin 2048, w (ix2 k j) = weights m c (ix2 k (colAt 0 j))) →
      k0_pay2 (iblk m c 0 t) w (ix2 r j) = product (acts m c) (weights m c) 0 (ix2 (rowOf t r) j) := fun w hw =>
    (pay_apply _ w r j).trans (Finset.sum_congr rfl fun k _ => congrArg₂ (· * ·) (blk_0 m c t r k) (hw k j))
  by_cases h0 : t.val % 32 = 0
  · rw [outsAt0_A m c t h0]
    dsimp only
    rw [block_first]
    exact fold _ (kept_apply m c t)
  · rw [outsAt0_B m c t h0]
    dsimp only
    rw [block_later, kept]
    exact fold _ (kept_apply m c _)

/-- The result's array. -/
theorem result_eq : (dats m 0 c).arrAt 2 cfg0.N = product (acts m c) (weights m c) 0 := by
  refine (dats m 0 c).arrAt_eq_of_covers 2 _ covers fun t hf y => ?_
  blk_simp
  rw [after0_2]
  obtain ⟨r, j, hy⟩ : ∃ (r : Fin 1024) (j : Fin 2048), y = ix2 r j := ⟨y 0, y 1, funext fun a => match a with | 0 => rfl | 1 => rfl⟩
  rw [hy]
  exact (after_2 m c t r j).trans (congrArg _ (emb_2 t r j).symm)

end Cert.KernelLruIdeal.Proj

namespace Cert.ReferenceLruIdeal.Proj

open Cert.ReferenceLruIdeal Cert.ReferenceLruIdeal.Read Cert.Share
open Idealize.ShloMosaic Idealize.ShloMosaic.TcCoe Idealize.SL.Sem

/-- The rows' products with the block's columns, where the reference's last reshape reads them. -/
theorem cols_eq (x : Arr) (w : Weights) (y : S32768x2048.Idx) :
    val_main_v1 (F := Ideal) x w (idx_main_v3 y) = product x w 0 y := by
  rw [val_main_v1_apply, val_main_v0_apply]
  exact product_at x w 0 y _ _ (fun k => rfl) (fun k => rfl) (fun k => rfl) (fun k => rfl) (fun k => (Nat.zero_add _).symm)

/-- The reference's result, element by element, is the same product. -/
theorem res_eq (x : Arr) (w : Weights) : val_main_v3 (F := Ideal) x w = product x w 0 := by
  funext y
  rw [val_main_v3_apply, val_main_v2_apply]
  exact cols_eq x w y

end Cert.ReferenceLruIdeal.Proj

namespace Cert.Proof

open Idealize.ShloMosaic Idealize.ShloMosaic.TcCoe Idealize.SL.Sem
open Cert.Share

/-- Kernel and reference give the same recurrence's. -/
theorem algebraic_lru : Cert.algebraic_KernelLruIdeal_ReferenceLruIdeal := fun m g m' g' _ hagree =>
  ⟨fun c => product (Cert.KernelLruIdeal.Proj.acts m c) (Cert.KernelLruIdeal.Proj.weights m c) 0,
    (θ_run _ _ _).mono (fun _ h c => ⟨(h c).1.trans (Cert.KernelLruIdeal.Proj.result_eq m c), (h c).2⟩)
      (Cert.KernelLruIdeal.Value.run_blocks (F := Ideal) m g),
    (θ_run _ _ _).mono (fun _ h c => ⟨(h c).1.trans ((Cert.ReferenceLruIdeal.Proj.res_eq _ _).trans
        (congrArg₂ (product · · 0) (hagree c).1 (hagree c).2)), (h c).2⟩)
      (Cert.ReferenceLruIdeal.Value.run (F := Ideal) m' g')⟩

end Cert.Proof

end
-- ==== Proof.Proj.Gelu.lean ====
/- The projection onto the first gate at exact numbers: what the kernel leaves is the gelu of the product of the rows and the
   gate's columns. -/
module

public import proofs.«01_k».proof.Defs
public import proofs.«01_k».proof.Proof.Gen.KernelGeluIdeal.Value
public import proofs.«01_k».proof.Proof.Gen.ReferenceGeluIdeal.Run
public import proofs.«01_k».proof.Proof.Gen.ReferenceGeluIdeal.Read
public import proofs.«01_k».proof.Proof.Proj.Want
public import Idealize.ShloMosaic.Lib.Pipeline.ValueKit

@[expose] public section

set_option maxRecDepth 16384

noncomputable section

namespace Cert.KernelGeluIdeal.Proj

open Cert.KernelGeluIdeal Cert.KernelGeluIdeal.Gen Cert.Share
open Idealize.ShloMosaic Idealize.ShloMosaic.TcCoe Idealize.SL.Sem
open Idealize.ShloMosaic.Pipeline (Dat Window)

variable (m : (ℓ : Loc nD τ sig) → Buf (Elt Ideal) ℓ) (c : Dev nD)

theorem origin : (![0, 0] : Fin 2 → ℕ) = fun _ => 0 := by decide

/-! ## One point -/

/-- The first point puts the rounded weights in the scratch; -/
theorem kept_first (i : grid0.Coords) (a1) (h1) (a2) (h2) (a3) (h3) (a4) (h4) (hc)
    (x0 : Vec Ideal S1024x2048 .bf16) (x1 : Vec Ideal S2048x2048 .f32) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero origin]
  simp only [View.readAt_eq_ld, h2.read_unread, View.ld_unit_zero (S := S2048x2048) origin]

/-- its block is the product with what it put there; -/
theorem block_first (i : grid0.Coords) (a1) (h1) (a2) (h2) (a3) (h3) (a4) (h4) (hc)
    (x0 : Vec Ideal S1024x2048 .bf16) (x1 : Vec Ideal S2048x2048 .f32) :
    out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero origin]
  simp only [View.readAt_eq_ld, h1.read_unread, h2.read_unread, View.ld_unit_zero (S := S2048x2048) origin, View.ld_unit_zero (S := S1024x2048) origin,
    View.readCov_unit_zero (S := S2048x2048) _ origin]

/-- and a later point's is the product with what the scratch holds. -/
theorem block_later (i : grid0.Coords) (a1) (h1) (a2) (h2) (a3) (h3) (a4) (h4) (hc)
    (x0 : Vec Ideal S1024x2048 .bf16) (x1 : Vec Ideal S2048x2048 .f32) (w : Vec Ideal S2048x2048 .bf16) :
    out0_B_2 c i a1 h1 a2 h2 a3 h3 a4 h4 hc x0 x1 w = k0_pay2 x0 w := by
  unfold out0_B_2
  rw [View.read_writes_eq_canon _ _ _ (cover0_B_2 c i a1 h1 a2 h2 a3 h3 a4 h4 hc x0 x1 w)]
  unfold kernelRun0_B
  dsimp only
  sl_unfold_words
  rw [View.canon_unit_zero origin]
  simp only [View.readAt_eq_ld, h1.read_unread, h4.read_unread, View.ld_unit_zero (S := S2048x2048) origin, View.ld_unit_zero (S := S1024x2048) origin]

/-! ## Every point -/

/-- The activations and the weights the kernel is called with. -/
abbrev acts : Arr := m ((c : Thread nD τ).loc main_arg0)
abbrev weights : Weights := m ((c : Thread nD τ).loc main_arg1)

theorem index_0 : ∀ t : Fin grid0.N, win0_0.index t = ![t.val, 0] := by decide +kernel
theorem index_1 : ∀ t : Fin grid0.N, win0_1.index t = ![0, 1] := by decide +kernel
theorem index_2 : ∀ t : Fin grid0.N, win0_2.index t = ![t.val, 0] := by decide +kernel

theorem covers : win0_2.Covers := by decide +kernel

/-- The rows the kernel is given are the activations' rows. -/
theorem V_rows (r : Fin 32768) (k : Fin 2048) : (V m c main_v1 : Rows) (ix2 r k) = acts m c (rowAt r k) := by
  have e : V m c main_v1 = (shapeCast S32768x2048 (truncf .bf16 (m ((c : Thread nD τ).loc main_arg0)) bitsLt_bf16_f32)
      shapeCasts_S16x2048x2048_S32768x2048 : FVec Ideal S32768x2048 .bf16) := by
    unfold V
    simp only [hostOps0]
    after_results
    rfl
  rw [e]
  exact laid_apply _ _ r k

/-- The weights' block, at every point. -/
theorem blk_1 (t : Fin cfg0.N) (k j : Fin 2048) : iblk m c 1 t (ix2 k j) = weights m c (ix2 k (colAt 1 j)) := by
  rw [weights, ← V_main_arg1 m c]
  blk_simp [iblk]
  refine congrArg _ (funext fun a => Fin.ext ?_)
  match a with
  | 0 => blk_simp [index_1]; try simp
  | 1 => blk_simp [index_1]; simp [colAt]

/-- The row that a point's row is. -/
def rowOf (t : Fin grid0.N) (r : Fin 1024) : Fin 32768 :=
  ⟨1024 * t.val + r.val, by have := lt_of_lt_of_eq t.isLt N_0; have := r.isLt; omega⟩

theorem blk_0 (t : Fin cfg0.N) (r : Fin 1024) (k : Fin 2048) :
    iblk m c 0 t (ix2 r k) = acts m c (rowAt (rowOf t r) k) := by
  rw [← V_rows]
  blk_simp [iblk]
  refine congrArg _ (funext fun a => Fin.ext ?_)
  match a with
  | 0 => blk_simp [index_0]; simp only [rowOf]; omega
  | 1 => blk_simp [index_0]; try simp

theorem emb_2 (t : Fin grid0.N) (r : Fin 1024) (j : Fin 2048) : (win0_2.blk t).view.emb (ix2 r j) = ix2 (rowOf t r) j :=
  funext fun a => Fin.ext (match a with
  | 0 => by blk_simp [index_2]; simp only [rowOf]; omega
  | 1 => by blk_simp [index_2]; try simp)

/-- A later point leaves the scratch as the point before left it. -/
theorem kept_step (n : ℕ) (h : n + 1 < cfg0.N) : (outsAt0 m c (n + 1) h).2 = (outsAt0 m c n (Nat.lt_of_succ_lt h)).2 := by
  have hN : n + 1 < 32 := lt_of_lt_of_eq h N_0
  rw [outsAt0_B m c ⟨n + 1, h⟩ (by show ¬(n + 1) % 32 = 0; omega)]
  rfl

/-- What the scratch holds after the first point, and so after every point: the weights' block, rounded. -/
theorem kept_zero (t : Fin cfg0.N) (h : t.val % 32 = 0) : (outsAt0 m c t.val t.isLt).2 = k0_pay1 (iblk m c 1 t) := by
  rw [outsAt0_A m c t h]
  dsimp only
  rw [kept_first]

theorem kept : ∀ (n : ℕ) (h : n < cfg0.N), (outsAt0 m c n h).2 = k0_pay1 (iblk m c 1 ⟨0, lt_of_le_of_lt (Nat.zero_le n) h⟩) :=
  Nat.rec (fun h => kept_zero m c ⟨0, h⟩ (Nat.zero_mod 32)) fun n ih h => (kept_step m c n h).trans (ih (Nat.lt_of_succ_lt h))

theorem kept_apply (t : Fin cfg0.N) (k j : Fin 2048) : k0_pay1 (iblk m c 1 t) (ix2 k j) = weights m c (ix2 k (colAt 1 j)) := by
  rw [← blk_1 m c t]
  pointwise [k0_pay1]

/-- A block's element, from rows and columns known element by element. -/
theorem pay_apply (x : Vec Ideal S1024x2048 .bf16) (w : Vec Ideal S2048x2048 .bf16) (r : Fin 1024) (j : Fin 2048) :
    k0_pay2 x w (ix2 r j) = gelu (∑ k : Fin 2048, x (ix2 r k) * w (ix2 k j)) := by
  pointwise [k0_pay2]
  rfl

/-- What a point leaves in the result's block. -/
theorem after_2 (t : Fin cfg0.N) (r : Fin 1024) (j : Fin 2048) :
    (outsAt0 m c t.val t.isLt).1 (ix2 r j) = gelu (product (acts m c) (weights m c) 1 (ix2 (rowOf t r) j)) := by
  have fold : ∀ w : Vec Ideal S2048x2048 .bf16, (∀ k j : Fin 2048, w (ix2 k j) = weights m c (ix2 k (colAt 1 j))) →
      k0_pay2 (iblk m c 0 t) w (ix2 r j) = gelu (product (acts m c) (weights m c) 1 (ix2 (rowOf t r) j)) := fun w hw =>
    (pay_apply _ w r j).trans (congrArg gelu (Finset.sum_congr rfl fun k _ => congrArg₂ (· * ·) (blk_0 m c t r k) (hw k j)))
  by_cases h0 : t.val % 32 = 0
  · rw [outsAt0_A m c t h0]
    dsimp only
    rw [block_first]
    exact fold _ (kept_apply m c t)
  · rw [outsAt0_B m c t h0]
    dsimp only
    rw [block_later, kept]
    exact fold _ (kept_apply m c _)

/-- The result's array. -/
theorem result_eq : (dats m 0 c).arrAt 2 cfg0.N = fun y => gelu (product (acts m c) (weights m c) 1 y) := by
  refine (dats m 0 c).arrAt_eq_of_covers 2 _ covers fun t hf y => ?_
  blk_simp
  rw [after0_2]
  obtain ⟨r, j, hy⟩ : ∃ (r : Fin 1024) (j : Fin 2048), y = ix2 r j := ⟨y 0, y 1, funext fun a => match a with | 0 => rfl | 1 => rfl⟩
  rw [hy]
  exact (after_2 m c t r j).trans (congrArg (fun y => gelu (product (acts m c) (weights m c) 1 y)) (emb_2 t r j).symm)

end Cert.KernelGeluIdeal.Proj

namespace Cert.ReferenceGeluIdeal.Proj

open Cert.ReferenceGeluIdeal Cert.ReferenceGeluIdeal.Read Cert.Share
open Idealize.ShloMosaic Idealize.ShloMosaic.TcCoe Idealize.SL.Sem

/-- The rows' products with the block's columns, where the reference's last reshape reads them. -/
theorem cols_eq (x : Arr) (w : Weights) (y : S32768x2048.Idx) :
    val_main_v1 (F := Ideal) x w (idx_main_v16 y) = product x w 1 y := by
  rw [val_main_v1_apply, val_main_v0_apply]
  exact product_at x w 1 y _ _ (fun k => rfl) (fun k => rfl) (fun k => rfl) (fun k => rfl) (fun k => rfl)

/-- The reference's result, element by element, is the gelu of the same product. -/
theorem res_eq (x : Arr) (w : Weights) : val_main_v16 (F := Ideal) x w = fun y => gelu (product x w 1 y) := by
  funext y
  simp only [val_main_v16_apply, val_main_v15_apply, val_main_v14_apply, val_main_v13_apply, val_main_v12_apply, val_main_v11_apply,
    val_main_v10_apply, val_main_v9_apply, val_main_v8_apply, val_main_v7_apply, val_main_v6_apply, val_main_v5_apply, val_main_v4_apply,
    val_main_v3_apply, val_main_v2_apply, cols_eq, val_main_cst_apply, val_main_cst_0_apply, val_main_cst_1_apply, val_main_cst_2_apply]
  exact gelu_spelled _

end Cert.ReferenceGeluIdeal.Proj

namespace Cert.Proof

open Idealize.ShloMosaic Idealize.ShloMosaic.TcCoe Idealize.SL.Sem
open Cert.Share

/-- Kernel and reference give the same gelu gate's. -/
theorem algebraic_gelu : Cert.algebraic_KernelGeluIdeal_ReferenceGeluIdeal := fun m g m' g' _ hagree =>
  ⟨fun c y => gelu (product (Cert.KernelGeluIdeal.Proj.acts m c) (Cert.KernelGeluIdeal.Proj.weights m c) 1 y),
    (θ_run _ _ _).mono (fun _ h c => ⟨(h c).1.trans (Cert.KernelGeluIdeal.Proj.result_eq m c), (h c).2⟩)
      (Cert.KernelGeluIdeal.Value.run_blocks (F := Ideal) m g),
    (θ_run _ _ _).mono (fun _ h c => ⟨(h c).1.trans ((Cert.ReferenceGeluIdeal.Proj.res_eq _ _).trans
        (congrArg₂ (fun x w y => gelu (product x w 1 y)) (hagree c).1 (hagree c).2)), (h c).2⟩)
      (Cert.ReferenceGeluIdeal.Value.run (F := Ideal) m' g')⟩

end Cert.Proof

end
-- ==== Proof.Proj.Gate.lean ====
/- The projection onto the second gate at exact numbers: what the kernel leaves is the logistic function of the product of the
   rows and the gate's columns. -/
module

public import proofs.«01_k».proof.Defs
public import proofs.«01_k».proof.Proof.Gen.KernelGateIdeal.Value
public import proofs.«01_k».proof.Proof.Gen.ReferenceGateIdeal.Run
public import proofs.«01_k».proof.Proof.Gen.ReferenceGateIdeal.Read
public import proofs.«01_k».proof.Proof.Proj.Want
public import Idealize.ShloMosaic.Lib.Pipeline.ValueKit

@[expose] public section

set_option maxRecDepth 16384

noncomputable section

namespace Cert.KernelGateIdeal.Proj

open Cert.KernelGateIdeal Cert.KernelGateIdeal.Gen Cert.Share
open Idealize.ShloMosaic Idealize.ShloMosaic.TcCoe Idealize.SL.Sem
open Idealize.ShloMosaic.Pipeline (Dat Window)

variable (m : (ℓ : Loc nD τ sig) → Buf (Elt Ideal) ℓ) (c : Dev nD)

theorem origin : (![0, 0] : Fin 2 → ℕ) = fun _ => 0 := by decide

/-! ## One point -/

/-- The first point puts the rounded weights in the scratch; -/
theorem kept_first (i : grid0.Coords) (a1) (h1) (a2) (h2) (a3) (h3) (a4) (h4) (hc)
    (x0 : Vec Ideal S1024x2048 .bf16) (x1 : Vec Ideal S2048x2048 .f32) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero origin]
  simp only [View.readAt_eq_ld, h2.read_unread, View.ld_unit_zero (S := S2048x2048) origin]

/-- its block is the product with what it put there; -/
theorem block_first (i : grid0.Coords) (a1) (h1) (a2) (h2) (a3) (h3) (a4) (h4) (hc)
    (x0 : Vec Ideal S1024x2048 .bf16) (x1 : Vec Ideal S2048x2048 .f32) :
    out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero origin]
  simp only [View.readAt_eq_ld, h1.read_unread, h2.read_unread, View.ld_unit_zero (S := S2048x2048) origin, View.ld_unit_zero (S := S1024x2048) origin,
    View.readCov_unit_zero (S := S2048x2048) _ origin]

/-- and a later point's is the product with what the scratch holds. -/
theorem block_later (i : grid0.Coords) (a1) (h1) (a2) (h2) (a3) (h3) (a4) (h4) (hc)
    (x0 : Vec Ideal S1024x2048 .bf16) (x1 : Vec Ideal S2048x2048 .f32) (w : Vec Ideal S2048x2048 .bf16) :
    out0_B_2 c i a1 h1 a2 h2 a3 h3 a4 h4 hc x0 x1 w = k0_pay2 x0 w := by
  unfold out0_B_2
  rw [View.read_writes_eq_canon _ _ _ (cover0_B_2 c i a1 h1 a2 h2 a3 h3 a4 h4 hc x0 x1 w)]
  unfold kernelRun0_B
  dsimp only
  sl_unfold_words
  rw [View.canon_unit_zero origin]
  simp only [View.readAt_eq_ld, h1.read_unread, h4.read_unread, View.ld_unit_zero (S := S2048x2048) origin, View.ld_unit_zero (S := S1024x2048) origin]

/-! ## Every point -/

/-- The activations and the weights the kernel is called with. -/
abbrev acts : Arr := m ((c : Thread nD τ).loc main_arg0)
abbrev weights : Weights := m ((c : Thread nD τ).loc main_arg1)

theorem index_0 : ∀ t : Fin grid0.N, win0_0.index t = ![t.val, 0] := by decide +kernel
theorem index_1 : ∀ t : Fin grid0.N, win0_1.index t = ![0, 5] := by decide +kernel
theorem index_2 : ∀ t : Fin grid0.N, win0_2.index t = ![t.val, 0] := by decide +kernel

theorem covers : win0_2.Covers := by decide +kernel

/-- The rows the kernel is given are the activations' rows. -/
theorem V_rows (r : Fin 32768) (k : Fin 2048) : (V m c main_v1 : Rows) (ix2 r k) = acts m c (rowAt r k) := by
  have e : V m c main_v1 = (shapeCast S32768x2048 (truncf .bf16 (m ((c : Thread nD τ).loc main_arg0)) bitsLt_bf16_f32)
      shapeCasts_S16x2048x2048_S32768x2048 : FVec Ideal S32768x2048 .bf16) := by
    unfold V
    simp only [hostOps0]
    after_results
    rfl
  rw [e]
  exact laid_apply _ _ r k

/-- The weights' block, at every point. -/
theorem blk_1 (t : Fin cfg0.N) (k j : Fin 2048) : iblk m c 1 t (ix2 k j) = weights m c (ix2 k (colAt 5 j)) := by
  rw [weights, ← V_main_arg1 m c]
  blk_simp [iblk]
  refine congrArg _ (funext fun a => Fin.ext ?_)
  match a with
  | 0 => blk_simp [index_1]; try simp
  | 1 => blk_simp [index_1]; simp [colAt]

/-- The row that a point's row is. -/
def rowOf (t : Fin grid0.N) (r : Fin 1024) : Fin 32768 :=
  ⟨1024 * t.val + r.val, by have := lt_of_lt_of_eq t.isLt N_0; have := r.isLt; omega⟩

theorem blk_0 (t : Fin cfg0.N) (r : Fin 1024) (k : Fin 2048) :
    iblk m c 0 t (ix2 r k) = acts m c (rowAt (rowOf t r) k) := by
  rw [← V_rows]
  blk_simp [iblk]
  refine congrArg _ (funext fun a => Fin.ext ?_)
  match a with
  | 0 => blk_simp [index_0]; simp only [rowOf]; omega
  | 1 => blk_simp [index_0]; try simp

theorem emb_2 (t : Fin grid0.N) (r : Fin 1024) (j : Fin 2048) : (win0_2.blk t).view.emb (ix2 r j) = ix2 (rowOf t r) j :=
  funext fun a => Fin.ext (match a with
  | 0 => by blk_simp [index_2]; simp only [rowOf]; omega
  | 1 => by blk_simp [index_2]; try simp)

/-- A later point leaves the scratch as the point before left it. -/
theorem kept_step (n : ℕ) (h : n + 1 < cfg0.N) : (outsAt0 m c (n + 1) h).2 = (outsAt0 m c n (Nat.lt_of_succ_lt h)).2 := by
  have hN : n + 1 < 32 := lt_of_lt_of_eq h N_0
  rw [outsAt0_B m c ⟨n + 1, h⟩ (by show ¬(n + 1) % 32 = 0; omega)]
  rfl

/-- What the scratch holds after the first point, and so after every point: the weights' block, rounded. -/
theorem kept_zero (t : Fin cfg0.N) (h : t.val % 32 = 0) : (outsAt0 m c t.val t.isLt).2 = k0_pay1 (iblk m c 1 t) := by
  rw [outsAt0_A m c t h]
  dsimp only
  rw [kept_first]

theorem kept : ∀ (n : ℕ) (h : n < cfg0.N), (outsAt0 m c n h).2 = k0_pay1 (iblk m c 1 ⟨0, lt_of_le_of_lt (Nat.zero_le n) h⟩) :=
  Nat.rec (fun h => kept_zero m c ⟨0, h⟩ (Nat.zero_mod 32)) fun n ih h => (kept_step m c n h).trans (ih (Nat.lt_of_succ_lt h))

theorem kept_apply (t : Fin cfg0.N) (k j : Fin 2048) : k0_pay1 (iblk m c 1 t) (ix2 k j) = weights m c (ix2 k (colAt 5 j)) := by
  rw [← blk_1 m c t]
  pointwise [k0_pay1]

/-- A block's element, from rows and columns known element by element. -/
theorem pay_apply (x : Vec Ideal S1024x2048 .bf16) (w : Vec Ideal S2048x2048 .bf16) (r : Fin 1024) (j : Fin 2048) :
    k0_pay2 x w (ix2 r j) = Ideal.logistic (∑ k : Fin 2048, x (ix2 r k) * w (ix2 k j)) := by
  pointwise [k0_pay2]

/-- What a point leaves in the result's block. -/
theorem after_2 (t : Fin cfg0.N) (r : Fin 1024) (j : Fin 2048) :
    (outsAt0 m c t.val t.isLt).1 (ix2 r j) = Ideal.logistic (product (acts m c) (weights m c) 5 (ix2 (rowOf t r) j)) := by
  have fold : ∀ w : Vec Ideal S2048x2048 .bf16, (∀ k j : Fin 2048, w (ix2 k j) = weights m c (ix2 k (colAt 5 j))) →
      k0_pay2 (iblk m c 0 t) w (ix2 r j) = Ideal.logistic (product (acts m c) (weights m c) 5 (ix2 (rowOf t r) j)) := fun w hw =>
    (pay_apply _ w r j).trans (congrArg Ideal.logistic (Finset.sum_congr rfl fun k _ => congrArg₂ (· * ·) (blk_0 m c t r k) (hw k j)))
  by_cases h0 : t.val % 32 = 0
  · rw [outsAt0_A m c t h0]
    dsimp only
    rw [block_first]
    exact fold _ (kept_apply m c t)
  · rw [outsAt0_B m c t h0]
    dsimp only
    rw [block_later, kept]
    exact fold _ (kept_apply m c _)

/-- The result's array. -/
theorem result_eq : (dats m 0 c).arrAt 2 cfg0.N = fun y => Ideal.logistic (product (acts m c) (weights m c) 5 y) := by
  refine (dats m 0 c).arrAt_eq_of_covers 2 _ covers fun t hf y => ?_
  blk_simp
  rw [after0_2]
  obtain ⟨r, j, hy⟩ : ∃ (r : Fin 1024) (j : Fin 2048), y = ix2 r j := ⟨y 0, y 1, funext fun a => match a with | 0 => rfl | 1 => rfl⟩
  rw [hy]
  exact (after_2 m c t r j).trans (congrArg (fun y => Ideal.logistic (product (acts m c) (weights m c) 5 y)) (emb_2 t r j).symm)

end Cert.KernelGateIdeal.Proj

namespace Cert.ReferenceGateIdeal.Proj

open Cert.ReferenceGateIdeal Cert.ReferenceGateIdeal.Read Cert.Share
open Idealize.ShloMosaic Idealize.ShloMosaic.TcCoe Idealize.SL.Sem

/-- The rows' products with the block's columns, where the reference's last reshape reads them. -/
theorem cols_eq (x : Arr) (w : Weights) (y : S32768x2048.Idx) :
    val_main_v1 (F := Ideal) x w (idx_main_v9 y) = product x w 5 y := by
  rw [val_main_v1_apply, val_main_v0_apply]
  exact product_at x w 5 y _ _ (fun k => rfl) (fun k => rfl) (fun k => rfl) (fun k => rfl) (fun k => rfl)

/-- The reference's result, element by element, is the logistic function of the same product. -/
theorem res_eq (x : Arr) (w : Weights) : val_main_v9 (F := Ideal) x w = fun y => Ideal.logistic (product x w 5 y) := by
  funext y
  simp only [val_main_v9_apply, val_main_v8_apply, val_main_v7_apply, val_main_v6_apply, val_main_v5_apply, val_main_v4_apply,
    val_main_v3_apply, val_main_v2_apply, cols_eq, val_main_cst_apply, val_main_cst_0_apply]
  exact logistic_spelled _

end Cert.ReferenceGateIdeal.Proj

namespace Cert.Proof

open Idealize.ShloMosaic Idealize.ShloMosaic.TcCoe Idealize.SL.Sem
open Cert.Share

/-- Kernel and reference give the same sigmoid gate's. -/
theorem algebraic_gate : Cert.algebraic_KernelGateIdeal_ReferenceGateIdeal := fun m g m' g' _ hagree =>
  ⟨fun c y => Ideal.logistic (product (Cert.KernelGateIdeal.Proj.acts m c) (Cert.KernelGateIdeal.Proj.weights m c) 5 y),
    (θ_run _ _ _).mono (fun _ h c => ⟨(h c).1.trans (Cert.KernelGateIdeal.Proj.result_eq m c), (h c).2⟩)
      (Cert.KernelGateIdeal.Value.run_blocks (F := Ideal) m g),
    (θ_run _ _ _).mono (fun _ h c => ⟨(h c).1.trans ((Cert.ReferenceGateIdeal.Proj.res_eq _ _).trans
        (congrArg₂ (fun x w y => Ideal.logistic (product x w 5 y)) (hagree c).1 (hagree c).2)), (h c).2⟩)
      (Cert.ReferenceGateIdeal.Value.run (F := Ideal) m' g')⟩

end Cert.Proof

end
-- ==== Proof.Proj.Mix.lean ====
/- The projection onto the attention's gate at exact numbers: what the kernel leaves is the logistic function of the product of the
   rows and the gate's columns. -/
module

public import proofs.«01_k».proof.Defs
public import proofs.«01_k».proof.Proof.Gen.KernelMixIdeal.Value
public import proofs.«01_k».proof.Proof.Gen.ReferenceMixIdeal.Run
public import proofs.«01_k».proof.Proof.Gen.ReferenceMixIdeal.Read
public import proofs.«01_k».proof.Proof.Proj.Want
public import Idealize.ShloMosaic.Lib.Pipeline.ValueKit

@[expose] public section

set_option maxRecDepth 16384

noncomputable section

namespace Cert.KernelMixIdeal.Proj

open Cert.KernelMixIdeal Cert.KernelMixIdeal.Gen Cert.Share
open Idealize.ShloMosaic Idealize.ShloMosaic.TcCoe Idealize.SL.Sem
open Idealize.ShloMosaic.Pipeline (Dat Window)

variable (m : (ℓ : Loc nD τ sig) → Buf (Elt Ideal) ℓ) (c : Dev nD)

theorem origin : (![0, 0] : Fin 2 → ℕ) = fun _ => 0 := by decide

/-! ## One point -/

/-- The first point puts the rounded weights in the scratch; -/
theorem kept_first (i : grid0.Coords) (a1) (h1) (a2) (h2) (a3) (h3) (a4) (h4) (hc)
    (x0 : Vec Ideal S1024x2048 .bf16) (x1 : Vec Ideal S2048x2048 .f32) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero origin]
  simp only [View.readAt_eq_ld, h2.read_unread, View.ld_unit_zero (S := S2048x2048) origin]

/-- its block is the product with what it put there; -/
theorem block_first (i : grid0.Coords) (a1) (h1) (a2) (h2) (a3) (h3) (a4) (h4) (hc)
    (x0 : Vec Ideal S1024x2048 .bf16) (x1 : Vec Ideal S2048x2048 .f32) :
    out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero origin]
  simp only [View.readAt_eq_ld, h1.read_unread, h2.read_unread, View.ld_unit_zero (S := S2048x2048) origin, View.ld_unit_zero (S := S1024x2048) origin,
    View.readCov_unit_zero (S := S2048x2048) _ origin]

/-- and a later point's is the product with what the scratch holds. -/
theorem block_later (i : grid0.Coords) (a1) (h1) (a2) (h2) (a3) (h3) (a4) (h4) (hc)
    (x0 : Vec Ideal S1024x2048 .bf16) (x1 : Vec Ideal S2048x2048 .f32) (w : Vec Ideal S2048x2048 .bf16) :
    out0_B_2 c i a1 h1 a2 h2 a3 h3 a4 h4 hc x0 x1 w = k0_pay2 x0 w := by
  unfold out0_B_2
  rw [View.read_writes_eq_canon _ _ _ (cover0_B_2 c i a1 h1 a2 h2 a3 h3 a4 h4 hc x0 x1 w)]
  unfold kernelRun0_B
  dsimp only
  sl_unfold_words
  rw [View.canon_unit_zero origin]
  simp only [View.readAt_eq_ld, h1.read_unread, h4.read_unread, View.ld_unit_zero (S := S2048x2048) origin, View.ld_unit_zero (S := S1024x2048) origin]

/-! ## Every point -/

/-- The activations and the weights the kernel is called with. -/
abbrev acts : Arr := m ((c : Thread nD τ).loc main_arg0)
abbrev weights : Weights := m ((c : Thread nD τ).loc main_arg1)

theorem index_0 : ∀ t : Fin grid0.N, win0_0.index t = ![t.val, 0] := by decide +kernel
theorem index_1 : ∀ t : Fin grid0.N, win0_1.index t = ![0, 6] := by decide +kernel
theorem index_2 : ∀ t : Fin grid0.N, win0_2.index t = ![t.val, 0] := by decide +kernel

theorem covers : win0_2.Covers := by decide +kernel

/-- The rows the kernel is given are the activations' rows. -/
theorem V_rows (r : Fin 32768) (k : Fin 2048) : (V m c main_v1 : Rows) (ix2 r k) = acts m c (rowAt r k) := by
  have e : V m c main_v1 = (shapeCast S32768x2048 (truncf .bf16 (m ((c : Thread nD τ).loc main_arg0)) bitsLt_bf16_f32)
      shapeCasts_S16x2048x2048_S32768x2048 : FVec Ideal S32768x2048 .bf16) := by
    unfold V
    simp only [hostOps0]
    after_results
    rfl
  rw [e]
  exact laid_apply _ _ r k

/-- The weights' block, at every point. -/
theorem blk_1 (t : Fin cfg0.N) (k j : Fin 2048) : iblk m c 1 t (ix2 k j) = weights m c (ix2 k (colAt 6 j)) := by
  rw [weights, ← V_main_arg1 m c]
  blk_simp [iblk]
  refine congrArg _ (funext fun a => Fin.ext ?_)
  match a with
  | 0 => blk_simp [index_1]; try simp
  | 1 => blk_simp [index_1]; simp [colAt]

/-- The row that a point's row is. -/
def rowOf (t : Fin grid0.N) (r : Fin 1024) : Fin 32768 :=
  ⟨1024 * t.val + r.val, by have := lt_of_lt_of_eq t.isLt N_0; have := r.isLt; omega⟩

theorem blk_0 (t : Fin cfg0.N) (r : Fin 1024) (k : Fin 2048) :
    iblk m c 0 t (ix2 r k) = acts m c (rowAt (rowOf t r) k) := by
  rw [← V_rows]
  blk_simp [iblk]
  refine congrArg _ (funext fun a => Fin.ext ?_)
  match a with
  | 0 => blk_simp [index_0]; simp only [rowOf]; omega
  | 1 => blk_simp [index_0]; try simp

theorem emb_2 (t : Fin grid0.N) (r : Fin 1024) (j : Fin 2048) : (win0_2.blk t).view.emb (ix2 r j) = ix2 (rowOf t r) j :=
  funext fun a => Fin.ext (match a with
  | 0 => by blk_simp [index_2]; simp only [rowOf]; omega
  | 1 => by blk_simp [index_2]; try simp)

/-- A later point leaves the scratch as the point before left it. -/
theorem kept_step (n : ℕ) (h : n + 1 < cfg0.N) : (outsAt0 m c (n + 1) h).2 = (outsAt0 m c n (Nat.lt_of_succ_lt h)).2 := by
  have hN : n + 1 < 32 := lt_of_lt_of_eq h N_0
  rw [outsAt0_B m c ⟨n + 1, h⟩ (by show ¬(n + 1) % 32 = 0; omega)]
  rfl

/-- What the scratch holds after the first point, and so after every point: the weights' block, rounded. -/
theorem kept_zero (t : Fin cfg0.N) (h : t.val % 32 = 0) : (outsAt0 m c t.val t.isLt).2 = k0_pay1 (iblk m c 1 t) := by
  rw [outsAt0_A m c t h]
  dsimp only
  rw [kept_first]

theorem kept : ∀ (n : ℕ) (h : n < cfg0.N), (outsAt0 m c n h).2 = k0_pay1 (iblk m c 1 ⟨0, lt_of_le_of_lt (Nat.zero_le n) h⟩) :=
  Nat.rec (fun h => kept_zero m c ⟨0, h⟩ (Nat.zero_mod 32)) fun n ih h => (kept_step m c n h).trans (ih (Nat.lt_of_succ_lt h))

theorem kept_apply (t : Fin cfg0.N) (k j : Fin 2048) : k0_pay1 (iblk m c 1 t) (ix2 k j) = weights m c (ix2 k (colAt 6 j)) := by
  rw [← blk_1 m c t]
  pointwise [k0_pay1]

/-- A block's element, from rows and columns known element by element. -/
theorem pay_apply (x : Vec Ideal S1024x2048 .bf16) (w : Vec Ideal S2048x2048 .bf16) (r : Fin 1024) (j : Fin 2048) :
    k0_pay2 x w (ix2 r j) = Ideal.logistic (∑ k : Fin 2048, x (ix2 r k) * w (ix2 k j)) := by
  pointwise [k0_pay2]

/-- What a point leaves in the result's block. -/
theorem after_2 (t : Fin cfg0.N) (r : Fin 1024) (j : Fin 2048) :
    (outsAt0 m c t.val t.isLt).1 (ix2 r j) = Ideal.logistic (product (acts m c) (weights m c) 6 (ix2 (rowOf t r) j)) := by
  have fold : ∀ w : Vec Ideal S2048x2048 .bf16, (∀ k j : Fin 2048, w (ix2 k j) = weights m c (ix2 k (colAt 6 j))) →
      k0_pay2 (iblk m c 0 t) w (ix2 r j) = Ideal.logistic (product (acts m c) (weights m c) 6 (ix2 (rowOf t r) j)) := fun w hw =>
    (pay_apply _ w r j).trans (congrArg Ideal.logistic (Finset.sum_congr rfl fun k _ => congrArg₂ (· * ·) (blk_0 m c t r k) (hw k j)))
  by_cases h0 : t.val % 32 = 0
  · rw [outsAt0_A m c t h0]
    dsimp only
    rw [block_first]
    exact fold _ (kept_apply m c t)
  · rw [outsAt0_B m c t h0]
    dsimp only
    rw [block_later, kept]
    exact fold _ (kept_apply m c _)

/-- The result's array. -/
theorem result_eq : (dats m 0 c).arrAt 2 cfg0.N = fun y => Ideal.logistic (product (acts m c) (weights m c) 6 y) := by
  refine (dats m 0 c).arrAt_eq_of_covers 2 _ covers fun t hf y => ?_
  blk_simp
  rw [after0_2]
  obtain ⟨r, j, hy⟩ : ∃ (r : Fin 1024) (j : Fin 2048), y = ix2 r j := ⟨y 0, y 1, funext fun a => match a with | 0 => rfl | 1 => rfl⟩
  rw [hy]
  exact (after_2 m c t r j).trans (congrArg (fun y => Ideal.logistic (product (acts m c) (weights m c) 6 y)) (emb_2 t r j).symm)

end Cert.KernelMixIdeal.Proj

namespace Cert.ReferenceMixIdeal.Proj

open Cert.ReferenceMixIdeal Cert.ReferenceMixIdeal.Read Cert.Share
open Idealize.ShloMosaic Idealize.ShloMosaic.TcCoe Idealize.SL.Sem

/-- The rows' products with the block's columns, where the reference's last reshape reads them. -/
theorem cols_eq (x : Arr) (w : Weights) (y : S32768x2048.Idx) :
    val_main_v1 (F := Ideal) x w (idx_main_v9 y) = product x w 6 y := by
  rw [val_main_v1_apply, val_main_v0_apply]
  exact product_at x w 6 y _ _ (fun k => rfl) (fun k => rfl) (fun k => rfl) (fun k => rfl) (fun k => rfl)

/-- The reference's result, element by element, is the logistic function of the same product. -/
theorem res_eq (x : Arr) (w : Weights) : val_main_v9 (F := Ideal) x w = fun y => Ideal.logistic (product x w 6 y) := by
  funext y
  simp only [val_main_v9_apply, val_main_v8_apply, val_main_v7_apply, val_main_v6_apply, val_main_v5_apply, val_main_v4_apply,
    val_main_v3_apply, val_main_v2_apply, cols_eq, val_main_cst_apply, val_main_cst_0_apply]
  exact logistic_spelled _

end Cert.ReferenceMixIdeal.Proj

namespace Cert.Proof

open Idealize.ShloMosaic Idealize.ShloMosaic.TcCoe Idealize.SL.Sem
open Cert.Share

/-- Kernel and reference give the same attention gate's. -/
theorem algebraic_mix : Cert.algebraic_KernelMixIdeal_ReferenceMixIdeal := fun m g m' g' _ hagree =>
  ⟨fun c y => Ideal.logistic (product (Cert.KernelMixIdeal.Proj.acts m c) (Cert.KernelMixIdeal.Proj.weights m c) 6 y),
    (θ_run _ _ _).mono (fun _ h c => ⟨(h c).1.trans (Cert.KernelMixIdeal.Proj.result_eq m c), (h c).2⟩)
      (Cert.KernelMixIdeal.Value.run_blocks (F := Ideal) m g),
    (θ_run _ _ _).mono (fun _ h c => ⟨(h c).1.trans ((Cert.ReferenceMixIdeal.Proj.res_eq _ _).trans
        (congrArg₂ (fun x w y => Ideal.logistic (product x w 6 y)) (hagree c).1 (hagree c).2)), (h c).2⟩)
      (Cert.ReferenceMixIdeal.Value.run (F := Ideal) m' g')⟩

end Cert.Proof

end
-- ==== Proof.Proj.Query.lean ====
/- The projection onto the queries at exact numbers: what the kernel leaves is the product of the rows and the queries' columns,
   over the root of the head's size and the logarithm of two. -/
module

public import proofs.«01_k».proof.Defs
public import proofs.«01_k».proof.Proof.Gen.KernelQueryIdeal.Value
public import proofs.«01_k».proof.Proof.Gen.ReferenceQueryIdeal.Run
public import proofs.«01_k».proof.Proof.Gen.ReferenceQueryIdeal.Read
public import proofs.«01_k».proof.Proof.Proj.Want
public import Idealize.ShloMosaic.Lib.Pipeline.ValueKit

@[expose] public section

set_option maxRecDepth 16384

noncomputable section

namespace Cert.KernelQueryIdeal.Proj

open Cert.KernelQueryIdeal Cert.KernelQueryIdeal.Gen Cert.Share
open Idealize.ShloMosaic Idealize.ShloMosaic.TcCoe Idealize.SL.Sem
open Idealize.ShloMosaic.Pipeline (Dat Window)

variable (m : (ℓ : Loc nD τ sig) → Buf (Elt Ideal) ℓ) (c : Dev nD)

theorem origin : (![0, 0] : Fin 2 → ℕ) = fun _ => 0 := by decide

/-! ## One point -/

/-- The first point puts the rounded weights in the scratch; -/
theorem kept_first (i : grid0.Coords) (a1) (h1) (a2) (h2) (a3) (h3) (a4) (h4) (hc)
    (x0 : Vec Ideal S1024x2048 .bf16) (x1 : Vec Ideal S2048x2048 .f32) :
    sout0_A_0 c i a1 h1 a2 h2 a3 h3 a4 h4 hc x0 x1 = k0_pay1 x1 := by
  unfold sout0_A_0
  rw [View.read_writes_eq_canon _ _ _ (scover0_A_0 c i a1 h1 a2 h2 a3 h3 a4 h4 hc x0 x1)]
  unfold kernelRun0_A
  dsimp only
  sl_unfold_words
  rw [View.canon_unit_zero origin]
  simp only [View.readAt_eq_ld, h2.read_unread, View.ld_unit_zero (S := S2048x2048) origin]

/-- its block is the product with what it put there; -/
theorem block_first (i : grid0.Coords) (a1) (h1) (a2) (h2) (a3) (h3) (a4) (h4) (hc)
    (x0 : Vec Ideal S1024x2048 .bf16) (x1 : Vec Ideal S2048x2048 .f32) :
    out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero origin]
  simp only [View.readAt_eq_ld, h1.read_unread, h2.read_unread, View.ld_unit_zero (S := S2048x2048) origin, View.ld_unit_zero (S := S1024x2048) origin,
    View.readCov_unit_zero (S := S2048x2048) _ origin]

/-- and a later point's is the product with what the scratch holds. -/
theorem block_later (i : grid0.Coords) (a1) (h1) (a2) (h2) (a3) (h3) (a4) (h4) (hc)
    (x0 : Vec Ideal S1024x2048 .bf16) (x1 : Vec Ideal S2048x2048 .f32) (w : Vec Ideal S2048x2048 .bf16) :
    out0_B_2 c i a1 h1 a2 h2 a3 h3 a4 h4 hc x0 x1 w = k0_pay2 x0 w := by
  unfold out0_B_2
  rw [View.read_writes_eq_canon _ _ _ (cover0_B_2 c i a1 h1 a2 h2 a3 h3 a4 h4 hc x0 x1 w)]
  unfold kernelRun0_B
  dsimp only
  sl_unfold_words
  rw [View.canon_unit_zero origin]
  simp only [View.readAt_eq_ld, h1.read_unread, h4.read_unread, View.ld_unit_zero (S := S2048x2048) origin, View.ld_unit_zero (S := S1024x2048) origin]

/-! ## Every point -/

/-- The activations and the weights the kernel is called with. -/
abbrev acts : Arr := m ((c : Thread nD τ).loc main_arg0)
abbrev weights : Weights := m ((c : Thread nD τ).loc main_arg1)

theorem index_0 : ∀ t : Fin grid0.N, win0_0.index t = ![t.val, 0] := by decide +kernel
theorem index_1 : ∀ t : Fin grid0.N, win0_1.index t = ![0, 2] := by decide +kernel
theorem index_2 : ∀ t : Fin grid0.N, win0_2.index t = ![t.val, 0] := by decide +kernel

theorem covers : win0_2.Covers := by decide +kernel

/-- The rows the kernel is given are the activations' rows. -/
theorem V_rows (r : Fin 32768) (k : Fin 2048) : (V m c main_v1 : Rows) (ix2 r k) = acts m c (rowAt r k) := by
  have e : V m c main_v1 = (shapeCast S32768x2048 (truncf .bf16 (m ((c : Thread nD τ).loc main_arg0)) bitsLt_bf16_f32)
      shapeCasts_S16x2048x2048_S32768x2048 : FVec Ideal S32768x2048 .bf16) := by
    unfold V
    simp only [hostOps0]
    after_results
    rfl
  rw [e]
  exact laid_apply _ _ r k

/-- The weights' block, at every point. -/
theorem blk_1 (t : Fin cfg0.N) (k j : Fin 2048) : iblk m c 1 t (ix2 k j) = weights m c (ix2 k (colAt 2 j)) := by
  rw [weights, ← V_main_arg1 m c]
  blk_simp [iblk]
  refine congrArg _ (funext fun a => Fin.ext ?_)
  match a with
  | 0 => blk_simp [index_1]; try simp
  | 1 => blk_simp [index_1]; simp [colAt]

/-- The row that a point's row is. -/
def rowOf (t : Fin grid0.N) (r : Fin 1024) : Fin 32768 :=
  ⟨1024 * t.val + r.val, by have := lt_of_lt_of_eq t.isLt N_0; have := r.isLt; omega⟩

theorem blk_0 (t : Fin cfg0.N) (r : Fin 1024) (k : Fin 2048) :
    iblk m c 0 t (ix2 r k) = acts m c (rowAt (rowOf t r) k) := by
  rw [← V_rows]
  blk_simp [iblk]
  refine congrArg _ (funext fun a => Fin.ext ?_)
  match a with
  | 0 => blk_simp [index_0]; simp only [rowOf]; omega
  | 1 => blk_simp [index_0]; try simp

theorem emb_2 (t : Fin grid0.N) (r : Fin 1024) (j : Fin 2048) : (win0_2.blk t).view.emb (ix2 r j) = ix2 (rowOf t r) j :=
  funext fun a => Fin.ext (match a with
  | 0 => by blk_simp [index_2]; simp only [rowOf]; omega
  | 1 => by blk_simp [index_2]; try simp)

/-- A later point leaves the scratch as the point before left it. -/
theorem kept_step (n : ℕ) (h : n + 1 < cfg0.N) : (outsAt0 m c (n + 1) h).2 = (outsAt0 m c n (Nat.lt_of_succ_lt h)).2 := by
  have hN : n + 1 < 32 := lt_of_lt_of_eq h N_0
  rw [outsAt0_B m c ⟨n + 1, h⟩ (by show ¬(n + 1) % 32 = 0; omega)]
  rfl

/-- What the scratch holds after the first point, and so after every point: the weights' block, rounded. -/
theorem kept_zero (t : Fin cfg0.N) (h : t.val % 32 = 0) : (outsAt0 m c t.val t.isLt).2 = k0_pay1 (iblk m c 1 t) := by
  rw [outsAt0_A m c t h]
  dsimp only
  rw [kept_first]

theorem kept : ∀ (n : ℕ) (h : n < cfg0.N), (outsAt0 m c n h).2 = k0_pay1 (iblk m c 1 ⟨0, lt_of_le_of_lt (Nat.zero_le n) h⟩) :=
  Nat.rec (fun h => kept_zero m c ⟨0, h⟩ (Nat.zero_mod 32)) fun n ih h => (kept_step m c n h).trans (ih (Nat.lt_of_succ_lt h))

theorem kept_apply (t : Fin cfg0.N) (k j : Fin 2048) : k0_pay1 (iblk m c 1 t) (ix2 k j) = weights m c (ix2 k (colAt 2 j)) := by
  rw [← blk_1 m c t]
  pointwise [k0_pay1]

/-- The factor, which the kernel holds rounded. -/
theorem scale : (Named.named κ "query_scale" 1040356334#32 : Ideal .f32) = (((Real.sqrt 128 * Real.log 2)⁻¹ : ℝ) : EReal) :=
  IdealRules.named_const.ideal_named_scalar _ _ _ _ rfl

/-- A block's element, from rows and columns known element by element. -/
theorem pay_apply (x : Vec Ideal S1024x2048 .bf16) (w : Vec Ideal S2048x2048 .bf16) (r : Fin 1024) (j : Fin 2048) :
    k0_pay2 x w (ix2 r j) = scaled (∑ k : Fin 2048, x (ix2 r k) * w (ix2 k j)) := by
  pointwise [k0_pay2]
  rw [scale]
  rfl

/-- What a point leaves in the result's block. -/
theorem after_2 (t : Fin cfg0.N) (r : Fin 1024) (j : Fin 2048) :
    (outsAt0 m c t.val t.isLt).1 (ix2 r j) = scaled (product (acts m c) (weights m c) 2 (ix2 (rowOf t r) j)) := by
  have fold : ∀ w : Vec Ideal S2048x2048 .bf16, (∀ k j : Fin 2048, w (ix2 k j) = weights m c (ix2 k (colAt 2 j))) →
      k0_pay2 (iblk m c 0 t) w (ix2 r j) = scaled (product (acts m c) (weights m c) 2 (ix2 (rowOf t r) j)) := fun w hw =>
    (pay_apply _ w r j).trans (congrArg scaled (Finset.sum_congr rfl fun k _ => congrArg₂ (· * ·) (blk_0 m c t r k) (hw k j)))
  by_cases h0 : t.val % 32 = 0
  · rw [outsAt0_A m c t h0]
    dsimp only
    rw [block_first]
    exact fold _ (kept_apply m c t)
  · rw [outsAt0_B m c t h0]
    dsimp only
    rw [block_later, kept]
    exact fold _ (kept_apply m c _)

/-- The result's array. -/
theorem result_eq : (dats m 0 c).arrAt 2 cfg0.N = fun y => scaled (product (acts m c) (weights m c) 2 y) := by
  refine (dats m 0 c).arrAt_eq_of_covers 2 _ covers fun t hf y => ?_
  blk_simp
  rw [after0_2]
  obtain ⟨r, j, hy⟩ : ∃ (r : Fin 1024) (j : Fin 2048), y = ix2 r j := ⟨y 0, y 1, funext fun a => match a with | 0 => rfl | 1 => rfl⟩
  rw [hy]
  exact (after_2 m c t r j).trans (congrArg (fun y => scaled (product (acts m c) (weights m c) 2 y)) (emb_2 t r j).symm)

end Cert.KernelQueryIdeal.Proj

namespace Cert.ReferenceQueryIdeal.Proj

open Cert.ReferenceQueryIdeal Cert.ReferenceQueryIdeal.Read Cert.Share
open Idealize.ShloMosaic Idealize.ShloMosaic.TcCoe Idealize.SL.Sem

/-- The rows' products with the block's columns, where the reference's last reshape reads them. -/
theorem cols_eq (x : Arr) (w : Weights) (y : S32768x2048.Idx) :
    val_main_v1 (F := Ideal) x w (idx_main_v8 y) = product x w 2 y := by
  rw [val_main_v1_apply, val_main_v0_apply]
  exact product_at x w 2 y _ _ (fun k => rfl) (fun k => rfl) (fun k => rfl) (fun k => rfl) (fun k => rfl)

/-- The reference's result, element by element, is the same product, scaled the same. -/
theorem res_eq (x : Arr) (w : Weights) : val_main_v8 (F := Ideal) x w = fun y => scaled (product x w 2 y) := by
  funext y
  simp only [val_main_v8_apply, val_main_v7_apply, val_main_v6_apply, val_main_v5_apply, val_main_v4_apply,
    val_main_v3_apply, val_main_v2_apply, cols_eq, val_main_cst_apply, val_main_cst_0_apply]
  exact scaled_spelled _

end Cert.ReferenceQueryIdeal.Proj

namespace Cert.Proof

open Idealize.ShloMosaic Idealize.ShloMosaic.TcCoe Idealize.SL.Sem
open Cert.Share

/-- Kernel and reference give the same queries'. -/
theorem algebraic_query : Cert.algebraic_KernelQueryIdeal_ReferenceQueryIdeal := fun m g m' g' _ hagree =>
  ⟨fun c y => scaled (product (Cert.KernelQueryIdeal.Proj.acts m c) (Cert.KernelQueryIdeal.Proj.weights m c) 2 y),
    (θ_run _ _ _).mono (fun _ h c => ⟨(h c).1.trans (Cert.KernelQueryIdeal.Proj.result_eq m c), (h c).2⟩)
      (Cert.KernelQueryIdeal.Value.run_blocks (F := Ideal) m g),
    (θ_run _ _ _).mono (fun _ h c => ⟨(h c).1.trans ((Cert.ReferenceQueryIdeal.Proj.res_eq _ _).trans
        (congrArg₂ (fun x w y => scaled (product x w 2 y)) (hagree c).1 (hagree c).2)), (h c).2⟩)
      (Cert.ReferenceQueryIdeal.Value.run (F := Ideal) m' g')⟩

end Cert.Proof

end
-- ==== Proof.Norm.lean ====
/- The norm and modulation at exact numbers: what the kernel leaves in its two results. -/
module

public import proofs.«01_k».proof.Defs
public import proofs.«01_k».proof.Proof.Gen.KernelNormIdeal.Value
public import proofs.«01_k».proof.Proof.Gen.ReferenceNormIdeal.Run
public import proofs.«01_k».proof.Proof.Gen.ReferenceNormIdeal.Read
public import proofs.«01_k».proof.Proof.Proj.Want
public import Idealize.ShloMosaic.Lib.Pipeline.ValueKit
public import Idealize.ShloMosaic.Lib.Pointwise

@[expose] public section

set_option maxRecDepth 16384

noncomputable section

namespace Cert.Share

open Idealize.ShloMosaic

/-- The modulation's six vectors of each sequence, and a vector of one number a lane. -/
abbrev Mods := (⟨3, ![16, 6, 2048]⟩ : Shape).Idx → EReal
abbrev Lane := (⟨1, ![2048]⟩ : Shape).Idx → EReal

/-- The activations over the roots of their rows' mean squares, scaled by the gain and by one more than the modulation's second
    vector, and moved by its first. -/
def normed (x : Arr) (mod : Mods) (g : Lane) : Arr := fun y =>
  x y * Ideal.rsqrt (Ideal.div (∑ k : Fin 2048, x (ix3 (y 0) (y 1) k) * x (ix3 (y 0) (y 1) k)) (Ideal.ofBits .f32 0x45000000#32)
    + Ideal.ofBits .f32 0x358637BD#32) * g (ix1 (y 2)) * (1 + mod (ix3 (y 0) 1 (y 2))) + mod (ix3 (y 0) 0 (y 2))

/-- The rows of all sequences' first places, then of their second, and so on. -/
def turned (x : Arr) : Rows := fun y =>
  x (ix3 ⟨(y 0).val % 16, Nat.mod_lt _ (by decide)⟩ ⟨(y 0).val / 16, Nat.div_lt_of_lt_mul (y 0).isLt⟩ (y 1))

end Cert.Share

namespace Cert.KernelNormIdeal.Norm

open Cert.KernelNormIdeal Cert.KernelNormIdeal.Gen Cert.Share
open Idealize.ShloMosaic Idealize.ShloMosaic.TcCoe Idealize.SL.Sem
open Idealize.ShloMosaic.Pipeline (Dat Window)

/-! ## The rows' rearrangement -/

/-- The places' numbers, down the rows and across. -/
abbrev down : IVec S256x256 32 := iota .tc S256x256 32 [0] iota_S256x256_d0_w32
abbrev across : IVec S256x256 32 := iota .tc S256x256 32 [1] iota_S256x256_d1_w32

/-- The quotient by sixteen, rounded down, as the kernel takes it; -/
def quot (x : BitVec 32) : BitVec 32 :=
  Scalar.select (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 16#32 0#32)) (Scalar.extui (Scalar.cmpi .slt 16#32 0#32))))
      (IntOp.cmpi .ne (IntOp.remsi ArithUnit.vector x 16#32) 0#32))
    (IntOp.subi (IntOp.divsi ArithUnit.vector x 16#32) 1#32) (IntOp.divsi ArithUnit.vector x 16#32)

/-- and the remainder. -/
def rest (x : BitVec 32) : BitVec 32 :=
  Scalar.select (IntOp.andi
      (IntOp.xori (IntOp.cmpi .slt (IntOp.remsi ArithUnit.vector x (Scalar.select (Scalar.cmpi .eq 16#32 0#32) 1#32 16#32)) 0#32)
        (Scalar.cmpi .slt (Scalar.select (Scalar.cmpi .eq 16#32 0#32) 1#32 16#32) 0#32))
      (IntOp.cmpi .ne (IntOp.remsi ArithUnit.vector x (Scalar.select (Scalar.cmpi .eq 16#32 0#32) 1#32 16#32)) 0#32))
    (IntOp.addi (IntOp.remsi ArithUnit.vector x (Scalar.select (Scalar.cmpi .eq 16#32 0#32) 1#32 16#32))
      (Scalar.select (Scalar.cmpi .eq 16#32 0#32) 1#32 16#32))
    (IntOp.remsi ArithUnit.vector x (Scalar.select (Scalar.cmpi .eq 16#32 0#32) 1#32 16#32))

/-- On the rows of a block these are quotient -/
theorem quot_eq : ∀ r : Fin 256, quot (BitVec.ofNat 32 r.val) = BitVec.ofNat 32 (r.val / 16) := by decide +kernel
/-- and remainder. -/
theorem rest_eq : ∀ r : Fin 256, rest (BitVec.ofNat 32 r.val) = BitVec.ofNat 32 (r.val % 16) := by decide +kernel

/-- Where the place that a row holds is the one asked for, by its quotient: -/
abbrev by_quot : IVec S256x256 1 := k0_pay5 down across 16#32 k0_pay3 k0_pay4 (Scalar.cmpi .sgt 16#32 0#32)

/-- What the comparison reads at a row and a column: -/
theorem by_quot_apply (r k : Fin 256) :
    by_quot (ix2 r k) = IntOp.cmpi .eq (BitVec.ofNat 32 (r.val / 16)) (BitVec.ofNat 32 (k.val % 16)) := by
  rw [← quot_eq, ← rest_eq]
  pointwise [k0_pay5, k0_pay3, k0_pay4]
  rfl

/-- the matrix of zeros and ones that the rows are multiplied with. -/
def arranging : FVec Ideal S256x256 .bf16 :=
  have v85 : IVec S256x256 32 := select (k0_pay7 down) (addi (k0_pay6 down) k0_pay8) (k0_pay6 down)
  have v87 : IVec S256x256 32 := divsi across (broadcast S256x256 16#32)
  have v90 : IVec S256x256 32 := extui 32 (cmpi .sgt across (broadcast S256x256 0#32)) natLt_1_32
  have v93 : IVec S256x256 32 := extui 32 (cmpi .slt across (broadcast S256x256 0#32)) natLt_1_32
  have v100 : IVec S256x256 32 :=
    broadcast S256x256 (Scalar.subi (Scalar.extui (Scalar.cmpi .sgt 16#32 0#32)) (Scalar.extui (Scalar.cmpi .slt 16#32 0#32)))
  have v105 : IVec S256x256 1 := cmpi .ne (remsi across (broadcast S256x256 16#32)) (broadcast S256x256 0#32)
  have v106 : IVec S256x256 1 := andi (cmpi .ne (subi v90 v93) v100) v105
  have v109 : IVec S256x256 32 := select v106 (subi v87 (broadcast S256x256 1#32)) v87
  truncf .bf16 (sitofp .f32 (extui 32 (andi by_quot (cmpi .eq v85 v109)) natLt_1_32)) bitsLt_bf16_f32

/-- Its element, as the kernel spells it. -/
theorem arranging_spelled (r k : Fin 256) :
    arranging (ix2 r k) = FloatOps.sitofp (F := Ideal) .f32 (BitVec.setWidth 32 (IntOp.andi (by_quot (ix2 r k))
      (IntOp.cmpi .eq (BitVec.ofNat 32 (r.val % 16)) (BitVec.ofNat 32 (k.val / 16))))) := by
  rw [← quot_eq, ← rest_eq]
  generalize h : by_quot (ix2 r k) = b
  pointwise [arranging, k0_pay6, k0_pay7, k0_pay8]
  rw [h]
  rfl

/-- Two small numbers' comparison, as a bit; -/
theorem same_bit : ∀ a b : Fin 16, IntOp.cmpi .eq (BitVec.ofNat 32 a.val) (BitVec.ofNat 32 b.val) = if a = b then 1#1 else 0#1 := by
  decide +kernel

/-- both bits, as a number: one, -/
theorem bit_one : FloatOps.sitofp (F := Ideal) .f32 (BitVec.setWidth 32 (IntOp.andi 1#1 1#1)) = (1 : EReal) := by
  show (((BitVec.setWidth 32 (IntOp.andi 1#1 1#1)).toInt : ℝ) : EReal) = 1
  rw [show (BitVec.setWidth 32 (IntOp.andi 1#1 1#1)).toInt = 1 from by decide]
  norm_num

/-- or zero. -/
theorem bit_zero (a b : BitVec 1) (h : a = 0#1 ∨ b = 0#1) :
    FloatOps.sitofp (F := Ideal) .f32 (BitVec.setWidth 32 (IntOp.andi a b)) = (0 : EReal) := by
  show (((BitVec.setWidth 32 (IntOp.andi a b)).toInt : ℝ) : EReal) = 0
  rw [show (BitVec.setWidth 32 (IntOp.andi a b)).toInt = 0 from by revert a b; decide]
  norm_num

/-- A one where row and column hold the same element of the sixteen rows of sixteen, a zero elsewhere. -/
theorem arranging_apply (r k : Fin 256) :
    arranging (ix2 r k) = if r.val / 16 = k.val % 16 ∧ r.val % 16 = k.val / 16 then (1 : EReal) else 0 := by
  have hr := r.isLt
  have hk := k.isLt
  rw [arranging_spelled, by_quot_apply, same_bit ⟨r.val / 16, by omega⟩ ⟨k.val % 16, by omega⟩, same_bit ⟨r.val % 16, by omega⟩ ⟨k.val / 16, by omega⟩]
  simp only [Fin.mk.injEq]
  by_cases h1 : r.val / 16 = k.val % 16 <;> by_cases h2 : r.val % 16 = k.val / 16
  · rw [if_pos h1, if_pos h2, if_pos ⟨h1, h2⟩, bit_one]
  · rw [if_pos h1, if_neg h2, if_neg (fun h => h2 h.2), bit_zero _ _ (.inr rfl)]
  · rw [if_neg h1, if_pos h2, if_neg (fun h => h1 h.1), bit_zero _ _ (.inl rfl)]
  · rw [if_neg h1, if_neg h2, if_neg (fun h => h1 h.1), bit_zero _ _ (.inl rfl)]

/-- The matrix product, element by element. -/
theorem product_read (p : FVec Ideal S256x256 .bf16) (y : FVec Ideal S256x2048 .bf16) (r : Fin 256) (j : Fin 2048) :
    truncf .bf16 (matmul dot_S256x256_S256x2048_S256x2048_1_0_0_1_n_n none p y (constant S256x2048 .f32 0x00000000#32)) bitsLt_bf16_f32 (ix2 r j)
      = ∑ k : Fin 256, p (ix2 r k) * y (ix2 k j) := by
  pointwise []

/-- The sequences' rows, one after another. -/
theorem laid (h : FVec Ideal S16x16x2048 .bf16) (k : Fin 256) (j : Fin 2048) :
    shapeCast S256x2048 h shapeCasts_S16x16x2048_S256x2048 (ix2 k j)
      = h (ix3 ⟨k.val / 16, by have := k.isLt; omega⟩ ⟨k.val % 16, Nat.mod_lt _ (by decide)⟩ j) := by
  refine shapeCast_apply h _ _ _ ?_
  rw [Shape.rowMajor_val_three, Shape.rowMajor_val_two]
  show (k.val / 16 * 16 + k.val % 16) * 2048 + j.val = k.val * 2048 + j.val
  omega

/-- The second result's block holds the first's rows, the places before the sequences. -/
theorem arranged (h : FVec Ideal S16x16x2048 .bf16) (r : Fin 256) (j : Fin 2048) :
    k0_pay1 h across by_quot (k0_pay6 down) (k0_pay7 down) k0_pay8 (ix2 r j)
      = h (ix3 ⟨r.val % 16, Nat.mod_lt _ (by decide)⟩ ⟨r.val / 16, by have := r.isLt; omega⟩ j) := by
  have e : k0_pay1 h across by_quot (k0_pay6 down) (k0_pay7 down) k0_pay8
      = truncf .bf16 (matmul dot_S256x256_S256x2048_S256x2048_1_0_0_1_n_n none arranging
          (shapeCast S256x2048 h shapeCasts_S16x16x2048_S256x2048) (constant S256x2048 .f32 0x00000000#32)) bitsLt_bf16_f32 := rfl
  rw [e, product_read]
  have hr := r.isLt
  rw [Finset.sum_eq_single (⟨r.val % 16 * 16 + r.val / 16, by omega⟩ : Fin 256)]
  · rw [arranging_apply, if_pos (by constructor <;> show _ = _ <;> dsimp only <;> omega), one_mul, laid]
    refine congrArg h (funext fun a => Fin.ext ?_)
    match a with
    | 0 => show (r.val % 16 * 16 + r.val / 16) / 16 = r.val % 16; omega
    | 1 => show (r.val % 16 * 16 + r.val / 16) % 16 = r.val / 16; omega
    | 2 => rfl
  · intro k _ hk
    rw [arranging_apply, if_neg (fun hh => hk (Fin.ext (by dsimp only; omega))), zero_mul]
  · exact fun hh => absurd (Finset.mem_univ _) hh

/-! ## The first result's block -/

/-- A row's norm and modulation: the element over the root of the row's mean square, scaled and moved. -/
theorem normed_read (v0 : Vec Ideal S16x6x2048 .f32) (v1 : Vec Ideal S16x16x2048 .f32) (v12 : Vec Ideal S1x2048 .f32) (b s : Fin 16) (k : Fin 2048) :
    k0_pay2 v0 v1 v12 (ix3 b s k)
      = v1 (ix3 b s k) * Ideal.rsqrt (Ideal.div (∑ x : Fin 2048, v1 (ix3 b s x) * v1 (ix3 b s x)) (Ideal.ofBits .f32 0x45000000#32)
          + Ideal.ofBits .f32 0x358637BD#32) * v12 (ix2 0 k) * (1 + v0 (ix3 b 1 k)) + v0 (ix3 b 0 k) := by
  pointwise [k0_pay2]

/-! ## Every point -/

variable (m : (ℓ : Loc nD τ sig) → Buf (Elt Ideal) ℓ) (c : Dev nD)

/-- The activations, the modulation and the norm's gain the kernel is called with. -/
abbrev acts : Arr := m ((c : Thread nD τ).loc main_arg0)
abbrev mods : Mods := m ((c : Thread nD τ).loc main_arg1)
abbrev gain : Lane := m ((c : Thread nD τ).loc main_arg2)

/-- The blocks that a point works on: sixteen places of all sequences, -/
theorem index_0 : ∀ t : Fin grid0.N, win0_0.index t = ![0, t.val, 0] := by decide +kernel
/-- the whole modulation, -/
theorem index_1 : ∀ t : Fin grid0.N, win0_1.index t = ![0, 0, 0] := by decide +kernel
/-- the whole gain, -/
theorem index_2 : ∀ t : Fin grid0.N, win0_2.index t = ![0, 0] := by decide +kernel
/-- the same places of the first result, -/
theorem index_3 : ∀ t : Fin grid0.N, win0_3.index t = ![0, t.val, 0] := by decide +kernel
/-- and the rows in turn of the second. -/
theorem index_4 : ∀ t : Fin grid0.N, win0_4.index t = ![t.val, 0] := by decide +kernel

/-- The blocks of the first result are all of it; -/
theorem covers_3 : win0_3.Covers := by decide +kernel
/-- so are those of the second. -/
theorem covers_4 : win0_4.Covers := by decide +kernel

/-- The place that a point's place is; -/
def placeOf (t : Fin grid0.N) (s : Fin 16) : Fin 2048 :=
  ⟨16 * t.val + s.val, by have := lt_of_lt_of_eq t.isLt N_0; have := s.isLt; omega⟩

/-- the row of the second result that a point's row is. -/
def rowOf (t : Fin grid0.N) (r : Fin 256) : Fin 32768 :=
  ⟨256 * t.val + r.val, by have := lt_of_lt_of_eq t.isLt N_0; have := r.isLt; omega⟩

/-- The activations' block; -/
theorem blk_0 (t : Fin cfg0.N) (b s : Fin 16) (k : Fin 2048) : iblk m c 0 t (ix3 b s k) = acts m c (ix3 b (placeOf t s) k) := by
  rw [acts, ← V_main_arg0 m c]
  blk_simp [iblk]
  refine congrArg _ (funext fun a => Fin.ext ?_)
  match a with
  | 0 => blk_simp [index_0]; try simp
  | 1 => blk_simp [index_0]; simp only [placeOf]; try omega
  | 2 => blk_simp [index_0]; try simp

/-- the modulation's, which is all of it; -/
theorem blk_1 (t : Fin cfg0.N) (b : Fin 16) (i : Fin 6) (k : Fin 2048) : iblk m c 1 t (ix3 b i k) = mods m c (ix3 b i k) := by
  rw [mods, ← V_main_arg1 m c]
  blk_simp [iblk]
  refine congrArg _ (funext fun a => Fin.ext ?_)
  match a with
  | 0 => blk_simp [index_1]; try simp
  | 1 => blk_simp [index_1]; try simp
  | 2 => blk_simp [index_1]; try simp

/-- The gain, which the kernel is given as one row. -/
theorem V_gain (k : Fin 2048) : (V m c main_v0 : FVec Ideal S1x2048 .f32) (ix2 0 k) = gain m c (ix1 k) := by
  have e : V m c main_v0 = (shapeCast S1x2048 (m ((c : Thread nD τ).loc main_arg2)) shapeCasts_S2048_S1x2048 : FVec Ideal S1x2048 .f32) := by
    unfold V
    simp only [hostOps0]
    after_results
    try rfl
  rw [e]
  refine shapeCast_apply _ _ _ _ ?_
  show ((⟨1, ![2048]⟩ : Shape).rowMajor (ix1 k)).val = (S1x2048.rowMajor (ix2 0 k)).val
  rw [Shape.rowMajor_val_one, Shape.rowMajor_val_two]
  show k.val = 0 * 2048 + k.val
  omega

/-- the gain's. -/
theorem blk_2 (t : Fin cfg0.N) (k : Fin 2048) : iblk m c 2 t (ix2 0 k) = gain m c (ix1 k) := by
  rw [← V_gain]
  blk_simp [iblk]
  refine congrArg _ (funext fun a => Fin.ext ?_)
  match a with
  | 0 => blk_simp [index_2]; try simp
  | 1 => blk_simp [index_2]; try simp

/-- Where an element of a block lies in the first result; -/
theorem emb_3 (t : Fin grid0.N) (b s : Fin 16) (k : Fin 2048) : (win0_3.blk t).view.emb (ix3 b s k) = ix3 b (placeOf t s) k :=
  funext fun a => Fin.ext (match a with
  | 0 => by blk_simp [index_3]; try simp
  | 1 => by blk_simp [index_3]; simp only [placeOf]; try omega
  | 2 => by blk_simp [index_3]; try simp)

/-- and in the second. -/
theorem emb_4 (t : Fin grid0.N) (r : Fin 256) (k : Fin 2048) : (win0_4.blk t).view.emb (ix2 r k) = ix2 (rowOf t r) k :=
  funext fun a => Fin.ext (match a with
  | 0 => by blk_simp [index_4]; simp only [rowOf]; try omega
  | 1 => by blk_simp [index_4]; try simp)

/-- A point's rows, normed and modulated. -/
theorem block_read (t : Fin cfg0.N) (b s : Fin 16) (k : Fin 2048) :
    k0_pay2 (iblk m c 1 t) (iblk m c 0 t) (iblk m c 2 t) (ix3 b s k)
      = normed (acts m c) (mods m c) (gain m c) (ix3 b (placeOf t s) k) := by
  rw [normed_read]
  simp only [blk_0, blk_1, blk_2]
  rfl

/-- The accesses start at the origin. -/
theorem origin3 : (![0, 0, 0] : Fin 3 → ℕ) = fun _ => 0 := by decide
/-- So do those of two axes. -/
theorem origin2 : (![0, 0] : Fin 2 → ℕ) = fun _ => 0 := by decide

/-- What a point writes of the first result; -/
theorem out_3 (x0 : Vec Ideal S16x16x2048 .f32) (x1 : Vec Ideal S16x6x2048 .f32) (x2 : Vec Ideal S1x2048 .f32) :
    out0_3 x0 x1 x2 = k0_pay2 x1 x0 x2 := by
  unfold out0_3
  rw [View.canon_unit_zero origin3]
  simp only [View.ld_unit_zero (S := S16x6x2048) origin3, View.ld_unit_zero (S := S16x16x2048) origin3, View.ld_unit_zero (S := S1x2048) origin2]

/-- and of the second. -/
theorem out_4 (x0 : Vec Ideal S16x16x2048 .f32) (x1 : Vec Ideal S16x6x2048 .f32) (x2 : Vec Ideal S1x2048 .f32) :
    out0_4 x0 x1 x2 = k0_pay1 (k0_pay2 x1 x0 x2) across by_quot (k0_pay6 down) (k0_pay7 down) k0_pay8 := by
  unfold out0_4
  rw [View.canon_unit_zero origin2]
  simp only [View.ld_unit_zero (S := S16x6x2048) origin3, View.ld_unit_zero (S := S16x16x2048) origin3, View.ld_unit_zero (S := S1x2048) origin2]
  rfl

/-- The first result's array; -/
theorem result_3 : (dats m 0 c).arrAt 3 cfg0.N = normed (acts m c) (mods m c) (gain m c) := by
  refine (dats m 0 c).arrAt_eq_of_covers 3 _ covers_3 fun t hf y => ?_
  blk_simp
  rw [after0_3, out_3]
  obtain ⟨b, s, k, hy⟩ : ∃ (b s : Fin 16) (k : Fin 2048), y = ix3 b s k :=
    ⟨y 0, y 1, y 2, funext fun a => match a with | 0 => rfl | 1 => rfl | 2 => rfl⟩
  rw [hy]
  exact (block_read m c t b s k).trans (congrArg _ (emb_3 t b s k).symm)

/-- the second's, with the places before the sequences. -/
theorem result_4 : (dats m 0 c).arrAt 4 cfg0.N = turned (normed (acts m c) (mods m c) (gain m c)) := by
  refine (dats m 0 c).arrAt_eq_of_covers 4 _ covers_4 fun t hf y => ?_
  blk_simp
  rw [after0_4, out_4]
  obtain ⟨r, k, hy⟩ : ∃ (r : Fin 256) (k : Fin 2048), y = ix2 r k := ⟨y 0, y 1, funext fun a => match a with | 0 => rfl | 1 => rfl⟩
  rw [hy]
  refine (arranged _ r k).trans ((block_read m c t _ _ k).trans ?_)
  refine Eq.trans ?_ (congrArg (turned (normed (acts m c) (mods m c) (gain m c))) (emb_4 t r k).symm)
  have hr := r.isLt
  refine congrArg (normed (acts m c) (mods m c) (gain m c)) (funext fun a => Fin.ext ?_)
  match a with
  | 0 => show r.val % 16 = (256 * t.val + r.val) % 16; omega
  | 1 => show 16 * t.val + r.val / 16 = (256 * t.val + r.val) / 16; omega
  | 2 => rfl

end Cert.KernelNormIdeal.Norm

namespace Cert.ReferenceNormIdeal.Norm

open Cert.ReferenceNormIdeal Cert.ReferenceNormIdeal.Read Cert.Share
open Idealize.ShloMosaic Idealize.ShloMosaic.TcCoe Idealize.SL.Sem

/-- The pattern of zero is nothing. -/
theorem nothing : Ideal.ofBits .f32 0x00000000#32 = (0 : EReal) := by
  simp [Ideal.ofBits, Ideal.ieee]

/-- The reference's first result, element by element, is the normed and modulated activations. -/
theorem first_eq (x : Arr) (mod : Mods) (g : Lane) : val_main_v21 (F := Ideal) x mod g = normed x mod g := by
  funext y
  simp only [val_main_v21_apply, val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply, val_main_cst_2_apply]
  have h1 : ∀ k, idx_main_v1 (idx_main_v2 (idx_main_v8 y)) k = ix3 (y 0) (y 1) k := fun k => funext fun a => match a with
    | 0 => rfl | 1 => rfl | 2 => rfl
  have h2 : idx_main_v10 (idx_main_v11 y) = ix1 (y 2) := funext fun a => match a with | 0 => rfl
  have h3 : idx_main_v13 (idx_main_v16 y) = ix3 (y 0) 1 (y 2) := funext fun a => match a with | 0 => rfl | 1 => rfl | 2 => rfl
  have h4 : idx_main_v18 (idx_main_v19 y) = ix3 (y 0) 0 (y 2) := funext fun a => match a with | 0 => rfl | 1 => rfl | 2 => rfl
  simp only [h1, h2, h3, h4]
  show x y * Ideal.rsqrt (Ideal.div (Ideal.ofBits .f32 0x00000000#32 + ∑ k : Fin 2048, x (ix3 (y 0) (y 1) k) * x (ix3 (y 0) (y 1) k))
    (Ideal.ofBits .f32 0x45000000#32) + Ideal.ofBits .f32 0x358637BD#32) * g (ix1 (y 2))
      * (Ideal.ofBits .f32 0x3F800000#32 + mod (ix3 (y 0) 1 (y 2))) + mod (ix3 (y 0) 0 (y 2)) = _
  rw [one, nothing, zero_add]
  rfl

/-- The reference's second result holds the rows of its first, the places before the sequences. -/
theorem second_eq (x : Arr) (mod : Mods) (g : Lane) : val_main_v23 (F := Ideal) x mod g = turned (normed x mod g) := by
  funext y
  rw [val_main_v23_apply, val_main_v22_apply, first_eq]
  have h1 : (y 1).val < 2048 := (y 1).isLt
  refine congrArg (normed x mod g) (funext fun a => Fin.ext ?_)
  match a with
  | 0 => show ((y 0).val * 2048 + (y 1).val) / 2048 % 16 = (y 0).val % 16; omega
  | 1 => show ((y 0).val * 2048 + (y 1).val) / 32768 = (y 0).val / 16; omega
  | 2 => show ((y 0).val * 2048 + (y 1).val) % 2048 = (y 1).val; omega

end Cert.ReferenceNormIdeal.Norm

namespace Cert.Proof

open Idealize.ShloMosaic Idealize.ShloMosaic.TcCoe Idealize.SL.Sem
open Cert.Share

/-- Kernel and reference give the same normed and modulated activations, in both orders of their rows. -/
theorem algebraic_norm : Cert.algebraic_KernelNormIdeal_ReferenceNormIdeal := fun m g m' g' _ hagree =>
  have e : ∀ c, _ := fun c => congr (congrArg₂ normed (hagree c).1 (hagree c).2.1) (hagree c).2.2
  ⟨fun c => normed (Cert.KernelNormIdeal.Norm.acts m c) (Cert.KernelNormIdeal.Norm.mods m c) (Cert.KernelNormIdeal.Norm.gain m c),
    fun c => turned (normed (Cert.KernelNormIdeal.Norm.acts m c) (Cert.KernelNormIdeal.Norm.mods m c) (Cert.KernelNormIdeal.Norm.gain m c)),
    (θ_run _ _ _).mono (fun _ h c => ⟨(h c).1.trans (Cert.KernelNormIdeal.Norm.result_3 m c),
        (h c).2.1.trans (Cert.KernelNormIdeal.Norm.result_4 m c), (h c).2.2⟩)
      (Cert.KernelNormIdeal.Value.run_blocks (F := Ideal) m g),
    (θ_run _ _ _).mono (fun _ h c => ⟨(h c).1.trans ((Cert.ReferenceNormIdeal.Norm.first_eq _ _ _).trans (e c)),
        (h c).2.1.trans ((Cert.ReferenceNormIdeal.Norm.second_eq _ _ _).trans (congrArg turned (e c))), (h c).2.2⟩)
      (Cert.ReferenceNormIdeal.Value.run (F := Ideal) m' g')⟩

end Cert.Proof

end
-- ==== Proof.Proj.Sample.lean ====
/- A projection of the sample's activations in exact numbers: sixteen places of each of sixteen sequences, their rows one after another. -/
module

public import proofs.«01_k».proof.Proof.Proj.Want

@[expose] public section

noncomputable section

namespace Cert.Share

open Idealize.ShloMosaic

/-- The sample's activations. -/
abbrev Few := (⟨3, ![16, 16, 2048]⟩ : Shape).Idx → EReal

/-- A projection's rows for the sample. -/
abbrev FewRows := (⟨2, ![256, 2048]⟩ : Shape).Idx → EReal

/-- The sample's element that row `r` has at lane `k`. -/
def fewAt (r : Fin 256) (k : Fin 2048) : (⟨3, ![16, 16, 2048]⟩ : Shape).Idx :=
  ix3 ⟨r.val / 16, by have := r.isLt; omega⟩ ⟨r.val % 16, Nat.mod_lt _ (by decide)⟩ k

/-- The sample rows' products with the block's columns. -/
def fewProduct (x : Few) (w : Weights) (col : Fin 7) : FewRows := fun y =>
  ∑ k : Fin 2048, x (fewAt (y 0) k) * w (ix2 k (colAt col (y 1)))

/-- Laid out row after row, the sample has the element of the row's sequence and place. -/
theorem few_laid {e : EltTy} {F : FTy → Type} (x : Vec F ⟨3, ![16, 16, 2048]⟩ e)
    (h : (⟨3, ![16, 16, 2048]⟩ : Shape).ShapeCasts ⟨2, ![256, 2048]⟩) (r : Fin 256) (k : Fin 2048) :
    shapeCast ⟨2, ![256, 2048]⟩ x h (ix2 r k) = x (fewAt r k) := by
  refine shapeCast_apply x h _ _ ?_
  rw [Shape.rowMajor_val_three, Shape.rowMajor_val_two]
  show (r.val / 16 * 16 + r.val % 16) * 2048 + k.val = r.val * 2048 + k.val
  omega

/-- A sum of products is the sample projection's element, where its factors sit in the element's row and column. -/
theorem few_at (x : Few) (w : Weights) (col : Fin 7) (y : (⟨2, ![256, 2048]⟩ : Shape).Idx)
    (l : Fin 2048 → (⟨3, ![16, 16, 2048]⟩ : Shape).Idx) (r : Fin 2048 → (⟨2, ![2048, 14336]⟩ : Shape).Idx)
    (l0 : ∀ k, (l k 0).val = ((y 0).val * 2048 + (y 1).val) / 32768)
    (l1 : ∀ k, (l k 1).val = ((y 0).val * 2048 + (y 1).val) / 2048 % 16) (l2 : ∀ k, (l k 2).val = k.val)
    (r0 : ∀ k, (r k 0).val = k.val) (r1 : ∀ k, (r k 1).val = 2048 * col.val + ((y 0).val * 2048 + (y 1).val) % 2048) :
    ∑ k : Fin 2048, x (l k) * w (r k) = fewProduct x w col y := by
  have h1 : (y 1).val < 2048 := (y 1).isLt
  have e0 : ((y 0).val * 2048 + (y 1).val) / 32768 = (y 0).val / 16 := by omega
  have e1 : ((y 0).val * 2048 + (y 1).val) / 2048 % 16 = (y 0).val % 16 := by omega
  have e2 : ((y 0).val * 2048 + (y 1).val) % 2048 = (y 1).val := by omega
  refine Finset.sum_congr rfl fun k _ => congrArg₂ (· * ·) (congrArg x (funext fun a => Fin.ext ?_)) (congrArg w (funext fun a => Fin.ext ?_))
  · match a with
    | 0 => exact (l0 k).trans e0
    | 1 => exact (l1 k).trans e1
    | 2 => exact l2 k
  · match a with
    | 0 => exact r0 k
    | 1 => exact (r1 k).trans (congrArg (2048 * col.val + ·) e2)

end Cert.Share

end
-- ==== Proof.Proj.KeysSample.lean ====
/- The projection of the sample onto the keys at exact numbers: what the kernel leaves is the product of the sample's rows and the keys' columns. -/
module

public import proofs.«01_k».proof.Defs
public import proofs.«01_k».proof.Proof.Gen.KernelKeysSampleIdeal.Value
public import proofs.«01_k».proof.Proof.Gen.ReferenceKeysSampleIdeal.Run
public import proofs.«01_k».proof.Proof.Gen.ReferenceKeysSampleIdeal.Read
public import proofs.«01_k».proof.Proof.Proj.Sample
public import Idealize.ShloMosaic.Lib.Pipeline.ValueKit

@[expose] public section

set_option maxRecDepth 16384

noncomputable section

namespace Cert.KernelKeysSampleIdeal.Proj

open Cert.KernelKeysSampleIdeal Cert.KernelKeysSampleIdeal.Gen Cert.Share
open Idealize.ShloMosaic Idealize.ShloMosaic.TcCoe Idealize.SL.Sem
open Idealize.ShloMosaic.Pipeline (Dat Window)

variable (m : (ℓ : Loc nD τ sig) → Buf (Elt Ideal) ℓ) (c : Dev nD)

/-- The accesses start at the origin. -/
theorem origin : (![0, 0] : Fin 2 → ℕ) = fun _ => 0 := by decide

/-- The one point's block is the product with the weights it rounded. -/
theorem block_read (i : grid0.Coords) (a1) (h1) (a2) (h2) (a3) (h3) (a4) (h4) (hc)
    (x0 : Vec Ideal S256x2048 .bf16) (x1 : Vec Ideal S2048x2048 .f32) :
    out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero origin]
  simp only [View.readAt_eq_ld, h1.read_unread, h2.read_unread, View.ld_unit_zero (S := S2048x2048) origin, View.ld_unit_zero (S := S256x2048) origin,
    View.readCov_unit_zero (S := S2048x2048) _ origin]

/-- The block's element, from rows and columns read element by element. -/
theorem block_apply (x : Vec Ideal S256x2048 .bf16) (w : Vec Ideal S2048x2048 .f32) (r : Fin 256) (j : Fin 2048) :
    k0_pay2 x (k0_pay1 w) (ix2 r j) = ∑ k : Fin 2048, x (ix2 r k) * w (ix2 k j) := by
  pointwise [k0_pay2, k0_pay1]

/-- The activations and the weights the kernel is called with. -/
abbrev acts : Few := m ((c : Thread nD τ).loc main_arg0)
abbrev weights : Weights := m ((c : Thread nD τ).loc main_arg1)

/-- The one point works on all of the rows, -/
theorem index_0 : ∀ t : Fin grid0.N, win0_0.index t = ![0, 0] := by decide +kernel
/-- on one block of columns, -/
theorem index_1 : ∀ t : Fin grid0.N, win0_1.index t = ![0, 3] := by decide +kernel
/-- and writes all of the result. -/
theorem index_2 : ∀ t : Fin grid0.N, win0_2.index t = ![0, 0] := by decide +kernel

/-- The one block is the whole result. -/
theorem covers : win0_2.Covers := by decide +kernel

/-- The rows the kernel is given are the sample's rows. -/
theorem V_rows (r : Fin 256) (k : Fin 2048) : (V m c main_v1 : FewRows) (ix2 r k) = acts m c (fewAt r k) := by
  have e : V m c main_v1 = (shapeCast S256x2048 (truncf .bf16 (m ((c : Thread nD τ).loc main_arg0)) bitsLt_bf16_f32)
      shapeCasts_S16x16x2048_S256x2048 : FVec Ideal S256x2048 .bf16) := by
    unfold V
    simp only [hostOps0]
    after_results
    rfl
  rw [e]
  exact few_laid _ _ r k

/-- The rows' block is all of them; -/
theorem blk_0 (t : Fin cfg0.N) (r : Fin 256) (k : Fin 2048) : iblk m c 0 t (ix2 r k) = acts m c (fewAt r k) := by
  rw [← V_rows]
  blk_simp [iblk]
  refine congrArg _ (funext fun a => Fin.ext ?_)
  match a with
  | 0 => blk_simp [index_0]; try simp
  | 1 => blk_simp [index_0]; try simp

/-- the weights' block is the keys' columns. -/
theorem blk_1 (t : Fin cfg0.N) (k j : Fin 2048) : iblk m c 1 t (ix2 k j) = weights m c (ix2 k (colAt 3 j)) := by
  rw [weights, ← V_main_arg1 m c]
  blk_simp [iblk]
  refine congrArg _ (funext fun a => Fin.ext ?_)
  match a with
  | 0 => blk_simp [index_1]; try simp
  | 1 => blk_simp [index_1]; simp [colAt]

/-- The result's block lies in the result as it stands. -/
theorem emb_2 (t : Fin grid0.N) (r : Fin 256) (j : Fin 2048) : (win0_2.blk t).view.emb (ix2 r j) = ix2 r j :=
  funext fun a => Fin.ext (match a with
  | 0 => by blk_simp [index_2]; try simp
  | 1 => by blk_simp [index_2]; try simp)

/-- The result's array. -/
theorem result_eq : (dats m 0 c).arrAt 2 cfg0.N = fewProduct (acts m c) (weights m c) 3 := by
  refine (dats m 0 c).arrAt_eq_of_covers 2 _ covers fun t hf y => ?_
  blk_simp
  rw [after0_2]
  obtain ⟨r, j, hy⟩ : ∃ (r : Fin 256) (j : Fin 2048), y = ix2 r j := ⟨y 0, y 1, funext fun a => match a with | 0 => rfl | 1 => rfl⟩
  rw [hy]
  refine Eq.trans ?_ (congrArg _ (emb_2 t r j).symm)
  rw [outsAt0, block_read]
  exact (block_apply _ _ r j).trans (Finset.sum_congr rfl fun k _ => congrArg₂ (· * ·) (blk_0 m c t r k) (blk_1 m c t k j))

end Cert.KernelKeysSampleIdeal.Proj

namespace Cert.ReferenceKeysSampleIdeal.Proj

open Cert.ReferenceKeysSampleIdeal Cert.ReferenceKeysSampleIdeal.Read Cert.Share
open Idealize.ShloMosaic Idealize.ShloMosaic.TcCoe Idealize.SL.Sem

/-- The reference's result, element by element, is the same product. -/
theorem res_eq (x : Few) (w : Weights) : val_main_v2 (F := Ideal) x w = fewProduct x w 3 := by
  funext y
  rw [val_main_v2_apply, val_main_v1_apply, val_main_v0_apply]
  exact few_at x w 3 y _ _ (fun k => rfl) (fun k => rfl) (fun k => rfl) (fun k => rfl) (fun k => rfl)

end Cert.ReferenceKeysSampleIdeal.Proj

namespace Cert.Proof

open Idealize.ShloMosaic Idealize.ShloMosaic.TcCoe Idealize.SL.Sem
open Cert.Share

/-- Kernel and reference give the same keys of the sample. -/
theorem algebraic_keys_sample : Cert.algebraic_KernelKeysSampleIdeal_ReferenceKeysSampleIdeal := fun m g m' g' _ hagree =>
  ⟨fun c => fewProduct (Cert.KernelKeysSampleIdeal.Proj.acts m c) (Cert.KernelKeysSampleIdeal.Proj.weights m c) 3,
    (θ_run _ _ _).mono (fun _ h c => ⟨(h c).1.trans (Cert.KernelKeysSampleIdeal.Proj.result_eq m c), (h c).2⟩)
      (Cert.KernelKeysSampleIdeal.Value.run_blocks (F := Ideal) m g),
    (θ_run _ _ _).mono (fun _ h c => ⟨(h c).1.trans ((Cert.ReferenceKeysSampleIdeal.Proj.res_eq _ _).trans
        (congrArg₂ (fewProduct · · 3) (hagree c).1 (hagree c).2)), (h c).2⟩)
      (Cert.ReferenceKeysSampleIdeal.Value.run (F := Ideal) m' g')⟩

end Cert.Proof

end
-- ==== Proof.Proj.ValuesSample.lean ====
/- The projection of the sample onto the values at exact numbers: what the kernel leaves is the product of the sample's rows and the values' columns. -/
module

public import proofs.«01_k».proof.Defs
public import proofs.«01_k».proof.Proof.Gen.KernelValuesSampleIdeal.Value
public import proofs.«01_k».proof.Proof.Gen.ReferenceValuesSampleIdeal.Run
public import proofs.«01_k».proof.Proof.Gen.ReferenceValuesSampleIdeal.Read
public import proofs.«01_k».proof.Proof.Proj.Sample
public import Idealize.ShloMosaic.Lib.Pipeline.ValueKit

@[expose] public section

set_option maxRecDepth 16384

noncomputable section

namespace Cert.KernelValuesSampleIdeal.Proj

open Cert.KernelValuesSampleIdeal Cert.KernelValuesSampleIdeal.Gen Cert.Share
open Idealize.ShloMosaic Idealize.ShloMosaic.TcCoe Idealize.SL.Sem
open Idealize.ShloMosaic.Pipeline (Dat Window)

variable (m : (ℓ : Loc nD τ sig) → Buf (Elt Ideal) ℓ) (c : Dev nD)

/-- The accesses start at the origin. -/
theorem origin : (![0, 0] : Fin 2 → ℕ) = fun _ => 0 := by decide

/-- The one point's block is the product with the weights it rounded. -/
theorem block_read (i : grid0.Coords) (a1) (h1) (a2) (h2) (a3) (h3) (a4) (h4) (hc)
    (x0 : Vec Ideal S256x2048 .bf16) (x1 : Vec Ideal S2048x2048 .f32) :
    out0_A_2 c i a1 h1 a2 h2 a3 h3 a4 h4 hc x0 x1 = k0_pay2 x0 (k0_pay1 x1) := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero origin]
  simp only [View.readAt_eq_ld, h1.read_unread, h2.read_unread, View.ld_unit_zero (S := S2048x2048) origin, View.ld_unit_zero (S := S256x2048) origin,
    View.readCov_unit_zero (S := S2048x2048) _ origin]

/-- The block's element, from rows and columns read element by element. -/
theorem block_apply (x : Vec Ideal S256x2048 .bf16) (w : Vec Ideal S2048x2048 .f32) (r : Fin 256) (j : Fin 2048) :
    k0_pay2 x (k0_pay1 w) (ix2 r j) = ∑ k : Fin 2048, x (ix2 r k) * w (ix2 k j) := by
  pointwise [k0_pay2, k0_pay1]

/-- The activations and the weights the kernel is called with. -/
abbrev acts : Few := m ((c : Thread nD τ).loc main_arg0)
abbrev weights : Weights := m ((c : Thread nD τ).loc main_arg1)

/-- The one point works on all of the rows, -/
theorem index_0 : ∀ t : Fin grid0.N, win0_0.index t = ![0, 0] := by decide +kernel
/-- on one block of columns, -/
theorem index_1 : ∀ t : Fin grid0.N, win0_1.index t = ![0, 4] := by decide +kernel
/-- and writes all of the result. -/
theorem index_2 : ∀ t : Fin grid0.N, win0_2.index t = ![0, 0] := by decide +kernel

/-- The one block is the whole result. -/
theorem covers : win0_2.Covers := by decide +kernel

/-- The rows the kernel is given are the sample's rows. -/
theorem V_rows (r : Fin 256) (k : Fin 2048) : (V m c main_v1 : FewRows) (ix2 r k) = acts m c (fewAt r k) := by
  have e : V m c main_v1 = (shapeCast S256x2048 (truncf .bf16 (m ((c : Thread nD τ).loc main_arg0)) bitsLt_bf16_f32)
      shapeCasts_S16x16x2048_S256x2048 : FVec Ideal S256x2048 .bf16) := by
    unfold V
    simp only [hostOps0]
    after_results
    rfl
  rw [e]
  exact few_laid _ _ r k

/-- The rows' block is all of them; -/
theorem blk_0 (t : Fin cfg0.N) (r : Fin 256) (k : Fin 2048) : iblk m c 0 t (ix2 r k) = acts m c (fewAt r k) := by
  rw [← V_rows]
  blk_simp [iblk]
  refine congrArg _ (funext fun a => Fin.ext ?_)
  match a with
  | 0 => blk_simp [index_0]; try simp
  | 1 => blk_simp [index_0]; try simp

/-- the weights' block is the values' columns. -/
theorem blk_1 (t : Fin cfg0.N) (k j : Fin 2048) : iblk m c 1 t (ix2 k j) = weights m c (ix2 k (colAt 4 j)) := by
  rw [weights, ← V_main_arg1 m c]
  blk_simp [iblk]
  refine congrArg _ (funext fun a => Fin.ext ?_)
  match a with
  | 0 => blk_simp [index_1]; try simp
  | 1 => blk_simp [index_1]; simp [colAt]

/-- The result's block lies in the result as it stands. -/
theorem emb_2 (t : Fin grid0.N) (r : Fin 256) (j : Fin 2048) : (win0_2.blk t).view.emb (ix2 r j) = ix2 r j :=
  funext fun a => Fin.ext (match a with
  | 0 => by blk_simp [index_2]; try simp
  | 1 => by blk_simp [index_2]; try simp)

/-- The result's array. -/
theorem result_eq : (dats m 0 c).arrAt 2 cfg0.N = fewProduct (acts m c) (weights m c) 4 := by
  refine (dats m 0 c).arrAt_eq_of_covers 2 _ covers fun t hf y => ?_
  blk_simp
  rw [after0_2]
  obtain ⟨r, j, hy⟩ : ∃ (r : Fin 256) (j : Fin 2048), y = ix2 r j := ⟨y 0, y 1, funext fun a => match a with | 0 => rfl | 1 => rfl⟩
  rw [hy]
  refine Eq.trans ?_ (congrArg _ (emb_2 t r j).symm)
  rw [outsAt0, block_read]
  exact (block_apply _ _ r j).trans (Finset.sum_congr rfl fun k _ => congrArg₂ (· * ·) (blk_0 m c t r k) (blk_1 m c t k j))

end Cert.KernelValuesSampleIdeal.Proj

namespace Cert.ReferenceValuesSampleIdeal.Proj

open Cert.ReferenceValuesSampleIdeal Cert.ReferenceValuesSampleIdeal.Read Cert.Share
open Idealize.ShloMosaic Idealize.ShloMosaic.TcCoe Idealize.SL.Sem

/-- The reference's result, element by element, is the same product. -/
theorem res_eq (x : Few) (w : Weights) : val_main_v2 (F := Ideal) x w = fewProduct x w 4 := by
  funext y
  rw [val_main_v2_apply, val_main_v1_apply, val_main_v0_apply]
  exact few_at x w 4 y _ _ (fun k => rfl) (fun k => rfl) (fun k => rfl) (fun k => rfl) (fun k => rfl)

end Cert.ReferenceValuesSampleIdeal.Proj

namespace Cert.Proof

open Idealize.ShloMosaic Idealize.ShloMosaic.TcCoe Idealize.SL.Sem
open Cert.Share

/-- Kernel and reference give the same values of the sample. -/
theorem algebraic_values_sample : Cert.algebraic_KernelValuesSampleIdeal_ReferenceValuesSampleIdeal := fun m g m' g' _ hagree =>
  ⟨fun c => fewProduct (Cert.KernelValuesSampleIdeal.Proj.acts m c) (Cert.KernelValuesSampleIdeal.Proj.weights m c) 4,
    (θ_run _ _ _).mono (fun _ h c => ⟨(h c).1.trans (Cert.KernelValuesSampleIdeal.Proj.result_eq m c), (h c).2⟩)
      (Cert.KernelValuesSampleIdeal.Value.run_blocks (F := Ideal) m g),
    (θ_run _ _ _).mono (fun _ h c => ⟨(h c).1.trans ((Cert.ReferenceValuesSampleIdeal.Proj.res_eq _ _).trans
        (congrArg₂ (fewProduct · · 4) (hagree c).1 (hagree c).2)), (h c).2⟩)
      (Cert.ReferenceValuesSampleIdeal.Value.run (F := Ideal) m' g')⟩

end Cert.Proof

end
-- ==== Proof.Rec.Steps.lean ====
/- What one run of the kernel's body computes of its blocks, and what its 16 steps leave behind them. -/
module

public import proofs.«01_k».proof.Proof.Gen.KernelRecSampleIdeal.Frame
public import proofs.«01_k».proof.Proof.Gen.KernelRecSampleIdeal.Points
public import proofs.«01_k».proof.Proof.Gen.KernelRecSampleIdeal.Loops
public import Idealize.ShloMosaic.Lib.VecWindow
public import Idealize.ShloMosaic.Lib.WritesUnit
public import Idealize.ShloMosaic.Lib.Pipeline.ValueKit

@[expose] public section

set_option maxRecDepth 16384

noncomputable section

namespace Cert.KernelRecSampleIdeal.Rec

open Cert.KernelRecSampleIdeal Cert.KernelRecSampleIdeal.Gen
open Idealize.ShloMosaic Idealize.ShloMosaic.TcCoe Idealize.ShloMosaic.Tactic
open Idealize.SL Idealize.SL.Sem

variable {F : FTy → Type} [FloatOps F]

/-- A count as one of the 16 steps. -/
def at16 (t : ℕ) : Fin 16 := ⟨t % 16, Nat.mod_lt _ (by decide)⟩

/-- A number below 16 is its own remainder. -/
theorem at16_of_lt {t : ℕ} (h : t < 16) : at16 t = ⟨t, h⟩ := Fin.ext (Nat.mod_eq_of_lt h)

/-- Step `t`'s slab of a block. -/
def slab {e : EltTy} (X : Vec F S16x16x256 e) (t : ℕ) : Vec F S1x16x256 e := fun y => X (ix3 (at16 t) (y 1) (y 2))

/-! ## What is computed of the blocks -/

section Blocks

variable (x0 x1 x2 : Vec F S16x16x256 .bf16) (x3 : Vec F S4x256 .f32) (x4 : Vec F S1x256 .f32)
  (x5 : Vec F S1x256x256 .bf16) (x6 : Vec F S1x1x256 .f32) (x7 : Vec F S1x256x256 .bf16) (x8 : Vec F S1x1x256 .f32)
  (x9 : Vec F S1x256 .f32) (x10 : Vec F S16x256 .f32) (x11 : Vec F S3x16x256 .f32)

/-- The convolution. -/
def conv : FVec F S16x16x256 .f32 := k0_pay5 x0 (k0_pay2 x11) x3 x4
/-- The decays. -/
def decays : FVec F S16x16x256 .f32 := k0_pay15 (k0_pay10 (conv x0 x3 x4 x11) x5 x6) (k0_pay12 x9)
/-- The gated inputs. -/
def inputs : FVec F S16x16x256 .f32 :=
  k0_pay16 (k0_pay8 (conv x0 x3 x4 x11)) (k0_pay10 (conv x0 x3 x4 x11) x5 x6) (k0_pay11 (conv x0 x3 x4 x11) x7 x8) (k0_pay12 x9)

/-- The hidden state after `k` steps with decays `a` and inputs `b`. -/
def hidden (a b : Vec F S16x16x256 .f32) : ℕ → Vec F S16x256 .f32
  | 0 => k0_pay3 x10
  | k + 1 => k0_pay17 (hidden a b k) (slab a k) (slab b k)

/-- The rows all steps leave. -/
def rows (a b : Vec F S16x16x256 .f32) : Vec F S16x16x256 .f32 := fun y =>
  k0_pay18 (hidden x10 a b (y 0).val) (slab a (y 0).val) (slab b (y 0).val) (slab x1 (y 0).val) (slab x2 (y 0).val) (ix3 0 (y 1) (y 2))

/-- The matrix that turns the rows from step by step to sample by sample. -/
def turn : FVec F S256x256 .bf16 :=
  k0_pay21 (iota .tc S256x256 32 [0] iota_S256x256_d0_w32) (iota .tc S256x256 32 [1] iota_S256x256_d1_w32) k0_pay20 16#32
    (Scalar.cmpi .eq 16#32 0#32) 1#32

/-- The block of the mixed rows. -/
def outY : FVec F S16x16x256 .bf16 :=
  k0_pay1 turn (k0_pay22 (rows x1 x2 x10 (decays x0 x3 x4 x5 x6 x9 x11) (inputs x0 x3 x4 x5 x6 x7 x8 x9 x11)))
/-- The block of the last hidden states. -/
def outH : Vec F S16x256 .f32 := hidden x10 (decays x0 x3 x4 x5 x6 x9 x11) (inputs x0 x3 x4 x5 x6 x7 x8 x9 x11) 16
/-- The block of the last three inputs. -/
def outC : FVec F S3x16x256 .f32 := k0_pay6 x0

end Blocks

/-! ## The 16 steps -/

/-- A load of one slab of what reads as `X`. -/
theorem read_slab {e : EltTy} {arg : Memref sig .tc .vmem S16x16x256 e} (f : BufTy.Contents (Elt F) arg.view.ty) (X : Vec F S16x16x256 e)
    (hX : arg.view.read (Elt F) f = X) (k : Fin k0_t1_loop.trips) :
    arg.view.readAt (Elt F) (Rect.unit (s := S16x16x256) (k0_off1 k) S1x16x256.size (k0_off1_inb k)).toLoadRect f = slab X k.val := by
  have hk : k.val < 16 := Nat.lt_of_lt_of_le k.isLt k0_t1_abs.2.1
  have he := k0_off1_eq k
  subst hX
  funext y
  refine congrArg (arg.view.read (Elt F) f) (funext fun a => Fin.ext ?_)
  have hy : (y 0).val < 1 := (y 0).isLt
  rw [at16_of_lt hk]
  fin_cases a
  · show k0_off1 k 0 + 1 * (y 0).val = k.val
    have e : k0_off1 k 0 = k.val := congrFun he 0
    omega
  · show k0_off1 k 1 + 1 * (y 1).val = (y 1).val
    have e : k0_off1 k 1 = 0 := congrFun he 1
    omega
  · show k0_off1 k 2 + 1 * (y 2).val = (y 2).val
    have e : k0_off1 k 2 = 0 := congrFun he 2
    omega

set_option maxHeartbeats 4000000 in
/-- After `k` steps the loop carries the hidden state, and has left the rows of those steps in the last scratch. -/
theorem steps (𝒱 : Variants) (c : Dev nD) (bd : Option 𝒱.V) (i : grid0.Coords) (arg2 : Memref sig .tc .vmem S16x16x256 .bf16) (harg2 : arg2.IsWhole) (arg3 : Memref sig .tc .vmem S16x16x256 .bf16) (harg3 : arg3.IsWhole) (arg4 : Memref sig .tc .vmem S16x16x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x1x256 .f32) (harg8 : arg8.IsWhole) (arg9 : Memref sig .tc .vmem S1x256x256 .bf16) (harg9 : arg9.IsWhole) (arg10 : Memref sig .tc .vmem S1x1x256 .f32) (harg10 : arg10.IsWhole) (arg11 : Memref sig .tc .vmem S1x256 .f32) (harg11 : arg11.IsWhole) (arg12 : Memref sig .tc .vmem S16x256 .f32) (harg12 : arg12.IsWhole) (arg13 : Memref sig .tc .vmem S3x16x256 .f32) (harg13 : arg13.IsWhole) (arg14 : Memref sig .tc .vmem S16x16x256 .bf16) (harg14 : arg14.IsWhole) (arg15 : Memref sig .tc .vmem S16x256 .f32) (harg15 : arg15.IsWhole) (arg16 : Memref sig .tc .vmem S3x16x256 .f32) (harg16 : arg16.IsWhole) (arg17 : Memref sig .tc .vmem S3x16x256 .f32) (harg17 : arg17.IsWhole) (arg18 : Memref sig .tc .vmem S16x256 .f32) (harg18 : arg18.IsWhole) (arg19 : Memref sig .tc .vmem S16x16x256 .f32) (harg19 : arg19.IsWhole) (arg20 : Memref sig .tc .vmem S16x16x256 .f32) (harg20 : arg20.IsWhole) (arg21 : Memref sig .tc .vmem S16x16x256 .f32) (harg21 : arg21.IsWhole)
    (v42 v51 v59 : FVec F S256x256 .f32) (v77 : FVec F S1x256 .f32) (X3 : BufTy.Contents (Elt F) arg3.view.ty) (X4 : BufTy.Contents (Elt F) arg4.view.ty)
    (X19 : BufTy.Contents (Elt F) arg19.view.ty) (X20 : BufTy.Contents (Elt F) arg20.view.ty)
    (x1 x2 : Vec F S16x16x256 .bf16) (x10 : Vec F S16x256 .f32) (a b : Vec F S16x16x256 .f32)
    (init : Vec F S16x256 .f32) (hi : init = k0_pay3 x10)
    (h3 : arg3.view.read (Elt F) X3 = x1) (h4 : arg4.view.read (Elt F) X4 = x2)
    (h19 : arg19.view.read (Elt F) X19 = a) (h20 : arg20.view.read (Elt F) X20 = b) (k : ℕ) (hk : k ≤ 16) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v42 v51 v59 v77 X3 X4 X19 X20 init k).1 = hidden x10 a b k
    ∧ ∀ (f : BufTy.Contents (Elt F) arg21.view.ty) (y : S16x16x256.Idx), (y 0).val < k →
      arg21.view.read (Elt F) (arg21.view.writes (Elt F) f
        (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v42 v51 v59 v77 X3 X4 X19 X20 init k).2) y = rows x1 x2 x10 a b y := by
  subst hi
  induction k with
  | zero => exact ⟨by rw [st_k0_t1_zero]; rfl, fun f y hy => absurd hy (Nat.not_lt_zero _)⟩
  | succ k ih =>
    obtain ⟨ih1, ih2⟩ := ih (by omega)
    have hs := st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v42 v51 v59 v77 X3 X4 X19 X20 (k0_pay3 x10) ⟨k, by rw [show k0_t1_loop.trips = 16 from by decide]; omega⟩
    dsimp only at hs
    rw [hs, ih1]
    unfold tripR_k0_t1 tripL_k0_t1 trip_k0_t1
    dsimp only
    rw [read_slab X19 a h19, read_slab X20 b h20, read_slab X3 x1 h3, read_slab X4 x2 h4]
    refine ⟨rfl, fun f y hy => ?_⟩
    by_cases hyk : (y 0).val = k
    · refine (View.read_writes_cons_unit_of_mem arg21.view f _ _ _ y (ix3 0 (y 1) (y 2)) (k0_off1_eq _) fun a => ?_).trans ?_
      · fin_cases a
        · show (y 0).val = k + 0; omega
        · show (y 1).val = 0 + (y 1).val; omega
        · show (y 2).val = 0 + (y 2).val; omega
      · unfold rows; rw [hyk]; rfl
    · refine (View.read_writes_cons_unit_of_not_mem arg21.view f _ _ _ y (k0_off1_eq _) 0 (Or.inl ?_)).trans (ih2 f y (by omega))
      show (y 0).val < k; omega

end Cert.KernelRecSampleIdeal.Rec

end
-- ==== Proof.Rec.Body.lean ====
/- One run of the kernel's body: from its blocks of the twelve operands to its blocks of the three results. -/
module

public import proofs.«01_k».proof.Proof.Rec.Steps

@[expose] public section

set_option maxRecDepth 16384

noncomputable section

namespace Cert.KernelRecSampleIdeal.Rec

open Cert.KernelRecSampleIdeal Cert.KernelRecSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Every point is the first along the second axis, which has one. -/
theorem first_point (i : grid0.Coords) :
    Scalar.cmpi .ne (Scalar.extui (Scalar.cmpi .eq (BitVec.ofNat 32 (i 1).val) 0#32) : BitVec 32) 0#32 = 1#1 := by
  have h : (i 1).val < 1 := (i 1).isLt
  rw [show (i 1).val = 0 by omega]
  decide

set_option maxHeartbeats 8000000 in
/-- The body reads its blocks, leaves them as they were, and leaves `outY`, `outH` and `outC` of them in the results'. -/
theorem body_run (c : Dev nD) (i : grid0.Coords) (arg2 : Memref sig .tc .vmem S16x16x256 .bf16) (harg2 : arg2.IsWhole) (arg3 : Memref sig .tc .vmem S16x16x256 .bf16) (harg3 : arg3.IsWhole) (arg4 : Memref sig .tc .vmem S16x16x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x1x256 .f32) (harg8 : arg8.IsWhole) (arg9 : Memref sig .tc .vmem S1x256x256 .bf16) (harg9 : arg9.IsWhole) (arg10 : Memref sig .tc .vmem S1x1x256 .f32) (harg10 : arg10.IsWhole) (arg11 : Memref sig .tc .vmem S1x256 .f32) (harg11 : arg11.IsWhole) (arg12 : Memref sig .tc .vmem S16x256 .f32) (harg12 : arg12.IsWhole) (arg13 : Memref sig .tc .vmem S3x16x256 .f32) (harg13 : arg13.IsWhole) (arg14 : Memref sig .tc .vmem S16x16x256 .bf16) (harg14 : arg14.IsWhole) (arg15 : Memref sig .tc .vmem S16x256 .f32) (harg15 : arg15.IsWhole) (arg16 : Memref sig .tc .vmem S3x16x256 .f32) (harg16 : arg16.IsWhole) (arg17 : Memref sig .tc .vmem S3x16x256 .f32) (harg17 : arg17.IsWhole) (arg18 : Memref sig .tc .vmem S16x256 .f32) (harg18 : arg18.IsWhole) (arg19 : Memref sig .tc .vmem S16x16x256 .f32) (harg19 : arg19.IsWhole) (arg20 : Memref sig .tc .vmem S16x16x256 .f32) (harg20 : arg20.IsWhole) (arg21 : Memref sig .tc .vmem S16x16x256 .f32) (harg21 : arg21.IsWhole)
    (x0 x1 x2 : Vec F S16x16x256 .bf16) (x3 : Vec F S4x256 .f32) (x4 : Vec F S1x256 .f32)
    (x5 : Vec F S1x256x256 .bf16) (x6 : Vec F S1x1x256 .f32) (x7 : Vec F S1x256x256 .bf16) (x8 : Vec F S1x1x256 .f32)
    (x9 : Vec F S1x256 .f32) (x10 : Vec F S16x256 .f32) (x11 : Vec F S3x16x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (outY x0 x1 x2 x3 x4 x5 x6 x7 x8 x9 x10 x11) ∗ owns (c : Thread nD τ) arg15 fullShare (outH x0 x3 x4 x5 x6 x7 x8 x9 x10 x11) ∗ owns (c : Thread nD τ) arg16 fullShare (outC x0) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_lru_eq_skeleton]; unfold cc0_lru_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  have first := first_point i
  sl_exec (disch := first | sl_exact first)
  sl_step
  have h16 : Scf.trips k0_t1_loop.lb k0_t1_loop.ub k0_t1_loop.st = 16 := by decide
  have l0 : arg2.view.readAt (Elt F) (Rect.unit (s := S16x16x256) ![0, 0, 0] S16x16x256.size inb_S16x16x256_S16x16x256_0_0_0).toLoadRect (harg2.unread x0) = x0 :=
    (View.readAt_full arg2.view _ _).trans hf0
  have l3 : arg5.view.readAt (Elt F) (Rect.unit (s := S4x256) ![0, 0] S4x256.size inb_S4x256_S4x256_0_0).toLoadRect (harg5.unread x3) = x3 :=
    (View.readAt_full arg5.view _ _).trans hf3
  have l4 : arg6.view.readAt (Elt F) (Rect.unit (s := S1x256) ![0, 0] S1x256.size inb_S1x256_S1x256_0_0).toLoadRect (harg6.unread x4) = x4 :=
    (View.readAt_full arg6.view _ _).trans hf4
  have l5 : arg7.view.readAt (Elt F) (Rect.unit (s := S1x256x256) ![0, 0, 0] S1x256x256.size inb_S1x256x256_S1x256x256_0_0_0).toLoadRect (harg7.unread x5) = x5 :=
    (View.readAt_full arg7.view _ _).trans hf5
  have l6 : arg8.view.readAt (Elt F) (Rect.unit (s := S1x1x256) ![0, 0, 0] S1x1x256.size inb_S1x1x256_S1x1x256_0_0_0).toLoadRect (harg8.unread x6) = x6 :=
    (View.readAt_full arg8.view _ _).trans hf6
  have l7 : arg9.view.readAt (Elt F) (Rect.unit (s := S1x256x256) ![0, 0, 0] S1x256x256.size inb_S1x256x256_S1x256x256_0_0_0).toLoadRect (harg9.unread x7) = x7 :=
    (View.readAt_full arg9.view _ _).trans hf7
  have l8 : arg10.view.readAt (Elt F) (Rect.unit (s := S1x1x256) ![0, 0, 0] S1x1x256.size inb_S1x1x256_S1x1x256_0_0_0).toLoadRect (harg10.unread x8) = x8 :=
    (View.readAt_full arg10.view _ _).trans hf8
  have l9 : arg11.view.readAt (Elt F) (Rect.unit (s := S1x256) ![0, 0] S1x256.size inb_S1x256_S1x256_0_0).toLoadRect (harg11.unread x9) = x9 :=
    (View.readAt_full arg11.view _ _).trans hf9
  have l10 : arg12.view.readAt (Elt F) (Rect.unit (s := S16x256) ![0, 0] S16x256.size inb_S16x256_S16x256_0_0).toLoadRect (harg12.unread x10) = x10 :=
    (View.readAt_full arg12.view _ _).trans hf10
  have l11 : arg13.view.readAt (Elt F) (Rect.unit (s := S3x16x256) ![0, 0, 0] S3x16x256.size inb_S3x16x256_S3x16x256_0_0_0).toLoadRect (harg13.unread x11) = x11 :=
    (View.readAt_full arg13.view _ _).trans hf11
  have hr : body_run.sl.r c arg2 harg2 arg5 harg5 arg6 harg6 arg13 harg13 arg17 x0 x3 x4 x11 = conv x0 x3 x4 x11 := by
    unfold body_run.sl.r body_run.sl.v6 body_run.sl.H15_1 conv
    rw [View.readCov_full, l0, l3, l4, l11]
  have hi : body_run.sl.v106 c arg12 harg12 arg18 x10 = k0_pay3 x10 := by
    unfold body_run.sl.v106 body_run.sl.H16_1
    rw [View.readCov_full, l10]
  have h19 : arg19.view.read (Elt F) (arg19.view.writes (Elt F) arg19.view.junk
      (body_run.sl.H17_1 c arg2 harg2 arg5 harg5 arg6 harg6 arg7 harg7 arg8 harg8 arg11 harg11 arg13 harg13 arg17 x0 x3 x4 x5 x6 x9 x11))
      = decays x0 x3 x4 x5 x6 x9 x11 := by
    unfold body_run.sl.H17_1
    refine (View.read_writes_full arg19.view _ _ _ []).trans ?_
    unfold body_run.sl.r_3 body_run.sl.r_5 decays
    rw [hr, l5, l6, l9]
  have h20 : arg20.view.read (Elt F) (arg20.view.writes (Elt F) arg20.view.junk
      (body_run.sl.H18_1 c arg2 harg2 arg5 harg5 arg6 harg6 arg7 harg7 arg8 harg8 arg9 harg9 arg10 harg10 arg11 harg11 arg13 harg13 arg17 x0 x3 x4 x5 x6 x7 x8 x9 x11))
      = inputs x0 x3 x4 x5 x6 x7 x8 x9 x11 := by
    unfold body_run.sl.H18_1
    refine (View.read_writes_full arg20.view _ _ _ []).trans ?_
    unfold body_run.sl.r_2 body_run.sl.r_3 body_run.sl.r_4 body_run.sl.r_5 inputs
    rw [hr, l5, l6, l7, l8, l9]
  have run := steps (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
    (body_run.sl.r_2 c arg2 harg2 arg5 harg5 arg6 harg6 arg13 harg13 arg17 x0 x3 x4 x11)
    (body_run.sl.r_3 c arg2 harg2 arg5 harg5 arg6 harg6 arg7 harg7 arg8 harg8 arg13 harg13 arg17 x0 x3 x4 x5 x6 x11)
    (body_run.sl.r_4 c arg2 harg2 arg5 harg5 arg6 harg6 arg9 harg9 arg10 harg10 arg13 harg13 arg17 x0 x3 x4 x7 x8 x11)
    (body_run.sl.r_5 c arg11 harg11 x9) _ _ _ _ x1 x2 x10 _ _ _ hi hf1 hf2 h19 h20 16 le_rfl
  rw [← h16] at run
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr
    swap; · iexact H12
    ipureintro
    refine (View.read_writes_full arg14.view _ _ _ []).trans ?_
    unfold outY
    refine congrArg₂ k0_pay1 rfl (congrArg k0_pay22 ?_)
    unfold body_run.sl.v201
    rw [View.readAt_full]
    funext y
    exact run.2 f19 y (lt_of_lt_of_eq (y 0).isLt h16.symm)
  isplitl [H13]
  · iexists _; isplitr
    swap; · iexact H13
    ipureintro
    exact (View.read_writes_full arg15.view _ _ _ []).trans (run.1.trans (congrArg _ h16))
  isplitl [H14]
  · iexists _; isplitr
    swap; · iexact H14
    ipureintro
    unfold body_run.sl.H14_1
    refine (View.read_writes_full arg16.view _ _ _ []).trans ?_
    unfold body_run.sl.r_1
    exact congrArg k0_pay6 l0
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

end Cert.KernelRecSampleIdeal.Rec

end
-- ==== Proof.Rec.Run.lean ====
/- The launch: the host operations around the kernel, the kernel at its 8 points, and what the machine holds at the end. -/
module

public import proofs.«01_k».proof.Proof.Rec.Body

@[expose] public section

set_option maxRecDepth 16384

noncomputable section

namespace Cert.KernelRecSampleIdeal.Rec

open Cert.KernelRecSampleIdeal Cert.KernelRecSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, and what the kernel leaves in its own -/

/-- The block of the mixed rows after point `t`, -/
def yAt (c : Dev nD) (t : Fin cfg0.N) : FVec F S16x16x256 .bf16 :=
  outY (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
/-- that of the last hidden states, -/
def hAt (c : Dev nD) (t : Fin cfg0.N) : Vec F S16x256 .f32 :=
  outH (iblk m c 0 t) (iblk m c 3 t) (iblk m c 4 t) (iblk m c 5 t) (iblk m c 6 t) (iblk m c 7 t) (iblk m c 8 t) (iblk m c 9 t) (iblk m c 10 t) (iblk m c 11 t)
/-- and that of the last three inputs. -/
def cAt (c : Dev nD) (t : Fin cfg0.N) : FVec F S3x16x256 .f32 := outC (iblk m c 0 t)

/-- The kernel's data: the arrays as it finds them, the operands' blocks left in place, the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => yAt m c t
    | ⟨13, _⟩ => hAt m c t
    | ⟨14, _⟩ => cAt m c t
  Φ _ := Pipeline.ΦA spec0 c
  q _ := fullShare
  owed _ := 0

/-- The array of every window before the call is what the host left in it. -/
theorem A_eq (c : Dev nD) (w : Fin cfg0.W) : (dats m 0 c).A w = V m c (Pipeline.arrRef spec0 w) := by
  dsimp only [dats]

/-- What a body keeps between points: its five scratches, and the generator's register. -/
theorem kept_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) fun _ => rfl,
    before0_1_of m (dats m 0 c) (A_eq m c 1) fun _ => rfl,
    before0_2_of m (dats m 0 c) (A_eq m c 2) fun _ => rfl,
    before0_3_of m (dats m 0 c) (A_eq m c 3) fun _ => rfl,
    before0_4_of m (dats m 0 c) (A_eq m c 4) fun _ => rfl,
    before0_5_of m (dats m 0 c) (A_eq m c 5) fun _ => rfl,
    before0_6_of m (dats m 0 c) (A_eq m c 6) fun _ => rfl,
    before0_7_of m (dats m 0 c) (A_eq m c 7) fun _ => rfl,
    before0_8_of m (dats m 0 c) (A_eq m c 8) fun _ => rfl,
    before0_9_of m (dats m 0 c) (A_eq m c 9) fun _ => rfl,
    before0_10_of m (dats m 0 c) (A_eq m c 10) fun _ => rfl,
    before0_11_of m (dats m 0 c) (A_eq m c 11) fun _ => rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, kept_eq]
  dsimp only [dats, yAt, hAt, cAt]
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (grid0.coords t) _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The loop's body at every grid step is the same procedure. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every fair run ends, with the arrays at what the blocks left make of them, the other buffers at what the host
    operations after the kernel make of those, and every counter at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The last three inputs at the end, sample by sample: the kernel's third result with its first two axes exchanged. -/
def tails (c : Dev nD) : FVec F S16x3x2048 .f32 :=
  transpose S16x3x2048 [1, 0, 2] ((dats m 0 c).arrAt 14 cfg0.N : FVec F S3x16x2048 .f32) transposes_S3x16x2048_S16x3x2048_1_0_2

/-- The host operation after the kernel leaves that. -/
theorem after_tail (c : Dev nD) : Pipeline.afterTail₀ cfgs (dats m) 0 (V0 m) [hostOps1] c main_v11 = tails m c := by
  unfold Pipeline.afterTail₀ tails
  simp only [hostOps1, List.flatten_cons, List.flatten_nil, List.append_nil]
  after_results
  have e := (dats m 0 c).withArrays_arrAt (by decide : Pipeline.SharedIn spec0) (V0 m c) (A_eq m c) 14
  exact congrArg (fun X : FVec F S3x16x2048 .f32 => transpose S16x3x2048 [1, 0, 2] X transposes_S3x16x2048_S16x3x2048_1_0_2) e

/-- Every fair run ends with the three results at what the blocks left make of them, the arguments as they were and
    every counter at zero. -/
theorem run_result : θ_run defs (onTc (τ := τ) (main (F := F))) ⟨m, fun _ => 0, ρ⟩ (fun r =>
      (∀ c : Dev nD, r.2.mem ((c.tc : Thread nD τ).loc main_v10_0) = (dats m 0 c).arrAt 12 cfg0.N
      ∧ r.2.mem ((c.tc : Thread nD τ).loc main_v10_1) = (dats m 0 c).arrAt 13 cfg0.N
      ∧ r.2.mem ((c.tc : Thread nD τ).loc main_v11) = tails m c)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => by
    obtain ⟨h, hs⟩ := h
    have rest (c : Dev nD) (b : Ref sig .tc) (hb : b.isScoped = false) (hne : ∀ w, Pipeline.arrRef spec0 w ≠ b) :=
      (h c).2 b (Pipeline.mem_restRefs_of b hb hne)
    refine ⟨fun c => ⟨(h c).1 12, (h c).1 13, (rest c main_v11 (by decide) (by decide)).trans (after_tail m c)⟩, fun c => ⟨?_, ?_, ?_, ?_, ?_, ?_, ?_, ?_, ?_, ?_, ?_, ?_⟩, hs⟩
    · exact (rest c main_arg0 (by decide) (by decide)).trans (W_main_arg0 m (dats m) c)
    · exact (rest c main_arg1 (by decide) (by decide)).trans (W_main_arg1 m (dats m) c)
    · exact (rest c main_arg2 (by decide) (by decide)).trans (W_main_arg2 m (dats m) c)
    · exact ((h c).1 3).trans (((dats m 0 c).arrAt_in 3 rfl _).trans ((A_eq m c 3).trans (V_main_arg3 m c)))
    · exact (rest c main_arg4 (by decide) (by decide)).trans (W_main_arg4 m (dats m) c)
    · exact (rest c main_arg5 (by decide) (by decide)).trans (W_main_arg5 m (dats m) c)
    · exact (rest c main_arg6 (by decide) (by decide)).trans (W_main_arg6 m (dats m) c)
    · exact (rest c main_arg7 (by decide) (by decide)).trans (W_main_arg7 m (dats m) c)
    · exact (rest c main_arg8 (by decide) (by decide)).trans (W_main_arg8 m (dats m) c)
    · exact (rest c main_arg9 (by decide) (by decide)).trans (W_main_arg9 m (dats m) c)
    · exact ((h c).1 10).trans (((dats m 0 c).arrAt_in 10 rfl _).trans ((A_eq m c 10).trans (V_main_arg10 m c)))
    · exact (rest c main_arg11 (by decide) (by decide)).trans (W_main_arg11 m (dats m) c))
    (run_main m ρ)

/-- The arguments end as they were, and every counter at zero. -/
theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => h.2) (run_result m ρ)

end Cert.KernelRecSampleIdeal.Rec

end
-- ==== Proof.Rec.Frame.lean ====
/- The program as it runs has the text of the one read over the reals, so the latter's run, which is over any float values, is its run too. -/
module

public import proofs.«01_k».proof.Defs
public import proofs.«01_k».proof.Proof.Rec.Run
public import proofs.«01_k».proof.Proof.Gen.KernelRecSample

@[expose] public section

noncomputable section

namespace Cert.Proof

open Idealize.ShloMosaic Idealize.ShloMosaic.TcCoe Idealize.SL.Sem

variable {F : FTy → Type} [FloatOps F]

set_option maxHeartbeats 4000000 in
/-- The kernel's body is the same. -/
theorem rec_bodies_same : @Cert.KernelRecSample.defs₀ F _ _ = @Cert.KernelRecSampleIdeal.defs₀ F _ _ := by
  funext p ℓ a
  match p, ℓ, a with
  | .tc, 0, (t, s) =>
    unfold Cert.KernelRecSample.defs₀ Cert.KernelRecSampleIdeal.defs₀
    simp only [Defs.onTc_tc]
    rfl
  | .tc, ⟨_ + 1, h⟩, _ => exact absurd h (Nat.not_lt.2 (Nat.le_add_left _ _))
  | .scScalar _, _, _ => rfl
  | .scVector _ _, _, _ => rfl

set_option maxHeartbeats 4000000 in
/-- So is its call. -/
theorem rec_defs_same : @Cert.KernelRecSample.defs F _ _ = @Cert.KernelRecSampleIdeal.defs F _ _ :=
  congrArg (Pipeline.defs Cert.KernelRecSampleIdeal.pcfgs) rec_bodies_same

set_option maxHeartbeats 4000000 in
/-- The frame of the program as it runs. -/
theorem rec_sample_frame : Cert.quiescent_KernelRecSample := fun m g _ => by
  have h := Cert.KernelRecSampleIdeal.Rec.frame (F := Bits) m g
  rw [← rec_defs_same] at h
  exact h

end Cert.Proof

end
-- ==== Proof.Rec.Want.lean ====
/- The convolution and recurrence of a sample in exact numbers: what kernel and reference are both read as. -/
module

public import proofs.«01_k».proof.Proof.Norm
public import proofs.«01_k».proof.Proof.Rec.Steps

@[expose] public section

noncomputable section

namespace Cert.Rec

open Idealize.ShloMosaic Cert.Share
open Cert.KernelRecSampleIdeal.Rec (at16 at16_of_lt)

/-- The steps' rows of all samples; the inputs before the first step; the convolution's taps; -/
abbrev Steps := (⟨3, ![16, 16, 2048]⟩ : Shape).Idx → EReal
abbrev Before := (⟨3, ![16, 3, 2048]⟩ : Shape).Idx → EReal
abbrev Taps := (⟨2, ![4, 2048]⟩ : Shape).Idx → EReal
/-- a gate's blocks of weights and its biases; the hidden states. -/
abbrev Blocks := (⟨3, ![8, 256, 256]⟩ : Shape).Idx → EReal
abbrev Biases := (⟨2, ![8, 256]⟩ : Shape).Idx → EReal
abbrev States := (⟨2, ![16, 2048]⟩ : Shape).Idx → EReal

/-- Lane `j` of block `n` among all lanes; the block that a lane is of, and which lane of it. -/
def laneAt (n : Fin 8) (j : Fin 256) : Fin 2048 := ⟨256 * n.val + j.val, by have := n.isLt; have := j.isLt; omega⟩
def blockOf (d : Fin 2048) : Fin 8 := ⟨d.val / 256, by have := d.isLt; omega⟩
def laneOf (d : Fin 2048) : Fin 256 := ⟨d.val % 256, Nat.mod_lt _ (by decide)⟩

/-- The block of a column laid out by block and lane; -/
theorem blockOf_laneAt (n : Fin 8) (j : Fin 256) : blockOf (laneAt n j) = n := by
  have := j.isLt
  exact Fin.ext (by show (256 * n.val + j.val) / 256 = n.val; omega)
/-- its lane. -/
theorem laneOf_laneAt (n : Fin 8) (j : Fin 256) : laneOf (laneAt n j) = j := by
  have := j.isLt
  exact Fin.ext (by show (256 * n.val + j.val) % 256 = j.val; omega)

section Layer

variable (u gl sl : Steps) (taps : Taps) (bias : Lane) (wa : Blocks) (ba : Biases) (wx : Blocks) (bx : Biases) (lam : Lane)
  (h0 : States) (c0 : Before)

/-- The inputs of a sample, the three before the first step in front of the steps'. -/
def input (b : Fin 16) (p : ℕ) (d : Fin 2048) : EReal := if h : p < 3 then c0 (ix3 b ⟨p, h⟩ d) else u (ix3 (at16 (p - 3)) b d)

/-- The convolution of four taps. -/
def convolved (t b : Fin 16) (d : Fin 2048) : EReal :=
  bias (ix1 d) + input u c0 b t.val d * taps (ix2 0 d) + input u c0 b (t.val + 1) d * taps (ix2 1 d)
    + input u c0 b (t.val + 2) d * taps (ix2 2 d) + input u c0 b (t.val + 3) d * taps (ix2 3 d)

/-- A gate: the logistic function of the convolution's block times the block's weights, plus its biases. -/
def gate (w : Blocks) (bs : Biases) (t b : Fin 16) (d : Fin 2048) : EReal :=
  Ideal.logistic (∑ k : Fin 256, convolved u taps bias c0 t b (laneAt (blockOf d) k) * w (ix3 (blockOf d) k (laneOf d)) + bs (ix2 (blockOf d) (laneOf d)))

/-- The softplus. -/
def softplus (z : EReal) : EReal := max z 0 + Ideal.log1p (Ideal.exp (-(max z (-z))))

/-- The logarithm of a decay; -/
def logDecay (t b : Fin 16) (d : Fin 2048) : EReal :=
  gate u taps bias c0 wa ba t b d * (Ideal.ofBits .f32 0xC1000000#32 * softplus (-(lam (ix1 d))))

/-- what a decay leaves for the input: the root of one less the decay's square. -/
def left (l : EReal) : EReal := Ideal.sqrt (-(Ideal.exp (2 * l) - 1))

/-- The hidden state after `k` steps. -/
def state (b : Fin 16) (d : Fin 2048) : ℕ → EReal
  | 0 => h0 (ix2 b d)
  | k + 1 => Ideal.exp (logDecay u taps bias wa ba lam c0 (at16 k) b d) * state b d k
      + left (logDecay u taps bias wa ba lam c0 (at16 k) b d) * (gate u taps bias c0 wx bx (at16 k) b d * convolved u taps bias c0 (at16 k) b d)

/-- The three results: the hidden states of all steps times two gates, sample by sample; -/
def wantY : Steps := fun y => state u taps bias wa ba wx bx lam h0 c0 (y 0) (y 2) ((y 1).val + 1) * (gl (ix3 (y 1) (y 0) (y 2)) * sl (ix3 (y 1) (y 0) (y 2)))
/-- The first result at a place; -/
theorem wantY_at (b t : Fin 16) (d : Fin 2048) : wantY u gl sl taps bias wa ba wx bx lam h0 c0 (ix3 b t d)
    = state u taps bias wa ba wx bx lam h0 c0 b d (t.val + 1) * (gl (ix3 t b d) * sl (ix3 t b d)) := rfl
/-- the last hidden states; -/
def wantH : States := fun y => state u taps bias wa ba wx bx lam h0 c0 (y 0) (y 1) 16
/-- the second. -/
theorem wantH_at (b : Fin 16) (d : Fin 2048) : wantH u taps bias wa ba wx bx lam h0 c0 (ix2 b d) = state u taps bias wa ba wx bx lam h0 c0 b d 16 := rfl
/-- the last three inputs. -/
def wantC : Before := fun y => u (ix3 (at16 (13 + (y 1).val)) (y 0) (y 2))

end Layer

/-! ## Signs, and the root -/

/-- The pattern of zero is nothing. -/
theorem nothing : Ideal.ofBits .f32 0x00000000#32 = (0 : EReal) := by
  simp [Ideal.ofBits, Ideal.ieee]

/-- The exponential function is nowhere negative, -/
theorem exp_nonneg (z : EReal) : 0 ≤ Ideal.exp z := by
  induction z using EReal.rec with
  | bot => exact le_refl 0
  | top => exact le_top
  | coe r => exact EReal.coe_nonneg.mpr (Real.exp_pos r).le

/-- nor the logistic function, -/
theorem logistic_nonneg (z : EReal) : 0 ≤ Ideal.logistic z := by
  unfold Ideal.logistic Ideal.div
  have h : 0 ≤ 1 + Ideal.exp (-z) := add_nonneg zero_le_one (exp_nonneg _)
  split_ifs with h0 h1
  · exact le_top
  · exact absurd zero_lt_one h1
  · rw [one_mul]; exact EReal.inv_nonneg_of_nonneg h

/-- nor the logarithm of one more than a number that is not. -/
theorem log1p_nonneg {z : EReal} (h : 0 ≤ z) : 0 ≤ Ideal.log1p z := by
  unfold Ideal.log1p
  induction z using EReal.rec with
  | bot => exact absurd h (by simp)
  | top => exact le_top
  | coe r =>
    have hr : 0 ≤ r := EReal.coe_nonneg.mp h
    rw [← EReal.coe_one, ← EReal.coe_add]
    show 0 ≤ (if 1 + r ≤ 0 then ⊥ else ((Real.log (1 + r) : ℝ) : EReal))
    rw [if_neg (by linarith)]
    exact EReal.coe_nonneg.mpr (Real.log_nonneg (by linarith))

/-- A softplus is not negative. -/
theorem softplus_nonneg (z : EReal) : 0 ≤ softplus z := add_nonneg (le_max_right _ _) (log1p_nonneg (exp_nonneg _))

/-- The pattern of minus eight; -/
theorem minus_eight : Ideal.ofBits .f32 0xC1000000#32 = ((-8 : ℝ) : EReal) := by
  simp [Ideal.ofBits, Ideal.ieee, -EReal.coe_mul]
  norm_num

/-- that of two. -/
theorem two : Ideal.ofBits .f32 0x40000000#32 = (2 : EReal) := by
  have : (2 : EReal) = ((2 : ℝ) : EReal) := rfl
  rw [this]
  simp [Ideal.ofBits, Ideal.ieee, -EReal.coe_mul]
  norm_num

/-- A decay's logarithm is not positive. -/
theorem log_nonpos (z s : EReal) : Ideal.logistic z * (Ideal.ofBits .f32 0xC1000000#32 * softplus s) ≤ 0 := by
  refine EReal.mul_nonpos_iff.mpr (.inl ⟨logistic_nonneg z, EReal.mul_nonpos_iff.mpr (.inr ⟨?_, softplus_nonneg s⟩)⟩)
  rw [minus_eight]
  exact EReal.coe_nonpos.mpr (by norm_num)

/-- The root as the kernel takes it, by the hyperbolic tangent, for a logarithm that is not positive. -/
theorem left_spelled {l : EReal} (h : l ≤ 0) :
    (if 0 < (0 - Ideal.tanh l) * (Ideal.exp l * Ideal.exp l + 1)
      then (0 - Ideal.tanh l) * (Ideal.exp l * Ideal.exp l + 1) * Ideal.rsqrt ((0 - Ideal.tanh l) * (Ideal.exp l * Ideal.exp l + 1))
      else 0) = left l := by
  unfold left
  have root (q : ℝ) (hq : 0 ≤ q) : (if (0 : EReal) < (q : EReal) then (q : EReal) * Ideal.rsqrt (q : EReal) else 0) = Ideal.sqrt (q : EReal) := by
    have e : Ideal.sqrt (q : EReal) = if q < 0 then ⊥ else ((Real.sqrt q : ℝ) : EReal) := rfl
    have e' : Ideal.rsqrt (q : EReal) = if q < 0 then ⊥ else if q = 0 then ⊤ else (((Real.sqrt q)⁻¹ : ℝ) : EReal) := rfl
    rw [e, e', if_neg (not_lt.mpr hq), if_neg (not_lt.mpr hq)]
    rcases hq.eq_or_lt with h0 | h0
    · rw [← h0]; simp
    · rw [if_pos (EReal.coe_pos.mpr h0), if_neg h0.ne', ← EReal.coe_mul]
      congr 1
      have hs := Real.sqrt_pos.mpr h0
      field_simp
      exact (Real.sq_sqrt hq).symm
  induction l using EReal.rec with
  | bot =>
    have e1 : (0 - Ideal.tanh ⊥) * (Ideal.exp ⊥ * Ideal.exp ⊥ + 1) = ((1 : ℝ) : EReal) := by
      show (0 - (-1 : EReal)) * ((0 : EReal) * 0 + 1) = _
      simp
    have e2 : -(Ideal.exp (2 * ⊥) - 1) = ((1 : ℝ) : EReal) := by
      rw [EReal.mul_bot_of_pos (by norm_num)]
      show -((0 : EReal) - 1) = _
      simp
    rw [e1, e2]
    exact root 1 zero_le_one
  | top => exact absurd h (by simp)
  | coe r =>
    have hr : r ≤ 0 := EReal.coe_nonpos.mp h
    have e1 : (0 - Ideal.tanh (r : EReal)) * (Ideal.exp (r : EReal) * Ideal.exp (r : EReal) + 1) = ((1 - Real.exp (2 * r) : ℝ) : EReal) := by
      show (0 - ((Real.tanh r : ℝ) : EReal)) * (((Real.exp r : ℝ) : EReal) * ((Real.exp r : ℝ) : EReal) + 1) = _
      rw [← EReal.coe_zero, ← EReal.coe_one, ← EReal.coe_sub, ← EReal.coe_mul, ← EReal.coe_add, ← EReal.coe_mul]
      congr 1
      rw [Real.tanh_eq_sinh_div_cosh, Real.sinh_eq, Real.cosh_eq, show 2 * r = r + r by ring, Real.exp_add, Real.exp_neg]
      have := Real.exp_pos r
      field_simp
      ring
    have e2 : -(Ideal.exp (2 * (r : EReal)) - 1) = ((1 - Real.exp (2 * r) : ℝ) : EReal) := by
      rw [show (2 : EReal) * (r : EReal) = ((2 * r : ℝ) : EReal) by rw [EReal.coe_mul]; rfl]
      show -(((Real.exp (2 * r) : ℝ) : EReal) - 1) = _
      rw [← EReal.coe_one, ← EReal.coe_sub, ← EReal.coe_neg]
      congr 1
      ring
    rw [e1, e2]
    exact root _ (by have := Real.exp_le_one_iff.mpr (show 2 * r ≤ 0 by linarith); linarith)

end Cert.Rec

end
-- ==== Proof.Rec.Blocks.lean ====
/- What the kernel's body computes of its blocks, element by element in exact numbers. -/
module

public import proofs.«01_k».proof.Proof.Rec.Want
public import Idealize.ShloMosaic.Lib.Pointwise

@[expose] public section

set_option maxRecDepth 16384

noncomputable section

namespace Cert.KernelRecSampleIdeal.Rec

open Cert.KernelRecSampleIdeal Cert.KernelRecSampleIdeal.Gen Cert.Share Cert.Rec
open Idealize.ShloMosaic Idealize.ShloMosaic.TcCoe

/-- A casting to the shape that a vector has leaves it. -/
theorem pay2_eq (v : Vec Ideal S3x16x256 .f32) : k0_pay2 v = v := by
  unfold k0_pay2; simp only [shapeCast_self]
/-- The hidden states go into their scratch as they come. -/
theorem pay3_eq (v : Vec Ideal S16x256 .f32) : k0_pay3 v = v := by
  unfold k0_pay3; simp only [shapeCast_self]

/-- The row of the 256 that a step's row of a sample is. -/
def row (t b : Fin 16) : Fin 256 := ⟨16 * t.val + b.val, by have := t.isLt; have := b.isLt; omega⟩

/-- The block with the three inputs in front, place by place. -/
theorem joined_read (v6 : FVec Ideal S3x16x256 .f32) (v : FVec Ideal S16x16x256 .f32) (p : Fin 19) (b : Fin 16) (j : Fin 256) :
    concatenate S19x16x256 0 [⟨S3x16x256, v6⟩, ⟨S16x16x256, v⟩] concatenates_S3x16x256_S16x16x256_S19x16x256_d0 (ix3 p b j)
      = if h : p.val < 3 then v6 (ix3 ⟨p.val, h⟩ b j) else v (ix3 (at16 (p.val - 3)) b j) := by
  split
  · next h =>
    refine (concatenate_pair_apply_left (t := S19x16x256) 0 v6 v _ _ rfl (ix3 ⟨p.val, h⟩ b j) ?_)
    intro a; fin_cases a <;> rfl
  · next h =>
    have hp := p.isLt
    refine (concatenate_pair_apply_right (t := S19x16x256) 0 v6 v _ _ rfl rfl (ix3 (at16 (p.val - 3)) b j) ?_ ?_)
    · intro a ha; fin_cases a
      · exact absurd rfl ha
      · rfl
      · rfl
    · rw [at16_of_lt (by omega)]
      show p.val - 3 + 3 = p.val
      omega

/-- The convolution. -/
theorem conv_read (x0 : Vec Ideal S16x16x256 .bf16) (v6 : FVec Ideal S3x16x256 .f32) (x3 : Vec Ideal S4x256 .f32) (x4 : Vec Ideal S1x256 .f32)
    (f : ℕ → EReal) (t b : Fin 16) (j : Fin 256)
    (hf : ∀ p, p < 19 → f p = if h : p < 3 then v6 (ix3 ⟨p, h⟩ b j) else x0 (ix3 (at16 (p - 3)) b j)) :
    k0_pay5 x0 v6 x3 x4 (ix3 t b j) = x4 (ix2 0 j) + f t.val * x3 (ix2 0 j) + f (t.val + 1) * x3 (ix2 1 j)
      + f (t.val + 2) * x3 (ix2 2 j) + f (t.val + 3) * x3 (ix2 3 j) := by
  have ht := t.isLt
  rw [Nat.add_comm t.val 1, Nat.add_comm t.val 2, Nat.add_comm t.val 3, hf _ (by omega), hf _ (by omega), hf _ (by omega), hf _ (by omega)]
  have e := joined_read v6 (k0_pay4 x0)
  have e4 : ∀ (a b : Fin 16) (j : Fin 256), k0_pay4 x0 (ix3 a b j) = x0 (ix3 a b j) := fun a b j => by pointwise [k0_pay4]
  simp only [e4] at e
  have e0 := e ⟨t.val, by omega⟩ b j
  have e1 := e ⟨1 + t.val, by omega⟩ b j
  have e2 := e ⟨2 + t.val, by omega⟩ b j
  have e3 := e ⟨3 + t.val, by omega⟩ b j
  unfold k0_pay5
  generalize concatenate S19x16x256 0 [⟨S3x16x256, v6⟩, ⟨S16x16x256, k0_pay4 x0⟩] concatenates_S3x16x256_S16x16x256_S19x16x256_d0 = v7 at *
  dsimp only at e0 e1 e2 e3
  rw [← e0, ← e1, ← e2, ← e3]
  pointwise []

/-- The steps' rows one after another; -/
theorem laid (v : FVec Ideal S16x16x256 .f32) (t b : Fin 16) (j : Fin 256) : k0_pay8 v (ix2 (row t b) j) = v (ix3 t b j) := by
  refine shapeCast_apply v _ _ _ ?_
  rw [Shape.rowMajor_val_three, Shape.rowMajor_val_two]
  show (t.val * 16 + b.val) * 256 + j.val = (16 * t.val + b.val) * 256 + j.val
  omega

/-- and back. -/
theorem stacked {α : Type} (v : S256x256.Idx → α) (t b : Fin 16) (j : Fin 256) :
    shapeCast S16x16x256 v shapeCasts_S256x256_S16x16x256 (ix3 t b j) = v (ix2 (row t b) j) := by
  refine shapeCast_apply v _ _ _ ?_
  rw [Shape.rowMajor_val_three, Shape.rowMajor_val_two]
  show (16 * t.val + b.val) * 256 + j.val = (t.val * 16 + b.val) * 256 + j.val
  omega

/-- A gate; -/
theorem gate_read (v : FVec Ideal S16x16x256 .f32) (w : Vec Ideal S1x256x256 .bf16) (bs : Vec Ideal S1x1x256 .f32) (r j : Fin 256) :
    k0_pay10 v w bs (ix2 r j) = Ideal.logistic (∑ k : Fin 256, k0_pay8 v (ix2 r k) * w (ix3 0 k j) + bs (ix3 0 0 j)) := by
  rw [← logistic_spelled, one]
  generalize h : k0_pay8 v = v'
  pointwise [k0_pay10, k0_pay9]
  rw [h]
  rfl
/-- the other is of the same text. -/
theorem gate_same (v : FVec Ideal S16x16x256 .f32) (w : Vec Ideal S1x256x256 .bf16) (bs : Vec Ideal S1x1x256 .f32) :
    k0_pay11 v w bs = k0_pay10 v w bs := rfl

/-- The softplus of what decays are learned by. -/
theorem softplus_read (x9 : Vec Ideal S1x256 .f32) (j : Fin 256) : k0_pay12 x9 (ix2 0 j) = softplus (-(x9 (ix2 0 j))) := by
  pointwise [k0_pay12]
  rw [if_neg (fun h => h rfl), zero_sub, zero_sub]
  rfl

/-- The logarithm of a decay: the gate times minus eight softpluses. -/
theorem log_read (v51 : FVec Ideal S256x256 .f32) (v77 : FVec Ideal S1x256 .f32) (r j : Fin 256) :
    k0_pay13 v51 v77 (ix2 r j) = v51 (ix2 r j) * (Ideal.ofBits .f32 0xC1000000#32 * v77 (ix2 0 j)) := by
  pointwise [k0_pay13]

/-- The decays of all steps, laid with the steps before the sequences. -/
theorem decay_read (v51 : FVec Ideal S256x256 .f32) (v77 : FVec Ideal S1x256 .f32) (t b : Fin 16) (j : Fin 256) :
    k0_pay15 v51 v77 (ix3 t b j) = Ideal.exp (k0_pay13 v51 v77 (ix2 (row t b) j)) := by
  unfold k0_pay15
  try simp only [shapeCast_self]
  rw [stacked]
  generalize row t b = r
  generalize hl : k0_pay13 v51 v77 = l
  pointwise [k0_pay14]
  rw [hl]

/-- The gated inputs of all steps, laid in the same way. -/
theorem inputs_read (v42 v51 v59 : FVec Ideal S256x256 .f32) (v77 : FVec Ideal S1x256 .f32) (t b : Fin 16) (j : Fin 256)
    (h : k0_pay13 v51 v77 (ix2 (row t b) j) ≤ 0) :
    k0_pay16 v42 v51 v59 v77 (ix3 t b j) = left (k0_pay13 v51 v77 (ix2 (row t b) j)) * (v59 (ix2 (row t b) j) * v42 (ix2 (row t b) j)) := by
  unfold k0_pay16
  simp only [shapeCast_self]
  rw [stacked]
  rw [← left_spelled h]
  generalize hl : k0_pay13 v51 v77 = l
  generalize row t b = r
  pointwise [k0_pay14]
  rw [hl]

/-- One step: the decay times the hidden state, and the input added. -/
theorem step_read (h : Vec Ideal S16x256 .f32) (a b : Vec Ideal S1x16x256 .f32) (s : Fin 16) (j : Fin 256) :
    k0_pay17 h a b (ix2 s j) = a (ix3 0 s j) * h (ix2 s j) + b (ix3 0 s j) := by
  pointwise [k0_pay17]

/-- One row of the result: the hidden state after the step, times the two gates. -/
theorem mixed_read (h : Vec Ideal S16x256 .f32) (a b : Vec Ideal S1x16x256 .f32) (g l : Vec Ideal S1x16x256 .bf16) (s : Fin 16) (j : Fin 256) :
    k0_pay18 h a b g l (ix3 0 s j) = k0_pay17 h a b (ix2 s j) * (g (ix3 0 s j) * l (ix3 0 s j)) := by
  generalize e : k0_pay17 h a b = h'
  pointwise [k0_pay18]
  rw [e]

/-- The matrix that the rows are turned with is the norm's. -/
theorem turn_eq : turn (F := Ideal) = Cert.KernelNormIdeal.Norm.arranging := rfl

/-- The rows turned: sample by sample, and step by step in each. -/
theorem turned_read (x : Vec Ideal S16x16x256 .f32) (b t : Fin 16) (j : Fin 256) : k0_pay1 turn (k0_pay22 x) (ix3 b t j) = x (ix3 t b j) := by
  unfold k0_pay1
  rw [stacked]
  have e : ∀ (p y : FVec Ideal S256x256 .bf16) (r j : Fin 256),
      truncf .bf16 (matmul dot_S256x256_S256x256_S256x256_1_0_0_1_n_n none p y (constant S256x256 .f32 0x00000000#32)) bitsLt_bf16_f32 (ix2 r j)
        = ∑ k : Fin 256, p (ix2 r k) * y (ix2 k j) := fun p y r j => by pointwise []
  rw [e, turn_eq]
  have hb := b.isLt
  have ht := t.isLt
  have q : ∀ x y : Fin 16, (16 * x.val + y.val) / 16 = x.val ∧ (16 * x.val + y.val) % 16 = y.val := fun x y => by
    have := y.isLt
    constructor <;> omega
  rw [Finset.sum_eq_single (row t b)]
  · rw [Cert.KernelNormIdeal.Norm.arranging_apply, if_pos ⟨(q b t).1.trans (q t b).2.symm, (q b t).2.trans (q t b).1.symm⟩, one_mul]
    exact laid x t b j
  · intro k _ hk
    rw [Cert.KernelNormIdeal.Norm.arranging_apply, if_neg (fun hh => hk (Fin.ext ?_)), zero_mul]
    have h1 : (16 * b.val + t.val) / 16 = k.val % 16 := hh.1
    have h2 : (16 * b.val + t.val) % 16 = k.val / 16 := hh.2
    show k.val = 16 * t.val + b.val
    omega
  · exact fun hh => absurd (Finset.mem_univ _) hh

/-- The last three inputs of a block. -/
theorem last_read (x0 : Vec Ideal S16x16x256 .bf16) (k : Fin 3) (b : Fin 16) (j : Fin 256) :
    k0_pay6 x0 (ix3 k b j) = x0 (ix3 (at16 (13 + k.val)) b j) := by
  rw [at16_of_lt (by have := k.isLt; omega)]
  pointwise [k0_pay6, k0_pay4]

end Cert.KernelRecSampleIdeal.Rec

end
-- ==== Proof.Rec.Value.lean ====
/- The launch at exact numbers: what the kernel leaves in its three results. -/
module

public import proofs.«01_k».proof.Proof.Rec.Blocks
public import proofs.«01_k».proof.Proof.Rec.Run

@[expose] public section

set_option maxRecDepth 16384

noncomputable section

namespace Cert.KernelRecSampleIdeal.Rec

open Cert.KernelRecSampleIdeal Cert.KernelRecSampleIdeal.Gen Cert.Share Cert.Rec
open Idealize.ShloMosaic Idealize.ShloMosaic.TcCoe Idealize.SL.Sem
open Idealize.ShloMosaic.Pipeline (Dat Window)

variable (m : (ℓ : Loc nD τ sig) → Buf (Elt Ideal) ℓ) (c : Dev nD)

/-- What the kernel is called with: the steps' rows and their two gates; -/
abbrev u : Steps := m ((c : Thread nD τ).loc main_arg0)
abbrev gl : Steps := m ((c : Thread nD τ).loc main_arg1)
abbrev sl : Steps := m ((c : Thread nD τ).loc main_arg2)
/-- the convolution's taps and biases; -/
abbrev taps : Taps := m ((c : Thread nD τ).loc main_arg3)
abbrev bias : Lane := m ((c : Thread nD τ).loc main_arg4)
/-- the recurrence's gates, and what its decays are learned by; -/
abbrev wa : Blocks := m ((c : Thread nD τ).loc main_arg5)
abbrev ba : Biases := m ((c : Thread nD τ).loc main_arg6)
abbrev wx : Blocks := m ((c : Thread nD τ).loc main_arg7)
abbrev bx : Biases := m ((c : Thread nD τ).loc main_arg8)
abbrev lam : Lane := m ((c : Thread nD τ).loc main_arg9)
/-- the hidden states and the three inputs before the first step. -/
abbrev h0 : States := m ((c : Thread nD τ).loc main_arg10)
abbrev c0 : Before := m ((c : Thread nD τ).loc main_arg11)

/-! ## The arrays that the kernel finds -/

/-- A rounding leaves a number as it is: the five operands that are rounded are as they were. -/
theorem V_rounded : (V m c main_v0 : S16x16x2048.Idx → EReal) = u m c ∧ (V m c main_v1 : S16x16x2048.Idx → EReal) = gl m c
    ∧ (V m c main_v2 : S16x16x2048.Idx → EReal) = sl m c ∧ (V m c main_v3 : S8x256x256.Idx → EReal) = wa m c
    ∧ (V m c main_v4 : S8x256x256.Idx → EReal) = wx m c := by
  refine ⟨?_, ?_, ?_, ?_, ?_⟩ <;>
  · unfold V V0
    simp only [hostOps0, List.flatten_cons, List.flatten_nil, List.append_nil]
    after_results
    try rfl

/-- The three inputs before the first step, place by place; -/
theorem V_before (k : Fin 3) (b : Fin 16) (d : Fin 2048) : (V m c main_v5 : FVec Ideal S3x16x2048 .f32) (ix3 k b d) = c0 m c (ix3 b k d) := by
  have e : V m c main_v5 = (transpose S3x16x2048 [1, 0, 2] (m ((c : Thread nD τ).loc main_arg11)) transposes_S16x3x2048_S3x16x2048_1_0_2 : FVec Ideal S3x16x2048 .f32) := by
    unfold V V0
    simp only [hostOps0, List.flatten_cons, List.flatten_nil, List.append_nil]
    after_results
    try rfl
  rw [e]
  refine transpose_apply [1, 0, 2] _ transposes_S16x3x2048_S3x16x2048_1_0_2 (ix3 k b d) (ix3 b k d) ?_
  intro a
  fin_cases a <;> rfl

/-- a number a lane, given as one row; -/
theorem V_rows (d : Fin 2048) : (V m c main_v6 : FVec Ideal S1x2048 .f32) (ix2 0 d) = bias m c (ix1 d)
    ∧ (V m c main_v9 : FVec Ideal S1x2048 .f32) (ix2 0 d) = lam m c (ix1 d) := by
  have e : ∀ x : FVec Ideal S2048 .f32, shapeCast S1x2048 x shapeCasts_S2048_S1x2048 (ix2 0 d) = x (ix1 d) := fun x => by
    refine shapeCast_apply x _ _ _ ?_
    show ((⟨1, ![2048]⟩ : Shape).rowMajor (ix1 d)).val = (S1x2048.rowMajor (ix2 0 d)).val
    rw [Shape.rowMajor_val_one, Shape.rowMajor_val_two]
    show d.val = 0 * 2048 + d.val
    omega
  have e6 : V m c main_v6 = (shapeCast S1x2048 (bias m c) shapeCasts_S2048_S1x2048 : FVec Ideal S1x2048 .f32) := by
    unfold V V0
    simp only [hostOps0, List.flatten_cons, List.flatten_nil, List.append_nil]
    after_results
    try rfl
  have e9 : V m c main_v9 = (shapeCast S1x2048 (lam m c) shapeCasts_S2048_S1x2048 : FVec Ideal S1x2048 .f32) := by
    unfold V V0
    simp only [hostOps0, List.flatten_cons, List.flatten_nil, List.append_nil]
    after_results
    try rfl
  exact ⟨(congrFun e6 _).trans (e _), (congrFun e9 _).trans (e _)⟩

/-- the gates' biases, given with an axis of one between. -/
theorem V_biases (n : Fin 8) (j : Fin 256) : (V m c main_v7 : FVec Ideal S8x1x256 .f32) (ix3 n 0 j) = ba m c (ix2 n j)
    ∧ (V m c main_v8 : FVec Ideal S8x1x256 .f32) (ix3 n 0 j) = bx m c (ix2 n j) := by
  have e : ∀ x : FVec Ideal S8x256 .f32, shapeCast S8x1x256 x shapeCasts_S8x256_S8x1x256 (ix3 n 0 j) = x (ix2 n j) := fun x => by
    refine shapeCast_apply x _ _ _ ?_
    rw [Shape.rowMajor_val_three, Shape.rowMajor_val_two]
    show n.val * 256 + j.val = (n.val * 1 + 0) * 256 + j.val
    omega
  have e7 : V m c main_v7 = (shapeCast S8x1x256 (ba m c) shapeCasts_S8x256_S8x1x256 : FVec Ideal S8x1x256 .f32) := by
    unfold V V0
    simp only [hostOps0, List.flatten_cons, List.flatten_nil, List.append_nil]
    after_results
    try rfl
  have e8 : V m c main_v8 = (shapeCast S8x1x256 (bx m c) shapeCasts_S8x256_S8x1x256 : FVec Ideal S8x1x256 .f32) := by
    unfold V V0
    simp only [hostOps0, List.flatten_cons, List.flatten_nil, List.append_nil]
    after_results
    try rfl
  exact ⟨(congrFun e7 _).trans (e _), (congrFun e8 _).trans (e _)⟩

/-! ## A point's blocks -/

/-- The points' blocks of lanes: of the arrays of three axes whose last axis is of lanes, -/
theorem index_last : ∀ t : Fin grid0.N, win0_0.index t = ![0, 0, t.val] ∧ win0_1.index t = ![0, 0, t.val] ∧ win0_2.index t = ![0, 0, t.val]
    ∧ win0_11.index t = ![0, 0, t.val] ∧ win0_12.index t = ![0, 0, t.val] ∧ win0_14.index t = ![0, 0, t.val] := by decide +kernel
/-- of those whose first is of blocks, -/
theorem index_first : ∀ t : Fin grid0.N, win0_5.index t = ![t.val, 0, 0] ∧ win0_6.index t = ![t.val, 0, 0] ∧ win0_7.index t = ![t.val, 0, 0]
    ∧ win0_8.index t = ![t.val, 0, 0] := by decide +kernel
/-- and of those of two axes. -/
theorem index_two : ∀ t : Fin grid0.N, win0_3.index t = ![0, t.val] ∧ win0_4.index t = ![0, t.val] ∧ win0_9.index t = ![0, t.val]
    ∧ win0_10.index t = ![0, t.val] ∧ win0_13.index t = ![0, t.val] := by decide +kernel

/-- The blocks of each result are all of it. -/
theorem covers_12 : win0_12.Covers := by decide +kernel
/-- The blocks of the last states cover their array; -/
theorem covers_13 : win0_13.Covers := by decide +kernel
/-- so do those of the last inputs. -/
theorem covers_14 : win0_14.Covers := by decide +kernel

/-- The block of lanes that is a point's. -/
def block (t : Fin cfg0.N) : Fin 8 := ⟨t.val, lt_of_lt_of_eq t.isLt N_0⟩

/-- The steps' rows of the point's lanes, and their two gates'; -/
theorem blk_steps (t : Fin cfg0.N) (s b : Fin 16) (j : Fin 256) : iblk m c 0 t (ix3 s b j) = u m c (ix3 s b (laneAt (block t) j))
    ∧ iblk m c 1 t (ix3 s b j) = gl m c (ix3 s b (laneAt (block t) j)) ∧ iblk m c 2 t (ix3 s b j) = sl m c (ix3 s b (laneAt (block t) j)) := by
  rw [← (V_rounded m c).1, ← (V_rounded m c).2.1, ← (V_rounded m c).2.2.1]
  refine ⟨?_, ?_, ?_⟩ <;>
  · blk_simp [iblk]
    refine congrArg _ (funext fun a => Fin.ext ?_)
    match a with
    | 0 => blk_simp [(index_last t).1, (index_last t).2.1, (index_last t).2.2.1]; try simp
    | 1 => blk_simp [(index_last t).1, (index_last t).2.1, (index_last t).2.2.1]; try simp
    | 2 => blk_simp [(index_last t).1, (index_last t).2.1, (index_last t).2.2.1]; simp only [laneAt, block]; try omega

/-- the three inputs before the first step; -/
theorem blk_before (t : Fin cfg0.N) (k : Fin 3) (b : Fin 16) (j : Fin 256) :
    iblk m c 11 t (ix3 k b j) = c0 m c (ix3 b k (laneAt (block t) j)) := by
  rw [← V_before m c]
  blk_simp [iblk]
  refine congrArg _ (funext fun a => Fin.ext ?_)
  match a with
  | 0 => blk_simp [(index_last t).2.2.2.1]; try simp
  | 1 => blk_simp [(index_last t).2.2.2.1]; try simp
  | 2 => blk_simp [(index_last t).2.2.2.1]; simp only [laneAt, block]; try omega

/-- the convolution's taps and the hidden states; -/
theorem blk_two (t : Fin cfg0.N) (j : Fin 256) : (∀ k : Fin 4, iblk m c 3 t (ix2 k j) = taps m c (ix2 k (laneAt (block t) j)))
    ∧ ∀ b : Fin 16, iblk m c 10 t (ix2 b j) = h0 m c (ix2 b (laneAt (block t) j)) := by
  rw [taps, h0, ← V_main_arg3 m c, ← V_main_arg10 m c]
  refine ⟨fun k => ?_, fun b => ?_⟩ <;>
  · blk_simp [iblk]
    refine congrArg _ (funext fun a => Fin.ext ?_)
    match a with
    | 0 => blk_simp [(index_two t).1, (index_two t).2.2.2.1]; try simp
    | 1 => blk_simp [(index_two t).1, (index_two t).2.2.2.1]; simp only [laneAt, block]; try omega

/-- its biases, and what the decays are learned by; -/
theorem blk_rows (t : Fin cfg0.N) (j : Fin 256) : iblk m c 4 t (ix2 0 j) = bias m c (ix1 (laneAt (block t) j))
    ∧ iblk m c 9 t (ix2 0 j) = lam m c (ix1 (laneAt (block t) j)) := by
  rw [← (V_rows m c _).1, ← (V_rows m c _).2]
  refine ⟨?_, ?_⟩ <;>
  · blk_simp [iblk]
    refine congrArg _ (funext fun a => Fin.ext ?_)
    match a with
    | 0 => blk_simp [(index_two t).2.1, (index_two t).2.2.1]; try simp
    | 1 => blk_simp [(index_two t).2.1, (index_two t).2.2.1]; simp only [laneAt, block]; try omega

/-- the gates' weights, -/
theorem blk_weights (t : Fin cfg0.N) (k j : Fin 256) : iblk m c 5 t (ix3 0 k j) = wa m c (ix3 (block t) k j)
    ∧ iblk m c 7 t (ix3 0 k j) = wx m c (ix3 (block t) k j) := by
  rw [← (V_rounded m c).2.2.2.1, ← (V_rounded m c).2.2.2.2]
  refine ⟨?_, ?_⟩ <;>
  · blk_simp [iblk]
    refine congrArg _ (funext fun a => Fin.ext ?_)
    match a with
    | 0 => blk_simp [(index_first t).1, (index_first t).2.2.1]; simp only [block]; try omega
    | 1 => blk_simp [(index_first t).1, (index_first t).2.2.1]; try simp
    | 2 => blk_simp [(index_first t).1, (index_first t).2.2.1]; try simp

/-- and their biases. -/
theorem blk_biases (t : Fin cfg0.N) (j : Fin 256) : iblk m c 6 t (ix3 0 0 j) = ba m c (ix2 (block t) j)
    ∧ iblk m c 8 t (ix3 0 0 j) = bx m c (ix2 (block t) j) := by
  rw [← (V_biases m c _ _).1, ← (V_biases m c _ _).2]
  refine ⟨?_, ?_⟩ <;>
  · blk_simp [iblk]
    refine congrArg _ (funext fun a => Fin.ext ?_)
    match a with
    | 0 => blk_simp [(index_first t).2.1, (index_first t).2.2.2]; simp only [block]; try omega
    | 1 => blk_simp [(index_first t).2.1, (index_first t).2.2.2]; try simp
    | 2 => blk_simp [(index_first t).2.1, (index_first t).2.2.2]; try simp

/-- Where an element of a block lies in the first result,  -/
theorem emb_12 (t : Fin grid0.N) (b s : Fin 16) (j : Fin 256) : (win0_12.blk t).view.emb (ix3 b s j) = ix3 b s (laneAt (block t) j) :=
  funext fun a => Fin.ext (match a with
  | 0 => by blk_simp [(index_last t).2.2.2.2.1]; try simp
  | 1 => by blk_simp [(index_last t).2.2.2.2.1]; try simp
  | 2 => by blk_simp [(index_last t).2.2.2.2.1]; simp only [laneAt, block]; omega)

/-- in the second,  -/
theorem emb_13 (t : Fin grid0.N) (b : Fin 16) (j : Fin 256) : (win0_13.blk t).view.emb (ix2 b j) = ix2 b (laneAt (block t) j) :=
  funext fun a => Fin.ext (match a with
  | 0 => by blk_simp [(index_two t).2.2.2.2]; try simp
  | 1 => by blk_simp [(index_two t).2.2.2.2]; simp only [laneAt, block]; omega)

/-- and in the third.  -/
theorem emb_14 (t : Fin grid0.N) (k : Fin 3) (b : Fin 16) (j : Fin 256) : (win0_14.blk t).view.emb (ix3 k b j) = ix3 k b (laneAt (block t) j) :=
  funext fun a => Fin.ext (match a with
  | 0 => by blk_simp [(index_last t).2.2.2.2.2]; try simp
  | 1 => by blk_simp [(index_last t).2.2.2.2.2]; try simp
  | 2 => by blk_simp [(index_last t).2.2.2.2.2]; simp only [laneAt, block]; omega)

/-! ## A point's values -/

/-- The convolution of the point's lanes; -/
theorem conv_point (t : Fin cfg0.N) (s b : Fin 16) (j : Fin 256) :
    conv (iblk m c 0 t) (iblk m c 3 t) (iblk m c 4 t) (iblk m c 11 t) (ix3 s b j)
      = convolved (u m c) (taps m c) (bias m c) (c0 m c) s b (laneAt (block t) j) := by
  unfold conv
  rw [pay2_eq, conv_read (iblk m c 0 t) (iblk m c 11 t) _ _ (fun p => input (u m c) (c0 m c) b p (laneAt (block t) j)) s b j]
  · simp only [(blk_two m c t j).1, (blk_rows m c t j).1]
    rfl
  · intro p _
    simp only [blk_before, (blk_steps m c t _ b j).1]
    rfl

/-- a gate; -/
theorem gate_point (t : Fin cfg0.N) (v : FVec Ideal S16x16x256 .f32) (w : Vec Ideal S1x256x256 .bf16) (bs : Vec Ideal S1x1x256 .f32)
    (W : Blocks) (B : Biases) (hw : ∀ k j, w (ix3 0 k j) = W (ix3 (block t) k j)) (hb : ∀ j, bs (ix3 0 0 j) = B (ix2 (block t) j))
    (hv : ∀ s b j, v (ix3 s b j) = convolved (u m c) (taps m c) (bias m c) (c0 m c) s b (laneAt (block t) j)) (s b : Fin 16) (j : Fin 256) :
    k0_pay10 v w bs (ix2 (row s b) j) = gate (u m c) (taps m c) (bias m c) (c0 m c) W B s b (laneAt (block t) j) := by
  rw [gate_read, gate, blockOf_laneAt, laneOf_laneAt]
  simp only [laid, hv, hw, hb]

/-- the logarithm of the decay; -/
theorem log_point (t : Fin cfg0.N) (s b : Fin 16) (j : Fin 256) :
    k0_pay13 (k0_pay10 (conv (iblk m c 0 t) (iblk m c 3 t) (iblk m c 4 t) (iblk m c 11 t)) (iblk m c 5 t) (iblk m c 6 t)) (k0_pay12 (iblk m c 9 t)) (ix2 (row s b) j)
      = logDecay (u m c) (taps m c) (bias m c) (wa m c) (ba m c) (lam m c) (c0 m c) s b (laneAt (block t) j) := by
  rw [log_read, softplus_read, (blk_rows m c t j).2, gate_point m c t _ _ _ (wa m c) (ba m c) (fun k j => (blk_weights m c t k j).1)
    (fun j => (blk_biases m c t j).1) (conv_point m c t)]
  rfl

/-- the decay; -/
theorem decay_point (t : Fin cfg0.N) (s b : Fin 16) (j : Fin 256) :
    decays (iblk m c 0 t) (iblk m c 3 t) (iblk m c 4 t) (iblk m c 5 t) (iblk m c 6 t) (iblk m c 9 t) (iblk m c 11 t) (ix3 s b j)
      = Ideal.exp (logDecay (u m c) (taps m c) (bias m c) (wa m c) (ba m c) (lam m c) (c0 m c) s b (laneAt (block t) j)) :=
  (decay_read _ _ s b j).trans (congrArg _ (log_point m c t s b j))

/-- the gated input; -/
theorem input_point (t : Fin cfg0.N) (s b : Fin 16) (j : Fin 256) :
    inputs (iblk m c 0 t) (iblk m c 3 t) (iblk m c 4 t) (iblk m c 5 t) (iblk m c 6 t) (iblk m c 7 t) (iblk m c 8 t) (iblk m c 9 t) (iblk m c 11 t) (ix3 s b j)
      = left (logDecay (u m c) (taps m c) (bias m c) (wa m c) (ba m c) (lam m c) (c0 m c) s b (laneAt (block t) j))
        * (gate (u m c) (taps m c) (bias m c) (c0 m c) (wx m c) (bx m c) s b (laneAt (block t) j)
          * convolved (u m c) (taps m c) (bias m c) (c0 m c) s b (laneAt (block t) j)) := by
  unfold inputs
  rw [inputs_read _ _ _ _ s b j ((log_point m c t s b j).trans_le (log_nonpos _ _)), log_point, gate_same,
    gate_point m c t _ _ _ (wx m c) (bx m c) (fun k j => (blk_weights m c t k j).2) (fun j => (blk_biases m c t j).2) (conv_point m c t),
    laid, conv_point]

/-- The hidden states of the layer's recurrence on the point's lanes, and its rows. -/
abbrev stateAt (b : Fin 16) (d : Fin 2048) (k : ℕ) : EReal :=
  state (u m c) (taps m c) (bias m c) (wa m c) (ba m c) (wx m c) (bx m c) (lam m c) (h0 m c) (c0 m c) b d k

/-- One step goes from one of them to the next, -/
theorem step_point (t : Fin cfg0.N) (h : Vec Ideal S16x256 .f32) (k : ℕ) (b : Fin 16) (j : Fin 256)
    (hh : h (ix2 b j) = stateAt m c b (laneAt (block t) j) k) :
    k0_pay17 h (slab (decays (iblk m c 0 t) (iblk m c 3 t) (iblk m c 4 t) (iblk m c 5 t) (iblk m c 6 t) (iblk m c 9 t) (iblk m c 11 t)) k)
      (slab (inputs (iblk m c 0 t) (iblk m c 3 t) (iblk m c 4 t) (iblk m c 5 t) (iblk m c 6 t) (iblk m c 7 t) (iblk m c 8 t) (iblk m c 9 t) (iblk m c 11 t)) k) (ix2 b j)
      = stateAt m c b (laneAt (block t) j) (k + 1) := by
  rw [step_read, hh]
  exact congrArg₂ (· * _ + ·) (decay_point m c t (at16 k) b j) (input_point m c t (at16 k) b j)

/-- so that any number of steps gives them all. -/
theorem hidden_point (t : Fin cfg0.N) (k : ℕ) (b : Fin 16) (j : Fin 256) :
    hidden (iblk m c 10 t) (decays (iblk m c 0 t) (iblk m c 3 t) (iblk m c 4 t) (iblk m c 5 t) (iblk m c 6 t) (iblk m c 9 t) (iblk m c 11 t))
      (inputs (iblk m c 0 t) (iblk m c 3 t) (iblk m c 4 t) (iblk m c 5 t) (iblk m c 6 t) (iblk m c 7 t) (iblk m c 8 t) (iblk m c 9 t) (iblk m c 11 t)) k (ix2 b j)
      = stateAt m c b (laneAt (block t) j) k := by
  induction k with
  | zero => exact (congrFun (pay3_eq _) _).trans ((blk_two m c t j).2 b)
  | succ k ih => exact step_point m c t _ k b j ih

/-- A row of the mixed rows: a hidden state times the two gates. -/
theorem rows_read (x1 x2 : Vec Ideal S16x16x256 .bf16) (x10 : Vec Ideal S16x256 .f32) (a b : Vec Ideal S16x16x256 .f32) (s r : Fin 16) (j : Fin 256) :
    rows x1 x2 x10 a b (ix3 s r j)
      = k0_pay17 (hidden x10 a b s.val) (slab a s.val) (slab b s.val) (ix2 r j) * (x1 (ix3 s r j) * x2 (ix3 s r j)) := by
  have hs : at16 s.val = s := at16_of_lt s.isLt
  have e1 : slab x1 s.val (ix3 0 r j) = x1 (ix3 s r j) := congrArg (fun p => x1 (ix3 p r j)) hs
  have e2 : slab x2 s.val (ix3 0 r j) = x2 (ix3 s r j) := congrArg (fun p => x2 (ix3 p r j)) hs
  rw [← e1, ← e2]
  exact mixed_read _ _ _ _ _ r j

/-- What a point leaves of the mixed rows; -/
theorem y_point (t : Fin cfg0.N) (b s : Fin 16) (j : Fin 256) : yAt m c t (ix3 b s j)
    = wantY (u m c) (gl m c) (sl m c) (taps m c) (bias m c) (wa m c) (ba m c) (wx m c) (bx m c) (lam m c) (h0 m c) (c0 m c) (ix3 b s (laneAt (block t) j)) := by
  unfold yAt outY
  rw [turned_read, rows_read, step_point m c t _ s.val b j (hidden_point m c t s.val b j), (blk_steps m c t s b j).2.1, (blk_steps m c t s b j).2.2]
  exact (wantY_at _ _ _ _ _ _ _ _ _ _ _ _ b s _).symm

/-- of the last hidden states; -/
theorem h_point (t : Fin cfg0.N) (b : Fin 16) (j : Fin 256) : hAt m c t (ix2 b j)
    = wantH (u m c) (taps m c) (bias m c) (wa m c) (ba m c) (wx m c) (bx m c) (lam m c) (h0 m c) (c0 m c) (ix2 b (laneAt (block t) j)) := by
  unfold hAt outH
  rw [hidden_point, wantH_at]

/-- of the last three inputs. -/
theorem c_point (t : Fin cfg0.N) (k : Fin 3) (b : Fin 16) (j : Fin 256) : cAt m c t (ix3 k b j) = wantC (u m c) (ix3 b k (laneAt (block t) j)) :=
  (last_read _ k b j).trans (blk_steps m c t (at16 (13 + k.val)) b j).1

/-! ## The results -/

/-- The first result's array: the mixed rows, sample by sample; -/
theorem result_12 : (dats m 0 c).arrAt 12 cfg0.N
    = wantY (u m c) (gl m c) (sl m c) (taps m c) (bias m c) (wa m c) (ba m c) (wx m c) (bx m c) (lam m c) (h0 m c) (c0 m c) := by
  refine (dats m 0 c).arrAt_eq_of_covers 12 _ covers_12 fun t hf y => ?_
  blk_simp
  obtain ⟨b, s, j, hy⟩ : ∃ (b s : Fin 16) (j : Fin 256), y = ix3 b s j :=
    ⟨y 0, y 1, y 2, funext fun a => match a with | 0 => rfl | 1 => rfl | 2 => rfl⟩
  rw [hy]
  exact (y_point m c t b s j).trans (congrArg _ (emb_12 t b s j).symm)

/-- the second's: the last hidden states; -/
theorem result_13 : (dats m 0 c).arrAt 13 cfg0.N
    = wantH (u m c) (taps m c) (bias m c) (wa m c) (ba m c) (wx m c) (bx m c) (lam m c) (h0 m c) (c0 m c) := by
  refine (dats m 0 c).arrAt_eq_of_covers 13 _ covers_13 fun t hf y => ?_
  blk_simp
  obtain ⟨b, j, hy⟩ : ∃ (b : Fin 16) (j : Fin 256), y = ix2 b j := ⟨y 0, y 1, funext fun a => match a with | 0 => rfl | 1 => rfl⟩
  rw [hy]
  exact (h_point m c t b j).trans (congrArg _ (emb_13 t b j).symm)

/-- the third's: the last three inputs, place by place, -/
theorem result_14 : (dats m 0 c).arrAt 14 cfg0.N = fun y : S3x16x2048.Idx => wantC (u m c) (ix3 (y 1) (y 0) (y 2)) := by
  refine (dats m 0 c).arrAt_eq_of_covers 14 _ covers_14 fun t hf y => ?_
  blk_simp
  obtain ⟨k, b, j, hy⟩ : ∃ (k : Fin 3) (b : Fin 16) (j : Fin 256), y = ix3 k b j :=
    ⟨y 0, y 1, y 2, funext fun a => match a with | 0 => rfl | 1 => rfl | 2 => rfl⟩
  rw [hy]
  exact (c_point m c t k b j).trans (congrArg (fun y : S3x16x2048.Idx => wantC (u m c) (ix3 (y 1) (y 0) (y 2))) (emb_14 t k b j).symm)

/-- and sample by sample, as they are returned. -/
theorem tails_eq : tails m c = wantC (u m c) := by
  unfold tails
  rw [result_14]
  funext y
  refine transpose_apply [1, 0, 2] _ transposes_S3x16x2048_S16x3x2048_1_0_2 y (ix3 (y 1) (y 0) (y 2)) ?_
  intro a
  fin_cases a <;> rfl

end Cert.KernelRecSampleIdeal.Rec

end
-- ==== Proof.Rec.Reference.lean ====
/- The reference's convolution and recurrence of a sample, element by element in exact numbers. -/
module

public import proofs.«01_k».proof.Proof.Gen.ReferenceRecSampleIdeal.Run
public import proofs.«01_k».proof.Proof.Gen.ReferenceRecSampleIdeal.Read
public import proofs.«01_k».proof.Proof.Rec.Want
public import Idealize.ShloMosaic.Lib.Pipeline.ValueKit

@[expose] public section

set_option maxRecDepth 16384

noncomputable section

namespace Cert.ReferenceRecSampleIdeal.Rec

open Cert.ReferenceRecSampleIdeal Cert.ReferenceRecSampleIdeal.Gen Cert.ReferenceRecSampleIdeal.Read Cert.Share Cert.Rec
open Cert.KernelRecSampleIdeal.Rec (at16 at16_of_lt)
open Idealize.ShloMosaic Idealize.ShloMosaic.TcCoe

variable (x0 x1 x2 : Steps) (x3 : Taps) (x4 : Lane) (x5 : Blocks) (x6 : Biases) (x7 : Blocks) (x8 : Biases) (x9 : Lane) (x10 : States) (x11 : Before)

/-- The inputs of a sample, the three before the first step in front. -/
theorem joined_read (b : Fin 16) (p : Fin 19) (d : Fin 2048) : val_main_v1 (F := Ideal) x0 x11 (ix3 b p d) = input x0 x11 b p.val d := by
  unfold val_main_v1 input
  split
  · next h =>
    refine concatenate_pair_apply_left (t := S16x19x2048) 1 x11 _ _ _ rfl (ix3 b ⟨p.val, h⟩ d) ?_
    intro a; fin_cases a <;> rfl
  · next h =>
    have hp := p.isLt
    refine (concatenate_pair_apply_right (t := S16x19x2048) 1 x11 (val_main_v0 (F := Ideal) x0) _ _ rfl rfl (ix3 b (at16 (p.val - 3)) d) ?_ ?_).trans ?_
    · intro a ha; fin_cases a
      · rfl
      · exact absurd rfl ha
      · rfl
    · rw [at16_of_lt (by omega)]
      show p.val - 3 + 3 = p.val
      omega
    · rw [val_main_v0_apply]
      exact congrArg x0 (funext fun a => match a with | 0 => rfl | 1 => rfl | 2 => rfl)

/-- The convolution. -/
theorem conv_read (b t : Fin 16) (d : Fin 2048) : val_main_v31 (F := Ideal) x0 x3 x4 x11 (ix3 b t d) = convolved x0 x3 x4 x11 t b d := by
  have ht := t.isLt
  have tap : ∀ k : Fin 4, ∀ i : S4x2048.Idx, (i 0).val = k.val → (i 1).val = d.val % 2048 → i = ix2 k d := fun k i h0 h1 =>
    funext fun a => Fin.ext (match a with | 0 => h0 | 1 => h1.trans (Nat.mod_eq_of_lt d.isLt))
  have place : ∀ k : ℕ, ∀ h : k + t.val < 19, ∀ i : S16x19x2048.Idx, (i 0).val = b.val → (i 1).val = k + t.val → (i 2).val = d.val →
      val_main_v1 (F := Ideal) x0 x11 i = input x0 x11 b (t.val + k) d := fun k h i h0 h1 h2 => by
    rw [Nat.add_comm t.val k, ← joined_read x0 x11 b ⟨k + t.val, h⟩ d]
    exact congrArg _ (funext fun a => Fin.ext (match a with | 0 => h0 | 1 => h1 | 2 => h2))
  simp only [val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply]
  have hb : idx_main_v8 (idx_main_v9 (ix3 b t d)) = ix1 d := funext fun a => match a with | 0 => rfl
  rw [tap 0 (idx_main_v3 _) rfl rfl, tap 1 (idx_main_v12 _) rfl rfl, tap 2 (idx_main_v19 _) rfl rfl, tap 3 (idx_main_v26 _) rfl rfl, hb,
    place 0 (by omega) (idx_main_v2 _) rfl (Nat.zero_add _).symm rfl, place 1 (by omega) (idx_main_v11 _) rfl rfl rfl,
    place 2 (by omega) (idx_main_v18 _) rfl rfl rfl, place 3 (by omega) (idx_main_v25 _) rfl rfl rfl]
  rfl

/-- A gate; -/
theorem gate_read (b t : Fin 16) (d : Fin 2048) : val_main_v44 (F := Ideal) x0 x3 x4 x5 x6 x11 (ix3 b t d) = gate x0 x3 x4 x11 x5 x6 t b d := by
  have hb := b.isLt
  have ht := t.isLt
  have hd := d.isLt
  simp only [val_main_v44_apply, val_main_v43_apply, val_main_v42_apply, val_main_v41_apply, val_main_v40_apply, val_main_v39_apply,
    val_main_v38_apply, val_main_v37_apply, val_main_v36_apply, val_main_v35_apply, val_main_v34_apply, val_main_v33_apply, val_main_v32_apply,
    val_main_cst_apply, val_main_cst_0_apply]
  have e1 : ∀ k, lidx_main_v33 (idx_main_v34 (idx_main_v44 (ix3 b t d))) k = ix3 (blockOf d) k (laneOf d) := fun k =>
    funext fun a => Fin.ext (match a with
      | 0 => show ((b.val * 16 + t.val) * 2048 + d.val) / 256 % 8 = d.val / 256 by omega
      | 1 => rfl
      | 2 => show ((b.val * 16 + t.val) * 2048 + d.val) % 256 = d.val % 256 by omega)
  have e2 : idx_main_v35 (idx_main_v36 (idx_main_v44 (ix3 b t d))) = ix2 (blockOf d) (laneOf d) :=
    funext fun a => Fin.ext (match a with
      | 0 => show ((b.val * 16 + t.val) * 2048 + d.val) / 256 % 8 = d.val / 256 by omega
      | 1 => show ((b.val * 16 + t.val) * 2048 + d.val) % 256 = d.val % 256 by omega)
  have q : ((b.val * 16 + t.val) * 2048 + d.val) / 32768 = b.val ∧ ((b.val * 16 + t.val) * 2048 + d.val) / 2048 % 16 = t.val
      ∧ ((b.val * 16 + t.val) * 2048 + d.val) / 256 % 8 = d.val / 256 := by omega
  have e3 : ∀ k, idx_main_v32 (ridx_main_v33 (idx_main_v34 (idx_main_v44 (ix3 b t d))) k) = ix3 b t (laneAt (blockOf d) k) := fun k => by
    have hk := k.isLt
    refine funext fun a => Fin.ext ?_
    match a with
    | 0 =>
      show (((((b.val * 16 + t.val) * 2048 + d.val) / 32768 * 16 + ((b.val * 16 + t.val) * 2048 + d.val) / 2048 % 16) * 8
        + ((b.val * 16 + t.val) * 2048 + d.val) / 256 % 8) * 256 + k.val) / 32768 = b.val
      rw [q.1, q.2.1, q.2.2]; omega
    | 1 =>
      show (((((b.val * 16 + t.val) * 2048 + d.val) / 32768 * 16 + ((b.val * 16 + t.val) * 2048 + d.val) / 2048 % 16) * 8
        + ((b.val * 16 + t.val) * 2048 + d.val) / 256 % 8) * 256 + k.val) / 2048 % 16 = t.val
      rw [q.1, q.2.1, q.2.2]; omega
    | 2 =>
      show (((((b.val * 16 + t.val) * 2048 + d.val) / 32768 * 16 + ((b.val * 16 + t.val) * 2048 + d.val) / 2048 % 16) * 8
        + ((b.val * 16 + t.val) * 2048 + d.val) / 256 % 8) * 256 + k.val) % 2048 = 256 * (d.val / 256) + k.val
      rw [q.1, q.2.1, q.2.2]; omega
  simp only [e1, e2, e3, conv_read]
  refine (logistic_spelled _).trans (congrArg (fun s => Ideal.logistic (s + _)) (Finset.sum_congr rfl fun k _ => mul_comm _ _))

/-- the other is of the same text. -/
theorem gate_same : val_main_v56 (F := Ideal) x0 x3 x4 x7 x8 x11 = val_main_v44 (F := Ideal) x0 x3 x4 x7 x8 x11 := rfl

/-- The softplus of what decays are learned by. -/
theorem softplus_read (d : Fin 2048) : val_main_v60 (F := Ideal) x9 (ix1 d) = softplus (-(x9 (ix1 d))) := by
  simp only [val_main_v60_apply, val_main_call0_v11_apply, val_main_call0_v10_apply, val_main_call0_v9_apply, val_main_call0_v8_apply,
    val_main_call0_v7_apply, val_main_call0_v6_apply, val_main_call0_v5_apply, val_main_call0_v4_apply, val_main_call0_v3_apply,
    val_main_call0_v2_apply, val_main_call0_v1_apply, val_main_call0_v0_apply, val_main_v59_apply, val_main_call0_cst_apply]
  have same : ∀ z : EReal, Ideal.cmp .une z z = 0#1 := fun z => by simp [Ideal.cmp]
  show Scalar.select (Ideal.cmp .une (-(x9 (ix1 d)) - Ideal.ofBits .f32 0x00000000#32) (-(x9 (ix1 d)) - Ideal.ofBits .f32 0x00000000#32)) _
    (max (-(x9 (ix1 d))) (Ideal.ofBits .f32 0x00000000#32) + Ideal.log1p (Ideal.exp (-(max (-(x9 (ix1 d)) - Ideal.ofBits .f32 0x00000000#32)
      (-(-(x9 (ix1 d)) - Ideal.ofBits .f32 0x00000000#32)))))) = _
  rw [same, nothing, sub_zero]
  rfl

/-- The logarithm of a decay; -/
theorem log_read (b t : Fin 16) (d : Fin 2048) :
    val_main_v63 (F := Ideal) x0 x3 x4 x5 x6 x9 x11 (ix3 b t d) = logDecay x0 x3 x4 x5 x6 x9 x11 t b d := by
  have e : idx_main_v61 (idx_main_v62 (ix3 b t d)) = ix1 d := funext fun a => match a with | 0 => rfl
  simp only [val_main_v63_apply, val_main_v62_apply, val_main_v61_apply, val_main_v58_apply, val_main_v57_apply, val_main_cst_3_apply, e,
    softplus_read, gate_read]
  show Ideal.ofBits .f32 0xC1000000#32 * gate x0 x3 x4 x11 x5 x6 t b d * softplus (-(x9 (ix1 d))) = _
  rw [mul_comm (Ideal.ofBits .f32 0xC1000000#32), mul_assoc]
  rfl

/-- the decay; -/
theorem decay_read (b t : Fin 16) (d : Fin 2048) :
    val_main_v64 (F := Ideal) x0 x3 x4 x5 x6 x9 x11 (ix3 b t d) = Ideal.exp (logDecay x0 x3 x4 x5 x6 x9 x11 t b d) := by
  rw [val_main_v64_apply, log_read]
  rfl

/-- the gated input. -/
theorem input_read (b t : Fin 16) (d : Fin 2048) : val_main_v71 (F := Ideal) x0 x3 x4 x5 x6 x7 x8 x9 x11 (ix3 b t d)
    = left (logDecay x0 x3 x4 x5 x6 x9 x11 t b d) * (gate x0 x3 x4 x11 x7 x8 t b d * convolved x0 x3 x4 x11 t b d) := by
  simp only [val_main_v71_apply, val_main_v70_apply, val_main_v69_apply, val_main_v68_apply, val_main_v67_apply, val_main_v66_apply,
    val_main_v65_apply, val_main_cst_4_apply, gate_same, gate_read, conv_read, log_read]
  rw [left, ← Cert.Rec.two]
  rfl

/-! ## The 16 steps -/

/-- An array holds the hidden states after `k` steps. -/
def Holds (k : ℕ) (h : States) : Prop := ∀ b d, h (ix2 b d) = state x0 x3 x4 x5 x6 x7 x8 x9 x10 x11 b d k

/-- The step that the reference takes with its step's decays and inputs. -/
abbrev next (k : ℕ) (hs : S16x16x2048.Slices ![0, k, 0] S16x1x2048) (a v : Steps) (h : States) : FVec Ideal S16x2048 .f32 :=
  addf (F := Ideal) (φ := .f32) (mulf (F := Ideal) (φ := .f32) (shapeCast S16x2048 (extractStridedSlice S16x1x2048 ![0, k, 0] a hs) shapeCasts_S16x1x2048_S16x2048) h)
    (shapeCast S16x2048 (extractStridedSlice S16x1x2048 ![0, k, 0] v hs) shapeCasts_S16x1x2048_S16x2048)

/-- One step's part of an array of all steps. -/
theorem part_read (k : ℕ) (hk : k < 16) (hs : S16x16x2048.Slices ![0, k, 0] S16x1x2048) (a : Steps) (b : Fin 16) (d : Fin 2048) :
    shapeCast S16x2048 (extractStridedSlice S16x1x2048 ![0, k, 0] a hs) shapeCasts_S16x1x2048_S16x2048 (ix2 b d) = a (ix3 b (at16 k) d) := by
  refine (shapeCast_apply _ _ _ (ix3 b 0 d) ?_).trans (extractStridedSlice_apply _ a hs (ix3 b 0 d) (ix3 b (at16 k) d) fun x => ?_)
  · rw [Shape.rowMajor_val_three, Shape.rowMajor_val_two]
    show (b.val * 1 + 0) * 2048 + d.val = b.val * 2048 + d.val
    omega
  · rw [at16_of_lt hk]
    fin_cases x
    · show b.val = 0 + b.val; omega
    · show k = k + 0; omega
    · show d.val = 0 + d.val; omega

/-- It goes from the hidden states after `k` steps to those after one more. -/
theorem next_holds {k : ℕ} (hk : k < 16) (hs : S16x16x2048.Slices ![0, k, 0] S16x1x2048) {h : States} (hh : Holds x0 x3 x4 x5 x6 x7 x8 x9 x10 x11 k h) :
    Holds x0 x3 x4 x5 x6 x7 x8 x9 x10 x11 (k + 1)
      (next k hs (val_main_v64 (F := Ideal) x0 x3 x4 x5 x6 x9 x11) (val_main_v71 (F := Ideal) x0 x3 x4 x5 x6 x7 x8 x9 x11) h) := fun b d => by
  show shapeCast S16x2048 _ _ (ix2 b d) * h (ix2 b d) + shapeCast S16x2048 _ _ (ix2 b d) = _
  rw [part_read k hk hs, part_read k hk hs, decay_read, input_read, hh b d]
  rfl

/-- So the reference's arrays hold them, from the first step to the last. -/
theorem all_hold : Holds x0 x3 x4 x5 x6 x7 x8 x9 x10 x11 1 (val_main_v77 (F := Ideal) x0 x3 x4 x5 x6 x7 x8 x9 x10 x11)
    ∧ Holds x0 x3 x4 x5 x6 x7 x8 x9 x10 x11 2 (val_main_v83 (F := Ideal) x0 x3 x4 x5 x6 x7 x8 x9 x10 x11)
    ∧ Holds x0 x3 x4 x5 x6 x7 x8 x9 x10 x11 3 (val_main_v89 (F := Ideal) x0 x3 x4 x5 x6 x7 x8 x9 x10 x11)
    ∧ Holds x0 x3 x4 x5 x6 x7 x8 x9 x10 x11 4 (val_main_v95 (F := Ideal) x0 x3 x4 x5 x6 x7 x8 x9 x10 x11)
    ∧ Holds x0 x3 x4 x5 x6 x7 x8 x9 x10 x11 5 (val_main_v101 (F := Ideal) x0 x3 x4 x5 x6 x7 x8 x9 x10 x11)
    ∧ Holds x0 x3 x4 x5 x6 x7 x8 x9 x10 x11 6 (val_main_v107 (F := Ideal) x0 x3 x4 x5 x6 x7 x8 x9 x10 x11)
    ∧ Holds x0 x3 x4 x5 x6 x7 x8 x9 x10 x11 7 (val_main_v113 (F := Ideal) x0 x3 x4 x5 x6 x7 x8 x9 x10 x11)
    ∧ Holds x0 x3 x4 x5 x6 x7 x8 x9 x10 x11 8 (val_main_v119 (F := Ideal) x0 x3 x4 x5 x6 x7 x8 x9 x10 x11)
    ∧ Holds x0 x3 x4 x5 x6 x7 x8 x9 x10 x11 9 (val_main_v125 (F := Ideal) x0 x3 x4 x5 x6 x7 x8 x9 x10 x11)
    ∧ Holds x0 x3 x4 x5 x6 x7 x8 x9 x10 x11 10 (val_main_v131 (F := Ideal) x0 x3 x4 x5 x6 x7 x8 x9 x10 x11)
    ∧ Holds x0 x3 x4 x5 x6 x7 x8 x9 x10 x11 11 (val_main_v137 (F := Ideal) x0 x3 x4 x5 x6 x7 x8 x9 x10 x11)
    ∧ Holds x0 x3 x4 x5 x6 x7 x8 x9 x10 x11 12 (val_main_v143 (F := Ideal) x0 x3 x4 x5 x6 x7 x8 x9 x10 x11)
    ∧ Holds x0 x3 x4 x5 x6 x7 x8 x9 x10 x11 13 (val_main_v149 (F := Ideal) x0 x3 x4 x5 x6 x7 x8 x9 x10 x11)
    ∧ Holds x0 x3 x4 x5 x6 x7 x8 x9 x10 x11 14 (val_main_v155 (F := Ideal) x0 x3 x4 x5 x6 x7 x8 x9 x10 x11)
    ∧ Holds x0 x3 x4 x5 x6 x7 x8 x9 x10 x11 15 (val_main_v161 (F := Ideal) x0 x3 x4 x5 x6 x7 x8 x9 x10 x11)
    ∧ Holds x0 x3 x4 x5 x6 x7 x8 x9 x10 x11 16 (val_main_v167 (F := Ideal) x0 x3 x4 x5 x6 x7 x8 x9 x10 x11) := by
  have h0 : Holds x0 x3 x4 x5 x6 x7 x8 x9 x10 x11 0 x10 := fun _ _ => rfl
  have go : ∀ (k : ℕ) (hk : k < 16) (hs : S16x16x2048.Slices ![0, k, 0] S16x1x2048) (h : States), Holds x0 x3 x4 x5 x6 x7 x8 x9 x10 x11 k h → Holds x0 x3 x4 x5 x6 x7 x8 x9 x10 x11 (k + 1)
      (next k hs (val_main_v64 (F := Ideal) x0 x3 x4 x5 x6 x9 x11) (val_main_v71 (F := Ideal) x0 x3 x4 x5 x6 x7 x8 x9 x11) h) :=
    fun k hk hs h hh => next_holds x0 x3 x4 x5 x6 x7 x8 x9 x10 x11 hk hs hh
  have h1 : Holds x0 x3 x4 x5 x6 x7 x8 x9 x10 x11 1 (val_main_v77 (F := Ideal) x0 x3 x4 x5 x6 x7 x8 x9 x10 x11) := go 0 (by decide) slices_S16x16x2048_S16x1x2048_0_0_0 _ h0
  have h2 : Holds x0 x3 x4 x5 x6 x7 x8 x9 x10 x11 2 (val_main_v83 (F := Ideal) x0 x3 x4 x5 x6 x7 x8 x9 x10 x11) := go 1 (by decide) slices_S16x16x2048_S16x1x2048_0_1_0 _ h1
  have h3 : Holds x0 x3 x4 x5 x6 x7 x8 x9 x10 x11 3 (val_main_v89 (F := Ideal) x0 x3 x4 x5 x6 x7 x8 x9 x10 x11) := go 2 (by decide) slices_S16x16x2048_S16x1x2048_0_2_0 _ h2
  have h4 : Holds x0 x3 x4 x5 x6 x7 x8 x9 x10 x11 4 (val_main_v95 (F := Ideal) x0 x3 x4 x5 x6 x7 x8 x9 x10 x11) := go 3 (by decide) slices_S16x16x2048_S16x1x2048_0_3_0 _ h3
  have h5 : Holds x0 x3 x4 x5 x6 x7 x8 x9 x10 x11 5 (val_main_v101 (F := Ideal) x0 x3 x4 x5 x6 x7 x8 x9 x10 x11) := go 4 (by decide) slices_S16x16x2048_S16x1x2048_0_4_0 _ h4
  have h6 : Holds x0 x3 x4 x5 x6 x7 x8 x9 x10 x11 6 (val_main_v107 (F := Ideal) x0 x3 x4 x5 x6 x7 x8 x9 x10 x11) := go 5 (by decide) slices_S16x16x2048_S16x1x2048_0_5_0 _ h5
  have h7 : Holds x0 x3 x4 x5 x6 x7 x8 x9 x10 x11 7 (val_main_v113 (F := Ideal) x0 x3 x4 x5 x6 x7 x8 x9 x10 x11) := go 6 (by decide) slices_S16x16x2048_S16x1x2048_0_6_0 _ h6
  have h8 : Holds x0 x3 x4 x5 x6 x7 x8 x9 x10 x11 8 (val_main_v119 (F := Ideal) x0 x3 x4 x5 x6 x7 x8 x9 x10 x11) := go 7 (by decide) slices_S16x16x2048_S16x1x2048_0_7_0 _ h7
  have h9 : Holds x0 x3 x4 x5 x6 x7 x8 x9 x10 x11 9 (val_main_v125 (F := Ideal) x0 x3 x4 x5 x6 x7 x8 x9 x10 x11) := go 8 (by decide) slices_S16x16x2048_S16x1x2048_0_8_0 _ h8
  have h10 : Holds x0 x3 x4 x5 x6 x7 x8 x9 x10 x11 10 (val_main_v131 (F := Ideal) x0 x3 x4 x5 x6 x7 x8 x9 x10 x11) := go 9 (by decide) slices_S16x16x2048_S16x1x2048_0_9_0 _ h9
  have h11 : Holds x0 x3 x4 x5 x6 x7 x8 x9 x10 x11 11 (val_main_v137 (F := Ideal) x0 x3 x4 x5 x6 x7 x8 x9 x10 x11) := go 10 (by decide) slices_S16x16x2048_S16x1x2048_0_10_0 _ h10
  have h12 : Holds x0 x3 x4 x5 x6 x7 x8 x9 x10 x11 12 (val_main_v143 (F := Ideal) x0 x3 x4 x5 x6 x7 x8 x9 x10 x11) := go 11 (by decide) slices_S16x16x2048_S16x1x2048_0_11_0 _ h11
  have h13 : Holds x0 x3 x4 x5 x6 x7 x8 x9 x10 x11 13 (val_main_v149 (F := Ideal) x0 x3 x4 x5 x6 x7 x8 x9 x10 x11) := go 12 (by decide) slices_S16x16x2048_S16x1x2048_0_12_0 _ h12
  have h14 : Holds x0 x3 x4 x5 x6 x7 x8 x9 x10 x11 14 (val_main_v155 (F := Ideal) x0 x3 x4 x5 x6 x7 x8 x9 x10 x11) := go 13 (by decide) slices_S16x16x2048_S16x1x2048_0_13_0 _ h13
  have h15 : Holds x0 x3 x4 x5 x6 x7 x8 x9 x10 x11 15 (val_main_v161 (F := Ideal) x0 x3 x4 x5 x6 x7 x8 x9 x10 x11) := go 14 (by decide) slices_S16x16x2048_S16x1x2048_0_14_0 _ h14
  have h16 : Holds x0 x3 x4 x5 x6 x7 x8 x9 x10 x11 16 (val_main_v167 (F := Ideal) x0 x3 x4 x5 x6 x7 x8 x9 x10 x11) := go 15 (by decide) slices_S16x16x2048_S16x1x2048_0_15_0 _ h15
  exact ⟨h1, h2, h3, h4, h5, h6, h7, h8, h9, h10, h11, h12, h13, h14, h15, h16⟩

/-- A state laid as one step's piece of the rows, read where it lies. -/
theorem piece {k : ℕ} {h : States} (hh : Holds x0 x3 x4 x5 x6 x7 x8 x9 x10 x11 (k + 1) h) (b t : Fin 16) (d : Fin 2048) :
    PieceAt (t := S16x16x2048) 1 (ix3 b t d) (state x0 x3 x4 x5 x6 x7 x8 x9 x10 x11 b d (t.val + 1)) S16x1x2048
      (broadcastInDim S16x1x2048 ![0, 2] bcast_S16x2048_S16x1x2048_0_2 h) k := by
  intro ht hr i _ hi
  have e : t.val = k := ht
  refine (broadcastInDim_apply _ bcast_S16x2048_S16x1x2048_0_2 h i (ix2 b d) fun a => ?_).trans ((hh b d).trans (by rw [e]))
  fin_cases a
  · exact (hi 0 (by decide)).symm
  · exact (hi 2 (by decide)).symm

/-- The rows of all steps: the hidden states. -/
theorem rows_read (b t : Fin 16) (d : Fin 2048) : val_main_v184 (F := Ideal) x0 x3 x4 x5 x6 x7 x8 x9 x10 x11 (ix3 b t d) = state x0 x3 x4 x5 x6 x7 x8 x9 x10 x11 b d (t.val + 1) := by
  obtain ⟨h0, h1, h2, h3, h4, h5, h6, h7, h8, h9, h10, h11, h12, h13, h14, h15⟩ := all_hold x0 x3 x4 x5 x6 x7 x8 x9 x10 x11
  refine concatenate_unit_eq 1 _ _ _ _ rfl ⟨?_, ?_, ?_, ?_, ?_, ?_, ?_, ?_, ?_, ?_, ?_, ?_, ?_, ?_, ?_, ?_, trivial⟩
  · exact piece x0 x3 x4 x5 x6 x7 x8 x9 x10 x11 h0 b t d
  · exact piece x0 x3 x4 x5 x6 x7 x8 x9 x10 x11 h1 b t d
  · exact piece x0 x3 x4 x5 x6 x7 x8 x9 x10 x11 h2 b t d
  · exact piece x0 x3 x4 x5 x6 x7 x8 x9 x10 x11 h3 b t d
  · exact piece x0 x3 x4 x5 x6 x7 x8 x9 x10 x11 h4 b t d
  · exact piece x0 x3 x4 x5 x6 x7 x8 x9 x10 x11 h5 b t d
  · exact piece x0 x3 x4 x5 x6 x7 x8 x9 x10 x11 h6 b t d
  · exact piece x0 x3 x4 x5 x6 x7 x8 x9 x10 x11 h7 b t d
  · exact piece x0 x3 x4 x5 x6 x7 x8 x9 x10 x11 h8 b t d
  · exact piece x0 x3 x4 x5 x6 x7 x8 x9 x10 x11 h9 b t d
  · exact piece x0 x3 x4 x5 x6 x7 x8 x9 x10 x11 h10 b t d
  · exact piece x0 x3 x4 x5 x6 x7 x8 x9 x10 x11 h11 b t d
  · exact piece x0 x3 x4 x5 x6 x7 x8 x9 x10 x11 h12 b t d
  · exact piece x0 x3 x4 x5 x6 x7 x8 x9 x10 x11 h13 b t d
  · exact piece x0 x3 x4 x5 x6 x7 x8 x9 x10 x11 h14 b t d
  · exact piece x0 x3 x4 x5 x6 x7 x8 x9 x10 x11 h15 b t d

/-! ## The results -/

/-- The reference's first result: the hidden states of all steps times the two gates; -/
theorem first_eq : val_main_v188 (F := Ideal) x0 x1 x2 x3 x4 x5 x6 x7 x8 x9 x10 x11 = wantY x0 x1 x2 x3 x4 x5 x6 x7 x8 x9 x10 x11 := by
  funext y
  obtain ⟨b, t, d, rfl⟩ : ∃ (b t : Fin 16) (d : Fin 2048), y = ix3 b t d :=
    ⟨y 0, y 1, y 2, funext fun a => match a with | 0 => rfl | 1 => rfl | 2 => rfl⟩
  have e : idx_main_v186 (ix3 b t d) = ix3 t b d := funext fun a => match a with | 0 => rfl | 1 => rfl | 2 => rfl
  rw [wantY_at, val_main_v188_apply, val_main_v187_apply, rows_read, val_main_v186_apply, val_main_v185_apply, e]
  rfl

/-- its second: the last hidden states; -/
theorem second_eq : val_main_v167 (F := Ideal) x0 x3 x4 x5 x6 x7 x8 x9 x10 x11 = wantH x0 x3 x4 x5 x6 x7 x8 x9 x10 x11 := by
  funext y
  obtain ⟨b, d, rfl⟩ : ∃ (b : Fin 16) (d : Fin 2048), y = ix2 b d := ⟨y 0, y 1, funext fun a => match a with | 0 => rfl | 1 => rfl⟩
  rw [wantH_at]
  exact (all_hold x0 x3 x4 x5 x6 x7 x8 x9 x10 x11).2.2.2.2.2.2.2.2.2.2.2.2.2.2.2 b d

/-- its third: the last three inputs. -/
theorem third_eq : val_main_v189 (F := Ideal) x0 x11 = wantC x0 := by
  funext y
  obtain ⟨b, j, d, rfl⟩ : ∃ (b : Fin 16) (j : Fin 3) (d : Fin 2048), y = ix3 b j d :=
    ⟨y 0, y 1, y 2, funext fun a => match a with | 0 => rfl | 1 => rfl | 2 => rfl⟩
  have hj := j.isLt
  have e : idx_main_v189 (ix3 b j d) = ix3 b (⟨16 + j.val, by omega⟩ : Fin 19) d := funext fun a => match a with | 0 => rfl | 1 => rfl | 2 => rfl
  rw [val_main_v189_apply, e, joined_read, input, dif_neg (by show ¬ 16 + j.val < 3; omega)]
  show x0 (ix3 (at16 (16 + j.val - 3)) b d) = x0 (ix3 (at16 (13 + j.val)) b d)
  rw [show 16 + j.val - 3 = 13 + j.val by omega]

end Cert.ReferenceRecSampleIdeal.Rec

end
-- ==== Proof.Rec.Same.lean ====
/- The convolution and recurrence of a sample: both programs give the same three results. -/
module

public import proofs.«01_k».proof.Defs
public import proofs.«01_k».proof.Proof.Rec.Value
public import proofs.«01_k».proof.Proof.Rec.Reference

@[expose] public section

noncomputable section

namespace Cert.Proof

open Idealize.ShloMosaic Idealize.ShloMosaic.TcCoe Idealize.SL.Sem Cert.Rec

/-- Over the reals the kernel and the reference give the same hidden states times gates, the same last states, and the same last inputs. -/
theorem algebraic_rec_sample : Cert.algebraic_KernelRecSampleIdeal_ReferenceRecSampleIdeal := fun m g m' g' _ hagree =>
  ⟨fun c => wantY (Cert.KernelRecSampleIdeal.Rec.u m c) (Cert.KernelRecSampleIdeal.Rec.gl m c) (Cert.KernelRecSampleIdeal.Rec.sl m c)
      (Cert.KernelRecSampleIdeal.Rec.taps m c) (Cert.KernelRecSampleIdeal.Rec.bias m c) (Cert.KernelRecSampleIdeal.Rec.wa m c)
      (Cert.KernelRecSampleIdeal.Rec.ba m c) (Cert.KernelRecSampleIdeal.Rec.wx m c) (Cert.KernelRecSampleIdeal.Rec.bx m c)
      (Cert.KernelRecSampleIdeal.Rec.lam m c) (Cert.KernelRecSampleIdeal.Rec.h0 m c) (Cert.KernelRecSampleIdeal.Rec.c0 m c),
    fun c => wantH (Cert.KernelRecSampleIdeal.Rec.u m c)
      (Cert.KernelRecSampleIdeal.Rec.taps m c) (Cert.KernelRecSampleIdeal.Rec.bias m c) (Cert.KernelRecSampleIdeal.Rec.wa m c)
      (Cert.KernelRecSampleIdeal.Rec.ba m c) (Cert.KernelRecSampleIdeal.Rec.wx m c) (Cert.KernelRecSampleIdeal.Rec.bx m c)
      (Cert.KernelRecSampleIdeal.Rec.lam m c) (Cert.KernelRecSampleIdeal.Rec.h0 m c) (Cert.KernelRecSampleIdeal.Rec.c0 m c),
    fun c => wantC (Cert.KernelRecSampleIdeal.Rec.u m c),
    (θ_run _ _ _).mono (fun _ h c => ⟨(h.1 c).1.trans (Cert.KernelRecSampleIdeal.Rec.result_12 m c),
        (h.1 c).2.1.trans (Cert.KernelRecSampleIdeal.Rec.result_13 m c),
        (h.1 c).2.2.trans (Cert.KernelRecSampleIdeal.Rec.tails_eq m c), h.2.1 c⟩)
      (Cert.KernelRecSampleIdeal.Rec.run_result (F := Ideal) m g),
    (θ_run _ _ _).mono (fun _ h c => by
        obtain ⟨a0, a1, a2, a3, a4, a5, a6, a7, a8, a9, a10, a11⟩ := hagree c
        refine ⟨(h c).1.trans ((Cert.ReferenceRecSampleIdeal.Rec.first_eq _ _ _ _ _ _ _ _ _ _ _ _).trans ?_),
          (h c).2.1.trans ((Cert.ReferenceRecSampleIdeal.Rec.second_eq _ _ _ _ _ _ _ _ _ _).trans ?_),
          (h c).2.2.1.trans ((Cert.ReferenceRecSampleIdeal.Rec.third_eq _ _).trans (congrArg wantC a0)), (h c).2.2.2⟩
        · congr 1
        · congr 1)
      (Cert.ReferenceRecSampleIdeal.Value.run (F := Ideal) m' g')⟩

end Cert.Proof

end
-- ==== Proof.Ada.lean ====
/- The conditioning at exact numbers: what the kernel leaves, from finite vectors and weights, is the product of the vectors' silu with the weights, plus the bias. -/
module

public import proofs.«01_k».proof.Defs
public import proofs.«01_k».proof.Proof.Gen.KernelAdaIdeal.Value
public import proofs.«01_k».proof.Proof.Gen.ReferenceAdaIdeal.Run
public import proofs.«01_k».proof.Proof.Gen.ReferenceAdaIdeal.Read
public import proofs.«01_k».proof.Proof.Gen.Pre_finite_conditioning
public import proofs.«01_k».proof.Proof.Attn.Same
public import proofs.«01_k».proof.Proof.Proj.Want
public import Idealize.ShloMosaic.Lib.Pipeline.ValueKit
public import Idealize.ShloMosaic.Lib.Pointwise

@[expose] public section

set_option maxRecDepth 16384

noncomputable section

namespace Cert.Share

open Idealize.ShloMosaic

/-- The conditioning vectors of a batch of sixteen sequences, and of both batches; -/
abbrev Conds := (⟨2, ![16, 2048]⟩ : Shape).Idx → EReal
abbrev Both := (⟨2, ![32, 2048]⟩ : Shape).Idx → EReal
/-- the weights and biases that make six vectors of each, and these. -/
abbrev CondWeights := (⟨2, ![2048, 12288]⟩ : Shape).Idx → EReal
abbrev CondBias := (⟨1, ![12288]⟩ : Shape).Idx → EReal
abbrev Conditioned := (⟨2, ![32, 12288]⟩ : Shape).Idx → EReal

/-- The vectors of both batches, one batch under the other. -/
def both (p s : Conds) : Both := fun y =>
  if h : (y 0).val < 16 then p (ix2 ⟨(y 0).val, h⟩ (y 1)) else s (ix2 ⟨(y 0).val - 16, by have h0 : (y 0).val < 32 := (y 0).isLt; omega⟩ (y 1))

/-- A number times its logistic function. -/
def silu (z : EReal) : EReal := z * Ideal.logistic z

/-- The product of the vectors' silu with the weights, plus the bias. -/
def conditioned (p s : Conds) (w : CondWeights) (b : CondBias) : Conditioned := fun y =>
  ∑ k : Fin 2048, silu (both p s (ix2 (y 0) k)) * w (ix2 k (y 1)) + b (ix1 (y 1))

/-- An array of real numbers: it holds no infinity. -/
def AllReal {S : Shape} (x : S.Idx → EReal) : Prop := ∀ y, x y = (((x y).toReal : ℝ) : EReal)

/-- Two batches put together by the host are one under the other. -/
theorem both_joined (p s : Conds) (h) :
    concatenate (⟨2, ![32, 2048]⟩ : Shape) 0 [⟨⟨2, ![16, 2048]⟩, p⟩, ⟨⟨2, ![16, 2048]⟩, s⟩] h = both p s := by
  funext y
  have h0 : (y 0).val < 32 := (y 0).isLt
  unfold both
  split
  · next hy =>
    refine concatenate_pair_apply_left (t := ⟨2, ![32, 2048]⟩) 0 p s _ _ rfl (ix2 ⟨(y 0).val, hy⟩ (y 1)) ?_
    intro a; fin_cases a <;> rfl
  · next hy =>
    refine concatenate_pair_apply_right (t := ⟨2, ![32, 2048]⟩) 0 p s _ _ rfl rfl (ix2 ⟨(y 0).val - 16, by omega⟩ (y 1)) ?_ ?_
    · intro a ha; fin_cases a
      · exact absurd rfl ha
      · rfl
    · show (y 0).val - 16 + 16 = (y 0).val
      omega

/-- Two real batches are real together, -/
theorem both_real {p s : Conds} (hp : AllReal p) (hs : AllReal s) : AllReal (both p s) := fun y => by
  unfold both
  split
  · exact hp _
  · exact hs _

/-- and so is a real number's silu. -/
theorem silu_real (r : ℝ) : silu (r : EReal) = ((r * (1 + Real.exp (-r))⁻¹ : ℝ) : EReal) := by
  rw [silu, Ideal.logistic_coe, ← EReal.coe_mul]

/-- A real number less itself is nothing. -/
theorem sub_self_real (r : ℝ) : (r : EReal) - (r : EReal) = 0 := by
  rw [← EReal.coe_sub, sub_self, EReal.coe_zero]

end Cert.Share

namespace Cert.KernelAdaIdeal.Ada

open Cert.KernelAdaIdeal Cert.KernelAdaIdeal.Gen Cert.Share
open Idealize.ShloMosaic Idealize.ShloMosaic.TcCoe Idealize.SL.Sem
open Idealize.ShloMosaic.Pipeline (Dat Window)

/-- A block's element as the kernel takes it: the product, and the two products with what rounding would leave. -/
theorem block_spelled (x : Vec Ideal S32x2048 .f32) (w : Vec Ideal S2048x1024 .f32) (b : Vec Ideal S1x1024 .f32) (r : Fin 32) (j : Fin 1024) :
    k0_pay1 x w b (ix2 r j) = ∑ k : Fin 2048, silu (x (ix2 r k)) * w (ix2 k j)
      + (∑ k : Fin 2048, (silu (x (ix2 r k)) - silu (x (ix2 r k))) * w (ix2 k j)
        + ∑ k : Fin 2048, silu (x (ix2 r k)) * (w (ix2 k j) - w (ix2 k j))) + b (ix2 0 j) := by
  pointwise [k0_pay1]
  rfl

/-- Of real vectors and weights rounding leaves nothing. -/
theorem block_apply (x : Vec Ideal S32x2048 .f32) (w : Vec Ideal S2048x1024 .f32) (b : Vec Ideal S1x1024 .f32) (hx : AllReal x) (hw : AllReal w)
    (r : Fin 32) (j : Fin 1024) : k0_pay1 x w b (ix2 r j) = ∑ k : Fin 2048, silu (x (ix2 r k)) * w (ix2 k j) + b (ix2 0 j) := by
  rw [block_spelled]
  have e1 : ∀ k : Fin 2048, (silu (x (ix2 r k)) - silu (x (ix2 r k))) * w (ix2 k j) = 0 := fun k => by
    rw [hx (ix2 r k), silu_real, sub_self_real, zero_mul]
  have e2 : ∀ k : Fin 2048, silu (x (ix2 r k)) * (w (ix2 k j) - w (ix2 k j)) = 0 := fun k => by
    rw [hw (ix2 k j), sub_self_real, mul_zero]
  rw [Finset.sum_congr rfl fun k _ => e1 k, Finset.sum_congr rfl fun k _ => e2 k, Finset.sum_const_zero, add_zero, add_zero]

variable (m : (ℓ : Loc nD τ sig) → Buf (Elt Ideal) ℓ) (c : Dev nD)

/-- The arrays the kernel is called with: the two batches' vectors, the weights, the biases. -/
abbrev prompt : Conds := m ((c : Thread nD τ).loc main_arg0)
abbrev sample : Conds := m ((c : Thread nD τ).loc main_arg1)
abbrev weights : CondWeights := m ((c : Thread nD τ).loc main_arg2)
abbrev bias : CondBias := m ((c : Thread nD τ).loc main_arg3)

/-- The accesses start at the origin. -/
theorem origin : (![0, 0] : Fin 2 → ℕ) = fun _ => 0 := by decide

/-- What a point writes. -/
theorem out_3 (x0 : Vec Ideal S32x2048 .f32) (x1 : Vec Ideal S2048x1024 .f32) (x2 : Vec Ideal S1x1024 .f32) :
    out0_3 x0 x1 x2 = k0_pay1 x0 x1 x2 := by
  unfold out0_3
  rw [View.canon_unit_zero origin]
  simp only [View.ld_unit_zero (S := S32x2048) origin, View.ld_unit_zero (S := S2048x1024) origin, View.ld_unit_zero (S := S1x1024) origin]

/-- A point works on all of the vectors, -/
theorem index_0 : ∀ t : Fin grid0.N, win0_0.index t = ![0, 0] := by decide +kernel
/-- on a block of the weights' columns, -/
theorem index_1 : ∀ t : Fin grid0.N, win0_1.index t = ![0, t.val] := by decide +kernel
/-- the same block of the biases, -/
theorem index_2 : ∀ t : Fin grid0.N, win0_2.index t = ![0, t.val] := by decide +kernel
/-- and writes this block of the result. -/
theorem index_3 : ∀ t : Fin grid0.N, win0_3.index t = ![0, t.val] := by decide +kernel

/-- The points' blocks are the whole result. -/
theorem covers_3 : win0_3.Covers := by decide +kernel

/-- The column that a point's column is. -/
def columnOf (t : Fin grid0.N) (j : Fin 1024) : Fin 12288 :=
  ⟨1024 * t.val + j.val, by have := lt_of_lt_of_eq t.isLt N_0; have := j.isLt; omega⟩

/-- The vectors the kernel is given are both batches'; -/
theorem V_vectors : (V m c main_v0 : Both) = both (prompt m c) (sample m c) := by
  have e : V m c main_v0 = (concatenate S32x2048 0 [⟨S16x2048, m ((c : Thread nD τ).loc main_arg0)⟩, ⟨S16x2048, m ((c : Thread nD τ).loc main_arg1)⟩]
      concatenates_S16x2048_S16x2048_S32x2048_d0 : FVec Ideal S32x2048 .f32) := by
    unfold V
    simp only [hostOps0]
    after_results
    try rfl
  rw [e]
  exact both_joined _ _ _

/-- the biases are a row of them. -/
theorem V_bias (j : Fin 12288) : (V m c main_v1 : FVec Ideal S1x12288 .f32) (ix2 0 j) = bias m c (ix1 j) := by
  have e : V m c main_v1 = (shapeCast S1x12288 (m ((c : Thread nD τ).loc main_arg3)) shapeCasts_S12288_S1x12288 : FVec Ideal S1x12288 .f32) := by
    unfold V
    simp only [hostOps0]
    after_results
    try rfl
  rw [e]
  refine shapeCast_apply (s := S12288) _ _ _ (ix1 j) ?_
  rw [Shape.rowMajor_val_one, Shape.rowMajor_val_two]
  show j.val = 0 * 12288 + j.val
  omega

/-- The vectors' block is all of them; -/
theorem blk_0 (t : Fin cfg0.N) : iblk m c 0 t = both (prompt m c) (sample m c) := by
  funext y
  rw [← V_vectors]
  blk_simp [iblk]
  refine congrArg _ (funext fun a => Fin.ext ?_)
  match a with
  | 0 => blk_simp [index_0]; try simp
  | 1 => blk_simp [index_0]; try simp

/-- the weights' block is the point's columns, -/
theorem blk_1 (t : Fin cfg0.N) (k : Fin 2048) (j : Fin 1024) : iblk m c 1 t (ix2 k j) = weights m c (ix2 k (columnOf t j)) := by
  rw [weights, ← V_main_arg2 m c]
  blk_simp [iblk]
  refine congrArg _ (funext fun a => Fin.ext ?_)
  match a with
  | 0 => blk_simp [index_1]; try simp
  | 1 => blk_simp [index_1]; simp only [columnOf]; try omega

/-- and so is the biases' block. -/
theorem blk_2 (t : Fin cfg0.N) (j : Fin 1024) : iblk m c 2 t (ix2 0 j) = bias m c (ix1 (columnOf t j)) := by
  rw [← V_bias]
  blk_simp [iblk]
  refine congrArg _ (funext fun a => Fin.ext ?_)
  match a with
  | 0 => blk_simp [index_2]; try simp
  | 1 => blk_simp [index_2]; simp only [columnOf]; try omega

/-- Where a block's element lies in the result. -/
theorem emb_3 (t : Fin grid0.N) (r : Fin 32) (j : Fin 1024) : (win0_3.blk t).view.emb (ix2 r j) = ix2 r (columnOf t j) :=
  funext fun a => Fin.ext (match a with
  | 0 => by blk_simp [index_3]; try simp
  | 1 => by blk_simp [index_3]; simp only [columnOf]; try omega)

/-- The result's array, where vectors and weights are real. -/
theorem result_eq (hp : AllReal (prompt m c)) (hs : AllReal (sample m c)) (hw : AllReal (weights m c)) :
    (dats m 0 c).arrAt 3 cfg0.N = conditioned (prompt m c) (sample m c) (weights m c) (bias m c) := by
  refine (dats m 0 c).arrAt_eq_of_covers 3 _ covers_3 fun t hf y => ?_
  blk_simp
  rw [after0_3, out_3]
  obtain ⟨r, j, hy⟩ : ∃ (r : Fin 32) (j : Fin 1024), y = ix2 r j := ⟨y 0, y 1, funext fun a => match a with | 0 => rfl | 1 => rfl⟩
  rw [hy]
  refine Eq.trans ?_ (congrArg _ (emb_3 t r j).symm)
  have hw1 : AllReal (iblk m c 1 t : S2048x1024.Idx → EReal) := fun z => by
    obtain ⟨k, l, hz⟩ : ∃ (k : Fin 2048) (l : Fin 1024), z = ix2 k l := ⟨z 0, z 1, funext fun a => match a with | 0 => rfl | 1 => rfl⟩
    rw [hz, blk_1]
    exact hw _
  have hx : AllReal (iblk m c 0 t : S32x2048.Idx → EReal) := by
    rw [blk_0]
    exact both_real hp hs
  refine (block_apply _ _ _ hx hw1 r j).trans ?_
  rw [blk_2, blk_0]
  exact congrArg (· + _) (Finset.sum_congr rfl fun k _ => congrArg (silu _ * ·) (blk_1 m c t k j))

end Cert.KernelAdaIdeal.Ada

namespace Cert.ReferenceAdaIdeal.Ada

open Cert.ReferenceAdaIdeal Cert.ReferenceAdaIdeal.Read Cert.Share
open Idealize.ShloMosaic Idealize.ShloMosaic.TcCoe Idealize.SL.Sem

/-- The reference's silu, element by element. -/
theorem silu_eq (p s : Conds) (y : S32x2048.Idx) : val_main_v1 (F := Ideal) p s y = silu (both p s y) := by
  have e : val_main_v0 (F := Ideal) p s = both p s := both_joined p s _
  rw [val_main_v1_apply, val_main_call0_v5_apply, val_main_call0_v4_apply, val_main_call0_v3_apply, val_main_call0_v2_apply,
    val_main_call0_v1_apply, val_main_call0_v0_apply, val_main_call0_cst_apply, val_main_call0_cst_0_apply, e]
  exact congrArg (both p s y * ·) (logistic_spelled _)

/-- The reference's result, element by element, is the product plus the bias. -/
theorem res_eq (p s : Conds) (w : CondWeights) (b : CondBias) : val_main_v5 (F := Ideal) p s w b = conditioned p s w b := by
  funext y
  rw [val_main_v5_apply, val_main_v4_apply, val_main_v3_apply, val_main_v2_apply]
  have hl : ∀ k, lidx_main_v2 y k = ix2 (y 0) k := fun k => funext fun a => match a with | 0 => rfl | 1 => rfl
  have hr : ∀ k, ridx_main_v2 y k = ix2 k (y 1) := fun k => funext fun a => match a with | 0 => rfl | 1 => rfl
  have hb : idx_main_v3 (idx_main_v4 y) = ix1 (y 1) := funext fun a => match a with | 0 => rfl
  rw [hb, Finset.sum_congr rfl fun k _ => congrArg₂ (· * ·) ((congrArg _ (hl k)).trans (silu_eq p s _)) (congrArg w (hr k))]
  rfl

end Cert.ReferenceAdaIdeal.Ada

namespace Cert.Proof

open Idealize.ShloMosaic Idealize.ShloMosaic.TcCoe Idealize.SL.Sem
open Cert.Share

/-- Kernel and reference give the same conditioning, from finite vectors and weights. -/
theorem algebraic_ada : Cert.algebraic_KernelAdaIdeal_ReferenceAdaIdeal_pre_finite_conditioning := fun m g m' g' hpre hagree =>
  ⟨fun c => conditioned (Cert.KernelAdaIdeal.Ada.prompt m c) (Cert.KernelAdaIdeal.Ada.sample m c) (Cert.KernelAdaIdeal.Ada.weights m c)
      (Cert.KernelAdaIdeal.Ada.bias m c),
    (θ_run _ _ _).mono (fun _ h c => ⟨(h c).1.trans (Cert.KernelAdaIdeal.Ada.result_eq m c (real_of_lt _ _ (hpre c).1) (real_of_lt _ _ (hpre c).2.1)
        (real_of_lt _ _ (hpre c).2.2)), (h c).2⟩)
      (Cert.KernelAdaIdeal.Value.run_blocks (F := Ideal) m g),
    (θ_run _ _ _).mono (fun _ h c => ⟨(h c).1.trans ((Cert.ReferenceAdaIdeal.Ada.res_eq _ _ _ _).trans
        (congr (congr (congrArg₂ conditioned (hagree c).1 (hagree c).2.1) (hagree c).2.2.1) (hagree c).2.2.2)), (h c).2⟩)
      (Cert.ReferenceAdaIdeal.Value.run (F := Ideal) m' g')⟩

end Cert.Proof

end
-- ==== Proof.State.Body.lean ====
/- One run of the prompt's body, as far as the block of the last three inputs goes: the other two results' blocks and
   the scratches are left at whatever they come to hold. -/
module

public import proofs.«01_k».proof.Proof.Gen.KernelRecIdeal.Frame
public import proofs.«01_k».proof.Proof.Gen.KernelRecIdeal.Points
public import proofs.«01_k».proof.Proof.Gen.KernelRecIdeal.Loops
public import Idealize.ShloMosaic.Lib.VecWindow
public import Idealize.ShloMosaic.Lib.WritesUnit
public import Idealize.ShloMosaic.Lib.Pipeline.ValueKit

@[expose] public section

set_option maxRecDepth 16384

noncomputable section

namespace Cert.KernelRecIdeal.State

open Cert.KernelRecIdeal Cert.KernelRecIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 16000000 in
/-- The body reads its blocks, leaves them as they were, and leaves the last three rows of the first one in the third
    result's; at the first point along the second axis it fills two scratches, at the others it takes them as they are. -/
theorem body_run (c : Dev nD) (i : grid0.Coords) (arg2 : Memref sig .tc .vmem S128x16x256 .bf16) (harg2 : arg2.IsWhole) (arg3 : Memref sig .tc .vmem S128x16x256 .bf16) (harg3 : arg3.IsWhole) (arg4 : Memref sig .tc .vmem S128x16x256 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x256 .bf16) (harg7 : arg7.IsWhole) (arg8 : Memref sig .tc .vmem S1x1x256 .f32) (harg8 : arg8.IsWhole) (arg9 : Memref sig .tc .vmem S1x256x256 .bf16) (harg9 : arg9.IsWhole) (arg10 : Memref sig .tc .vmem S1x1x256 .f32) (harg10 : arg10.IsWhole) (arg11 : Memref sig .tc .vmem S1x256 .f32) (harg11 : arg11.IsWhole) (arg12 : Memref sig .tc .vmem S16x256 .f32) (harg12 : arg12.IsWhole) (arg13 : Memref sig .tc .vmem S3x16x256 .f32) (harg13 : arg13.IsWhole) (arg14 : Memref sig .tc .vmem S16x128x256 .bf16) (harg14 : arg14.IsWhole) (arg15 : Memref sig .tc .vmem S16x256 .f32) (harg15 : arg15.IsWhole) (arg16 : Memref sig .tc .vmem S3x16x256 .f32) (harg16 : arg16.IsWhole) (arg17 : Memref sig .tc .vmem S3x16x256 .f32) (harg17 : arg17.IsWhole) (arg18 : Memref sig .tc .vmem S16x256 .f32) (harg18 : arg18.IsWhole) (arg19 : Memref sig .tc .vmem S128x16x256 .f32) (harg19 : arg19.IsWhole) (arg20 : Memref sig .tc .vmem S128x16x256 .f32) (harg20 : arg20.IsWhole) (arg21 : Memref sig .tc .vmem S128x16x256 .f32) (harg21 : arg21.IsWhole)
    (x0 x1 x2 : Vec F S128x16x256 .bf16) (x3 : Vec F S4x256 .f32) (x4 : Vec F S1x256 .f32)
    (x5 : Vec F S1x256x256 .bf16) (x6 : Vec F S1x1x256 .f32) (x7 : Vec F S1x256x256 .bf16) (x8 : Vec F S1x1x256 .f32)
    (x9 : Vec F S1x256 .f32) (x10 : Vec F S16x256 .f32) (x11 : Vec F S3x16x256 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare (k0_pay5 x0) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_lru i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_lru_eq_skeleton]; unfold cc0_lru_skel
  simp only [k0_part1_eq_skeleton, k0_part2_eq_skeleton, k0_part3_eq_skeleton, k0_part4_eq_skeleton, k0_part5_eq_skeleton,
    k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  by_cases first : Scalar.cmpi .ne (Scalar.extui (Scalar.cmpi .eq (BitVec.ofNat 32 (i 1).val) 0#32) : BitVec 32) 0#32 = 1#1
  all_goals
    sl_exec (disch := first | sl_exact first)
    sl_step
    iapply Hk
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists _; iexists _; isplitr
      swap; · iexact H12
      ipureintro; rfl
    isplitl [H13]
    · iexists _; iexists _; isplitr
      swap; · iexact H13
      ipureintro; rfl
    isplitl [H14]
    · iexists _; isplitr
      swap; · iexact H14
      ipureintro
      first | unfold body_run.sl.H14_1 | unfold body_run.sl.H14_1_1
      refine (View.read_writes_full arg16.view _ _ _ []).trans ?_
      first | unfold body_run.sl.r_1 | unfold body_run.sl.r_11
      exact congrArg k0_pay5 ((View.readAt_full arg2.view _ _).trans hf0)
    isplitl [H15]
    · iexists _; iexists _; isplitr
      swap; · iexact H15
      ipureintro; rfl
    isplitl [H16]
    · iexists _; iexists _; isplitr
      swap; · iexact H16
      ipureintro; rfl
    isplitl [H17]
    · iexists _; iexists _; isplitr
      swap; · iexact H17
      ipureintro; rfl
    isplitl [H18]
    · iexists _; iexists _; isplitr
      swap; · iexact H18
      ipureintro; rfl
    iexists _; iexists _; isplitr
    swap; · iexact H19
    ipureintro; rfl

end Cert.KernelRecIdeal.State

end
-- ==== Proof.State.Run.lean ====
/- The launch: the host operations around the kernel, the kernel at its 8 points, and what the machine holds at the end. -/
module

public import proofs.«01_k».proof.Proof.State.Body

@[expose] public section

set_option maxRecDepth 16384

noncomputable section

namespace Cert.KernelRecIdeal.State

open Cert.KernelRecIdeal Cert.KernelRecIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, and what the kernel leaves in its own -/

/-- The block of the last three inputs after point `t`. -/
def cAt (c : Dev nD) (t : Fin cfg0.N) : FVec F S3x16x256 .f32 := k0_pay5 (iblk m c 0 t)

/-- The windows of the other two results: nothing is said of what the body leaves in their blocks. -/
def unsaid (w : Fin cfg0.W) : Bool := match w with
  | ⟨12, _⟩ => true
  | ⟨13, _⟩ => true
  | _ => false

/-- The kernel's data: the arrays as it finds them, the operands' blocks left in place, the third result's as above
    and the other two's nothing in particular. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => fun _ => FloatOps.ofBits .bf16 0
    | ⟨13, _⟩ => fun _ => FloatOps.ofBits .f32 0
    | ⟨14, _⟩ => cAt m c t
  Φ _ := Pipeline.ΦA spec0 c
  q _ := fullShare
  owed _ := 0

/-- The array of every window before the call is what the host left in it. -/
theorem A_eq (c : Dev nD) (w : Fin cfg0.W) : (dats m 0 c).A w = V m c (Pipeline.arrRef spec0 w) := by
  dsimp only [dats]

/-- What a body keeps between points: its five scratches, and the generator's register. -/
theorem kept_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X)
    ∗ (∃ X, owns (c : Thread nD τ) (st0_13 t) fullShare X)
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X)
    ∗ (∃ X, owns (c : Thread nD τ) (st0_13 t) fullShare X)
    ∗ owns (c : Thread nD τ) (st0_14 t) fullShare ((dats m 0 c).after 14 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) fun _ => rfl,
    before0_1_of m (dats m 0 c) (A_eq m c 1) fun _ => rfl,
    before0_2_of m (dats m 0 c) (A_eq m c 2) fun _ => rfl,
    before0_3_of m (dats m 0 c) (A_eq m c 3) fun _ => rfl,
    before0_4_of m (dats m 0 c) (A_eq m c 4) fun _ => rfl,
    before0_5_of m (dats m 0 c) (A_eq m c 5) fun _ => rfl,
    before0_6_of m (dats m 0 c) (A_eq m c 6) fun _ => rfl,
    before0_7_of m (dats m 0 c) (A_eq m c 7) fun _ => rfl,
    before0_8_of m (dats m 0 c) (A_eq m c 8) fun _ => rfl,
    before0_9_of m (dats m 0 c) (A_eq m c 9) fun _ => rfl,
    before0_10_of m (dats m 0 c) (A_eq m c 10) fun _ => rfl,
    before0_11_of m (dats m 0 c) (A_eq m c 11) fun _ => rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, kept_eq]
  dsimp only [dats, cAt]
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (grid0.coords t) _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, S0, S1, S2, S3, S4⟩
  isplitl [S0 S1 S2 S3 S4 Hr]
  · isplitl [S0 S1 S2 S3 S4]
    · isplitl [S0]; · iexact S0
      isplitl [S1]; · iexact S1
      isplitl [S2]; · iexact S2
      isplitl [S3]; · iexact S3
      iexact S4
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The loop's body at every grid step is the same procedure. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ unsaid := fun t => by
  rw [bigSep_W0, bigSep_W0, defs₀_row]
  exact triple_restated (sound_body m c t) rfl .rfl fun _ => .rfl

/-! ## The run -/

set_option backward.isDefEq.respectTransparency.types false in
/-- Every fair run ends, with the arrays at what the blocks left may make of them, the other buffers as the kernel
    found them, and every counter at zero. -/
theorem run_main : θ_run defs (onTc (τ := τ) (main (F := F))) (s₀ m ρ)
    (fun r => (Pipeline.RDat.FramePost cfg0 (fun c => (dats m 0 c).toRForget unsaid) (V m)) r ∧ r.2.sem = fun _ => 0) :=
  Pipeline.θ_run_frame_forget cfgs (dats m) (0 : Fin 1) launch0 defs₀ Variants.none unsaid m ρ main
    (fun c => (body_obligation m c).loose) (fun c => (dats m 0 c).share_full fun _ => rfl)
    (fun _ _ => rfl) (V m) (hmain m Variants.none) (A_eq m) (fun _ _ => rfl) _ (fun _ h => h)

/-- Every fair run ends with the last three inputs at what the blocks left make of them, the arguments as they were and
    every counter at zero. -/
theorem run_result : θ_run defs (onTc (τ := τ) (main (F := F))) ⟨m, fun _ => 0, ρ⟩ (fun r =>
      (∀ c : Dev nD, r.2.mem ((c.tc : Thread nD τ).loc main_v11_2) = (dats m 0 c).arrAt 14 cfg0.N)
      ∧ (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => by
    obtain ⟨h, hs⟩ := h
    have rest (c : Dev nD) (b : Ref sig .tc) (hb : b.isScoped = false) (hne : ∀ w, Pipeline.arrRef spec0 w ≠ b) :=
      (h c).2 b (Pipeline.mem_restRefs_of b hb hne)
    refine ⟨fun c => ((dats m 0 c).toRForget_arrAt_iff (fgt := unsaid) (w := 14) rfl _ _).mp ((h c).1 14), fun c => ⟨(rest c main_arg0 (by decide) (by decide)).trans (V_main_arg0 m c),
      (rest c main_arg1 (by decide) (by decide)).trans (V_main_arg1 m c),
      (rest c main_arg2 (by decide) (by decide)).trans (V_main_arg2 m c),
      (Pipeline.RDat.FramePost.arr_in h c 3 rfl).trans ((A_eq m c 3).trans (V_main_arg3 m c)),
      (rest c main_arg4 (by decide) (by decide)).trans (V_main_arg4 m c),
      (rest c main_arg5 (by decide) (by decide)).trans (V_main_arg5 m c),
      (rest c main_arg6 (by decide) (by decide)).trans (V_main_arg6 m c),
      (rest c main_arg7 (by decide) (by decide)).trans (V_main_arg7 m c),
      (rest c main_arg8 (by decide) (by decide)).trans (V_main_arg8 m c),
      (rest c main_arg9 (by decide) (by decide)).trans (V_main_arg9 m c)⟩, hs⟩)
    (run_main m ρ)

/-- The arguments end as they were, and every counter at zero. -/
theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => h.2) (run_result m ρ)

end Cert.KernelRecIdeal.State

end
-- ==== Proof.State.Frame.lean ====
/- The program as it runs has the text of the one read over the reals, so the latter's run, which is over any float values, is its run too. -/
module

public import proofs.«01_k».proof.Defs
public import proofs.«01_k».proof.Proof.State.Run
public import proofs.«01_k».proof.Proof.Gen.KernelRec

@[expose] public section

noncomputable section

namespace Cert.Proof

open Idealize.ShloMosaic Idealize.ShloMosaic.TcCoe Idealize.SL.Sem

variable {F : FTy → Type} [FloatOps F]

set_option maxHeartbeats 4000000 in
/-- The kernel's body is the same. -/
theorem state_bodies_same : @Cert.KernelRec.defs₀ F _ _ = @Cert.KernelRecIdeal.defs₀ F _ _ := by
  funext p ℓ a
  match p, ℓ, a with
  | .tc, 0, (t, s) =>
    unfold Cert.KernelRec.defs₀ Cert.KernelRecIdeal.defs₀
    simp only [Defs.onTc_tc]
    rfl
  | .tc, ⟨_ + 1, h⟩, _ => exact absurd h (Nat.not_lt.2 (Nat.le_add_left _ _))
  | .scScalar _, _, _ => rfl
  | .scVector _ _, _, _ => rfl

set_option maxHeartbeats 4000000 in
/-- So is its call. -/
theorem state_defs_same : @Cert.KernelRec.defs F _ _ = @Cert.KernelRecIdeal.defs F _ _ :=
  congrArg (Pipeline.defs Cert.KernelRecIdeal.pcfgs) state_bodies_same

set_option maxHeartbeats 4000000 in
/-- The frame of the program as it runs. -/
theorem rec_frame : Cert.quiescent_KernelRec := fun m g _ => by
  have h := Cert.KernelRecIdeal.State.frame (F := Bits) m g
  rw [← state_defs_same] at h
  exact h

end Cert.Proof

end
-- ==== Proof.State.Value.lean ====
/- The prompt's last three inputs: what the kernel leaves of them, what the reference slices, and that both are the same. -/
module

public import proofs.«01_k».proof.Defs
public import proofs.«01_k».proof.Proof.Rec.Want
public import proofs.«01_k».proof.Proof.State.Run
public import proofs.«01_k».proof.Proof.Gen.ReferenceRecIdeal.Read

@[expose] public section

set_option maxRecDepth 16384

noncomputable section

namespace Cert.Rec

open Idealize.ShloMosaic

/-- The last three of the prompt's 2048 inputs, place by place. -/
def lastThree (u : (⟨3, ![2048, 16, 2048]⟩ : Shape).Idx → EReal) : (⟨3, ![3, 16, 2048]⟩ : Shape).Idx → EReal := fun y =>
  u (ix3 ⟨2045 + (y 0).val, by have h : (y 0).val < 3 := (y 0).isLt; omega⟩ (y 1) (y 2))

end Cert.Rec

namespace Cert.KernelRecIdeal.State

open Cert.KernelRecIdeal Cert.KernelRecIdeal.Gen Cert.Share Cert.Rec
open Idealize.ShloMosaic Idealize.ShloMosaic.TcCoe Idealize.SL.Sem
open Idealize.ShloMosaic.Pipeline (Dat Window)

variable (m : (ℓ : Loc nD τ sig) → Buf (Elt Ideal) ℓ) (c : Dev nD)

/-- The prompt's inputs. -/
abbrev u : (⟨3, ![2048, 16, 2048]⟩ : Shape).Idx → EReal := m ((c : Thread nD τ).loc main_arg0)

/-- The rounding before the call leaves them as they are. -/
theorem V_inputs : (V m c main_v2 : S2048x16x2048.Idx → EReal) = u m c := by
  unfold V
  simp only [hostOps0]
  after_results
  try rfl

/-- The points' blocks of the inputs, and of the last three: the second axis of points goes along the steps, the first
    along the lanes. -/
theorem index_points : ∀ t : Fin grid0.N, win0_0.index t = ![t.val % 16, 0, t.val / 16] ∧ win0_14.index t = ![0, 0, t.val / 16] := by
  decide +kernel

/-- The blocks of the last three inputs cover their array. -/
theorem covers_14 : win0_14.Covers := by decide +kernel

/-- The block of lanes that is a point's. -/
def block (t : Fin cfg0.N) : Fin 8 := ⟨t.val / 16, by have h := lt_of_lt_of_eq t.isLt N_0; omega⟩

/-- At the last point along the steps, the block's last three rows are the last three inputs of the point's lanes. -/
theorem c_point (t : Fin cfg0.N) (ht : t.val % 16 = 15) (k : Fin 3) (b : Fin 16) (j : Fin 256) :
    cAt m c t (ix3 k b j) = lastThree (u m c) (ix3 k b (laneAt (block t) j)) := by
  have hk := k.isLt
  have e : k0_pay5 (iblk m c 0 t) (ix3 k b j) = iblk m c 0 t (ix3 ⟨125 + k.val, by omega⟩ b j) := by
    generalize (iblk m c 0 t : Vec Ideal S128x16x256 .bf16) = x
    pointwise [k0_pay5, k0_pay3]
  unfold cAt lastThree
  refine e.trans ?_
  rw [← V_inputs m c]
  blk_simp [iblk]
  refine congrArg _ (funext fun a => Fin.ext ?_)
  match a with
  | 0 => blk_simp [(index_points t).1]; simp only [ht]; try omega
  | 1 => blk_simp [(index_points t).1]; try simp
  | 2 => blk_simp [(index_points t).1]; simp only [laneAt, block]; try omega

/-- Where a point's block lies in the array of the last three inputs. -/
theorem emb_14 (t : Fin grid0.N) (k : Fin 3) (b : Fin 16) (j : Fin 256) : (win0_14.blk t).view.emb (ix3 k b j) = ix3 k b (laneAt (block t) j) :=
  funext fun a => Fin.ext (match a with
  | 0 => by blk_simp [(index_points t).2]; try simp
  | 1 => by blk_simp [(index_points t).2]; try simp
  | 2 => by blk_simp [(index_points t).2]; simp only [laneAt, block]; omega)

/-- The array of the last three inputs at the end. -/
theorem result_14 : (dats m 0 c).arrAt 14 cfg0.N = lastThree (u m c) := by
  refine (dats m 0 c).arrAt_eq_of_covers 14 _ covers_14 fun t hf y => ?_
  blk_simp
  obtain ⟨k, b, j, hy⟩ : ∃ (k : Fin 3) (b : Fin 16) (j : Fin 256), y = ix3 k b j :=
    ⟨y 0, y 1, y 2, funext fun a => match a with | 0 => rfl | 1 => rfl | 2 => rfl⟩
  rw [hy]
  exact (c_point m c t ((flush0_14 t).mp hf) k b j).trans (congrArg (lastThree (u m c)) (emb_14 t k b j).symm)

end Cert.KernelRecIdeal.State

namespace Cert.ReferenceRecIdeal.State

open Cert.ReferenceRecIdeal Cert.ReferenceRecIdeal.Read Cert.Share Cert.Rec
open Idealize.ShloMosaic Idealize.ShloMosaic.TcCoe

/-- What the reference slices off the inputs with three zeros in front are the last three inputs. -/
theorem sliced (x0 : (⟨S2048x16x2048, .f32⟩ : BufTy).Contents (Elt Ideal)) : val_main_v4 (F := Ideal) x0 = lastThree x0 := by
  funext y
  obtain ⟨k, b, d, rfl⟩ : ∃ (k : Fin 3) (b : Fin 16) (d : Fin 2048), y = ix3 k b d :=
    ⟨y 0, y 1, y 2, funext fun a => match a with | 0 => rfl | 1 => rfl | 2 => rfl⟩
  have hk := k.isLt
  rw [val_main_v4_apply, val_main_v3_apply]
  unfold val_main_v2
  refine (concatenate_pair_apply_right (t := S16x2051x2048) 1 (val_main_v1 (F := Ideal)) (val_main_v0 (F := Ideal) x0) _ _ rfl rfl
    (ix3 b ⟨2045 + k.val, by omega⟩ d) ?_ ?_).trans ?_
  · intro a ha
    fin_cases a
    · rfl
    · exact absurd rfl ha
    · rfl
  · show 2045 + k.val + 3 = 2048 + k.val
    omega
  · rw [val_main_v0_apply]
    exact congrArg x0 (funext fun a => match a with | 0 => rfl | 1 => rfl | 2 => rfl)

end Cert.ReferenceRecIdeal.State

namespace Cert.Proof

open Idealize.ShloMosaic Idealize.ShloMosaic.TcCoe Idealize.SL.Sem Cert.Rec

/-- Over the reals the kernel and the reference keep the same last three inputs of the prompt. -/
theorem algebraic_rec : Cert.algebraic_KernelRecIdeal_ReferenceRecIdeal := fun m g m' g' _ hagree =>
  ⟨fun c => lastThree (Cert.KernelRecIdeal.State.u m c),
    (θ_run _ _ _).mono (fun _ h c => ⟨(h.1 c).trans (Cert.KernelRecIdeal.State.result_14 m c), h.2.1 c⟩)
      (Cert.KernelRecIdeal.State.run_result (F := Ideal) m g),
    (θ_run _ _ _).mono (fun _ h c => ⟨(h c).1.trans ((Cert.ReferenceRecIdeal.State.sliced _).trans (congrArg lastThree (hagree c).1)), (h c).2⟩)
      (Cert.ReferenceRecIdeal.Value.run (F := Ideal) m' g')⟩

end Cert.Proof

end
-- ==== Proof.lean ====
/- Every claim: the frames, the named constants, and the values of the attention, the projections, the norm, the conditioning, the sample's recurrence and the prompt's last three inputs. -/
module

public import proofs.«01_k».proof.Defs
public import proofs.«01_k».proof.Proof.Gen.KernelRecSample
public import proofs.«01_k».proof.Proof.Gen.KernelRecSample.Skeleton
public import proofs.«01_k».proof.Proof.Gen.KernelRecSample.Launch
public import proofs.«01_k».proof.Proof.Gen.KernelRecSample.Loops
public import proofs.«01_k».proof.Proof.Gen.KernelRecSample.Frame
public import proofs.«01_k».proof.Proof.Gen.KernelRecSample.Points
public import proofs.«01_k».proof.Proof.Gen.KernelRecSampleIdeal
public import proofs.«01_k».proof.Proof.Gen.KernelRecSampleIdeal.Skeleton
public import proofs.«01_k».proof.Proof.Gen.KernelRecSampleIdeal.Launch
public import proofs.«01_k».proof.Proof.Gen.KernelRecSampleIdeal.Loops
public import proofs.«01_k».proof.Proof.Gen.KernelRecSampleIdeal.Frame
public import proofs.«01_k».proof.Proof.Gen.KernelRecSampleIdeal.Points
public import proofs.«01_k».proof.Proof.Gen.ReferenceRecSampleIdeal

public import proofs.«01_k».proof.Proof.Gen.ReferenceRecSampleIdeal.Run
public import proofs.«01_k».proof.Proof.Gen.ReferenceRecSampleIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores
public import proofs.«01_k».proof.Proof.Gen.KernelKeys.Frame
public import proofs.«01_k».proof.Proof.Gen.KernelKeysIdeal.Value
public import proofs.«01_k».proof.Proof.Gen.ReferenceKeysIdeal.Read
public import proofs.«01_k».proof.Proof.Gen.KernelLru.Frame
public import proofs.«01_k».proof.Proof.Gen.KernelLruIdeal.Value
public import proofs.«01_k».proof.Proof.Gen.ReferenceLruIdeal.Read
public import proofs.«01_k».proof.Proof.Gen.KernelGelu.Frame
public import proofs.«01_k».proof.Proof.Gen.KernelGeluIdeal.Value
public import proofs.«01_k».proof.Proof.Gen.ReferenceGeluIdeal.Read
public import proofs.«01_k».proof.Proof.Gen.KernelGate.Frame
public import proofs.«01_k».proof.Proof.Gen.KernelGateIdeal.Value
public import proofs.«01_k».proof.Proof.Gen.ReferenceGateIdeal.Read
public import proofs.«01_k».proof.Proof.Gen.KernelQuery.Frame
public import proofs.«01_k».proof.Proof.Gen.KernelQueryIdeal.Value
public import proofs.«01_k».proof.Proof.Gen.ReferenceQueryIdeal.Read
public import proofs.«01_k».proof.Proof.Gen.KernelValues.Frame
public import proofs.«01_k».proof.Proof.Gen.KernelValuesIdeal.Value
public import proofs.«01_k».proof.Proof.Gen.ReferenceValuesIdeal.Read
public import proofs.«01_k».proof.Proof.Gen.KernelMix.Frame
public import proofs.«01_k».proof.Proof.Gen.KernelMixIdeal.Value
public import proofs.«01_k».proof.Proof.Gen.ReferenceMixIdeal.Read
public import proofs.«01_k».proof.Proof.Gen.KernelNorm.Frame
public import proofs.«01_k».proof.Proof.Gen.KernelNormIdeal.Value
public import proofs.«01_k».proof.Proof.Gen.ReferenceNormIdeal.Read
public import proofs.«01_k».proof.Proof.Gen.KernelKeysSample.Frame
public import proofs.«01_k».proof.Proof.Gen.KernelKeysSampleIdeal.Value
public import proofs.«01_k».proof.Proof.Gen.ReferenceKeysSampleIdeal.Read
public import proofs.«01_k».proof.Proof.Gen.KernelValuesSample.Frame
public import proofs.«01_k».proof.Proof.Gen.KernelValuesSampleIdeal.Value
public import proofs.«01_k».proof.Proof.Gen.ReferenceValuesSampleIdeal.Read
public import proofs.«01_k».proof.Proof.Gen.KernelAda.Frame
public import proofs.«01_k».proof.Proof.Gen.KernelAdaIdeal.Value
public import proofs.«01_k».proof.Proof.Gen.ReferenceAdaIdeal.Read
public import proofs.«01_k».proof.Proof.Gen.Pre_finite_conditioning
public import proofs.«01_k».proof.Proof.Gen.KernelRec
public import proofs.«01_k».proof.Proof.Gen.KernelRec.Skeleton
public import proofs.«01_k».proof.Proof.Gen.KernelRec.Launch
public import proofs.«01_k».proof.Proof.Gen.KernelRec.Loops
public import proofs.«01_k».proof.Proof.Gen.KernelRec.Frame
public import proofs.«01_k».proof.Proof.Gen.KernelRec.Points
public import proofs.«01_k».proof.Proof.Gen.KernelRecIdeal
public import proofs.«01_k».proof.Proof.Gen.KernelRecIdeal.Skeleton
public import proofs.«01_k».proof.Proof.Gen.KernelRecIdeal.Launch
public import proofs.«01_k».proof.Proof.Gen.KernelRecIdeal.Loops
public import proofs.«01_k».proof.Proof.Gen.KernelRecIdeal.Frame
public import proofs.«01_k».proof.Proof.Gen.KernelRecIdeal.Points
public import proofs.«01_k».proof.Proof.Gen.ReferenceRecIdeal
public import proofs.«01_k».proof.Proof.Gen.ReferenceRecIdeal.Run
public import proofs.«01_k».proof.Proof.Gen.ReferenceRecIdeal.Read
public import proofs.«01_k».proof.Proof.AttnBits.Run
public import proofs.«01_k».proof.Proof.Attn.Same
public import proofs.«01_k».proof.Proof.Proj.Keys
public import proofs.«01_k».proof.Proof.Proj.Values
public import proofs.«01_k».proof.Proof.Proj.Lru
public import proofs.«01_k».proof.Proof.Proj.Gelu
public import proofs.«01_k».proof.Proof.Proj.Gate
public import proofs.«01_k».proof.Proof.Proj.Mix
public import proofs.«01_k».proof.Proof.Proj.Query
public import proofs.«01_k».proof.Proof.Norm
public import proofs.«01_k».proof.Proof.Proj.KeysSample
public import proofs.«01_k».proof.Proof.Proj.ValuesSample
public import proofs.«01_k».proof.Proof.Rec.Frame
public import proofs.«01_k».proof.Proof.Rec.Same
public import proofs.«01_k».proof.Proof.Ada
public import proofs.«01_k».proof.Proof.State.Frame
public import proofs.«01_k».proof.Proof.State.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run leaves its arguments, and every counter at zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-! So do the runs of the projections' references. -/

theorem reference_keys_frame : Cert.quiescent_ReferenceKeysIdeal := fun m g _ =>
  (θ_run Cert.ReferenceKeysIdeal.defs _ _).mono (fun r h => ⟨fun c => (h c).2, sem_eq_zero_of_no_sems (by decide) r.2⟩)
    (Cert.ReferenceKeysIdeal.Value.run (F := Ideal) m g)

theorem reference_values_frame : Cert.quiescent_ReferenceValuesIdeal := fun m g _ =>
  (θ_run Cert.ReferenceValuesIdeal.defs _ _).mono (fun r h => ⟨fun c => (h c).2, sem_eq_zero_of_no_sems (by decide) r.2⟩)
    (Cert.ReferenceValuesIdeal.Value.run (F := Ideal) m g)

theorem reference_lru_frame : Cert.quiescent_ReferenceLruIdeal := fun m g _ =>
  (θ_run Cert.ReferenceLruIdeal.defs _ _).mono (fun r h => ⟨fun c => (h c).2, sem_eq_zero_of_no_sems (by decide) r.2⟩)
    (Cert.ReferenceLruIdeal.Value.run (F := Ideal) m g)

theorem reference_gelu_frame : Cert.quiescent_ReferenceGeluIdeal := fun m g _ =>
  (θ_run Cert.ReferenceGeluIdeal.defs _ _).mono (fun r h => ⟨fun c => (h c).2, sem_eq_zero_of_no_sems (by decide) r.2⟩)
    (Cert.ReferenceGeluIdeal.Value.run (F := Ideal) m g)

theorem reference_gate_frame : Cert.quiescent_ReferenceGateIdeal := fun m g _ =>
  (θ_run Cert.ReferenceGateIdeal.defs _ _).mono (fun r h => ⟨fun c => (h c).2, sem_eq_zero_of_no_sems (by decide) r.2⟩)
    (Cert.ReferenceGateIdeal.Value.run (F := Ideal) m g)

theorem reference_mix_frame : Cert.quiescent_ReferenceMixIdeal := fun m g _ =>
  (θ_run Cert.ReferenceMixIdeal.defs _ _).mono (fun r h => ⟨fun c => (h c).2, sem_eq_zero_of_no_sems (by decide) r.2⟩)
    (Cert.ReferenceMixIdeal.Value.run (F := Ideal) m g)

theorem reference_query_frame : Cert.quiescent_ReferenceQueryIdeal := fun m g _ =>
  (θ_run Cert.ReferenceQueryIdeal.defs _ _).mono (fun r h => ⟨fun c => (h c).2, sem_eq_zero_of_no_sems (by decide) r.2⟩)
    (Cert.ReferenceQueryIdeal.Value.run (F := Ideal) m g)

theorem reference_norm_frame : Cert.quiescent_ReferenceNormIdeal := fun m g _ =>
  (θ_run Cert.ReferenceNormIdeal.defs _ _).mono (fun r h => ⟨fun c => (h c).2.2, sem_eq_zero_of_no_sems (by decide) r.2⟩)
    (Cert.ReferenceNormIdeal.Value.run (F := Ideal) m g)

theorem reference_keys_sample_frame : Cert.quiescent_ReferenceKeysSampleIdeal := fun m g _ =>
  (θ_run Cert.ReferenceKeysSampleIdeal.defs _ _).mono (fun r h => ⟨fun c => (h c).2, sem_eq_zero_of_no_sems (by decide) r.2⟩)
    (Cert.ReferenceKeysSampleIdeal.Value.run (F := Ideal) m g)

theorem reference_values_sample_frame : Cert.quiescent_ReferenceValuesSampleIdeal := fun m g _ =>
  (θ_run Cert.ReferenceValuesSampleIdeal.defs _ _).mono (fun r h => ⟨fun c => (h c).2, sem_eq_zero_of_no_sems (by decide) r.2⟩)
    (Cert.ReferenceValuesSampleIdeal.Value.run (F := Ideal) m g)

theorem reference_rec_sample_frame : Cert.quiescent_ReferenceRecSampleIdeal := fun m g _ =>
  (θ_run Cert.ReferenceRecSampleIdeal.defs _ _).mono (fun r h => ⟨fun c => (h c).2.2.2, sem_eq_zero_of_no_sems (by decide) r.2⟩)
    (Cert.ReferenceRecSampleIdeal.Value.run (F := Ideal) m g)

theorem reference_rec_frame : Cert.quiescent_ReferenceRecIdeal := fun m g _ =>
  (θ_run Cert.ReferenceRecIdeal.defs _ _).mono (fun r h => ⟨fun c => (h c).2, sem_eq_zero_of_no_sems (by decide) r.2⟩)
    (Cert.ReferenceRecIdeal.Value.run (F := Ideal) m g)

theorem reference_ada_frame : Cert.quiescent_ReferenceAdaIdeal := fun m g _ =>
  (θ_run Cert.ReferenceAdaIdeal.defs _ _).mono (fun r h => ⟨fun c => (h c).2, sem_eq_zero_of_no_sems (by decide) r.2⟩)
    (Cert.ReferenceAdaIdeal.Value.run (F := Ideal) m g)

/-- The two constants that stand for exact values are named so. -/
theorem named_constants : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "zero_weight" .f32 0xC3160000#32 ⊥ rfl⟩

/-- The queries' scale is named as what it rounds. -/
theorem named_scale : Cert.preserves_KernelQuery_KernelQueryIdeal :=
  IdealRules.named_const.statement Cert.KernelQueryIdeal.κ "query_scale" .f32 0x3E0293EE#32 ((((Real.sqrt 128) * (Real.log 2))⁻¹ : ℝ) : EReal) rfl

/-- All the claims together. -/
theorem claim : Cert.Claim := ⟨Cert.Kernel.Gen.facts,
  Cert.KernelIdeal.Gen.facts,
  Cert.ReferenceIdeal.Gen.facts,
  Cert.KernelKeys.Gen.facts,
  Cert.KernelKeysIdeal.Gen.facts,
  Cert.ReferenceKeysIdeal.Gen.facts,
  Cert.KernelValues.Gen.facts,
  Cert.KernelValuesIdeal.Gen.facts,
  Cert.ReferenceValuesIdeal.Gen.facts,
  Cert.KernelLru.Gen.facts,
  Cert.KernelLruIdeal.Gen.facts,
  Cert.ReferenceLruIdeal.Gen.facts,
  Cert.KernelGelu.Gen.facts,
  Cert.KernelGeluIdeal.Gen.facts,
  Cert.ReferenceGeluIdeal.Gen.facts,
  Cert.KernelGate.Gen.facts,
  Cert.KernelGateIdeal.Gen.facts,
  Cert.ReferenceGateIdeal.Gen.facts,
  Cert.KernelMix.Gen.facts,
  Cert.KernelMixIdeal.Gen.facts,
  Cert.ReferenceMixIdeal.Gen.facts,
  Cert.KernelQuery.Gen.facts,
  Cert.KernelQueryIdeal.Gen.facts,
  Cert.ReferenceQueryIdeal.Gen.facts,
  Cert.KernelNorm.Gen.facts,
  Cert.KernelNormIdeal.Gen.facts,
  Cert.ReferenceNormIdeal.Gen.facts,
  Cert.KernelKeysSample.Gen.facts,
  Cert.KernelKeysSampleIdeal.Gen.facts,
  Cert.ReferenceKeysSampleIdeal.Gen.facts,
  Cert.KernelValuesSample.Gen.facts,
  Cert.KernelValuesSampleIdeal.Gen.facts,
  Cert.ReferenceValuesSampleIdeal.Gen.facts,
  Cert.KernelRecSample.Gen.facts,
  Cert.KernelRecSampleIdeal.Gen.facts,
  Cert.ReferenceRecSampleIdeal.Gen.facts,
  Cert.KernelAda.Gen.facts,
  Cert.KernelAdaIdeal.Gen.facts,
  Cert.ReferenceAdaIdeal.Gen.facts,
  Cert.KernelRec.Gen.facts,
  Cert.KernelRecIdeal.Gen.facts,
  Cert.ReferenceRecIdeal.Gen.facts,
  Cert.Pre_finite_scores.Gen.facts,
  Cert.Pre_finite_conditioning.Gen.facts,
  fun m g _ => Cert.Kernel.Attn.frame (F := Bits) m g,
  fun m g _ => Cert.KernelIdeal.Attn.frame (F := Ideal) m g,
  fun m g _ => Cert.KernelIdeal.Attn.frame (F := Ideal) m g,
  reference_frame,
  fun m g _ => reference_frame m g trivial,
  fun m g _ => Cert.KernelKeys.Gen.frame m g,
  fun m g _ => Cert.KernelKeysIdeal.Gen.frame m g,
  reference_keys_frame,
  fun m g _ => Cert.KernelValues.Gen.frame m g,
  fun m g _ => Cert.KernelValuesIdeal.Gen.frame m g,
  reference_values_frame,
  fun m g _ => Cert.KernelLru.Gen.frame m g,
  fun m g _ => Cert.KernelLruIdeal.Gen.frame m g,
  reference_lru_frame,
  fun m g _ => Cert.KernelGelu.Gen.frame m g,
  fun m g _ => Cert.KernelGeluIdeal.Gen.frame m g,
  reference_gelu_frame,
  fun m g _ => Cert.KernelGate.Gen.frame m g,
  fun m g _ => Cert.KernelGateIdeal.Gen.frame m g,
  reference_gate_frame,
  fun m g _ => Cert.KernelMix.Gen.frame m g,
  fun m g _ => Cert.KernelMixIdeal.Gen.frame m g,
  reference_mix_frame,
  fun m g _ => Cert.KernelQuery.Gen.frame m g,
  fun m g _ => Cert.KernelQueryIdeal.Gen.frame m g,
  reference_query_frame,
  fun m g _ => Cert.KernelNorm.Gen.frame m g,
  fun m g _ => Cert.KernelNormIdeal.Gen.frame m g,
  reference_norm_frame,
  fun m g _ => Cert.KernelKeysSample.Gen.frame m g,
  fun m g _ => Cert.KernelKeysSampleIdeal.Gen.frame m g,
  reference_keys_sample_frame,
  fun m g _ => Cert.KernelValuesSample.Gen.frame m g,
  fun m g _ => Cert.KernelValuesSampleIdeal.Gen.frame m g,
  reference_values_sample_frame,
  rec_sample_frame,
  fun m g _ => Cert.KernelRecSampleIdeal.Rec.frame (F := Ideal) m g,
  reference_rec_sample_frame,
  fun m g _ => Cert.KernelAda.Gen.frame m g,
  fun m g _ => Cert.KernelAdaIdeal.Gen.frame m g,
  fun m g _ => Cert.KernelAdaIdeal.Gen.frame m g,
  reference_ada_frame,
  fun m g _ => reference_ada_frame m g trivial,
  rec_frame,
  fun m g _ => Cert.KernelRecIdeal.State.frame (F := Ideal) m g,
  reference_rec_frame,
  named_constants,
  algebraic,
  trivial,
  algebraic_keys,
  trivial,
  algebraic_values,
  trivial,
  algebraic_lru,
  trivial,
  algebraic_gelu,
  trivial,
  algebraic_gate,
  trivial,
  algebraic_mix,
  named_scale,
  algebraic_query,
  trivial,
  algebraic_norm,
  trivial,
  algebraic_keys_sample,
  trivial,
  algebraic_values_sample,
  trivial,
  algebraic_rec_sample,
  trivial,
  algebraic_ada,
  trivial,
  algebraic_rec⟩

end Cert.Proof

end
